-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "inv_192" .f32 0x3BAAAAAB#32 ((1 / 192 : ℝ) : EReal)
  ∧ IdealRules.named_const.Statement Cert.KernelIdeal.κ "inv_768" .f32 0x3AAAAAAB#32 ((1 / 768 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)) (v4 : (c : Dev Cert.KernelIdeal.nD) → Buf (Elt Ideal) ((c.tc : Thread Cert.KernelIdeal.nD Cert.KernelIdeal.τ).loc Cert.KernelIdeal.main_v19_4)) (v5 : (c : Dev Cert.KernelIdeal.nD) → Buf (Elt Ideal) ((c.tc : Thread Cert.KernelIdeal.nD Cert.KernelIdeal.τ).loc Cert.KernelIdeal.main_v19_5)) (v6 : (c : Dev Cert.KernelIdeal.nD) → Buf (Elt Ideal) ((c.tc : Thread Cert.KernelIdeal.nD Cert.KernelIdeal.τ).loc Cert.KernelIdeal.main_v19_6)) (v7 : (c : Dev Cert.KernelIdeal.nD) → Buf (Elt Ideal) ((c.tc : Thread Cert.KernelIdeal.nD Cert.KernelIdeal.τ).loc Cert.KernelIdeal.main_v19_7)) (v8 : (c : Dev Cert.KernelIdeal.nD) → Buf (Elt Ideal) ((c.tc : Thread Cert.KernelIdeal.nD Cert.KernelIdeal.τ).loc Cert.KernelIdeal.main_v19_8)) (v9 : (c : Dev Cert.KernelIdeal.nD) → Buf (Elt Ideal) ((c.tc : Thread Cert.KernelIdeal.nD Cert.KernelIdeal.τ).loc Cert.KernelIdeal.main_v19_9)) (v10 : (c : Dev Cert.KernelIdeal.nD) → Buf (Elt Ideal) ((c.tc : Thread Cert.KernelIdeal.nD Cert.KernelIdeal.τ).loc Cert.KernelIdeal.main_v19_10)) (v11 : (c : Dev Cert.KernelIdeal.nD) → Buf (Elt Ideal) ((c.tc : Thread Cert.KernelIdeal.nD Cert.KernelIdeal.τ).loc Cert.KernelIdeal.main_v19_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_v19_4) = v4 c
          ∧ r.2.mem ((c.tc : Thread Cert.KernelIdeal.nD Cert.KernelIdeal.τ).loc Cert.KernelIdeal.main_v19_5) = v5 c
          ∧ r.2.mem ((c.tc : Thread Cert.KernelIdeal.nD Cert.KernelIdeal.τ).loc Cert.KernelIdeal.main_v19_6) = v6 c
          ∧ r.2.mem ((c.tc : Thread Cert.KernelIdeal.nD Cert.KernelIdeal.τ).loc Cert.KernelIdeal.main_v19_7) = v7 c
          ∧ r.2.mem ((c.tc : Thread Cert.KernelIdeal.nD Cert.KernelIdeal.τ).loc Cert.KernelIdeal.main_v19_8) = v8 c
          ∧ r.2.mem ((c.tc : Thread Cert.KernelIdeal.nD Cert.KernelIdeal.τ).loc Cert.KernelIdeal.main_v19_9) = v9 c
          ∧ r.2.mem ((c.tc : Thread Cert.KernelIdeal.nD Cert.KernelIdeal.τ).loc Cert.KernelIdeal.main_v19_10) = v10 c
          ∧ r.2.mem ((c.tc : Thread Cert.KernelIdeal.nD Cert.KernelIdeal.τ).loc Cert.KernelIdeal.main_v19_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28_0) = v0 c
          ∧ r.2.mem ((c.tc : Thread Cert.ReferenceIdeal.nD Cert.ReferenceIdeal.τ).loc Cert.ReferenceIdeal.main_v28_1) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v0) = v4 c
          ∧ r.2.mem ((c.tc : Thread Cert.ReferenceIdeal.nD Cert.ReferenceIdeal.τ).loc Cert.ReferenceIdeal.main_v2) = v5 c
          ∧ r.2.mem ((c.tc : Thread Cert.ReferenceIdeal.nD Cert.ReferenceIdeal.τ).loc Cert.ReferenceIdeal.main_v28_2) = v6 c
          ∧ r.2.mem ((c.tc : Thread Cert.ReferenceIdeal.nD Cert.ReferenceIdeal.τ).loc Cert.ReferenceIdeal.main_v28_3) = v7 c
          ∧ r.2.mem ((c.tc : Thread Cert.ReferenceIdeal.nD Cert.ReferenceIdeal.τ).loc Cert.ReferenceIdeal.main_v28_4) = v8 c
          ∧ r.2.mem ((c.tc : Thread Cert.ReferenceIdeal.nD Cert.ReferenceIdeal.τ).loc Cert.ReferenceIdeal.main_v28_5) = v9 c
          ∧ r.2.mem ((c.tc : Thread Cert.ReferenceIdeal.nD Cert.ReferenceIdeal.τ).loc Cert.ReferenceIdeal.main_v28_6) = v10 c
          ∧ r.2.mem ((c.tc : Thread Cert.ReferenceIdeal.nD Cert.ReferenceIdeal.τ).loc Cert.ReferenceIdeal.main_v28_7) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8x186x84x192 : Shape := ⟨5, ![1, 8, 186, 84, 192]⟩
abbrev S186x84x8x192 : Shape := ⟨4, ![186, 84, 8, 192]⟩
abbrev S186x8x128 : Shape := ⟨3, ![186, 8, 128]⟩
abbrev S6x32x192 : Shape := ⟨3, ![6, 32, 192]⟩
abbrev S192 : Shape := ⟨1, ![192]⟩
abbrev S192x768 : Shape := ⟨2, ![192, 768]⟩
abbrev S768 : Shape := ⟨1, ![768]⟩
abbrev S768x192 : Shape := ⟨2, ![768, 192]⟩
abbrev S768x384 : Shape := ⟨2, ![768, 384]⟩
abbrev S384 : Shape := ⟨1, ![384]⟩
abbrev S8x186x84x192 : Shape := ⟨4, ![8, 186, 84, 192]⟩
abbrev S1x192 : Shape := ⟨2, ![1, 192]⟩
abbrev S8x192 : Shape := ⟨2, ![8, 192]⟩
abbrev S1x768 : Shape := ⟨2, ![1, 768]⟩
abbrev S2x768 : Shape := ⟨2, ![2, 768]⟩
abbrev S4x192 : Shape := ⟨2, ![4, 192]⟩
abbrev S192x192 : Shape := ⟨2, ![192, 192]⟩
abbrev S1x384 : Shape := ⟨2, ![1, 384]⟩
abbrev S93x42x8x384 : Shape := ⟨4, ![93, 42, 8, 384]⟩
abbrev S186x8x84 : Shape := ⟨3, ![186, 8, 84]⟩
abbrev S186x84x8x768 : Shape := ⟨4, ![186, 84, 8, 768]⟩
abbrev S93x42x8x768 : Shape := ⟨4, ![93, 42, 8, 768]⟩
abbrev S93x8x42 : Shape := ⟨3, ![93, 8, 42]⟩
abbrev S2x84x8x192 : Shape := ⟨4, ![2, 84, 8, 192]⟩
abbrev S1x84x8x192 : Shape := ⟨4, ![1, 84, 8, 192]⟩
abbrev S1x8x128 : Shape := ⟨3, ![1, 8, 128]⟩
abbrev S1x42x8x384 : Shape := ⟨4, ![1, 42, 8, 384]⟩
abbrev S2x8x84 : Shape := ⟨3, ![2, 8, 84]⟩
abbrev S2x84x8x768 : Shape := ⟨4, ![2, 84, 8, 768]⟩
abbrev S1x42x8x768 : Shape := ⟨4, ![1, 42, 8, 768]⟩
abbrev S1x8x42 : Shape := ⟨3, ![1, 8, 42]⟩
abbrev S8x128 : Shape := ⟨2, ![8, 128]⟩
abbrev S8x84 : Shape := ⟨2, ![8, 84]⟩
abbrev S1x8x84 : Shape := ⟨3, ![1, 8, 84]⟩
abbrev S1x6x8x192 : Shape := ⟨4, ![1, 6, 8, 192]⟩
abbrev S6x8x192 : Shape := ⟨3, ![6, 8, 192]⟩
abbrev S48x192 : Shape := ⟨2, ![48, 192]⟩
abbrev S8x44 : Shape := ⟨2, ![8, 44]⟩
abbrev S8x1 : Shape := ⟨2, ![8, 1]⟩
abbrev S192x1 : Shape := ⟨2, ![192, 1]⟩
abbrev S2x12x8x192 : Shape := ⟨4, ![2, 12, 8, 192]⟩
abbrev S2x12x8x768 : Shape := ⟨4, ![2, 12, 8, 768]⟩
abbrev S2x6x2x8x192 : Shape := ⟨5, ![2, 6, 2, 8, 192]⟩
abbrev S1x6x1x8x192 : Shape := ⟨5, ![1, 6, 1, 8, 192]⟩
abbrev S6x8 : Shape := ⟨2, ![6, 8]⟩
abbrev S6x8x1 : Shape := ⟨3, ![6, 8, 1]⟩
abbrev S1x1x192 : Shape := ⟨3, ![1, 1, 192]⟩
abbrev S6x8x768 : Shape := ⟨3, ![6, 8, 768]⟩
abbrev S1x6x8x768 : Shape := ⟨4, ![1, 6, 8, 768]⟩
abbrev S48x768 : Shape := ⟨2, ![48, 768]⟩
abbrev S48x384 : Shape := ⟨2, ![48, 384]⟩
abbrev S48x1 : Shape := ⟨2, ![48, 1]⟩
abbrev S6x8x384 : Shape := ⟨3, ![6, 8, 384]⟩
abbrev S1x6x8x384 : Shape := ⟨4, ![1, 6, 8, 384]⟩
abbrev S8x42 : Shape := ⟨2, ![8, 42]⟩
abbrev S1x8x1 : Shape := ⟨3, ![1, 8, 1]⟩

abbrev nBuf : Space → Nat
  | .hbm => 53
  | .vmem => 50
  | .smem => 0
  | _ => 0

abbrev bufTy : (tb : Table) → Fin (tcTables nBuf tb) → BufTy
  | .hbm, ⟨0, _⟩ => ⟨S1x8x186x84x192, .bf16⟩
  | .hbm, ⟨1, _⟩ => ⟨S186x84x8x192, .i8⟩
  | .hbm, ⟨2, _⟩ => ⟨S186x8x128, .f32⟩
  | .hbm, ⟨3, _⟩ => ⟨S186x84x8x192, .i8⟩
  | .hbm, ⟨4, _⟩ => ⟨S186x8x128, .f32⟩
  | .hbm, ⟨5, _⟩ => ⟨S6x32x192, .i8⟩
  | .hbm, ⟨6, _⟩ => ⟨S192, .f32⟩
  | .hbm, ⟨7, _⟩ => ⟨S192, .f32⟩
  | .hbm, ⟨8, _⟩ => ⟨S192x768, .i8⟩
  | .hbm, ⟨9, _⟩ => ⟨S768, .f32⟩
  | .hbm, ⟨10, _⟩ => ⟨S768, .f32⟩
  | .hbm, ⟨11, _⟩ => ⟨S768x192, .i8⟩
  | .hbm, ⟨12, _⟩ => ⟨S192, .f32⟩
  | .hbm, ⟨13, _⟩ => ⟨S192, .f32⟩
  | .hbm, ⟨14, _⟩ => ⟨S192, .f32⟩
  | .hbm, ⟨15, _⟩ => ⟨S192, .f32⟩
  | .hbm, ⟨16, _⟩ => ⟨S192, .f32⟩
  | .hbm, ⟨17, _⟩ => ⟨S192, .f32⟩
  | .hbm, ⟨18, _⟩ => ⟨S768, .f32⟩
  | .hbm, ⟨19, _⟩ => ⟨S768, .f32⟩
  | .hbm, ⟨20, _⟩ => ⟨S768x384, .i8⟩
  | .hbm, ⟨21, _⟩ => ⟨S384, .f32⟩
  | .hbm, ⟨22, _⟩ => ⟨S8x186x84x192, .bf16⟩
  | .hbm, ⟨23, _⟩ => ⟨S186x84x8x192, .bf16⟩
  | .hbm, ⟨24, _⟩ => ⟨S1x192, .f32⟩
  | .hbm, ⟨25, _⟩ => ⟨S1x192, .f32⟩
  | .hbm, ⟨26, _⟩ => ⟨S1x192, .f32⟩
  | .hbm, ⟨27, _⟩ => ⟨S1x192, .f32⟩
  | .hbm, ⟨28, _⟩ => ⟨S1x192, .f32⟩
  | .hbm, ⟨29, _⟩ => ⟨S1x192, .f32⟩
  | .hbm, ⟨30, _⟩ => ⟨S1x192, .f32⟩
  | .hbm, ⟨31, _⟩ => ⟨S1x192, .f32⟩
  | .hbm, ⟨32, _⟩ => ⟨S8x192, .f32⟩
  | .hbm, ⟨33, _⟩ => ⟨S1x768, .f32⟩
  | .hbm, ⟨34, _⟩ => ⟨S1x768, .f32⟩
  | .hbm, ⟨35, _⟩ => ⟨S2x768, .f32⟩
  | .hbm, ⟨36, _⟩ => ⟨S4x192, .f32⟩
  | .hbm, ⟨37, _⟩ => ⟨S4x192, .f32⟩
  | .hbm, ⟨38, _⟩ => ⟨S8x192, .f32⟩
  | .hbm, ⟨39, _⟩ => ⟨S192x192, .i8⟩
  | .hbm, ⟨40, _⟩ => ⟨S1x384, .f32⟩
  | .hbm, ⟨41, _⟩ => ⟨S186x84x8x192, .bf16⟩
  | .hbm, ⟨42, _⟩ => ⟨S93x42x8x384, .bf16⟩
  | .hbm, ⟨43, _⟩ => ⟨S186x84x8x192, .i8⟩
  | .hbm, ⟨44, _⟩ => ⟨S186x8x84, .f32⟩
  | .hbm, ⟨45, _⟩ => ⟨S186x84x8x192, .i8⟩
  | .hbm, ⟨46, _⟩ => ⟨S186x8x84, .f32⟩
  | .hbm, ⟨47, _⟩ => ⟨S186x84x8x192, .i8⟩
  | .hbm, ⟨48, _⟩ => ⟨S186x8x84, .f32⟩
  | .hbm, ⟨49, _⟩ => ⟨S186x84x8x768, .i8⟩
  | .hbm, ⟨50, _⟩ => ⟨S186x8x84, .f32⟩
  | .hbm, ⟨51, _⟩ => ⟨S93x42x8x768, .i8⟩
  | .hbm, ⟨52, _⟩ => ⟨S93x8x42, .f32⟩
  | .local _ .vmem, ⟨0, _⟩ => ⟨S2x84x8x192, .bf16⟩
  | .local _ .vmem, ⟨1, _⟩ => ⟨S2x84x8x192, .bf16⟩
  | .local _ .vmem, ⟨2, _⟩ => ⟨S1x84x8x192, .i8⟩
  | .local _ .vmem, ⟨3, _⟩ => ⟨S1x84x8x192, .i8⟩
  | .local _ .vmem, ⟨4, _⟩ => ⟨S1x84x8x192, .i8⟩
  | .local _ .vmem, ⟨5, _⟩ => ⟨S1x84x8x192, .i8⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x84x8x192, .i8⟩
  | .local _ .vmem, ⟨11, _⟩ => ⟨S1x84x8x192, .i8⟩
  | .local _ .vmem, ⟨12, _⟩ => ⟨S1x84x8x192, .i8⟩
  | .local _ .vmem, ⟨13, _⟩ => ⟨S1x84x8x192, .i8⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | .local _ .vmem, ⟨18, _⟩ => ⟨S192x192, .i8⟩
  | .local _ .vmem, ⟨19, _⟩ => ⟨S192x768, .i8⟩
  | .local _ .vmem, ⟨20, _⟩ => ⟨S768x192, .i8⟩
  | .local _ .vmem, ⟨21, _⟩ => ⟨S768x384, .i8⟩
  | .local _ .vmem, ⟨22, _⟩ => ⟨S8x192, .f32⟩
  | .local _ .vmem, ⟨23, _⟩ => ⟨S2x768, .f32⟩
  | .local _ .vmem, ⟨24, _⟩ => ⟨S8x192, .f32⟩
  | .local _ .vmem, ⟨25, _⟩ => ⟨S1x384, .f32⟩
  | .local _ .vmem, ⟨26, _⟩ => ⟨S2x84x8x192, .bf16⟩
  | .local _ .vmem, ⟨27, _⟩ => ⟨S2x84x8x192, .bf16⟩
  | .local _ .vmem, ⟨28, _⟩ => ⟨S1x42x8x384, .bf16⟩
  | .local _ .vmem, ⟨29, _⟩ => ⟨S1x42x8x384, .bf16⟩
  | .local _ .vmem, ⟨30, _⟩ => ⟨S2x84x8x192, .i8⟩
  | .local _ .vmem, ⟨31, _⟩ => ⟨S2x84x8x192, .i8⟩
  | .local _ .vmem, ⟨32, _⟩ => ⟨S2x8x84, .f32⟩
  | .local _ .vmem, ⟨33, _⟩ => ⟨S2x8x84, .f32⟩
  | .local _ .vmem, ⟨34, _⟩ => ⟨S2x84x8x192, .i8⟩
  | .local _ .vmem, ⟨35, _⟩ => ⟨S2x84x8x192, .i8⟩
  | .local _ .vmem, ⟨36, _⟩ => ⟨S2x8x84, .f32⟩
  | .local _ .vmem, ⟨37, _⟩ => ⟨S2x8x84, .f32⟩
  | .local _ .vmem, ⟨38, _⟩ => ⟨S2x84x8x192, .i8⟩
  | .local _ .vmem, ⟨39, _⟩ => ⟨S2x84x8x192, .i8⟩
  | .local _ .vmem, ⟨40, _⟩ => ⟨S2x8x84, .f32⟩
  | .local _ .vmem, ⟨41, _⟩ => ⟨S2x8x84, .f32⟩
  | .local _ .vmem, ⟨42, _⟩ => ⟨S2x84x8x768, .i8⟩
  | .local _ .vmem, ⟨43, _⟩ => ⟨S2x84x8x768, .i8⟩
  | .local _ .vmem, ⟨44, _⟩ => ⟨S2x8x84, .f32⟩
  | .local _ .vmem, ⟨45, _⟩ => ⟨S2x8x84, .f32⟩
  | .local _ .vmem, ⟨46, _⟩ => ⟨S1x42x8x768, .i8⟩
  | .local _ .vmem, ⟨47, _⟩ => ⟨S1x42x8x768, .i8⟩
  | .local _ .vmem, ⟨48, _⟩ => ⟨S1x8x42, .f32⟩
  | .local _ .vmem, ⟨49, _⟩ => ⟨S1x8x42, .f32⟩
  | _, _ => ⟨S1x8x186x84x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19_0 : Ref sig .tc := ⟨.hbm, 41, rfl⟩
abbrev main_v19_1 : Ref sig .tc := ⟨.hbm, 42, rfl⟩
abbrev main_v19_2 : Ref sig .tc := ⟨.hbm, 43, rfl⟩
abbrev main_v19_3 : Ref sig .tc := ⟨.hbm, 44, rfl⟩
abbrev main_v19_4 : Ref sig .tc := ⟨.hbm, 45, rfl⟩
abbrev main_v19_5 : Ref sig .tc := ⟨.hbm, 46, rfl⟩
abbrev main_v19_6 : Ref sig .tc := ⟨.hbm, 47, rfl⟩
abbrev main_v19_7 : Ref sig .tc := ⟨.hbm, 48, rfl⟩
abbrev main_v19_8 : Ref sig .tc := ⟨.hbm, 49, rfl⟩
abbrev main_v19_9 : Ref sig .tc := ⟨.hbm, 50, rfl⟩
abbrev main_v19_10 : Ref sig .tc := ⟨.hbm, 51, rfl⟩
abbrev main_v19_11 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_stg27_0 : Ref sig .tc := ⟨.vmem, 46, rfl⟩
abbrev cc0_stg27_1 : Ref sig .tc := ⟨.vmem, 47, rfl⟩
abbrev cc0_stg28_0 : Ref sig .tc := ⟨.vmem, 48, rfl⟩
abbrev cc0_stg28_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43
abbrev cc0_sem26_0 : DmaSem sig := 44
abbrev cc0_sem26_1 : DmaSem sig := 45
abbrev cc0_sem27_0 : DmaSem sig := 46
abbrev cc0_sem27_1 : DmaSem sig := 47
abbrev cc0_sem28_0 : DmaSem sig := 48
abbrev cc0_sem28_1 : DmaSem sig := 49

abbrev nD : Nat := 1
abbrev τ : Topo := Topo.v7x

variable {F : FTy → Type} [FloatOps F]

abbrev grid0 : Pipeline.Grid := ⟨1, ![93], ![false]⟩

@[reducible] def k0_t1_loop : Scf.Loop 32 :=
  let c0_i32 : BitVec 32 := 0#32
  let c7_i32 : BitVec 32 := 7#32
  let v71 : BitVec 32 := Scalar.addi c0_i32 c7_i32
  let c1_i32 : BitVec 32 := 1#32
  ⟨c0_i32, v71, c1_i32⟩
def k0_off1 (k0_t1 : Fin k0_t1_loop.trips) (c0_i32_58 : BitVec 32) : Fin 4 → Nat :=
  let c0_67 : Index := 0#32
  let c2_i32 : BitVec 32 := 2#32
  let c0_i32 : BitVec 32 := 0#32
  let c1_i32 : BitVec 32 := 1#32
  let arg30 : BitVec 32 := Scf.iv c0_i32 c1_i32 k0_t1
  let v73 : BitVec 32 := Scalar.muli c2_i32 arg30
  let v74 : BitVec 32 := Scalar.addi v73 c0_i32_58
  let c14_i32 : BitVec 32 := 14#32
  let v75 : BitVec 32 := Scalar.addi v74 c14_i32
  let c1_i32_59 : BitVec 32 := 1#32
  let v76 : BitVec 32 := Scalar.subi v75 c1_i32_59
  let c14_i32_60 : BitVec 32 := 14#32
  let c0_i32_61 : BitVec 32 := 0#32
  let v77 : BitVec 1 := Scalar.cmpi .eq c14_i32_60 c0_i32_61
  let c1_i32_62 : BitVec 32 := 1#32
  let v78 : BitVec 32 := Scalar.select v77 c1_i32_62 c14_i32_60
  let v79 : BitVec 32 := Scalar.remsi v76 v78
  let c0_i32_64 : BitVec 32 := 0#32
  let v81 : BitVec 1 := Scalar.cmpi .slt v79 c0_i32_64
  let c0_i32_65 : BitVec 32 := 0#32
  let v82 : BitVec 1 := Scalar.cmpi .slt v78 c0_i32_65
  let v83 : BitVec 1 := Scalar.xori v81 v82
  let c0_i32_63 : BitVec 32 := 0#32
  let v80 : BitVec 1 := Scalar.cmpi .ne v79 c0_i32_63
  let v84 : BitVec 1 := Scalar.andi v83 v80
  let v85 : BitVec 32 := Scalar.addi v79 v78
  let v86 : BitVec 32 := Scalar.select v84 v85 v79
  let c6_i32_66 : BitVec 32 := 6#32
  let v87 : BitVec 32 := Scalar.muli v86 c6_i32_66
  let v88 : Index := Scalar.indexCast v87
  let c0_68 : Index := 0#32
  let c0_69 : Index := 0#32
  ![0, v88.toNat, 0, 0]
def k0_off2 (k0_t1 : Fin k0_t1_loop.trips) (c0_i32_70 : BitVec 32) : Fin 4 → Nat :=
  let c0_71 : Index := 0#32
  let c0_i32 : BitVec 32 := 0#32
  let c1_i32 : BitVec 32 := 1#32
  let arg30 : BitVec 32 := Scf.iv c0_i32 c1_i32 k0_t1
  let c12_i32 : BitVec 32 := 12#32
  let v72 : BitVec 32 := Scalar.muli arg30 c12_i32
  let v91 : BitVec 32 := Scalar.addi v72 c0_i32_70
  let v92 : Index := Scalar.indexCast v91
  let c0_72 : Index := 0#32
  let c0_73 : Index := 0#32
  ![0, v92.toNat, 0, 0]
def k0_off3 (k0_t1 : Fin k0_t1_loop.trips) (c0_i32_120 : BitVec 32) : Fin 4 → Nat :=
  let c1_121 : Index := 1#32
  let c0_i32 : BitVec 32 := 0#32
  let c1_i32 : BitVec 32 := 1#32
  let arg30 : BitVec 32 := Scf.iv c0_i32 c1_i32 k0_t1
  let c12_i32 : BitVec 32 := 12#32
  let v72 : BitVec 32 := Scalar.muli arg30 c12_i32
  let v157 : BitVec 32 := Scalar.addi v72 c0_i32_120
  let v158 : Index := Scalar.indexCast v157
  let c0_122 : Index := 0#32
  let c0_123 : Index := 0#32
  ![1, v158.toNat, 0, 0]
def k0_off4 (k0_t1 : Fin k0_t1_loop.trips) : Fin 4 → Nat :=
  let c0_180 : Index := 0#32
  let c0_i32 : BitVec 32 := 0#32
  let c1_i32 : BitVec 32 := 1#32
  let arg30 : BitVec 32 := Scf.iv c0_i32 c1_i32 k0_t1
  let c12_i32 : BitVec 32 := 12#32
  let v72 : BitVec 32 := Scalar.muli arg30 c12_i32
  let v276 : Index := Scalar.indexCast v72
  let c0_181 : Index := 0#32
  let c0_182 : Index := 0#32
  ![0, v276.toNat, 0, 0]
def k0_off5 (k0_t1 : Fin k0_t1_loop.trips) : Fin 4 → Nat :=
  let c0_240 : Index := 0#32
  let c0_i32 : BitVec 32 := 0#32
  let c1_i32 : BitVec 32 := 1#32
  let arg30 : BitVec 32 := Scf.iv c0_i32 c1_i32 k0_t1
  let c12_i32 : BitVec 32 := 12#32
  let v72 : BitVec 32 := Scalar.muli arg30 c12_i32
  let v540 : Index := Scalar.indexCast v72
  let c0_241 : Index := 0#32
  let c0_242 : Index := 0#32
  ![0, v540.toNat, 0, 0]
def k0_off6 (k0_t1 : Fin k0_t1_loop.trips) : Fin 4 → Nat :=
  let c0_326 : Index := 0#32
  let c0_i32 : BitVec 32 := 0#32
  let c1_i32 : BitVec 32 := 1#32
  let arg30 : BitVec 32 := Scf.iv c0_i32 c1_i32 k0_t1
  let c6_i32_325 : BitVec 32 := 6#32
  let v897 : BitVec 32 := Scalar.muli arg30 c6_i32_325
  let v899 : Index := Scalar.indexCast v897
  let c0_327 : Index := 0#32
  let c0_328 : Index := 0#32
  ![0, v899.toNat, 0, 0]
def k0_off7 (k0_t1 : Fin k0_t1_loop.trips) : Fin 4 → Nat :=
  let c0_334 : Index := 0#32
  let c0_i32 : BitVec 32 := 0#32
  let c1_i32 : BitVec 32 := 1#32
  let arg30 : BitVec 32 := Scf.iv c0_i32 c1_i32 k0_t1
  let c6_i32_325 : BitVec 32 := 6#32
  let v897 : BitVec 32 := Scalar.muli arg30 c6_i32_325
  let v917 : Index := Scalar.indexCast v897
  let c0_335 : Index := 0#32
  let c0_336 : Index := 0#32
  ![0, v917.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c2_i32 : BitVec 32 := 2#32
  let v0 : BitVec 32 := Scalar.muli c2_i32 arg0
  let c3_i32 : BitVec 32 := 3#32
  let v1 : BitVec 32 := Scalar.subi v0 c3_i32
  let c0_i32 : BitVec 32 := 0#32
  let v2 : BitVec 32 := Scalar.addi v1 c0_i32
  let c186_i32 : BitVec 32 := 186#32
  let c0_i32_0 : BitVec 32 := 0#32
  let v3 : BitVec 1 := Scalar.cmpi .eq c186_i32 c0_i32_0
  let c1_i32 : BitVec 32 := 1#32
  let v4 : BitVec 32 := Scalar.select v3 c1_i32 c186_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  let c0_i32_7 : BitVec 32 := 0#32
  ![v12.toNat, c0_i32_4.toNat, c0_i32_5.toNat, c0_i32_6.toNat]

def cc0_transform_2 (i : grid0.Coords) : Fin 4 → Nat :=
  let arg0 : BitVec 32 := BitVec.ofNat 32 (i 0).val
  let c2_i32 : BitVec 32 := 2#32
  let v0 : BitVec 32 := Scalar.muli c2_i32 arg0
  let c3_i32 : BitVec 32 := 3#32
  let v1 : BitVec 32 := Scalar.subi v0 c3_i32
  let c1_i32 : BitVec 32 := 1#32
  let v2 : BitVec 32 := Scalar.addi v1 c1_i32
  let c186_i32 : BitVec 32 := 186#32
  let c0_i32 : BitVec 32 := 0#32
  let v3 : BitVec 1 := Scalar.cmpi .eq c186_i32 c0_i32
  let c1_i32_0 : BitVec 32 := 1#32
  let v4 : BitVec 32 := Scalar.select v3 c1_i32_0 c186_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  let c0_i32_7 : BitVec 32 := 0#32
  ![v12.toNat, c0_i32_4.toNat, c0_i32_5.toNat, c0_i32_6.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c3_i32 : BitVec 32 := 3#32
  let v1 : BitVec 32 := Scalar.subi v0 c3_i32
  let c0_i32 : BitVec 32 := 0#32
  let v2 : BitVec 32 := Scalar.addi v1 c0_i32
  let c186_i32 : BitVec 32 := 186#32
  let c0_i32_0 : BitVec 32 := 0#32
  let v3 : BitVec 1 := Scalar.cmpi .eq c186_i32 c0_i32_0
  let c1_i32 : BitVec 32 := 1#32
  let v4 : BitVec 32 := Scalar.select v3 c1_i32 c186_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![v12.toNat, c0_i32_4.toNat, c0_i32_5.toNat]

def cc0_transform_4 (i : grid0.Coords) : Fin 3 → Nat :=
  let arg0 : BitVec 32 := BitVec.ofNat 32 (i 0).val
  let c2_i32 : BitVec 32 := 2#32
  let v0 : BitVec 32 := Scalar.muli c2_i32 arg0
  let c3_i32 : BitVec 32 := 3#32
  let v1 : BitVec 32 := Scalar.subi v0 c3_i32
  let c1_i32 : BitVec 32 := 1#32
  let v2 : BitVec 32 := Scalar.addi v1 c1_i32
  let c186_i32 : BitVec 32 := 186#32
  let c0_i32 : BitVec 32 := 0#32
  let v3 : BitVec 1 := Scalar.cmpi .eq c186_i32 c0_i32
  let c1_i32_0 : BitVec 32 := 1#32
  let v4 : BitVec 32 := Scalar.select v3 c1_i32_0 c186_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![v12.toNat, c0_i32_4.toNat, c0_i32_5.toNat]

def cc0_transform_5 (i : grid0.Coords) : Fin 4 → Nat :=
  let arg0 : BitVec 32 := BitVec.ofNat 32 (i 0).val
  let c2_i32 : BitVec 32 := 2#32
  let v0 : BitVec 32 := Scalar.muli c2_i32 arg0
  let c3_i32 : BitVec 32 := 3#32
  let v1 : BitVec 32 := Scalar.subi v0 c3_i32
  let c0_i32 : BitVec 32 := 0#32
  let v2 : BitVec 32 := Scalar.addi v1 c0_i32
  let c186_i32 : BitVec 32 := 186#32
  let c0_i32_0 : BitVec 32 := 0#32
  let v3 : BitVec 1 := Scalar.cmpi .eq c186_i32 c0_i32_0
  let c1_i32 : BitVec 32 := 1#32
  let v4 : BitVec 32 := Scalar.select v3 c1_i32 c186_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  let c0_i32_7 : BitVec 32 := 0#32
  ![v12.toNat, c0_i32_4.toNat, c0_i32_5.toNat, c0_i32_6.toNat]

def cc0_transform_6 (i : grid0.Coords) : Fin 4 → Nat :=
  let arg0 : BitVec 32 := BitVec.ofNat 32 (i 0).val
  let c2_i32 : BitVec 32 := 2#32
  let v0 : BitVec 32 := Scalar.muli c2_i32 arg0
  let c3_i32 : BitVec 32 := 3#32
  let v1 : BitVec 32 := Scalar.subi v0 c3_i32
  let c1_i32 : BitVec 32 := 1#32
  let v2 : BitVec 32 := Scalar.addi v1 c1_i32
  let c186_i32 : BitVec 32 := 186#32
  let c0_i32 : BitVec 32 := 0#32
  let v3 : BitVec 1 := Scalar.cmpi .eq c186_i32 c0_i32
  let c1_i32_0 : BitVec 32 := 1#32
  let v4 : BitVec 32 := Scalar.select v3 c1_i32_0 c186_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  let c0_i32_7 : BitVec 32 := 0#32
  ![v12.toNat, c0_i32_4.toNat, c0_i32_5.toNat, c0_i32_6.toNat]

def cc0_transform_7 (i : grid0.Coords) : Fin 3 → Nat :=
  let arg0 : BitVec 32 := BitVec.ofNat 32 (i 0).val
  let c2_i32 : BitVec 32 := 2#32
  let v0 : BitVec 32 := Scalar.muli c2_i32 arg0
  let c3_i32 : BitVec 32 := 3#32
  let v1 : BitVec 32 := Scalar.subi v0 c3_i32
  let c0_i32 : BitVec 32 := 0#32
  let v2 : BitVec 32 := Scalar.addi v1 c0_i32
  let c186_i32 : BitVec 32 := 186#32
  let c0_i32_0 : BitVec 32 := 0#32
  let v3 : BitVec 1 := Scalar.cmpi .eq c186_i32 c0_i32_0
  let c1_i32 : BitVec 32 := 1#32
  let v4 : BitVec 32 := Scalar.select v3 c1_i32 c186_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![v12.toNat, c0_i32_4.toNat, c0_i32_5.toNat]

def cc0_transform_8 (i : grid0.Coords) : Fin 3 → Nat :=
  let arg0 : BitVec 32 := BitVec.ofNat 32 (i 0).val
  let c2_i32 : BitVec 32 := 2#32
  let v0 : BitVec 32 := Scalar.muli c2_i32 arg0
  let c3_i32 : BitVec 32 := 3#32
  let v1 : BitVec 32 := Scalar.subi v0 c3_i32
  let c1_i32 : BitVec 32 := 1#32
  let v2 : BitVec 32 := Scalar.addi v1 c1_i32
  let c186_i32 : BitVec 32 := 186#32
  let c0_i32 : BitVec 32 := 0#32
  let v3 : BitVec 1 := Scalar.cmpi .eq c186_i32 c0_i32
  let c1_i32_0 : BitVec 32 := 1#32
  let v4 : BitVec 32 := Scalar.select v3 c1_i32_0 c186_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![v12.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x84x8x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x84x8x192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x84x8x192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x84x8x192 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x84x8x192 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S192x192 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x768 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x192 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x384 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2x84x8x192 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x42x8x384 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x84x8x192 .i8 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x8x84 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x84x8x192 .i8 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x8x84 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2x84x8x192 .i8 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2x8x84 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2x84x8x768 .i8 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S2x8x84 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x42x8x768 .i8 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x8x42 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== KernelIdeal.lean ====
variable {F : FTy → Type} [FloatOps F] [Named F]
def κ : String → Option EReal := fun
  | "inv_192" => some ((1 / 192 : ℝ) : EReal)
  | "inv_768" => some ((1 / 768 : ℝ) : EReal)
  | _ => none
-- ==== ReferenceIdeal.lean ====
abbrev S1x8x186x84x192 : Shape := ⟨5, ![1, 8, 186, 84, 192]⟩
abbrev S186x84x8x192 : Shape := ⟨4, ![186, 84, 8, 192]⟩
abbrev S186x8x128 : Shape := ⟨3, ![186, 8, 128]⟩
abbrev S6x32x192 : Shape := ⟨3, ![6, 32, 192]⟩
abbrev S192 : Shape := ⟨1, ![192]⟩
abbrev S192x768 : Shape := ⟨2, ![192, 768]⟩
abbrev S768 : Shape := ⟨1, ![768]⟩
abbrev S768x192 : Shape := ⟨2, ![768, 192]⟩
abbrev S768x384 : Shape := ⟨2, ![768, 384]⟩
abbrev S384 : Shape := ⟨1, ![384]⟩
abbrev S3x84x8x192 : Shape := ⟨4, ![3, 84, 8, 192]⟩
abbrev S183x84x8x192 : Shape := ⟨4, ![183, 84, 8, 192]⟩
abbrev S186x6x8x192 : Shape := ⟨4, ![186, 6, 8, 192]⟩
abbrev S186x78x8x192 : Shape := ⟨4, ![186, 78, 8, 192]⟩
abbrev S186x8x84 : Shape := ⟨3, ![186, 8, 84]⟩
abbrev S3x8x84 : Shape := ⟨3, ![3, 8, 84]⟩
abbrev S183x8x84 : Shape := ⟨3, ![183, 8, 84]⟩
abbrev S186x8x6 : Shape := ⟨3, ![186, 8, 6]⟩
abbrev S186x8x78 : Shape := ⟨3, ![186, 8, 78]⟩
abbrev S8x186x84x192 : Shape := ⟨4, ![8, 186, 84, 192]⟩
abbrev S192x192 : Shape := ⟨2, ![192, 192]⟩
abbrev S1x192 : Shape := ⟨2, ![1, 192]⟩
abbrev S2x192 : Shape := ⟨2, ![2, 192]⟩
abbrev S1x768 : Shape := ⟨2, ![1, 768]⟩
abbrev S2x768 : Shape := ⟨2, ![2, 768]⟩
abbrev S1x384 : Shape := ⟨2, ![1, 384]⟩
abbrev S93x42x8x384 : Shape := ⟨4, ![93, 42, 8, 384]⟩
abbrev S186x84x8x768 : Shape := ⟨4, ![186, 84, 8, 768]⟩
abbrev S93x42x8x768 : Shape := ⟨4, ![93, 42, 8, 768]⟩
abbrev S93x8x42 : Shape := ⟨3, ![93, 8, 42]⟩
abbrev S186x84x8 : Shape := ⟨3, ![186, 84, 8]⟩
abbrev S186x84x8x1 : Shape := ⟨4, ![186, 84, 8, 1]⟩
abbrev S124992x192 : Shape := ⟨2, ![124992, 192]⟩
abbrev S1x1x1x192 : Shape := ⟨4, ![1, 1, 1, 192]⟩
abbrev S124992x768 : Shape := ⟨2, ![124992, 768]⟩
abbrev S1x1x1x768 : Shape := ⟨4, ![1, 1, 1, 768]⟩
abbrev S93x2x42x2x8x192 : Shape := ⟨6, ![93, 2, 42, 2, 8, 192]⟩
abbrev S93x1x42x1x8x192 : Shape := ⟨6, ![93, 1, 42, 1, 8, 192]⟩
abbrev S93x42x8x192 : Shape := ⟨4, ![93, 42, 8, 192]⟩
abbrev S93x42x8 : Shape := ⟨3, ![93, 42, 8]⟩
abbrev S93x42x8x1 : Shape := ⟨4, ![93, 42, 8, 1]⟩
abbrev S31248x768 : Shape := ⟨2, ![31248, 768]⟩
abbrev S31248x384 : Shape := ⟨2, ![31248, 384]⟩
abbrev S1x1x1x384 : Shape := ⟨4, ![1, 1, 1, 384]⟩

abbrev nBuf : Space → Nat
  | .hbm => 78
  | .vmem => 22
  | .smem => 0
  | _ => 0

abbrev bufTy : (tb : Table) → Fin (tcTables nBuf tb) → BufTy
  | .hbm, ⟨0, _⟩ => ⟨S1x8x186x84x192, .bf16⟩
  | .hbm, ⟨1, _⟩ => ⟨S186x84x8x192, .i8⟩
  | .hbm, ⟨2, _⟩ => ⟨S186x8x128, .f32⟩
  | .hbm, ⟨3, _⟩ => ⟨S186x84x8x192, .i8⟩
  | .hbm, ⟨4, _⟩ => ⟨S186x8x128, .f32⟩
  | .hbm, ⟨5, _⟩ => ⟨S6x32x192, .i8⟩
  | .hbm, ⟨6, _⟩ => ⟨S192, .f32⟩
  | .hbm, ⟨7, _⟩ => ⟨S192, .f32⟩
  | .hbm, ⟨8, _⟩ => ⟨S192x768, .i8⟩
  | .hbm, ⟨9, _⟩ => ⟨S768, .f32⟩
  | .hbm, ⟨10, _⟩ => ⟨S768, .f32⟩
  | .hbm, ⟨11, _⟩ => ⟨S768x192, .i8⟩
  | .hbm, ⟨12, _⟩ => ⟨S192, .f32⟩
  | .hbm, ⟨13, _⟩ => ⟨S192, .f32⟩
  | .hbm, ⟨14, _⟩ => ⟨S192, .f32⟩
  | .hbm, ⟨15, _⟩ => ⟨S192, .f32⟩
  | .hbm, ⟨16, _⟩ => ⟨S192, .f32⟩
  | .hbm, ⟨17, _⟩ => ⟨S192, .f32⟩
  | .hbm, ⟨18, _⟩ => ⟨S768, .f32⟩
  | .hbm, ⟨19, _⟩ => ⟨S768, .f32⟩
  | .hbm, ⟨20, _⟩ => ⟨S768x384, .i8⟩
  | .hbm, ⟨21, _⟩ => ⟨S384, .f32⟩
  | .hbm, ⟨22, _⟩ => ⟨S3x84x8x192, .i8⟩
  | .hbm, ⟨23, _⟩ => ⟨S183x84x8x192, .i8⟩
  | .hbm, ⟨24, _⟩ => ⟨S186x84x8x192, .i8⟩
  | .hbm, ⟨25, _⟩ => ⟨S186x6x8x192, .i8⟩
  | .hbm, ⟨26, _⟩ => ⟨S186x78x8x192, .i8⟩
  | .hbm, ⟨27, _⟩ => ⟨S186x84x8x192, .i8⟩
  | .hbm, ⟨28, _⟩ => ⟨S186x8x84, .f32⟩
  | .hbm, ⟨29, _⟩ => ⟨S3x8x84, .f32⟩
  | .hbm, ⟨30, _⟩ => ⟨S183x8x84, .f32⟩
  | .hbm, ⟨31, _⟩ => ⟨S186x8x84, .f32⟩
  | .hbm, ⟨32, _⟩ => ⟨S186x8x6, .f32⟩
  | .hbm, ⟨33, _⟩ => ⟨S186x8x78, .f32⟩
  | .hbm, ⟨34, _⟩ => ⟨S186x8x84, .f32⟩
  | .hbm, ⟨35, _⟩ => ⟨S3x84x8x192, .i8⟩
  | .hbm, ⟨36, _⟩ => ⟨S183x84x8x192, .i8⟩
  | .hbm, ⟨37, _⟩ => ⟨S186x84x8x192, .i8⟩
  | .hbm, ⟨38, _⟩ => ⟨S186x6x8x192, .i8⟩
  | .hbm, ⟨39, _⟩ => ⟨S186x78x8x192, .i8⟩
  | .hbm, ⟨40, _⟩ => ⟨S186x84x8x192, .i8⟩
  | .hbm, ⟨41, _⟩ => ⟨S186x8x84, .f32⟩
  | .hbm, ⟨42, _⟩ => ⟨S3x8x84, .f32⟩
  | .hbm, ⟨43, _⟩ => ⟨S183x8x84, .f32⟩
  | .hbm, ⟨44, _⟩ => ⟨S186x8x84, .f32⟩
  | .hbm, ⟨45, _⟩ => ⟨S186x8x6, .f32⟩
  | .hbm, ⟨46, _⟩ => ⟨S186x8x78, .f32⟩
  | .hbm, ⟨47, _⟩ => ⟨S186x8x84, .f32⟩
  | .hbm, ⟨48, _⟩ => ⟨S8x186x84x192, .bf16⟩
  | .hbm, ⟨49, _⟩ => ⟨S186x84x8x192, .bf16⟩
  | .hbm, ⟨50, _⟩ => ⟨S192x192, .i8⟩
  | .hbm, ⟨51, _⟩ => ⟨S1x192, .f32⟩
  | .hbm, ⟨52, _⟩ => ⟨S1x192, .f32⟩
  | .hbm, ⟨53, _⟩ => ⟨S2x192, .f32⟩
  | .hbm, ⟨54, _⟩ => ⟨S1x768, .f32⟩
  | .hbm, ⟨55, _⟩ => ⟨S1x768, .f32⟩
  | .hbm, ⟨56, _⟩ => ⟨S2x768, .f32⟩
  | .hbm, ⟨57, _⟩ => ⟨S1x192, .f32⟩
  | .hbm, ⟨58, _⟩ => ⟨S1x192, .f32⟩
  | .hbm, ⟨59, _⟩ => ⟨S2x192, .f32⟩
  | .hbm, ⟨60, _⟩ => ⟨S1x192, .f32⟩
  | .hbm, ⟨61, _⟩ => ⟨S1x192, .f32⟩
  | .hbm, ⟨62, _⟩ => ⟨S2x192, .f32⟩
  | .hbm, ⟨63, _⟩ => ⟨S1x192, .f32⟩
  | .hbm, ⟨64, _⟩ => ⟨S1x192, .f32⟩
  | .hbm, ⟨65, _⟩ => ⟨S2x192, .f32⟩
  | .hbm, ⟨66, _⟩ => ⟨S1x768, .f32⟩
  | .hbm, ⟨67, _⟩ => ⟨S1x768, .f32⟩
  | .hbm, ⟨68, _⟩ => ⟨S2x768, .f32⟩
  | .hbm, ⟨69, _⟩ => ⟨S1x384, .f32⟩
  | .hbm, ⟨70, _⟩ => ⟨S186x84x8x192, .bf16⟩
  | .hbm, ⟨71, _⟩ => ⟨S93x42x8x384, .bf16⟩
  | .hbm, ⟨72, _⟩ => ⟨S186x84x8x192, .i8⟩
  | .hbm, ⟨73, _⟩ => ⟨S186x8x84, .f32⟩
  | .hbm, ⟨74, _⟩ => ⟨S186x84x8x768, .i8⟩
  | .hbm, ⟨75, _⟩ => ⟨S186x8x84, .f32⟩
  | .hbm, ⟨76, _⟩ => ⟨S93x42x8x768, .i8⟩
  | .hbm, ⟨77, _⟩ => ⟨S93x8x42, .f32⟩
  | .local _ .vmem, ⟨0, _⟩ => ⟨S186x84x8x192, .bf16⟩
  | .local _ .vmem, ⟨1, _⟩ => ⟨S186x84x8x192, .i8⟩
  | .local _ .vmem, ⟨2, _⟩ => ⟨S186x8x84, .f32⟩
  | .local _ .vmem, ⟨3, _⟩ => ⟨S192x192, .i8⟩
  | .local _ .vmem, ⟨4, _⟩ => ⟨S2x192, .f32⟩
  | .local _ .vmem, ⟨5, _⟩ => ⟨S192x768, .i8⟩
  | .local _ .vmem, ⟨6, _⟩ => ⟨S2x768, .f32⟩
  | .local _ .vmem, ⟨7, _⟩ => ⟨S768x192, .i8⟩
  | .local _ .vmem, ⟨8, _⟩ => ⟨S2x192, .f32⟩
  | .local _ .vmem, ⟨9, _⟩ => ⟨S2x192, .f32⟩
  | .local _ .vmem, ⟨10, _⟩ => ⟨S2x192, .f32⟩
  | .local _ .vmem, ⟨11, _⟩ => ⟨S2x768, .f32⟩
  | .local _ .vmem, ⟨12, _⟩ => ⟨S768x384, .i8⟩
  | .local _ .vmem, ⟨13, _⟩ => ⟨S1x384, .f32⟩
  | .local _ .vmem, ⟨14, _⟩ => ⟨S186x84x8x192, .bf16⟩
  | .local _ .vmem, ⟨15, _⟩ => ⟨S93x42x8x384, .bf16⟩
  | .local _ .vmem, ⟨16, _⟩ => ⟨S186x84x8x192, .i8⟩
  | .local _ .vmem, ⟨17, _⟩ => ⟨S186x8x84, .f32⟩
  | .local _ .vmem, ⟨18, _⟩ => ⟨S186x84x8x768, .i8⟩
  | .local _ .vmem, ⟨19, _⟩ => ⟨S186x8x84, .f32⟩
  | .local _ .vmem, ⟨20, _⟩ => ⟨S93x42x8x768, .i8⟩
  | .local _ .vmem, ⟨21, _⟩ => ⟨S93x8x42, .f32⟩
  | _, _ => ⟨S1x8x186x84x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v0 : Ref sig .tc := ⟨.hbm, 27, rfl⟩
abbrev main_v1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v3 : Ref sig .tc := ⟨.hbm, 40, rfl⟩
abbrev main_v4 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28_0 : Ref sig .tc := ⟨.hbm, 70, rfl⟩
abbrev main_v28_1 : Ref sig .tc := ⟨.hbm, 71, rfl⟩
abbrev main_v28_2 : Ref sig .tc := ⟨.hbm, 72, rfl⟩
abbrev main_v28_3 : Ref sig .tc := ⟨.hbm, 73, rfl⟩
abbrev main_v28_4 : Ref sig .tc := ⟨.hbm, 74, rfl⟩
abbrev main_v28_5 : Ref sig .tc := ⟨.hbm, 75, rfl⟩
abbrev main_v28_6 : Ref sig .tc := ⟨.hbm, 76, rfl⟩
abbrev main_v28_7 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S186x84x8x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S186x84x8x192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S186x8x84 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x768 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x192 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S768x384 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S186x84x8x192 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S93x42x8x384 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S186x84x8x192 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S186x8x84 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S186x84x8x768 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S186x8x84 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S93x42x8x768 .i8 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S93x8x42 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Proof.KernelLoop.lean ====
/- The chunk loop of the kernel, for the frame claim: one trip of the loop, at any trip, keeps the
   buffers it reads and leaves something in each buffer it writes. -/
module

public import proofs.«01_k».proof.Proof.Gen.Kernel.Loops

@[expose] public section

set_option maxRecDepth 8192
set_option maxHeartbeats 4000000
noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

variable (arg1 : Memref sig .tc .vmem S2x84x8x192 .bf16) (harg1 : arg1.IsWhole) (arg2 : Memref sig .tc .vmem S1x84x8x192 .i8) (harg2 : arg2.IsWhole) (arg3 : Memref sig .tc .vmem S1x84x8x192 .i8) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x84x8x192 .i8) (harg6 : arg6.IsWhole) (arg7 : Memref sig .tc .vmem S1x84x8x192 .i8) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S192x192 .i8) (harg10 : arg10.IsWhole) (arg11 : Memref sig .tc .vmem S192x768 .i8) (harg11 : arg11.IsWhole) (arg12 : Memref sig .tc .vmem S768x192 .i8) (harg12 : arg12.IsWhole) (arg13 : Memref sig .tc .vmem S768x384 .i8) (harg13 : arg13.IsWhole) (arg14 : Memref sig .tc .vmem S8x192 .f32) (harg14 : arg14.IsWhole) (arg15 : Memref sig .tc .vmem S2x768 .f32) (harg15 : arg15.IsWhole) (arg16 : Memref sig .tc .vmem S8x192 .f32) (harg16 : arg16.IsWhole) (arg17 : Memref sig .tc .vmem S1x384 .f32) (harg17 : arg17.IsWhole) (arg18 : Memref sig .tc .vmem S2x84x8x192 .bf16) (harg18 : arg18.IsWhole) (arg19 : Memref sig .tc .vmem S1x42x8x384 .bf16) (harg19 : arg19.IsWhole) (arg20 : Memref sig .tc .vmem S2x84x8x192 .i8) (harg20 : arg20.IsWhole) (arg21 : Memref sig .tc .vmem S2x8x84 .f32) (harg21 : arg21.IsWhole) (arg22 : Memref sig .tc .vmem S2x84x8x192 .i8) (harg22 : arg22.IsWhole) (arg23 : Memref sig .tc .vmem S2x8x84 .f32) (harg23 : arg23.IsWhole) (arg24 : Memref sig .tc .vmem S2x84x8x192 .i8) (harg24 : arg24.IsWhole) (arg25 : Memref sig .tc .vmem S2x8x84 .f32) (harg25 : arg25.IsWhole) (arg26 : Memref sig .tc .vmem S2x84x8x768 .i8) (harg26 : arg26.IsWhole) (arg27 : Memref sig .tc .vmem S2x8x84 .f32) (harg27 : arg27.IsWhole) (arg28 : Memref sig .tc .vmem S1x42x8x768 .i8) (harg28 : arg28.IsWhole) (arg29 : Memref sig .tc .vmem S1x8x42 .f32) (harg29 : arg29.IsWhole)
variable (v1 : FVec F S1x192 .f32) (v3 : FVec F S1x192 .f32) (v5 : FVec F S1x192 .f32) (v7 : FVec F S1x192 .f32) (v9 : FVec F S1x192 .f32) (v11 : FVec F S1x192 .f32) (v13 : FVec F S1x192 .f32) (v15 : FVec F S1x192 .f32) (v17 : FVec F S1x768 .f32) (v19 : FVec F S1x768 .f32) (v20 : IVec S8x128 32)

set_option warn.classDefReducibility false in
/-- What holds before every trip: the buffers the loop reads are at their contents, and the buffers it
    writes are held at some contents. One trip keeps it. -/
@[sl_loop] def chunkInv (𝒱 : Variants) (c : Dev nD) (bd : Option 𝒱.V) (E : Set ℕ) (i : grid0.Coords)
    (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X10 : BufTy.Contents (Elt F) arg10.view.ty) (X11 : BufTy.Contents (Elt F) arg11.view.ty) (X12 : BufTy.Contents (Elt F) arg12.view.ty) (X13 : BufTy.Contents (Elt F) arg13.view.ty) (X16 : BufTy.Contents (Elt F) arg16.view.ty) (X17 : BufTy.Contents (Elt F) arg17.view.ty) (X23 : BufTy.Contents (Elt F) arg23.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v1 v3 v5 v7 v9 v11 v13 v15 v17 v19 v20 where
  inv _ _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg16.view.loc (c : Thread nD τ) ↦[arg16.view.set]{fullShare} X16) ∗ (arg17.view.loc (c : Thread nD τ) ↦[arg17.view.set]{fullShare} X17) ∗ (arg23.view.loc (c : Thread nD τ) ↦[arg23.view.set]{fullShare} X23) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg22.view.loc (c : Thread nD τ) ↦[arg22.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)))
  step k acc := by
    have hk : k.val < 7 := Nat.lt_of_lt_of_le k.isLt k0_t1_abs.2.1
    unfold k0_t1_body
    iintro ⟨HR1, HR2, HR3, HR6, HR7, HR10, HR11, HR12, HR13, HR16, HR17, HR23, ⟨%f18, HW18⟩, ⟨%f19, HW19⟩, ⟨%f20, HW20⟩, ⟨%f22, HW22⟩, ⟨%f24, HW24⟩, ⟨%f25, HW25⟩, ⟨%f26, HW26⟩, ⟨%f27, HW27⟩, ⟨%f28, HW28⟩, ⟨%f29, HW29⟩⟩
    sl_exec
    sl_step
    isplitl [HR1]; · iexact HR1
    isplitl [HR2]; · iexact HR2
    isplitl [HR3]; · iexact HR3
    isplitl [HR6]; · iexact HR6
    isplitl [HR7]; · iexact HR7
    isplitl [HR10]; · iexact HR10
    isplitl [HR11]; · iexact HR11
    isplitl [HR12]; · iexact HR12
    isplitl [HR13]; · iexact HR13
    isplitl [HR16]; · iexact HR16
    isplitl [HR17]; · iexact HR17
    isplitl [HR23]; · iexact HR23
    isplitl [HW18]; · iexists _; iexact HW18
    isplitl [HW19]; · iexists _; iexact HW19
    isplitl [HW20]; · iexists _; iexact HW20
    isplitl [HW22]; · iexists _; iexact HW22
    isplitl [HW24]; · iexists _; iexact HW24
    isplitl [HW25]; · iexists _; iexact HW25
    isplitl [HW26]; · iexists _; iexact HW26
    isplitl [HW27]; · iexists _; iexact HW27
    isplitl [HW28]; · iexists _; iexact HW28
    iexists _; iexact HW29

end Cert.Kernel.Run

end
-- ==== Proof.KernelFrame.lean ====
/- The frame of the kernel: it ends from every memory, leaves its arguments as they were and every
   counter at zero. Nothing is said here about what it computes. -/
module

public import proofs.«01_k».proof.Proof.Gen.Kernel.Frame
public import proofs.«01_k».proof.Proof.KernelLoop
public import Idealize.ShloMosaic.Lib.Claim

@[expose] public section

set_option maxRecDepth 16384
noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of each window at grid point `t`. -/
abbrev ms0_0 (t : Fin cfg0.N) : Memref sig .tc .vmem S2x84x8x192 .bf16 := win0_0.stage (cfg0.slots t 0)
abbrev ms0_1 (t : Fin cfg0.N) : Memref sig .tc .vmem S1x84x8x192 .i8 := win0_1.stage (cfg0.slots t 1)
abbrev ms0_2 (t : Fin cfg0.N) : Memref sig .tc .vmem S1x84x8x192 .i8 := win0_2.stage (cfg0.slots t 2)
abbrev ms0_3 (t : Fin cfg0.N) : Memref sig .tc .vmem S1x8x128 .f32 := win0_3.stage (cfg0.slots t 3)
abbrev ms0_4 (t : Fin cfg0.N) : Memref sig .tc .vmem S1x8x128 .f32 := win0_4.stage (cfg0.slots t 4)
abbrev ms0_5 (t : Fin cfg0.N) : Memref sig .tc .vmem S1x84x8x192 .i8 := win0_5.stage (cfg0.slots t 5)
abbrev ms0_6 (t : Fin cfg0.N) : Memref sig .tc .vmem S1x84x8x192 .i8 := win0_6.stage (cfg0.slots t 6)
abbrev ms0_7 (t : Fin cfg0.N) : Memref sig .tc .vmem S1x8x128 .f32 := win0_7.stage (cfg0.slots t 7)
abbrev ms0_8 (t : Fin cfg0.N) : Memref sig .tc .vmem S1x8x128 .f32 := win0_8.stage (cfg0.slots t 8)
abbrev ms0_9 (t : Fin cfg0.N) : Memref sig .tc .vmem S192x192 .i8 := win0_9.stage (cfg0.slots t 9)
abbrev ms0_10 (t : Fin cfg0.N) : Memref sig .tc .vmem S192x768 .i8 := win0_10.stage (cfg0.slots t 10)
abbrev ms0_11 (t : Fin cfg0.N) : Memref sig .tc .vmem S768x192 .i8 := win0_11.stage (cfg0.slots t 11)
abbrev ms0_12 (t : Fin cfg0.N) : Memref sig .tc .vmem S768x384 .i8 := win0_12.stage (cfg0.slots t 12)
abbrev ms0_13 (t : Fin cfg0.N) : Memref sig .tc .vmem S8x192 .f32 := win0_13.stage (cfg0.slots t 13)
abbrev ms0_14 (t : Fin cfg0.N) : Memref sig .tc .vmem S2x768 .f32 := win0_14.stage (cfg0.slots t 14)
abbrev ms0_15 (t : Fin cfg0.N) : Memref sig .tc .vmem S8x192 .f32 := win0_15.stage (cfg0.slots t 15)
abbrev ms0_16 (t : Fin cfg0.N) : Memref sig .tc .vmem S1x384 .f32 := win0_16.stage (cfg0.slots t 16)
abbrev ms0_17 (t : Fin cfg0.N) : Memref sig .tc .vmem S2x84x8x192 .bf16 := win0_17.stage (cfg0.slots t 17)
abbrev ms0_18 (t : Fin cfg0.N) : Memref sig .tc .vmem S1x42x8x384 .bf16 := win0_18.stage (cfg0.slots t 18)
abbrev ms0_19 (t : Fin cfg0.N) : Memref sig .tc .vmem S2x84x8x192 .i8 := win0_19.stage (cfg0.slots t 19)
abbrev ms0_20 (t : Fin cfg0.N) : Memref sig .tc .vmem S2x8x84 .f32 := win0_20.stage (cfg0.slots t 20)
abbrev ms0_21 (t : Fin cfg0.N) : Memref sig .tc .vmem S2x84x8x192 .i8 := win0_21.stage (cfg0.slots t 21)
abbrev ms0_22 (t : Fin cfg0.N) : Memref sig .tc .vmem S2x8x84 .f32 := win0_22.stage (cfg0.slots t 22)
abbrev ms0_23 (t : Fin cfg0.N) : Memref sig .tc .vmem S2x84x8x192 .i8 := win0_23.stage (cfg0.slots t 23)
abbrev ms0_24 (t : Fin cfg0.N) : Memref sig .tc .vmem S2x8x84 .f32 := win0_24.stage (cfg0.slots t 24)
abbrev ms0_25 (t : Fin cfg0.N) : Memref sig .tc .vmem S2x84x8x768 .i8 := win0_25.stage (cfg0.slots t 25)
abbrev ms0_26 (t : Fin cfg0.N) : Memref sig .tc .vmem S2x8x84 .f32 := win0_26.stage (cfg0.slots t 26)
abbrev ms0_27 (t : Fin cfg0.N) : Memref sig .tc .vmem S1x42x8x768 .i8 := win0_27.stage (cfg0.slots t 27)
abbrev ms0_28 (t : Fin cfg0.N) : Memref sig .tc .vmem S1x8x42 .f32 := win0_28.stage (cfg0.slots t 28)

set_option maxHeartbeats 4000000 in
/-- One run of the kernel's body on whole staging buffers: the inputs end as they were, each output ends
    at something. -/
theorem body_run (c : Dev nD) (i : grid0.Coords) (arg1 : Memref sig .tc .vmem S2x84x8x192 .bf16) (harg1 : arg1.IsWhole) (arg2 : Memref sig .tc .vmem S1x84x8x192 .i8) (harg2 : arg2.IsWhole) (arg3 : Memref sig .tc .vmem S1x84x8x192 .i8) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x84x8x192 .i8) (harg6 : arg6.IsWhole) (arg7 : Memref sig .tc .vmem S1x84x8x192 .i8) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S192x192 .i8) (harg10 : arg10.IsWhole) (arg11 : Memref sig .tc .vmem S192x768 .i8) (harg11 : arg11.IsWhole) (arg12 : Memref sig .tc .vmem S768x192 .i8) (harg12 : arg12.IsWhole) (arg13 : Memref sig .tc .vmem S768x384 .i8) (harg13 : arg13.IsWhole) (arg14 : Memref sig .tc .vmem S8x192 .f32) (harg14 : arg14.IsWhole) (arg15 : Memref sig .tc .vmem S2x768 .f32) (harg15 : arg15.IsWhole) (arg16 : Memref sig .tc .vmem S8x192 .f32) (harg16 : arg16.IsWhole) (arg17 : Memref sig .tc .vmem S1x384 .f32) (harg17 : arg17.IsWhole) (arg18 : Memref sig .tc .vmem S2x84x8x192 .bf16) (harg18 : arg18.IsWhole) (arg19 : Memref sig .tc .vmem S1x42x8x384 .bf16) (harg19 : arg19.IsWhole) (arg20 : Memref sig .tc .vmem S2x84x8x192 .i8) (harg20 : arg20.IsWhole) (arg21 : Memref sig .tc .vmem S2x8x84 .f32) (harg21 : arg21.IsWhole) (arg22 : Memref sig .tc .vmem S2x84x8x192 .i8) (harg22 : arg22.IsWhole) (arg23 : Memref sig .tc .vmem S2x8x84 .f32) (harg23 : arg23.IsWhole) (arg24 : Memref sig .tc .vmem S2x84x8x192 .i8) (harg24 : arg24.IsWhole) (arg25 : Memref sig .tc .vmem S2x8x84 .f32) (harg25 : arg25.IsWhole) (arg26 : Memref sig .tc .vmem S2x84x8x768 .i8) (harg26 : arg26.IsWhole) (arg27 : Memref sig .tc .vmem S2x8x84 .f32) (harg27 : arg27.IsWhole) (arg28 : Memref sig .tc .vmem S1x42x8x768 .i8) (harg28 : arg28.IsWhole) (arg29 : Memref sig .tc .vmem S1x8x42 .f32) (harg29 : arg29.IsWhole)
    (x1 : Vec F S2x84x8x192 .bf16) (x2 : Vec F S1x84x8x192 .i8) (x3 : Vec F S1x84x8x192 .i8) (x4 : Vec F S1x8x128 .f32) (x5 : Vec F S1x8x128 .f32) (x6 : Vec F S1x84x8x192 .i8) (x7 : Vec F S1x84x8x192 .i8) (x8 : Vec F S1x8x128 .f32) (x9 : Vec F S1x8x128 .f32) (x10 : Vec F S192x192 .i8) (x11 : Vec F S192x768 .i8) (x12 : Vec F S768x192 .i8) (x13 : Vec F S768x384 .i8) (x14 : Vec F S8x192 .f32) (x15 : Vec F S2x768 .f32) (x16 : Vec F S8x192 .f32) (x17 : Vec F S1x384 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) E (cc0_mlp_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_mlp_merge_eq_skeleton]; unfold cc0_mlp_merge_skel
  simp only [k0_part21_eq_skeleton, k0_part22_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- The output windows this certificate FORGETS (17, 18, 19, 20, 21, 22, 23, 24, 25, 26, 27, 28): nothing reads what the kernel leaves in them, so nothing
    of it is named (Lib/Pipeline/Dat.lean `Dat.toRForget`). -/
def forgets0 : Fin 29 → Bool := fun w => w.val == 17 || w.val == 18 || w.val == 19 || w.val == 20 || w.val == 21 || w.val == 22 || w.val == 23 || w.val == 24 || w.val == 25 || w.val == 26 || w.val == 27 || w.val == 28

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨_ + 29, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d))

set_option maxHeartbeats 2800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 17, 18, 19, 20, 21, 22, 23, 24, 25, 26, 27, 28) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1740000 in
/-- From a run in which every input window's array is unchanged, the arguments are unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      (Pipeline.RDat.FramePost.arr_in h c 4 rfl).trans ((hA c 4).trans (V_main_arg2 m c)),
      (Pipeline.RDat.FramePost.arr_in h c 6 rfl).trans ((hA c 6).trans (V_main_arg3 m c)),
      (Pipeline.RDat.FramePost.arr_in h c 8 rfl).trans ((hA c 8).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 10 rfl).trans ((hA c 10).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (Pipeline.RDat.FramePost.arr_in h c 11 rfl).trans ((hA c 11).trans (V_main_arg11 m c)),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      (Pipeline.RDat.FramePost.arr_in h c 12 rfl).trans ((hA c 12).trans (V_main_arg20 m c)),
      ((h c).2 main_arg21 (Pipeline.mem_restRefs_of main_arg21 (by decide) (by decide))).trans (V_main_arg21 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (fun c => (dats m 0 c).toRForget forgets0) (A_eq m) (run_main m ρ)

/-- THE FRAME: `Cert.quiescent_Kernel`'s statement (Defs.lean) at any `F` — Proof.lean cites it at `Bits`:
    Proof.lean. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.Kernel.Run

end
-- ==== Proof.KernelIdealLoop.lean ====
/- The chunk loop of the kernel, for the frame claim: one trip of the loop, at any trip, keeps the
   buffers it reads and leaves something in each buffer it writes. -/
module

public import proofs.«01_k».proof.Proof.Gen.KernelIdeal.Loops

@[expose] public section

set_option maxRecDepth 8192
set_option maxHeartbeats 4000000
noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

variable (arg1 : Memref sig .tc .vmem S2x84x8x192 .bf16) (harg1 : arg1.IsWhole) (arg2 : Memref sig .tc .vmem S1x84x8x192 .i8) (harg2 : arg2.IsWhole) (arg3 : Memref sig .tc .vmem S1x84x8x192 .i8) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x84x8x192 .i8) (harg6 : arg6.IsWhole) (arg7 : Memref sig .tc .vmem S1x84x8x192 .i8) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S192x192 .i8) (harg10 : arg10.IsWhole) (arg11 : Memref sig .tc .vmem S192x768 .i8) (harg11 : arg11.IsWhole) (arg12 : Memref sig .tc .vmem S768x192 .i8) (harg12 : arg12.IsWhole) (arg13 : Memref sig .tc .vmem S768x384 .i8) (harg13 : arg13.IsWhole) (arg14 : Memref sig .tc .vmem S8x192 .f32) (harg14 : arg14.IsWhole) (arg15 : Memref sig .tc .vmem S2x768 .f32) (harg15 : arg15.IsWhole) (arg16 : Memref sig .tc .vmem S8x192 .f32) (harg16 : arg16.IsWhole) (arg17 : Memref sig .tc .vmem S1x384 .f32) (harg17 : arg17.IsWhole) (arg18 : Memref sig .tc .vmem S2x84x8x192 .bf16) (harg18 : arg18.IsWhole) (arg19 : Memref sig .tc .vmem S1x42x8x384 .bf16) (harg19 : arg19.IsWhole) (arg20 : Memref sig .tc .vmem S2x84x8x192 .i8) (harg20 : arg20.IsWhole) (arg21 : Memref sig .tc .vmem S2x8x84 .f32) (harg21 : arg21.IsWhole) (arg22 : Memref sig .tc .vmem S2x84x8x192 .i8) (harg22 : arg22.IsWhole) (arg23 : Memref sig .tc .vmem S2x8x84 .f32) (harg23 : arg23.IsWhole) (arg24 : Memref sig .tc .vmem S2x84x8x192 .i8) (harg24 : arg24.IsWhole) (arg25 : Memref sig .tc .vmem S2x8x84 .f32) (harg25 : arg25.IsWhole) (arg26 : Memref sig .tc .vmem S2x84x8x768 .i8) (harg26 : arg26.IsWhole) (arg27 : Memref sig .tc .vmem S2x8x84 .f32) (harg27 : arg27.IsWhole) (arg28 : Memref sig .tc .vmem S1x42x8x768 .i8) (harg28 : arg28.IsWhole) (arg29 : Memref sig .tc .vmem S1x8x42 .f32) (harg29 : arg29.IsWhole)
variable (v1 : FVec F S1x192 .f32) (v3 : FVec F S1x192 .f32) (v5 : FVec F S1x192 .f32) (v7 : FVec F S1x192 .f32) (v9 : FVec F S1x192 .f32) (v11 : FVec F S1x192 .f32) (v13 : FVec F S1x192 .f32) (v15 : FVec F S1x192 .f32) (v17 : FVec F S1x768 .f32) (v19 : FVec F S1x768 .f32) (v20 : IVec S8x128 32)

set_option warn.classDefReducibility false in
/-- What holds before every trip: the buffers the loop reads are at their contents, and the buffers it
    writes are held at some contents. One trip keeps it. -/
@[sl_loop] def chunkInv (𝒱 : Variants) (c : Dev nD) (bd : Option 𝒱.V) (E : Set ℕ) (i : grid0.Coords)
    (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X10 : BufTy.Contents (Elt F) arg10.view.ty) (X11 : BufTy.Contents (Elt F) arg11.view.ty) (X12 : BufTy.Contents (Elt F) arg12.view.ty) (X13 : BufTy.Contents (Elt F) arg13.view.ty) (X16 : BufTy.Contents (Elt F) arg16.view.ty) (X17 : BufTy.Contents (Elt F) arg17.view.ty) (X23 : BufTy.Contents (Elt F) arg23.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v1 v3 v5 v7 v9 v11 v13 v15 v17 v19 v20 where
  inv _ _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg16.view.loc (c : Thread nD τ) ↦[arg16.view.set]{fullShare} X16) ∗ (arg17.view.loc (c : Thread nD τ) ↦[arg17.view.set]{fullShare} X17) ∗ (arg23.view.loc (c : Thread nD τ) ↦[arg23.view.set]{fullShare} X23) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg22.view.loc (c : Thread nD τ) ↦[arg22.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)))
  step k acc := by
    have hk : k.val < 7 := Nat.lt_of_lt_of_le k.isLt k0_t1_abs.2.1
    unfold k0_t1_body
    iintro ⟨HR1, HR2, HR3, HR6, HR7, HR10, HR11, HR12, HR13, HR16, HR17, HR23, ⟨%f18, HW18⟩, ⟨%f19, HW19⟩, ⟨%f20, HW20⟩, ⟨%f22, HW22⟩, ⟨%f24, HW24⟩, ⟨%f25, HW25⟩, ⟨%f26, HW26⟩, ⟨%f27, HW27⟩, ⟨%f28, HW28⟩, ⟨%f29, HW29⟩⟩
    sl_exec
    sl_step
    isplitl [HR1]; · iexact HR1
    isplitl [HR2]; · iexact HR2
    isplitl [HR3]; · iexact HR3
    isplitl [HR6]; · iexact HR6
    isplitl [HR7]; · iexact HR7
    isplitl [HR10]; · iexact HR10
    isplitl [HR11]; · iexact HR11
    isplitl [HR12]; · iexact HR12
    isplitl [HR13]; · iexact HR13
    isplitl [HR16]; · iexact HR16
    isplitl [HR17]; · iexact HR17
    isplitl [HR23]; · iexact HR23
    isplitl [HW18]; · iexists _; iexact HW18
    isplitl [HW19]; · iexists _; iexact HW19
    isplitl [HW20]; · iexists _; iexact HW20
    isplitl [HW22]; · iexists _; iexact HW22
    isplitl [HW24]; · iexists _; iexact HW24
    isplitl [HW25]; · iexists _; iexact HW25
    isplitl [HW26]; · iexists _; iexact HW26
    isplitl [HW27]; · iexists _; iexact HW27
    isplitl [HW28]; · iexists _; iexact HW28
    iexists _; iexact HW29

end Cert.KernelIdeal.Run

end
-- ==== Proof.KernelIdealFrame.lean ====
/- The frame of the kernel: it ends from every memory, leaves its arguments as they were and every
   counter at zero. Nothing is said here about what it computes. -/
module

public import proofs.«01_k».proof.Proof.Gen.KernelIdeal.Frame
public import proofs.«01_k».proof.Proof.KernelIdealLoop
public import Idealize.ShloMosaic.Lib.Claim

@[expose] public section

set_option maxRecDepth 16384
noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffer of each window at grid point `t`. -/
abbrev ms0_0 (t : Fin cfg0.N) : Memref sig .tc .vmem S2x84x8x192 .bf16 := win0_0.stage (cfg0.slots t 0)
abbrev ms0_1 (t : Fin cfg0.N) : Memref sig .tc .vmem S1x84x8x192 .i8 := win0_1.stage (cfg0.slots t 1)
abbrev ms0_2 (t : Fin cfg0.N) : Memref sig .tc .vmem S1x84x8x192 .i8 := win0_2.stage (cfg0.slots t 2)
abbrev ms0_3 (t : Fin cfg0.N) : Memref sig .tc .vmem S1x8x128 .f32 := win0_3.stage (cfg0.slots t 3)
abbrev ms0_4 (t : Fin cfg0.N) : Memref sig .tc .vmem S1x8x128 .f32 := win0_4.stage (cfg0.slots t 4)
abbrev ms0_5 (t : Fin cfg0.N) : Memref sig .tc .vmem S1x84x8x192 .i8 := win0_5.stage (cfg0.slots t 5)
abbrev ms0_6 (t : Fin cfg0.N) : Memref sig .tc .vmem S1x84x8x192 .i8 := win0_6.stage (cfg0.slots t 6)
abbrev ms0_7 (t : Fin cfg0.N) : Memref sig .tc .vmem S1x8x128 .f32 := win0_7.stage (cfg0.slots t 7)
abbrev ms0_8 (t : Fin cfg0.N) : Memref sig .tc .vmem S1x8x128 .f32 := win0_8.stage (cfg0.slots t 8)
abbrev ms0_9 (t : Fin cfg0.N) : Memref sig .tc .vmem S192x192 .i8 := win0_9.stage (cfg0.slots t 9)
abbrev ms0_10 (t : Fin cfg0.N) : Memref sig .tc .vmem S192x768 .i8 := win0_10.stage (cfg0.slots t 10)
abbrev ms0_11 (t : Fin cfg0.N) : Memref sig .tc .vmem S768x192 .i8 := win0_11.stage (cfg0.slots t 11)
abbrev ms0_12 (t : Fin cfg0.N) : Memref sig .tc .vmem S768x384 .i8 := win0_12.stage (cfg0.slots t 12)
abbrev ms0_13 (t : Fin cfg0.N) : Memref sig .tc .vmem S8x192 .f32 := win0_13.stage (cfg0.slots t 13)
abbrev ms0_14 (t : Fin cfg0.N) : Memref sig .tc .vmem S2x768 .f32 := win0_14.stage (cfg0.slots t 14)
abbrev ms0_15 (t : Fin cfg0.N) : Memref sig .tc .vmem S8x192 .f32 := win0_15.stage (cfg0.slots t 15)
abbrev ms0_16 (t : Fin cfg0.N) : Memref sig .tc .vmem S1x384 .f32 := win0_16.stage (cfg0.slots t 16)
abbrev ms0_17 (t : Fin cfg0.N) : Memref sig .tc .vmem S2x84x8x192 .bf16 := win0_17.stage (cfg0.slots t 17)
abbrev ms0_18 (t : Fin cfg0.N) : Memref sig .tc .vmem S1x42x8x384 .bf16 := win0_18.stage (cfg0.slots t 18)
abbrev ms0_19 (t : Fin cfg0.N) : Memref sig .tc .vmem S2x84x8x192 .i8 := win0_19.stage (cfg0.slots t 19)
abbrev ms0_20 (t : Fin cfg0.N) : Memref sig .tc .vmem S2x8x84 .f32 := win0_20.stage (cfg0.slots t 20)
abbrev ms0_21 (t : Fin cfg0.N) : Memref sig .tc .vmem S2x84x8x192 .i8 := win0_21.stage (cfg0.slots t 21)
abbrev ms0_22 (t : Fin cfg0.N) : Memref sig .tc .vmem S2x8x84 .f32 := win0_22.stage (cfg0.slots t 22)
abbrev ms0_23 (t : Fin cfg0.N) : Memref sig .tc .vmem S2x84x8x192 .i8 := win0_23.stage (cfg0.slots t 23)
abbrev ms0_24 (t : Fin cfg0.N) : Memref sig .tc .vmem S2x8x84 .f32 := win0_24.stage (cfg0.slots t 24)
abbrev ms0_25 (t : Fin cfg0.N) : Memref sig .tc .vmem S2x84x8x768 .i8 := win0_25.stage (cfg0.slots t 25)
abbrev ms0_26 (t : Fin cfg0.N) : Memref sig .tc .vmem S2x8x84 .f32 := win0_26.stage (cfg0.slots t 26)
abbrev ms0_27 (t : Fin cfg0.N) : Memref sig .tc .vmem S1x42x8x768 .i8 := win0_27.stage (cfg0.slots t 27)
abbrev ms0_28 (t : Fin cfg0.N) : Memref sig .tc .vmem S1x8x42 .f32 := win0_28.stage (cfg0.slots t 28)

set_option maxHeartbeats 4000000 in
/-- One run of the kernel's body on whole staging buffers: the inputs end as they were, each output ends
    at something. -/
theorem body_run (c : Dev nD) (i : grid0.Coords) (arg1 : Memref sig .tc .vmem S2x84x8x192 .bf16) (harg1 : arg1.IsWhole) (arg2 : Memref sig .tc .vmem S1x84x8x192 .i8) (harg2 : arg2.IsWhole) (arg3 : Memref sig .tc .vmem S1x84x8x192 .i8) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x84x8x192 .i8) (harg6 : arg6.IsWhole) (arg7 : Memref sig .tc .vmem S1x84x8x192 .i8) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S192x192 .i8) (harg10 : arg10.IsWhole) (arg11 : Memref sig .tc .vmem S192x768 .i8) (harg11 : arg11.IsWhole) (arg12 : Memref sig .tc .vmem S768x192 .i8) (harg12 : arg12.IsWhole) (arg13 : Memref sig .tc .vmem S768x384 .i8) (harg13 : arg13.IsWhole) (arg14 : Memref sig .tc .vmem S8x192 .f32) (harg14 : arg14.IsWhole) (arg15 : Memref sig .tc .vmem S2x768 .f32) (harg15 : arg15.IsWhole) (arg16 : Memref sig .tc .vmem S8x192 .f32) (harg16 : arg16.IsWhole) (arg17 : Memref sig .tc .vmem S1x384 .f32) (harg17 : arg17.IsWhole) (arg18 : Memref sig .tc .vmem S2x84x8x192 .bf16) (harg18 : arg18.IsWhole) (arg19 : Memref sig .tc .vmem S1x42x8x384 .bf16) (harg19 : arg19.IsWhole) (arg20 : Memref sig .tc .vmem S2x84x8x192 .i8) (harg20 : arg20.IsWhole) (arg21 : Memref sig .tc .vmem S2x8x84 .f32) (harg21 : arg21.IsWhole) (arg22 : Memref sig .tc .vmem S2x84x8x192 .i8) (harg22 : arg22.IsWhole) (arg23 : Memref sig .tc .vmem S2x8x84 .f32) (harg23 : arg23.IsWhole) (arg24 : Memref sig .tc .vmem S2x84x8x192 .i8) (harg24 : arg24.IsWhole) (arg25 : Memref sig .tc .vmem S2x8x84 .f32) (harg25 : arg25.IsWhole) (arg26 : Memref sig .tc .vmem S2x84x8x768 .i8) (harg26 : arg26.IsWhole) (arg27 : Memref sig .tc .vmem S2x8x84 .f32) (harg27 : arg27.IsWhole) (arg28 : Memref sig .tc .vmem S1x42x8x768 .i8) (harg28 : arg28.IsWhole) (arg29 : Memref sig .tc .vmem S1x8x42 .f32) (harg29 : arg29.IsWhole)
    (x1 : Vec F S2x84x8x192 .bf16) (x2 : Vec F S1x84x8x192 .i8) (x3 : Vec F S1x84x8x192 .i8) (x4 : Vec F S1x8x128 .f32) (x5 : Vec F S1x8x128 .f32) (x6 : Vec F S1x84x8x192 .i8) (x7 : Vec F S1x84x8x192 .i8) (x8 : Vec F S1x8x128 .f32) (x9 : Vec F S1x8x128 .f32) (x10 : Vec F S192x192 .i8) (x11 : Vec F S192x768 .i8) (x12 : Vec F S768x192 .i8) (x13 : Vec F S768x384 .i8) (x14 : Vec F S8x192 .f32) (x15 : Vec F S2x768 .f32) (x16 : Vec F S8x192 .f32) (x17 : Vec F S1x384 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) E (cc0_mlp_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_mlp_merge_eq_skeleton]; unfold cc0_mlp_merge_skel
  simp only [k0_part21_eq_skeleton, k0_part22_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- The output windows this certificate FORGETS (17, 18, 19, 20, 21, 22, 23, 24, 25, 26, 27, 28): nothing reads what the kernel leaves in them, so nothing
    of it is named (Lib/Pipeline/Dat.lean `Dat.toRForget`). -/
def forgets0 : Fin 29 → Bool := fun w => w.val == 17 || w.val == 18 || w.val == 19 || w.val == 20 || w.val == 21 || w.val == 22 || w.val == 23 || w.val == 24 || w.val == 25 || w.val == 26 || w.val == 27 || w.val == 28

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨_ + 29, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d))

set_option maxHeartbeats 2800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 17, 18, 19, 20, 21, 22, 23, 24, 25, 26, 27, 28) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1740000 in
/-- From a run in which every input window's array is unchanged, the arguments are unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      (Pipeline.RDat.FramePost.arr_in h c 4 rfl).trans ((hA c 4).trans (V_main_arg2 m c)),
      (Pipeline.RDat.FramePost.arr_in h c 6 rfl).trans ((hA c 6).trans (V_main_arg3 m c)),
      (Pipeline.RDat.FramePost.arr_in h c 8 rfl).trans ((hA c 8).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 10 rfl).trans ((hA c 10).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (Pipeline.RDat.FramePost.arr_in h c 11 rfl).trans ((hA c 11).trans (V_main_arg11 m c)),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      (Pipeline.RDat.FramePost.arr_in h c 12 rfl).trans ((hA c 12).trans (V_main_arg20 m c)),
      ((h c).2 main_arg21 (Pipeline.mem_restRefs_of main_arg21 (by decide) (by decide))).trans (V_main_arg21 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (fun c => (dats m 0 c).toRForget forgets0) (A_eq m) (run_main m ρ)

/-- THE FRAME: `Cert.quiescent_KernelIdeal`'s statement (Defs.lean) at any `F` — Proof.lean cites it at `Bits`:
    Proof.lean. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.KernelIdeal.Run

end
-- ==== Proof.KernelChunk.lean ====
/- One trip of the kernel's loop as plain values: what the trip loads (the fields of `Chunk`), and from that every
   value the trip computes, named by its number in the program. -/
module

public import proofs.«01_k».proof.Proof.Gen.KernelIdeal.Skeleton

@[expose] public section

noncomputable section

namespace Cert.KernelIdeal.Val

open Idealize.ShloMosaic Idealize.ShloMosaic.TcCoe
open Cert.KernelIdeal Cert.KernelIdeal.Gen

/-- What one trip works on: the trip number, the parameter rows read before the loop, and the trip's own loads. -/
structure Chunk (F : FTy → Type) [FloatOps F] [Named F] where
  k : Fin k0_t1_loop.trips
  v1 : FVec F S1x192 .f32
  v3 : FVec F S1x192 .f32
  v5 : FVec F S1x192 .f32
  v7 : FVec F S1x192 .f32
  v9 : FVec F S1x192 .f32
  v11 : FVec F S1x192 .f32
  v13 : FVec F S1x192 .f32
  v15 : FVec F S1x192 .f32
  v17 : FVec F S1x768 .f32
  v19 : FVec F S1x768 .f32
  v20 : IVec S8x128 32
  v89 : Vec F S1x6x8x192 .i8
  v122 : Vec F S1x6x8x192 .i8
  v155 : Vec F S1x6x8x192 .i8
  v188 : Vec F S1x6x8x192 .i8
  v97 : Vec F S1x6x8x192 .i8
  v130 : Vec F S1x6x8x192 .i8
  v163 : Vec F S1x6x8x192 .i8
  v196 : Vec F S1x6x8x192 .i8
  v209 : Vec F S1x8x84 .f32
  v237 : Vec F S1x8x84 .f32
  v266 : Vec F S192x192 .i8
  v277 : Vec F S2x12x8x192 .bf16
  v503 : Vec F S192x768 .i8
  v721 : Vec F S768x192 .i8
  v905 : Vec F S768x384 .i8
  v805 : Vec F S1x192 .f32
  v810 : Vec F S1x192 .f32
  v817 : Vec F S1x192 .f32
  v822 : Vec F S1x192 .f32
  v829 : Vec F S1x192 .f32
  v834 : Vec F S1x192 .f32
  v841 : Vec F S1x192 .f32
  v846 : Vec F S1x192 .f32
  v911 : Vec F S1x384 .f32

namespace Chunk

variable {F : FTy → Type} [FloatOps F] [Named F] (C : Chunk F)

/-- The program's value `v95`. -/
def v95 : IVec S1x6x8x192 8 :=
  k0_pay7 (F := F) C.v89
/-- The program's value `v103`. -/
def v103 : IVec S1x6x8x192 8 :=
  k0_pay8 (F := F) C.v97
/-- The program's value `v90`. -/
def v90 : IVec S6x8x192 8 :=
  k0_pay6 (F := F) C.v89
/-- The program's value `v105`. -/
def v105 : FVec F S48x192 .f32 :=
  k0_pay9 (F := F) C.v90
/-- The program's value `v123`. -/
def v123 : IVec S6x8x192 8 :=
  k0_pay10 (F := F) C.v122
/-- The program's value `v128`. -/
def v128 : IVec S1x6x8x192 8 :=
  k0_pay11 (F := F) C.v122
/-- The program's value `v136`. -/
def v136 : IVec S1x6x8x192 8 :=
  k0_pay12 (F := F) C.v130
/-- The program's value `v138`. -/
def v138 : FVec F S48x192 .f32 :=
  k0_pay13 (F := F) C.v123
/-- The program's value `v156`. -/
def v156 : IVec S6x8x192 8 :=
  k0_pay14 (F := F) C.v155
/-- The program's value `v161`. -/
def v161 : IVec S1x6x8x192 8 :=
  k0_pay15 (F := F) C.v155
/-- The program's value `v169`. -/
def v169 : IVec S1x6x8x192 8 :=
  k0_pay16 (F := F) C.v163
/-- The program's value `v171`. -/
def v171 : FVec F S48x192 .f32 :=
  k0_pay17 (F := F) C.v156
/-- The program's value `v189`. -/
def v189 : IVec S6x8x192 8 :=
  k0_pay18 (F := F) C.v188
/-- The program's value `v194`. -/
def v194 : IVec S1x6x8x192 8 :=
  k0_pay19 (F := F) C.v188
/-- The program's value `v202`. -/
def v202 : IVec S1x6x8x192 8 :=
  k0_pay20 (F := F) C.v196
/-- The program's value `v206`. -/
def v206 : FVec F S192x192 .bf16 :=
  k0_pay21 (F := F) C.v105 C.v138 C.v171 C.v189
/-- The program's value `v208`. -/
def v208 : IVec S8x128 32 :=
  k0_pay22 C.v20 (Scalar.muli (Scf.iv 0#32 1#32 C.k) 12#32)
/-- The program's value `v225`. -/
def v225 : FVec F S8x1 .f32 :=
  k0_pay24 (F := F) (Scalar.muli (Scf.iv 0#32 1#32 C.k) 12#32) C.v209
/-- The program's value `v226`. -/
def v226 : FVec F S8x1 .f32 :=
  k0_pay25 (F := F) (Scalar.muli (Scf.iv 0#32 1#32 C.k) 12#32) C.v209
/-- The program's value `v227`. -/
def v227 : FVec F S8x1 .f32 :=
  k0_pay26 (F := F) (Scalar.muli (Scf.iv 0#32 1#32 C.k) 12#32) C.v209
/-- The program's value `v228`. -/
def v228 : FVec F S8x1 .f32 :=
  k0_pay27 (F := F) (Scalar.muli (Scf.iv 0#32 1#32 C.k) 12#32) C.v209
/-- The program's value `v229`. -/
def v229 : FVec F S8x1 .f32 :=
  k0_pay28 (F := F) (Scalar.muli (Scf.iv 0#32 1#32 C.k) 12#32) C.v209
/-- The program's value `v230`. -/
def v230 : FVec F S8x1 .f32 :=
  k0_pay29 (F := F) (Scalar.muli (Scf.iv 0#32 1#32 C.k) 12#32) C.v209
/-- The program's value `v231`. -/
def v231 : FVec F S8x1 .f32 :=
  k0_pay30 (F := F) (Scalar.muli (Scf.iv 0#32 1#32 C.k) 12#32) C.v209
/-- The program's value `v232`. -/
def v232 : FVec F S8x1 .f32 :=
  k0_pay31 (F := F) (Scalar.muli (Scf.iv 0#32 1#32 C.k) 12#32) C.v209
/-- The program's value `v233`. -/
def v233 : FVec F S8x1 .f32 :=
  k0_pay32 (F := F) (Scalar.muli (Scf.iv 0#32 1#32 C.k) 12#32) C.v209
/-- The program's value `v234`. -/
def v234 : FVec F S8x1 .f32 :=
  k0_pay33 (F := F) (Scalar.muli (Scf.iv 0#32 1#32 C.k) 12#32) C.v209
/-- The program's value `v235`. -/
def v235 : FVec F S8x1 .f32 :=
  k0_pay34 (F := F) (Scalar.muli (Scf.iv 0#32 1#32 C.k) 12#32) C.v209
/-- The program's value `v236`. -/
def v236 : FVec F S8x1 .f32 :=
  k0_pay35 (F := F) (Scalar.muli (Scf.iv 0#32 1#32 C.k) 12#32) C.v209
/-- The program's value `v240`. -/
def v240 : FVec F S8x128 .f32 :=
  k0_pay36 (F := F) C.v237
/-- The program's value `v280`. -/
def v280 : FVec F S192x192 .f32 :=
  k0_pay37 (F := F) C.v277
/-- The program's value `v286`. -/
def v286 : FVec F S192x192 .f32 :=
  k0_pay38 (F := F) C.v1 C.v3 C.v206 C.v225 C.v226 C.v227 C.v228 C.v229 C.v230 C.v231 C.v232 C.v233 C.v234 C.v235 C.v236 C.v240 (Scalar.subi 128#32 (Scalar.muli (Scf.iv 0#32 1#32 C.k) 12#32)) 128#32 (Scalar.cmpi .eq 128#32 0#32) 1#32 C.v266
/-- The program's value `v289`. -/
def v289 : FVec F S192x1 .f32 :=
  k0_pay39 (F := F) C.v1 C.v3 C.v206 C.v225 C.v226 C.v227 C.v228 C.v229 C.v230 C.v231 C.v232 C.v233 C.v234 C.v235 C.v236 C.v240 (Scalar.subi 128#32 (Scalar.muli (Scf.iv 0#32 1#32 C.k) 12#32)) 128#32 (Scalar.cmpi .eq 128#32 0#32) 1#32 C.v266
/-- The program's value `v301`. -/
def v301 : FVec F S192x192 .f32 :=
  k0_pay40 (F := F) C.v5 C.v7 C.v280 C.v286 C.v289 (Named.named κ "inv_192" 0x3BAAAAAB#32)
/-- The program's value `v310`. -/
def v310 : FVec F S192x1 .f32 :=
  k0_pay41 (F := F) C.v5 C.v7 C.v280 C.v286 C.v289 (Named.named κ "inv_192" 0x3BAAAAAB#32)
/-- The program's value `v319`. -/
def v319 : FVec F S192x192 .f32 :=
  k0_pay42 (F := F) C.v5 C.v7 C.v280 C.v286 C.v289 (Named.named κ "inv_192" 0x3BAAAAAB#32)
/-- The program's value `v321`. -/
def v321 : IVec S2x12x8x192 8 :=
  k0_pay43 (F := F) C.v5 C.v7 C.v280 C.v286 C.v289 (Named.named κ "inv_192" 0x3BAAAAAB#32)
/-- The program's value `v519`. -/
def v519 : FVec F S192x768 .f32 :=
  k0_pay56 (F := F) C.v17 C.v19 C.v310 C.v319 C.v503
/-- The program's value `v528`. -/
def v528 : FVec F S192x1 .f32 :=
  k0_pay57 (F := F) C.v17 C.v19 C.v310 C.v319 C.v503
/-- The program's value `v537`. -/
def v537 : FVec F S192x768 .f32 :=
  k0_pay58 (F := F) C.v519 C.v528 (Scalar.ofBits .f32 0x3F800000#32)
/-- The program's value `v539`. -/
def v539 : IVec S2x12x8x768 8 :=
  k0_pay59 (F := F) C.v519 C.v528 (Scalar.ofBits .f32 0x3F800000#32)
/-- The program's value `v720`. -/
def v720 : FVec F S192x768 .bf16 :=
  k0_pay66 (F := F) C.v537
/-- The program's value `v722`. -/
def v722 : FVec F S768x192 .bf16 :=
  k0_pay67 (F := F) C.v721
/-- The program's value `v752`. -/
def v752 : FVec F S2x12x8x192 .bf16 :=
  k0_pay69 (F := F) C.v9 C.v11 C.v13 C.v15 C.v301 C.v528 C.v720 C.v722
/-- The program's value `v755`. -/
def v755 : FVec F S2x6x2x8x192 .f32 :=
  k0_pay70 (F := F) C.v9 C.v11 C.v13 C.v15 C.v301 C.v528 C.v720 C.v722
/-- The program's value `v770`. -/
def v770 : FVec F S6x8x1 .f32 :=
  k0_pay71 (F := F) C.v9 C.v11 C.v13 C.v15 C.v301 C.v528 C.v720 C.v722
/-- The program's value `v782`. -/
def v782 : FVec F S6x8x192 .f32 :=
  k0_pay74 (F := F) C.v755 C.v770
/-- The program's value `v786`. -/
def v786 : FVec F S6x8x192 .f32 :=
  k0_pay75 (F := F) C.v755 C.v770
/-- The program's value `v802`. -/
def v802 : FVec F S6x8x1 .f32 :=
  k0_pay76 (F := F) C.v755 C.v770
/-- The program's value `v814`. -/
def v814 : FVec F S6x8x192 .f32 :=
  k0_pay77 (F := F) C.v755 C.v770 C.v805 C.v810
/-- The program's value `v816`. -/
def v816 : FVec F S6x8x192 .f32 :=
  k0_pay78 (F := F) C.v755 C.v770
/-- The program's value `v820`. -/
def v820 : FVec F S6x8x192 .f32 :=
  k0_pay79 (F := F) C.v817
/-- The program's value `v826`. -/
def v826 : FVec F S6x8x192 .f32 :=
  k0_pay80 (F := F) C.v816 C.v820 C.v822
/-- The program's value `v838`. -/
def v838 : FVec F S6x8x192 .f32 :=
  k0_pay81 (F := F) C.v782 C.v802 C.v829 C.v834
/-- The program's value `v850`. -/
def v850 : FVec F S6x8x192 .f32 :=
  k0_pay82 (F := F) C.v786 C.v802 C.v841 C.v846
/-- The program's value `v865`. -/
def v865 : FVec F S6x8x1 .f32 :=
  k0_pay83 (F := F) C.v782 C.v786 C.v802 C.v814 C.v816 C.v820 C.v822 C.v829 C.v834 C.v841 C.v846
/-- The program's value `v902`. -/
def v902 : IVec S1x6x8x768 8 :=
  k0_pay85 (F := F) C.v814 C.v826 C.v838 C.v850 C.v865 (Scalar.ofBits .f32 0x3F800000#32)
/-- The program's value `v907`. -/
def v907 : FVec F S48x384 .f32 :=
  k0_pay86 (F := F) C.v814 C.v826 C.v838 C.v850 C.v865 (Scalar.ofBits .f32 0x3F800000#32) C.v905
/-- The program's value `v909`. -/
def v909 : FVec F S48x384 .f32 :=
  k0_pay87 (F := F) C.v865
/-- The program's value `v920`. -/
def v920 : FVec F S1x6x8x384 .bf16 :=
  k0_pay88 (F := F) C.v907 C.v909 C.v911
/-- The scale tile of the first latitude row after the trip, from the tile before it. -/
def v412 (t : Vec F S1x8x84 .f32) : FVec F S1x8x84 .f32 :=
  k0_pay49 (F := F) C.v208 C.v310 (k0_pay46 (F := F) C.v208 C.v310 (k0_pay44 (F := F) C.v5 C.v7 C.v208 C.v280 C.v286 C.v289 (Named.named κ "inv_192" 0x3BAAAAAB#32) t) (k0_pay45 C.v208)) (k0_pay47 C.v208) (k0_pay48 (F := F) C.v310)
/-- The scale tile of the second latitude row after the trip, from the tile before it. -/
def v501 (t : Vec F S1x8x84 .f32) : FVec F S1x8x84 .f32 :=
  k0_pay55 (F := F) C.v208 C.v310 (k0_pay53 (F := F) C.v208 C.v310 (k0_pay50 (F := F) C.v208 C.v310 t) (k0_pay51 C.v208) (k0_pay52 (F := F) C.v310)) (k0_pay54 C.v208)
/-- The hidden layer's scale tile of the first latitude row after the trip, from the tile before it. -/
def v630 (t : Vec F S1x8x84 .f32) : FVec F S1x8x84 .f32 :=
  k0_pay63 (F := F) (k0_pay62 (F := F) C.v208 C.v528 (k0_pay60 (F := F) C.v208 C.v528 t) (k0_pay61 C.v208))
/-- The hidden layer's scale tile of the second latitude row after the trip, from the tile before it. -/
def v719 (t : Vec F S1x8x84 .f32) : FVec F S1x8x84 .f32 :=
  k0_pay65 (F := F) C.v208 C.v528 (k0_pay64 (F := F) C.v208 C.v528 t)
/-- The merged scale tile after the trip, from the tile before it. -/
def v985 (t : Vec F S1x8x42 .f32) : FVec F S1x8x42 .f32 :=
  k0_pay5 (F := F) C.v865 (Scalar.muli (Scf.iv 0#32 1#32 C.k) 6#32) (k0_pay89 (F := F) C.v865 (Scalar.muli (Scf.iv 0#32 1#32 C.k) 6#32) t) (k0_pay90 (Scalar.muli (Scf.iv 0#32 1#32 C.k) 6#32)) k0_pay91

end Chunk

end Cert.KernelIdeal.Val

end
-- ==== Proof.KernelTrip.lean ====
/- The chunk loop of the kernel with its values: what a trip writes is a function of what it loads and of what the
   written buffers held, and after any number of trips a written buffer is that function iterated. -/
module

public import proofs.«01_k».proof.Proof.Gen.KernelIdeal.Loops
public import proofs.«01_k».proof.Proof.KernelChunk

@[expose] public section

set_option maxRecDepth 8192
set_option maxHeartbeats 4000000
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The trips before trip `n`, one after the other. -/
def iter {α : Type} (step : Fin k0_t1_loop.trips → α → α) (a : α) : ℕ → α
  | 0 => a
  | n + 1 => if h : n < k0_t1_loop.trips then step ⟨n, h⟩ (iter step a n) else iter step a n

theorem iter_succ {α : Type} (step : Fin k0_t1_loop.trips → α → α) (a : α) (k : Fin k0_t1_loop.trips) :
    iter step a (k.val + 1) = step k (iter step a k.val) := by
  rw [iter, dif_pos k.isLt]

/-- What trip `k` works on, the buffers it reads being at these contents. -/
@[reducible] def chunkOf (F : FTy → Type) [FloatOps F] [Named F] (arg1 : Memref sig .tc .vmem S2x84x8x192 .bf16) (arg2 : Memref sig .tc .vmem S1x84x8x192 .i8) (arg3 : Memref sig .tc .vmem S1x84x8x192 .i8) (arg6 : Memref sig .tc .vmem S1x84x8x192 .i8) (arg7 : Memref sig .tc .vmem S1x84x8x192 .i8) (arg10 : Memref sig .tc .vmem S192x192 .i8) (arg11 : Memref sig .tc .vmem S192x768 .i8) (arg12 : Memref sig .tc .vmem S768x192 .i8) (arg13 : Memref sig .tc .vmem S768x384 .i8) (arg16 : Memref sig .tc .vmem S8x192 .f32) (arg17 : Memref sig .tc .vmem S1x384 .f32) (arg23 : Memref sig .tc .vmem S2x8x84 .f32) (v1 : FVec F S1x192 .f32) (v3 : FVec F S1x192 .f32) (v5 : FVec F S1x192 .f32) (v7 : FVec F S1x192 .f32) (v9 : FVec F S1x192 .f32) (v11 : FVec F S1x192 .f32) (v13 : FVec F S1x192 .f32) (v15 : FVec F S1x192 .f32) (v17 : FVec F S1x768 .f32) (v19 : FVec F S1x768 .f32) (v20 : IVec S8x128 32)
    (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X10 : BufTy.Contents (Elt F) arg10.view.ty) (X11 : BufTy.Contents (Elt F) arg11.view.ty) (X12 : BufTy.Contents (Elt F) arg12.view.ty) (X13 : BufTy.Contents (Elt F) arg13.view.ty) (X16 : BufTy.Contents (Elt F) arg16.view.ty) (X17 : BufTy.Contents (Elt F) arg17.view.ty) (X23 : BufTy.Contents (Elt F) arg23.view.ty) (k : Fin k0_t1_loop.trips) : Chunk F where
  k := k
  v1 := v1
  v3 := v3
  v5 := v5
  v7 := v7
  v9 := v9
  v11 := v11
  v13 := v13
  v15 := v15
  v17 := v17
  v19 := v19
  v20 := v20
  v89 := View.readAt (Elt F) arg2.view (Rect.unit (s := S1x84x8x192) (k0_off1 k 0#32) S1x6x8x192.size (k0_off1_inb k 0)).toLoadRect X2
  v122 := View.readAt (Elt F) arg2.view (Rect.unit (s := S1x84x8x192) (k0_off1 k 1#32) S1x6x8x192.size (k0_off1_inb k 1)).toLoadRect X2
  v155 := View.readAt (Elt F) arg3.view (Rect.unit (s := S1x84x8x192) (k0_off1 k 0#32) S1x6x8x192.size (k0_off1_inb k 0)).toLoadRect X3
  v188 := View.readAt (Elt F) arg3.view (Rect.unit (s := S1x84x8x192) (k0_off1 k 1#32) S1x6x8x192.size (k0_off1_inb k 1)).toLoadRect X3
  v97 := View.readAt (Elt F) arg6.view (Rect.unit (s := S1x84x8x192) (k0_off1 k 0#32) S1x6x8x192.size (k0_off1_inb k 0)).toLoadRect X6
  v130 := View.readAt (Elt F) arg6.view (Rect.unit (s := S1x84x8x192) (k0_off1 k 1#32) S1x6x8x192.size (k0_off1_inb k 1)).toLoadRect X6
  v163 := View.readAt (Elt F) arg7.view (Rect.unit (s := S1x84x8x192) (k0_off1 k 0#32) S1x6x8x192.size (k0_off1_inb k 0)).toLoadRect X7
  v196 := View.readAt (Elt F) arg7.view (Rect.unit (s := S1x84x8x192) (k0_off1 k 1#32) S1x6x8x192.size (k0_off1_inb k 1)).toLoadRect X7
  v209 := View.readAt (Elt F) arg23.view (Rect.unit (s := S2x8x84) ![0, 0, 0] S1x8x84.size inb_S2x8x84_S1x8x84_0_0_0).toLoadRect X23
  v237 := View.readAt (Elt F) arg23.view (Rect.unit (s := S2x8x84) ![1, 0, 0] S1x8x84.size inb_S2x8x84_S1x8x84_1_0_0).toLoadRect X23
  v266 := View.readAt (Elt F) arg10.view (Rect.unit (s := S192x192) ![0, 0] S192x192.size inb_S192x192_S192x192_0_0).toLoadRect X10
  v277 := View.readAt (Elt F) arg1.view (Rect.unit (s := S2x84x8x192) (k0_off4 k) S2x12x8x192.size (k0_off4_inb k)).toLoadRect X1
  v503 := View.readAt (Elt F) arg11.view (Rect.unit (s := S192x768) ![0, 0] S192x768.size inb_S192x768_S192x768_0_0).toLoadRect X11
  v721 := View.readAt (Elt F) arg12.view (Rect.unit (s := S768x192) ![0, 0] S768x192.size inb_S768x192_S768x192_0_0).toLoadRect X12
  v905 := View.readAt (Elt F) arg13.view (Rect.unit (s := S768x384) ![0, 0] S768x384.size inb_S768x384_S768x384_0_0).toLoadRect X13
  v805 := View.readAt (Elt F) arg16.view (Rect.unit (s := S8x192) ![0, 0] S1x192.size inb_S8x192_S1x192_0_0).toLoadRect X16
  v810 := View.readAt (Elt F) arg16.view (Rect.unit (s := S8x192) ![4, 0] S1x192.size inb_S8x192_S1x192_4_0).toLoadRect X16
  v817 := View.readAt (Elt F) arg16.view (Rect.unit (s := S8x192) ![1, 0] S1x192.size inb_S8x192_S1x192_1_0).toLoadRect X16
  v822 := View.readAt (Elt F) arg16.view (Rect.unit (s := S8x192) ![5, 0] S1x192.size inb_S8x192_S1x192_5_0).toLoadRect X16
  v829 := View.readAt (Elt F) arg16.view (Rect.unit (s := S8x192) ![2, 0] S1x192.size inb_S8x192_S1x192_2_0).toLoadRect X16
  v834 := View.readAt (Elt F) arg16.view (Rect.unit (s := S8x192) ![6, 0] S1x192.size inb_S8x192_S1x192_6_0).toLoadRect X16
  v841 := View.readAt (Elt F) arg16.view (Rect.unit (s := S8x192) ![3, 0] S1x192.size inb_S8x192_S1x192_3_0).toLoadRect X16
  v846 := View.readAt (Elt F) arg16.view (Rect.unit (s := S8x192) ![7, 0] S1x192.size inb_S8x192_S1x192_7_0).toLoadRect X16
  v911 := View.readAt (Elt F) arg17.view (Rect.unit (s := S1x384) ![0, 0] S1x384.size inb_S1x384_S1x384_0_0).toLoadRect X17

/-- What trip `k` does to the buffer of argument 18. -/
def st18 (C : Fin k0_t1_loop.trips → Chunk F) (m : Memref sig .tc .vmem S2x84x8x192 .bf16) (k : Fin k0_t1_loop.trips)
    (f : BufTy.Contents (Elt F) m.view.ty) : BufTy.Contents (Elt F) m.view.ty :=
  m.view.writes (Elt F) f [⟨(Rect.unit (s := S2x84x8x192) (k0_off4 k) S2x12x8x192.size (k0_off4_inb k)), (C k).v752⟩]

/-- What trip `k` does to the buffer of argument 19. -/
def st19 (C : Fin k0_t1_loop.trips → Chunk F) (m : Memref sig .tc .vmem S1x42x8x384 .bf16) (k : Fin k0_t1_loop.trips)
    (f : BufTy.Contents (Elt F) m.view.ty) : BufTy.Contents (Elt F) m.view.ty :=
  m.view.writes (Elt F) f [⟨(Rect.unit (s := S1x42x8x384) (k0_off7 k) S1x6x8x384.size (k0_off7_inb k)), (C k).v920⟩]

/-- What trip `k` does to the buffer of argument 20. -/
def st20 (C : Fin k0_t1_loop.trips → Chunk F) (m : Memref sig .tc .vmem S2x84x8x192 .i8) (k : Fin k0_t1_loop.trips)
    (f : BufTy.Contents (Elt F) m.view.ty) : BufTy.Contents (Elt F) m.view.ty :=
  m.view.writes (Elt F) f [⟨(Rect.unit (s := S2x84x8x192) (k0_off3 k 6#32) S1x6x8x192.size (k0_off3_inb k 1)), (C k).v202⟩, ⟨(Rect.unit (s := S2x84x8x192) (k0_off3 k 0#32) S1x6x8x192.size (k0_off3_inb k 0)), (C k).v169⟩, ⟨(Rect.unit (s := S2x84x8x192) (k0_off2 k 6#32) S1x6x8x192.size (k0_off2_inb k 1)), (C k).v136⟩, ⟨(Rect.unit (s := S2x84x8x192) (k0_off2 k 0#32) S1x6x8x192.size (k0_off2_inb k 0)), (C k).v103⟩]

/-- What trip `k` does to the buffer of argument 22. -/
def st22 (C : Fin k0_t1_loop.trips → Chunk F) (m : Memref sig .tc .vmem S2x84x8x192 .i8) (k : Fin k0_t1_loop.trips)
    (f : BufTy.Contents (Elt F) m.view.ty) : BufTy.Contents (Elt F) m.view.ty :=
  m.view.writes (Elt F) f [⟨(Rect.unit (s := S2x84x8x192) (k0_off3 k 6#32) S1x6x8x192.size (k0_off3_inb k 1)), (C k).v194⟩, ⟨(Rect.unit (s := S2x84x8x192) (k0_off3 k 0#32) S1x6x8x192.size (k0_off3_inb k 0)), (C k).v161⟩, ⟨(Rect.unit (s := S2x84x8x192) (k0_off2 k 6#32) S1x6x8x192.size (k0_off2_inb k 1)), (C k).v128⟩, ⟨(Rect.unit (s := S2x84x8x192) (k0_off2 k 0#32) S1x6x8x192.size (k0_off2_inb k 0)), (C k).v95⟩]

/-- What trip `k` does to the buffer of argument 24. -/
def st24 (C : Fin k0_t1_loop.trips → Chunk F) (m : Memref sig .tc .vmem S2x84x8x192 .i8) (k : Fin k0_t1_loop.trips)
    (f : BufTy.Contents (Elt F) m.view.ty) : BufTy.Contents (Elt F) m.view.ty :=
  m.view.writes (Elt F) f [⟨(Rect.unit (s := S2x84x8x192) (k0_off4 k) S2x12x8x192.size (k0_off4_inb k)), (C k).v321⟩]

/-- What trip `k` does to the buffer of argument 25. -/
def st25 (C : Fin k0_t1_loop.trips → Chunk F) (m : Memref sig .tc .vmem S2x8x84 .f32) (k : Fin k0_t1_loop.trips)
    (f : BufTy.Contents (Elt F) m.view.ty) : BufTy.Contents (Elt F) m.view.ty :=
  m.view.writes (Elt F) f [⟨(Rect.unit (s := S2x8x84) ![1, 0, 0] S1x8x84.size inb_S2x8x84_S1x8x84_1_0_0), (C k).v501 (View.readAt (Elt F) m.view (Rect.unit (s := S2x8x84) ![1, 0, 0] S1x8x84.size inb_S2x8x84_S1x8x84_1_0_0).toLoadRect f)⟩, ⟨(Rect.unit (s := S2x8x84) ![0, 0, 0] S1x8x84.size inb_S2x8x84_S1x8x84_0_0_0), (C k).v412 (View.readAt (Elt F) m.view (Rect.unit (s := S2x8x84) ![0, 0, 0] S1x8x84.size inb_S2x8x84_S1x8x84_0_0_0).toLoadRect f)⟩]

/-- What trip `k` does to the buffer of argument 26. -/
def st26 (C : Fin k0_t1_loop.trips → Chunk F) (m : Memref sig .tc .vmem S2x84x8x768 .i8) (k : Fin k0_t1_loop.trips)
    (f : BufTy.Contents (Elt F) m.view.ty) : BufTy.Contents (Elt F) m.view.ty :=
  m.view.writes (Elt F) f [⟨(Rect.unit (s := S2x84x8x768) (k0_off5 k) S2x12x8x768.size (k0_off5_inb k)), (C k).v539⟩]

/-- What trip `k` does to the buffer of argument 27. -/
def st27 (C : Fin k0_t1_loop.trips → Chunk F) (m : Memref sig .tc .vmem S2x8x84 .f32) (k : Fin k0_t1_loop.trips)
    (f : BufTy.Contents (Elt F) m.view.ty) : BufTy.Contents (Elt F) m.view.ty :=
  m.view.writes (Elt F) f [⟨(Rect.unit (s := S2x8x84) ![1, 0, 0] S1x8x84.size inb_S2x8x84_S1x8x84_1_0_0), (C k).v719 (View.readAt (Elt F) m.view (Rect.unit (s := S2x8x84) ![1, 0, 0] S1x8x84.size inb_S2x8x84_S1x8x84_1_0_0).toLoadRect f)⟩, ⟨(Rect.unit (s := S2x8x84) ![0, 0, 0] S1x8x84.size inb_S2x8x84_S1x8x84_0_0_0), (C k).v630 (View.readAt (Elt F) m.view (Rect.unit (s := S2x8x84) ![0, 0, 0] S1x8x84.size inb_S2x8x84_S1x8x84_0_0_0).toLoadRect f)⟩]

/-- What trip `k` does to the buffer of argument 28. -/
def st28 (C : Fin k0_t1_loop.trips → Chunk F) (m : Memref sig .tc .vmem S1x42x8x768 .i8) (k : Fin k0_t1_loop.trips)
    (f : BufTy.Contents (Elt F) m.view.ty) : BufTy.Contents (Elt F) m.view.ty :=
  m.view.writes (Elt F) f [⟨(Rect.unit (s := S1x42x8x768) (k0_off6 k) S1x6x8x768.size (k0_off6_inb k)), (C k).v902⟩]

/-- What trip `k` does to the buffer of argument 29. -/
def st29 (C : Fin k0_t1_loop.trips → Chunk F) (m : Memref sig .tc .vmem S1x8x42 .f32) (k : Fin k0_t1_loop.trips)
    (f : BufTy.Contents (Elt F) m.view.ty) : BufTy.Contents (Elt F) m.view.ty :=
  m.view.writes (Elt F) f [⟨(Rect.unit (s := S1x8x42) ![0, 0, 0] S1x8x42.size inb_S1x8x42_S1x8x42_0_0_0), (C k).v985 (View.readAt (Elt F) m.view (Rect.unit (s := S1x8x42) ![0, 0, 0] S1x8x42.size inb_S1x8x42_S1x8x42_0_0_0).toLoadRect f)⟩]

variable (arg1 : Memref sig .tc .vmem S2x84x8x192 .bf16) (harg1 : arg1.IsWhole) (arg2 : Memref sig .tc .vmem S1x84x8x192 .i8) (harg2 : arg2.IsWhole) (arg3 : Memref sig .tc .vmem S1x84x8x192 .i8) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x84x8x192 .i8) (harg6 : arg6.IsWhole) (arg7 : Memref sig .tc .vmem S1x84x8x192 .i8) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S192x192 .i8) (harg10 : arg10.IsWhole) (arg11 : Memref sig .tc .vmem S192x768 .i8) (harg11 : arg11.IsWhole) (arg12 : Memref sig .tc .vmem S768x192 .i8) (harg12 : arg12.IsWhole) (arg13 : Memref sig .tc .vmem S768x384 .i8) (harg13 : arg13.IsWhole) (arg14 : Memref sig .tc .vmem S8x192 .f32) (harg14 : arg14.IsWhole) (arg15 : Memref sig .tc .vmem S2x768 .f32) (harg15 : arg15.IsWhole) (arg16 : Memref sig .tc .vmem S8x192 .f32) (harg16 : arg16.IsWhole) (arg17 : Memref sig .tc .vmem S1x384 .f32) (harg17 : arg17.IsWhole) (arg18 : Memref sig .tc .vmem S2x84x8x192 .bf16) (harg18 : arg18.IsWhole) (arg19 : Memref sig .tc .vmem S1x42x8x384 .bf16) (harg19 : arg19.IsWhole) (arg20 : Memref sig .tc .vmem S2x84x8x192 .i8) (harg20 : arg20.IsWhole) (arg21 : Memref sig .tc .vmem S2x8x84 .f32) (harg21 : arg21.IsWhole) (arg22 : Memref sig .tc .vmem S2x84x8x192 .i8) (harg22 : arg22.IsWhole) (arg23 : Memref sig .tc .vmem S2x8x84 .f32) (harg23 : arg23.IsWhole) (arg24 : Memref sig .tc .vmem S2x84x8x192 .i8) (harg24 : arg24.IsWhole) (arg25 : Memref sig .tc .vmem S2x8x84 .f32) (harg25 : arg25.IsWhole) (arg26 : Memref sig .tc .vmem S2x84x8x768 .i8) (harg26 : arg26.IsWhole) (arg27 : Memref sig .tc .vmem S2x8x84 .f32) (harg27 : arg27.IsWhole) (arg28 : Memref sig .tc .vmem S1x42x8x768 .i8) (harg28 : arg28.IsWhole) (arg29 : Memref sig .tc .vmem S1x8x42 .f32) (harg29 : arg29.IsWhole)
variable (v1 : FVec F S1x192 .f32) (v3 : FVec F S1x192 .f32) (v5 : FVec F S1x192 .f32) (v7 : FVec F S1x192 .f32) (v9 : FVec F S1x192 .f32) (v11 : FVec F S1x192 .f32) (v13 : FVec F S1x192 .f32) (v15 : FVec F S1x192 .f32) (v17 : FVec F S1x768 .f32) (v19 : FVec F S1x768 .f32) (v20 : IVec S8x128 32)

set_option warn.classDefReducibility false in
/-- What holds before trip `k`: the buffers the loop reads are at their contents, and every buffer it writes holds
    what the trips before `k` made of its contents at the loop's entry. -/
@[sl_loop] def chunkInv (𝒱 : Variants) (c : Dev nD) (bd : Option 𝒱.V) (E : Set ℕ) (i : grid0.Coords)
    (X1 : BufTy.Contents (Elt F) arg1.view.ty) (X2 : BufTy.Contents (Elt F) arg2.view.ty) (X3 : BufTy.Contents (Elt F) arg3.view.ty) (X6 : BufTy.Contents (Elt F) arg6.view.ty) (X7 : BufTy.Contents (Elt F) arg7.view.ty) (X10 : BufTy.Contents (Elt F) arg10.view.ty) (X11 : BufTy.Contents (Elt F) arg11.view.ty) (X12 : BufTy.Contents (Elt F) arg12.view.ty) (X13 : BufTy.Contents (Elt F) arg13.view.ty) (X16 : BufTy.Contents (Elt F) arg16.view.ty) (X17 : BufTy.Contents (Elt F) arg17.view.ty) (X23 : BufTy.Contents (Elt F) arg23.view.ty)
    (f18 : BufTy.Contents (Elt F) arg18.view.ty) (f19 : BufTy.Contents (Elt F) arg19.view.ty) (f20 : BufTy.Contents (Elt F) arg20.view.ty) (f22 : BufTy.Contents (Elt F) arg22.view.ty) (f24 : BufTy.Contents (Elt F) arg24.view.ty) (f25 : BufTy.Contents (Elt F) arg25.view.ty) (f26 : BufTy.Contents (Elt F) arg26.view.ty) (f27 : BufTy.Contents (Elt F) arg27.view.ty) (f28 : BufTy.Contents (Elt F) arg28.view.ty) (f29 : BufTy.Contents (Elt F) arg29.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v1 v3 v5 v7 v9 v11 v13 v15 v17 v19 v20 where
  inv k _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg16.view.loc (c : Thread nD τ) ↦[arg16.view.set]{fullShare} X16) ∗ (arg17.view.loc (c : Thread nD τ) ↦[arg17.view.set]{fullShare} X17) ∗ (arg23.view.loc (c : Thread nD τ) ↦[arg23.view.set]{fullShare} X23) ∗ (arg18.view.loc (c : Thread nD τ) ↦[arg18.view.set]{fullShare} (iter (st18 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg18) f18 k)) ∗ (arg19.view.loc (c : Thread nD τ) ↦[arg19.view.set]{fullShare} (iter (st19 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg19) f19 k)) ∗ (arg20.view.loc (c : Thread nD τ) ↦[arg20.view.set]{fullShare} (iter (st20 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg20) f20 k)) ∗ (arg22.view.loc (c : Thread nD τ) ↦[arg22.view.set]{fullShare} (iter (st22 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg22) f22 k)) ∗ (arg24.view.loc (c : Thread nD τ) ↦[arg24.view.set]{fullShare} (iter (st24 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg24) f24 k)) ∗ (arg25.view.loc (c : Thread nD τ) ↦[arg25.view.set]{fullShare} (iter (st25 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg25) f25 k)) ∗ (arg26.view.loc (c : Thread nD τ) ↦[arg26.view.set]{fullShare} (iter (st26 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg26) f26 k)) ∗ (arg27.view.loc (c : Thread nD τ) ↦[arg27.view.set]{fullShare} (iter (st27 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg27) f27 k)) ∗ (arg28.view.loc (c : Thread nD τ) ↦[arg28.view.set]{fullShare} (iter (st28 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg28) f28 k)) ∗ (arg29.view.loc (c : Thread nD τ) ↦[arg29.view.set]{fullShare} (iter (st29 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg29) f29 k)))
  step k acc := by
    have hk : k.val < 7 := Nat.lt_of_lt_of_le k.isLt k0_t1_abs.2.1
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    simp only [iter_succ]
    generalize (iter (st18 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg18) f18 k.val) = g18
    generalize (iter (st19 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg19) f19 k.val) = g19
    generalize (iter (st20 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg20) f20 k.val) = g20
    generalize (iter (st22 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg22) f22 k.val) = g22
    generalize (iter (st24 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg24) f24 k.val) = g24
    generalize (iter (st25 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg25) f25 k.val) = g25
    generalize (iter (st26 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg26) f26 k.val) = g26
    generalize (iter (st27 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg27) f27 k.val) = g27
    generalize (iter (st28 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg28) f28 k.val) = g28
    generalize (iter (st29 (chunkOf F arg1 arg2 arg3 arg6 arg7 arg10 arg11 arg12 arg13 arg16 arg17 arg23 v1 v3 v5 v7 v9 v11 v13 v15 v17 v19 v20 X1 X2 X3 X6 X7 X10 X11 X12 X13 X16 X17 X23) arg29) f29 k.val) = g29
    iintro ⟨HR1, HR2, HR3, HR6, HR7, HR10, HR11, HR12, HR13, HR16, HR17, HR23, HW18, HW19, HW20, HW22, HW24, HW25, HW26, HW27, HW28, HW29⟩
    sl_exec
    sl_step
    have e0 : chunkInv.sl.r arg2 X2 k = Chunk.v90 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r Chunk.v90
      rfl
    have e1 : chunkInv.sl.r_1 arg6 X6 k = Chunk.v103 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_1 Chunk.v103
      rfl
    have e2 : chunkInv.sl.r_2 arg2 X2 k = Chunk.v105 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_2 Chunk.v105
      rw [e0] <;> rfl
    have e3 : chunkInv.sl.r_3 arg2 X2 k = Chunk.v123 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_3 Chunk.v123
      rfl
    have e4 : chunkInv.sl.r_4 arg6 X6 k = Chunk.v136 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_4 Chunk.v136
      rfl
    have e5 : chunkInv.sl.r_5 arg2 X2 k = Chunk.v138 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_5 Chunk.v138
      rw [e3] <;> rfl
    have e6 : chunkInv.sl.r_6 arg3 X3 k = Chunk.v156 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_6 Chunk.v156
      rfl
    have e7 : chunkInv.sl.r_7 arg7 X7 k = Chunk.v169 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_7 Chunk.v169
      rfl
    have e8 : chunkInv.sl.r_8 arg3 X3 k = Chunk.v171 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_8 Chunk.v171
      rw [e6] <;> rfl
    have e9 : chunkInv.sl.r_9 arg3 X3 k = Chunk.v189 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_9 Chunk.v189
      rfl
    have e10 : chunkInv.sl.r_10 arg7 X7 k = Chunk.v202 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_10 Chunk.v202
      rfl
    have e11 : chunkInv.sl.r_11 arg2 arg3 X2 X3 k = Chunk.v206 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_11 Chunk.v206
      rw [e2, e5, e8, e9] <;> rfl
    have e12 : chunkInv.sl.r_12 v20 k = Chunk.v208 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_12 Chunk.v208
      rfl
    have e13 : chunkInv.sl.r_13 arg23 X23 k = Chunk.v225 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_13 Chunk.v225
      rfl
    have e14 : chunkInv.sl.r_14 arg23 X23 k = Chunk.v226 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_14 Chunk.v226
      rfl
    have e15 : chunkInv.sl.r_15 arg23 X23 k = Chunk.v227 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_15 Chunk.v227
      rfl
    have e16 : chunkInv.sl.r_16 arg23 X23 k = Chunk.v228 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_16 Chunk.v228
      rfl
    have e17 : chunkInv.sl.r_17 arg23 X23 k = Chunk.v229 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_17 Chunk.v229
      rfl
    have e18 : chunkInv.sl.r_18 arg23 X23 k = Chunk.v230 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_18 Chunk.v230
      rfl
    have e19 : chunkInv.sl.r_19 arg23 X23 k = Chunk.v231 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_19 Chunk.v231
      rfl
    have e20 : chunkInv.sl.r_20 arg23 X23 k = Chunk.v232 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_20 Chunk.v232
      rfl
    have e21 : chunkInv.sl.r_21 arg23 X23 k = Chunk.v233 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_21 Chunk.v233
      rfl
    have e22 : chunkInv.sl.r_22 arg23 X23 k = Chunk.v234 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_22 Chunk.v234
      rfl
    have e23 : chunkInv.sl.r_23 arg23 X23 k = Chunk.v235 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_23 Chunk.v235
      rfl
    have e24 : chunkInv.sl.r_24 arg23 X23 k = Chunk.v236 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_24 Chunk.v236
      rfl
    have e25 : chunkInv.sl.r_25 arg23 X23 = Chunk.v240 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_25 Chunk.v240
      rfl
    have e26 : chunkInv.sl.r_26 arg1 X1 k = Chunk.v280 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_26 Chunk.v280
      rfl
    have e27 : chunkInv.sl.r_27 arg2 arg3 arg10 arg23 v1 v3 X2 X3 X10 X23 k = Chunk.v286 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_27 Chunk.v286
      rw [e11, e13, e14, e15, e16, e17, e18, e19, e20, e21, e22, e23, e24, e25] <;> rfl
    have e28 : chunkInv.sl.r_28 arg2 arg3 arg10 arg23 v1 v3 X2 X3 X10 X23 k = Chunk.v289 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_28 Chunk.v289
      rw [e11, e13, e14, e15, e16, e17, e18, e19, e20, e21, e22, e23, e24, e25] <;> rfl
    have e29 : chunkInv.sl.r_29 arg1 arg2 arg3 arg10 arg23 v1 v3 v5 v7 X1 X2 X3 X10 X23 k = Chunk.v301 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_29 Chunk.v301
      rw [e26, e27, e28] <;> rfl
    have e30 : chunkInv.sl.r_30 arg1 arg2 arg3 arg10 arg23 v1 v3 v5 v7 X1 X2 X3 X10 X23 k = Chunk.v310 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_30 Chunk.v310
      rw [e26, e27, e28] <;> rfl
    have e31 : chunkInv.sl.r_31 arg1 arg2 arg3 arg10 arg23 v1 v3 v5 v7 X1 X2 X3 X10 X23 k = Chunk.v319 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_31 Chunk.v319
      rw [e26, e27, e28] <;> rfl
    have e42 : chunkInv.sl.r_42 arg1 arg2 arg3 arg10 arg11 arg23 v1 v3 v5 v7 v17 v19 X1 X2 X3 X10 X11 X23 k = Chunk.v519 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_42 Chunk.v519
      rw [e30, e31] <;> rfl
    have e43 : chunkInv.sl.r_43 arg1 arg2 arg3 arg10 arg11 arg23 v1 v3 v5 v7 v17 v19 X1 X2 X3 X10 X11 X23 k = Chunk.v528 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_43 Chunk.v528
      rw [e30, e31] <;> rfl
    have e44 : chunkInv.sl.r_44 arg1 arg2 arg3 arg10 arg11 arg23 v1 v3 v5 v7 v17 v19 X1 X2 X3 X10 X11 X23 k = Chunk.v537 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_44 Chunk.v537
      rw [e42, e43] <;> rfl
    have e49 : chunkInv.sl.r_49 arg1 arg2 arg3 arg10 arg11 arg23 v1 v3 v5 v7 v17 v19 X1 X2 X3 X10 X11 X23 k = Chunk.v720 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_49 Chunk.v720
      rw [e44] <;> rfl
    have e50 : chunkInv.sl.r_50 arg12 X12 = Chunk.v722 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_50 Chunk.v722
      rfl
    have e51 : chunkInv.sl.r_51 arg1 arg2 arg3 arg10 arg11 arg12 arg23 v1 v3 v5 v7 v9 v11 v13 v15 v17 v19 X1 X2 X3 X10 X11 X12 X23 k = Chunk.v755 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_51 Chunk.v755
      rw [e29, e43, e49, e50] <;> rfl
    have e52 : chunkInv.sl.r_52 arg1 arg2 arg3 arg10 arg11 arg12 arg23 v1 v3 v5 v7 v9 v11 v13 v15 v17 v19 X1 X2 X3 X10 X11 X12 X23 k = Chunk.v770 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_52 Chunk.v770
      rw [e29, e43, e49, e50] <;> rfl
    have e53 : chunkInv.sl.r_53 arg1 arg2 arg3 arg10 arg11 arg12 arg23 v1 v3 v5 v7 v9 v11 v13 v15 v17 v19 X1 X2 X3 X10 X11 X12 X23 k = Chunk.v782 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_53 Chunk.v782
      rw [e51, e52] <;> rfl
    have e54 : chunkInv.sl.r_54 arg1 arg2 arg3 arg10 arg11 arg12 arg23 v1 v3 v5 v7 v9 v11 v13 v15 v17 v19 X1 X2 X3 X10 X11 X12 X23 k = Chunk.v786 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_54 Chunk.v786
      rw [e51, e52] <;> rfl
    have e55 : chunkInv.sl.r_55 arg1 arg2 arg3 arg10 arg11 arg12 arg23 v1 v3 v5 v7 v9 v11 v13 v15 v17 v19 X1 X2 X3 X10 X11 X12 X23 k = Chunk.v802 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_55 Chunk.v802
      rw [e51, e52] <;> rfl
    have e56 : chunkInv.sl.r_56 arg1 arg2 arg3 arg10 arg11 arg12 arg16 arg23 v1 v3 v5 v7 v9 v11 v13 v15 v17 v19 X1 X2 X3 X10 X11 X12 X16 X23 k = Chunk.v814 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_56 Chunk.v814
      rw [e51, e52] <;> rfl
    have e57 : chunkInv.sl.r_57 arg1 arg2 arg3 arg10 arg11 arg12 arg23 v1 v3 v5 v7 v9 v11 v13 v15 v17 v19 X1 X2 X3 X10 X11 X12 X23 k = Chunk.v816 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_57 Chunk.v816
      rw [e51, e52] <;> rfl
    have e58 : chunkInv.sl.r_58 arg16 X16 = Chunk.v820 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_58 Chunk.v820
      rfl
    have e59 : chunkInv.sl.r_59 arg1 arg2 arg3 arg10 arg11 arg12 arg16 arg23 v1 v3 v5 v7 v9 v11 v13 v15 v17 v19 X1 X2 X3 X10 X11 X12 X16 X23 k = Chunk.v826 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_59 Chunk.v826
      rw [e57, e58] <;> rfl
    have e60 : chunkInv.sl.r_60 arg1 arg2 arg3 arg10 arg11 arg12 arg16 arg23 v1 v3 v5 v7 v9 v11 v13 v15 v17 v19 X1 X2 X3 X10 X11 X12 X16 X23 k = Chunk.v838 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_60 Chunk.v838
      rw [e53, e55] <;> rfl
    have e61 : chunkInv.sl.r_61 arg1 arg2 arg3 arg10 arg11 arg12 arg16 arg23 v1 v3 v5 v7 v9 v11 v13 v15 v17 v19 X1 X2 X3 X10 X11 X12 X16 X23 k = Chunk.v850 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_61 Chunk.v850
      rw [e54, e55] <;> rfl
    have e62 : chunkInv.sl.r_62 arg1 arg2 arg3 arg10 arg11 arg12 arg16 arg23 v1 v3 v5 v7 v9 v11 v13 v15 v17 v19 X1 X2 X3 X10 X11 X12 X16 X23 k = Chunk.v865 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_62 Chunk.v865
      rw [e53, e54, e55, e56, e57, e58] <;> rfl
    have e63 : chunkInv.sl.r_63 arg1 arg2 arg3 arg10 arg11 arg12 arg13 arg16 arg23 v1 v3 v5 v7 v9 v11 v13 v15 v17 v19 X1 X2 X3 X10 X11 X12 X13 X16 X23 k = Chunk.v907 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_63 Chunk.v907
      rw [e56, e59, e60, e61, e62] <;> rfl
    have e64 : chunkInv.sl.r_64 arg1 arg2 arg3 arg10 arg11 arg12 arg16 arg23 v1 v3 v5 v7 v9 v11 v13 v15 v17 v19 X1 X2 X3 X10 X11 X12 X16 X23 k = Chunk.v909 (chunkOf F arg1 arg2 arg3 arg6 arg7 arg10 arg11 arg12 arg13 arg16 arg17 arg23 v1 v3 v5 v7 v9 v11 v13 v15 v17 v19 v20 X1 X2 X3 X6 X7 X10 X11 X12 X13 X16 X17 X23 k) := by
      delta chunkInv.sl.r_64 Chunk.v909
      rw [e62] <;> rfl
    isplitl [HR1]; · iexact HR1
    isplitl [HR2]; · iexact HR2
    isplitl [HR3]; · iexact HR3
    isplitl [HR6]; · iexact HR6
    isplitl [HR7]; · iexact HR7
    isplitl [HR10]; · iexact HR10
    isplitl [HR11]; · iexact HR11
    isplitl [HR12]; · iexact HR12
    isplitl [HR13]; · iexact HR13
    isplitl [HR16]; · iexact HR16
    isplitl [HR17]; · iexact HR17
    isplitl [HR23]; · iexact HR23
    isplitl [HW18]
    · rw [st18, Chunk.v752, ← e29, ← e43, ← e49, ← e50]
      iexact HW18
    isplitl [HW19]
    · rw [st19, Chunk.v920, ← e63, ← e64]
      iexact HW19
    isplitl [HW20]
    · rw [st20, Chunk.v202, Chunk.v169, Chunk.v136, Chunk.v103]
      iexact HW20
    isplitl [HW22]
    · rw [st22, Chunk.v194, Chunk.v161, Chunk.v128, Chunk.v95]
      iexact HW22
    isplitl [HW24]
    · rw [st24, Chunk.v321, ← e26, ← e27, ← e28]
      iexact HW24
    isplitl [HW25]
    · rw [st25, Chunk.v412, Chunk.v501, ← e12, ← e26, ← e27, ← e28, ← e30]
      iexact HW25
    isplitl [HW26]
    · rw [st26, Chunk.v539, ← e42, ← e43]
      iexact HW26
    isplitl [HW27]
    · rw [st27, Chunk.v630, Chunk.v719, ← e12, ← e43]
      iexact HW27
    isplitl [HW28]
    · rw [st28, Chunk.v902, ← e56, ← e59, ← e60, ← e61, ← e62]
      iexact HW28
    · rw [st29, Chunk.v985, ← e62]
      iexact HW29

end Cert.KernelIdeal.Val

end
-- ==== Proof.KernelRead.lean ====
/- What the written buffers hold after the trips: every entry is what the one trip that covers it computed. -/
module

public import proofs.«01_k».proof.Proof.KernelTrip
public import Idealize.ShloMosaic.Lib.WritesUnit
public import Idealize.ShloMosaic.Lib.Pointwise

@[expose] public section

set_option maxRecDepth 16384
set_option maxHeartbeats 1000000
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

theorem trips_eq : k0_t1_loop.trips = 7 := by decide +kernel

theorem off2_0 : ∀ k : Fin k0_t1_loop.trips, k0_off2 k 0#32 = ![0, 12 * k.val, 0, 0] := by decide +kernel
theorem off2_6 : ∀ k : Fin k0_t1_loop.trips, k0_off2 k 6#32 = ![0, 12 * k.val + 6, 0, 0] := by decide +kernel
theorem off3_0 : ∀ k : Fin k0_t1_loop.trips, k0_off3 k 0#32 = ![1, 12 * k.val, 0, 0] := by decide +kernel
theorem off3_6 : ∀ k : Fin k0_t1_loop.trips, k0_off3 k 6#32 = ![1, 12 * k.val + 6, 0, 0] := by decide +kernel
theorem off4_eq : ∀ k : Fin k0_t1_loop.trips, k0_off4 k = ![0, 12 * k.val, 0, 0] := by decide +kernel
theorem off5_eq : ∀ k : Fin k0_t1_loop.trips, k0_off5 k = ![0, 12 * k.val, 0, 0] := by decide +kernel
theorem off6_eq : ∀ k : Fin k0_t1_loop.trips, k0_off6 k = ![0, 6 * k.val, 0, 0] := by decide +kernel
theorem off7_eq : ∀ k : Fin k0_t1_loop.trips, k0_off7 k = ![0, 6 * k.val, 0, 0] := by decide +kernel

/-- The trip that handles longitude `n`. -/
def trip (n : Fin 84) : Fin k0_t1_loop.trips := ⟨n.val / 12, by rw [trips_eq]; omega⟩
/-- The trip that handles merged longitude `n`. -/
def trip2 (n : Fin 42) : Fin k0_t1_loop.trips := ⟨n.val / 6, by rw [trips_eq]; omega⟩
/-- A longitude's place in its trip. -/
def place (n : Fin 84) : Fin 12 := ⟨n.val % 12, Nat.mod_lt _ (by norm_num)⟩
/-- A merged longitude's place in its trip. -/
def place2 (n : Fin 42) : Fin 6 := ⟨n.val % 6, Nat.mod_lt _ (by norm_num)⟩
/-- A longitude's place in its window. -/
def place6 (n : Fin 84) : Fin 6 := ⟨n.val % 6, Nat.mod_lt _ (by norm_num)⟩

theorem iter_step {α : Type} (step : Fin k0_t1_loop.trips → α → α) (a : α) (n : ℕ) (h : n < k0_t1_loop.trips) :
    iter step a (n + 1) = step ⟨n, h⟩ (iter step a n) := by rw [iter, dif_pos h]

/-- The buffer of argument 18 after the first `n` trips, where they reach. -/
theorem read18_of (C : Fin k0_t1_loop.trips → Chunk F) (m : Memref sig .tc .vmem S2x84x8x192 .bf16)
    (f : BufTy.Contents (Elt F) m.view.ty) (i : Fin 2) (b : Fin 84) (l : Fin 8) (x : Fin 192) :
    ∀ n ≤ 7, b.val < 12 * n → m.view.read (Elt F) (iter (st18 C m) f n) (ix4 i b l x) = (C (trip b)).v752 (ix4 i (place b) l x)
  | 0, _, h => by omega
  | n + 1, hn, h => by
    have ht : n < k0_t1_loop.trips := by rw [trips_eq]; omega
    rw [iter_step _ _ n ht, st18]
    by_cases hb : b.val < 12 * n
    · rw [View.read_writes_cons_unit_of_not_mem _ _ _ _ _ _ (off4_eq _) 1 (Or.inl hb), View.writes_nil]
      exact read18_of C m f i b l x n (by omega) hb
    · have e : trip b = ⟨n, ht⟩ := Fin.ext (show b.val / 12 = n by omega)
      rw [e]
      have hx : ∀ a : Fin 4, (ix4 i b l x a).val = (![0, 12 * n, 0, 0] : Fin 4 → ℕ) a + ((ix4 i (place b) l x : S2x12x8x192.Idx) a).val := by
        intro a; match a with | 0 => exact (Nat.zero_add _).symm | 1 => exact (show b.val = 12 * n + b.val % 12 by omega) | 2 => exact (Nat.zero_add _).symm | 3 => exact (Nat.zero_add _).symm
      exact View.read_writes_cons_unit_of_mem (e := .bf16) m.view _ (off := k0_off4 ⟨n, ht⟩) (off' := ![0, 12 * n, 0, 0]) (size := S2x12x8x192.size) (k0_off4_inb ⟨n, ht⟩) _ _ (ix4 i b l x) (ix4 i (place b) l x) (off4_eq ⟨n, ht⟩) hx

/-- The buffer of argument 18 after the loop. -/
theorem read18 (C : Fin k0_t1_loop.trips → Chunk F) (m : Memref sig .tc .vmem S2x84x8x192 .bf16)
    (f : BufTy.Contents (Elt F) m.view.ty) (i : Fin 2) (b : Fin 84) (l : Fin 8) (x : Fin 192) :
    m.view.read (Elt F) (iter (st18 C m) f 7) (ix4 i b l x) = (C (trip b)).v752 (ix4 i (place b) l x) :=
  read18_of C m f i b l x 7 le_rfl (by omega)

/-- The buffer of argument 24 after the first `n` trips, where they reach. -/
theorem read24_of (C : Fin k0_t1_loop.trips → Chunk F) (m : Memref sig .tc .vmem S2x84x8x192 .i8)
    (f : BufTy.Contents (Elt F) m.view.ty) (i : Fin 2) (b : Fin 84) (l : Fin 8) (x : Fin 192) :
    ∀ n ≤ 7, b.val < 12 * n → m.view.read (Elt F) (iter (st24 C m) f n) (ix4 i b l x) = (C (trip b)).v321 (ix4 i (place b) l x)
  | 0, _, h => by omega
  | n + 1, hn, h => by
    have ht : n < k0_t1_loop.trips := by rw [trips_eq]; omega
    rw [iter_step _ _ n ht, st24]
    by_cases hb : b.val < 12 * n
    · rw [View.read_writes_cons_unit_of_not_mem _ _ _ _ _ _ (off4_eq _) 1 (Or.inl hb), View.writes_nil]
      exact read24_of C m f i b l x n (by omega) hb
    · have e : trip b = ⟨n, ht⟩ := Fin.ext (show b.val / 12 = n by omega)
      rw [e]
      have hx : ∀ a : Fin 4, (ix4 i b l x a).val = (![0, 12 * n, 0, 0] : Fin 4 → ℕ) a + ((ix4 i (place b) l x : S2x12x8x192.Idx) a).val := by
        intro a; match a with | 0 => exact (Nat.zero_add _).symm | 1 => exact (show b.val = 12 * n + b.val % 12 by omega) | 2 => exact (Nat.zero_add _).symm | 3 => exact (Nat.zero_add _).symm
      exact View.read_writes_cons_unit_of_mem (e := .i8) m.view _ (off := k0_off4 ⟨n, ht⟩) (off' := ![0, 12 * n, 0, 0]) (size := S2x12x8x192.size) (k0_off4_inb ⟨n, ht⟩) _ _ (ix4 i b l x) (ix4 i (place b) l x) (off4_eq ⟨n, ht⟩) hx

/-- The buffer of argument 24 after the loop. -/
theorem read24 (C : Fin k0_t1_loop.trips → Chunk F) (m : Memref sig .tc .vmem S2x84x8x192 .i8)
    (f : BufTy.Contents (Elt F) m.view.ty) (i : Fin 2) (b : Fin 84) (l : Fin 8) (x : Fin 192) :
    m.view.read (Elt F) (iter (st24 C m) f 7) (ix4 i b l x) = (C (trip b)).v321 (ix4 i (place b) l x) :=
  read24_of C m f i b l x 7 le_rfl (by omega)

/-- The buffer of argument 26 after the first `n` trips, where they reach. -/
theorem read26_of (C : Fin k0_t1_loop.trips → Chunk F) (m : Memref sig .tc .vmem S2x84x8x768 .i8)
    (f : BufTy.Contents (Elt F) m.view.ty) (i : Fin 2) (b : Fin 84) (l : Fin 8) (x : Fin 768) :
    ∀ n ≤ 7, b.val < 12 * n → m.view.read (Elt F) (iter (st26 C m) f n) (ix4 i b l x) = (C (trip b)).v539 (ix4 i (place b) l x)
  | 0, _, h => by omega
  | n + 1, hn, h => by
    have ht : n < k0_t1_loop.trips := by rw [trips_eq]; omega
    rw [iter_step _ _ n ht, st26]
    by_cases hb : b.val < 12 * n
    · rw [View.read_writes_cons_unit_of_not_mem _ _ _ _ _ _ (off5_eq _) 1 (Or.inl hb), View.writes_nil]
      exact read26_of C m f i b l x n (by omega) hb
    · have e : trip b = ⟨n, ht⟩ := Fin.ext (show b.val / 12 = n by omega)
      rw [e]
      have hx : ∀ a : Fin 4, (ix4 i b l x a).val = (![0, 12 * n, 0, 0] : Fin 4 → ℕ) a + ((ix4 i (place b) l x : S2x12x8x768.Idx) a).val := by
        intro a; match a with | 0 => exact (Nat.zero_add _).symm | 1 => exact (show b.val = 12 * n + b.val % 12 by omega) | 2 => exact (Nat.zero_add _).symm | 3 => exact (Nat.zero_add _).symm
      exact View.read_writes_cons_unit_of_mem (e := .i8) m.view _ (off := k0_off5 ⟨n, ht⟩) (off' := ![0, 12 * n, 0, 0]) (size := S2x12x8x768.size) (k0_off5_inb ⟨n, ht⟩) _ _ (ix4 i b l x) (ix4 i (place b) l x) (off5_eq ⟨n, ht⟩) hx

/-- The buffer of argument 26 after the loop. -/
theorem read26 (C : Fin k0_t1_loop.trips → Chunk F) (m : Memref sig .tc .vmem S2x84x8x768 .i8)
    (f : BufTy.Contents (Elt F) m.view.ty) (i : Fin 2) (b : Fin 84) (l : Fin 8) (x : Fin 768) :
    m.view.read (Elt F) (iter (st26 C m) f 7) (ix4 i b l x) = (C (trip b)).v539 (ix4 i (place b) l x) :=
  read26_of C m f i b l x 7 le_rfl (by omega)

/-- The buffer of argument 19 after the first `n` trips, where they reach. -/
theorem read19_of (C : Fin k0_t1_loop.trips → Chunk F) (m : Memref sig .tc .vmem S1x42x8x384 .bf16)
    (f : BufTy.Contents (Elt F) m.view.ty) (i : Fin 1) (b : Fin 42) (l : Fin 8) (x : Fin 384) :
    ∀ n ≤ 7, b.val < 6 * n → m.view.read (Elt F) (iter (st19 C m) f n) (ix4 i b l x) = (C (trip2 b)).v920 (ix4 i (place2 b) l x)
  | 0, _, h => by omega
  | n + 1, hn, h => by
    have ht : n < k0_t1_loop.trips := by rw [trips_eq]; omega
    rw [iter_step _ _ n ht, st19]
    by_cases hb : b.val < 6 * n
    · rw [View.read_writes_cons_unit_of_not_mem _ _ _ _ _ _ (off7_eq _) 1 (Or.inl hb), View.writes_nil]
      exact read19_of C m f i b l x n (by omega) hb
    · have e : trip2 b = ⟨n, ht⟩ := Fin.ext (show b.val / 6 = n by omega)
      rw [e]
      have hx : ∀ a : Fin 4, (ix4 i b l x a).val = (![0, 6 * n, 0, 0] : Fin 4 → ℕ) a + ((ix4 i (place2 b) l x : S1x6x8x384.Idx) a).val := by
        intro a; match a with | 0 => exact (Nat.zero_add _).symm | 1 => exact (show b.val = 6 * n + b.val % 6 by omega) | 2 => exact (Nat.zero_add _).symm | 3 => exact (Nat.zero_add _).symm
      exact View.read_writes_cons_unit_of_mem (e := .bf16) m.view _ (off := k0_off7 ⟨n, ht⟩) (off' := ![0, 6 * n, 0, 0]) (size := S1x6x8x384.size) (k0_off7_inb ⟨n, ht⟩) _ _ (ix4 i b l x) (ix4 i (place2 b) l x) (off7_eq ⟨n, ht⟩) hx

/-- The buffer of argument 19 after the loop. -/
theorem read19 (C : Fin k0_t1_loop.trips → Chunk F) (m : Memref sig .tc .vmem S1x42x8x384 .bf16)
    (f : BufTy.Contents (Elt F) m.view.ty) (i : Fin 1) (b : Fin 42) (l : Fin 8) (x : Fin 384) :
    m.view.read (Elt F) (iter (st19 C m) f 7) (ix4 i b l x) = (C (trip2 b)).v920 (ix4 i (place2 b) l x) :=
  read19_of C m f i b l x 7 le_rfl (by omega)

/-- The buffer of argument 28 after the first `n` trips, where they reach. -/
theorem read28_of (C : Fin k0_t1_loop.trips → Chunk F) (m : Memref sig .tc .vmem S1x42x8x768 .i8)
    (f : BufTy.Contents (Elt F) m.view.ty) (i : Fin 1) (b : Fin 42) (l : Fin 8) (x : Fin 768) :
    ∀ n ≤ 7, b.val < 6 * n → m.view.read (Elt F) (iter (st28 C m) f n) (ix4 i b l x) = (C (trip2 b)).v902 (ix4 i (place2 b) l x)
  | 0, _, h => by omega
  | n + 1, hn, h => by
    have ht : n < k0_t1_loop.trips := by rw [trips_eq]; omega
    rw [iter_step _ _ n ht, st28]
    by_cases hb : b.val < 6 * n
    · rw [View.read_writes_cons_unit_of_not_mem _ _ _ _ _ _ (off6_eq _) 1 (Or.inl hb), View.writes_nil]
      exact read28_of C m f i b l x n (by omega) hb
    · have e : trip2 b = ⟨n, ht⟩ := Fin.ext (show b.val / 6 = n by omega)
      rw [e]
      have hx : ∀ a : Fin 4, (ix4 i b l x a).val = (![0, 6 * n, 0, 0] : Fin 4 → ℕ) a + ((ix4 i (place2 b) l x : S1x6x8x768.Idx) a).val := by
        intro a; match a with | 0 => exact (Nat.zero_add _).symm | 1 => exact (show b.val = 6 * n + b.val % 6 by omega) | 2 => exact (Nat.zero_add _).symm | 3 => exact (Nat.zero_add _).symm
      exact View.read_writes_cons_unit_of_mem (e := .i8) m.view _ (off := k0_off6 ⟨n, ht⟩) (off' := ![0, 6 * n, 0, 0]) (size := S1x6x8x768.size) (k0_off6_inb ⟨n, ht⟩) _ _ (ix4 i b l x) (ix4 i (place2 b) l x) (off6_eq ⟨n, ht⟩) hx

/-- The buffer of argument 28 after the loop. -/
theorem read28 (C : Fin k0_t1_loop.trips → Chunk F) (m : Memref sig .tc .vmem S1x42x8x768 .i8)
    (f : BufTy.Contents (Elt F) m.view.ty) (i : Fin 1) (b : Fin 42) (l : Fin 8) (x : Fin 768) :
    m.view.read (Elt F) (iter (st28 C m) f 7) (ix4 i b l x) = (C (trip2 b)).v902 (ix4 i (place2 b) l x) :=
  read28_of C m f i b l x 7 le_rfl (by omega)

/-- The window of trip `k` that latitude row `i` and the half of the trip's longitudes belong to. -/
def win20 (C : Chunk F) (i : Fin 2) (h : Prop) [Decidable h] : Vec F S1x6x8x192 .i8 :=
  if i = 0 then (if h then C.v103 else C.v136) else (if h then C.v169 else C.v202)

/-- The buffer of argument 20 after the first `n` trips, where they reach. -/
theorem read20_of (C : Fin k0_t1_loop.trips → Chunk F) (m : Memref sig .tc .vmem S2x84x8x192 .i8)
    (f : BufTy.Contents (Elt F) m.view.ty) (i : Fin 2) (b : Fin 84) (l : Fin 8) (x : Fin 192) :
    ∀ n ≤ 7, b.val < 12 * n → m.view.read (Elt F) (iter (st20 C m) f n) (ix4 i b l x) = win20 (C (trip b)) i (b.val % 12 < 6) (ix4 0 (place6 b) l x)
  | 0, _, h => by omega
  | n + 1, hn, h => by
    have ht : n < k0_t1_loop.trips := by rw [trips_eq]; omega
    rw [iter_step _ _ n ht, st20]
    by_cases hb : b.val < 12 * n
    · rw [View.read_writes_cons_unit_of_not_mem _ _ _ _ _ _ (off3_6 _) 1 (Or.inl (show b.val < 12 * n + 6 by omega)),
        View.read_writes_cons_unit_of_not_mem _ _ _ _ _ _ (off3_0 _) 1 (Or.inl hb),
        View.read_writes_cons_unit_of_not_mem _ _ _ _ _ _ (off2_6 _) 1 (Or.inl (show b.val < 12 * n + 6 by omega)),
        View.read_writes_cons_unit_of_not_mem _ _ _ _ _ _ (off2_0 _) 1 (Or.inl hb), View.writes_nil]
      exact read20_of C m f i b l x n (by omega) hb
    · have e : trip b = ⟨n, ht⟩ := Fin.ext (show b.val / 12 = n by omega)
      rw [e, win20]
      by_cases hi : i = 0
      · subst hi
        rw [if_pos rfl, View.read_writes_cons_unit_of_not_mem _ _ _ _ _ _ (off3_6 _) 0 (Or.inl (show 0 < 1 by omega)),
          View.read_writes_cons_unit_of_not_mem _ _ _ _ _ _ (off3_0 _) 0 (Or.inl (show 0 < 1 by omega))]
        by_cases h6 : b.val % 12 < 6
        · rw [if_pos h6, View.read_writes_cons_unit_of_not_mem _ _ _ _ _ _ (off2_6 _) 1 (Or.inl (show b.val < 12 * n + 6 by omega))]
          have hx : ∀ a : Fin 4, (ix4 (0 : Fin 2) b l x a).val = (![0, 12 * n, 0, 0] : Fin 4 → ℕ) a + ((ix4 0 (place6 b) l x : S1x6x8x192.Idx) a).val := by
            intro a; match a with | 0 => rfl | 1 => exact (show b.val = 12 * n + b.val % 6 by omega) | 2 => exact (Nat.zero_add _).symm | 3 => exact (Nat.zero_add _).symm
          exact View.read_writes_cons_unit_of_mem (e := .i8) m.view _ (off := k0_off2 ⟨n, ht⟩ 0#32) (off' := ![0, 12 * n, 0, 0]) (size := S1x6x8x192.size) (k0_off2_inb ⟨n, ht⟩ 0) _ _ (ix4 0 b l x) (ix4 0 (place6 b) l x) (off2_0 ⟨n, ht⟩) hx
        · rw [if_neg h6]
          have hx : ∀ a : Fin 4, (ix4 (0 : Fin 2) b l x a).val = (![0, 12 * n + 6, 0, 0] : Fin 4 → ℕ) a + ((ix4 0 (place6 b) l x : S1x6x8x192.Idx) a).val := by
            intro a; match a with | 0 => rfl | 1 => exact (show b.val = 12 * n + 6 + b.val % 6 by omega) | 2 => exact (Nat.zero_add _).symm | 3 => exact (Nat.zero_add _).symm
          exact View.read_writes_cons_unit_of_mem (e := .i8) m.view _ (off := k0_off2 ⟨n, ht⟩ 6#32) (off' := ![0, 12 * n + 6, 0, 0]) (size := S1x6x8x192.size) (k0_off2_inb ⟨n, ht⟩ 1) _ _ (ix4 0 b l x) (ix4 0 (place6 b) l x) (off2_6 ⟨n, ht⟩) hx
      · have hi1 : i = 1 := by omega
        subst hi1
        rw [if_neg hi]
        by_cases h6 : b.val % 12 < 6
        · rw [if_pos h6, View.read_writes_cons_unit_of_not_mem _ _ _ _ _ _ (off3_6 _) 1 (Or.inl (show b.val < 12 * n + 6 by omega))]
          have hx : ∀ a : Fin 4, (ix4 (1 : Fin 2) b l x a).val = (![1, 12 * n, 0, 0] : Fin 4 → ℕ) a + ((ix4 0 (place6 b) l x : S1x6x8x192.Idx) a).val := by
            intro a; match a with | 0 => rfl | 1 => exact (show b.val = 12 * n + b.val % 6 by omega) | 2 => exact (Nat.zero_add _).symm | 3 => exact (Nat.zero_add _).symm
          exact View.read_writes_cons_unit_of_mem (e := .i8) m.view _ (off := k0_off3 ⟨n, ht⟩ 0#32) (off' := ![1, 12 * n, 0, 0]) (size := S1x6x8x192.size) (k0_off3_inb ⟨n, ht⟩ 0) _ _ (ix4 1 b l x) (ix4 0 (place6 b) l x) (off3_0 ⟨n, ht⟩) hx
        · rw [if_neg h6]
          have hx : ∀ a : Fin 4, (ix4 (1 : Fin 2) b l x a).val = (![1, 12 * n + 6, 0, 0] : Fin 4 → ℕ) a + ((ix4 0 (place6 b) l x : S1x6x8x192.Idx) a).val := by
            intro a; match a with | 0 => rfl | 1 => exact (show b.val = 12 * n + 6 + b.val % 6 by omega) | 2 => exact (Nat.zero_add _).symm | 3 => exact (Nat.zero_add _).symm
          exact View.read_writes_cons_unit_of_mem (e := .i8) m.view _ (off := k0_off3 ⟨n, ht⟩ 6#32) (off' := ![1, 12 * n + 6, 0, 0]) (size := S1x6x8x192.size) (k0_off3_inb ⟨n, ht⟩ 1) _ _ (ix4 1 b l x) (ix4 0 (place6 b) l x) (off3_6 ⟨n, ht⟩) hx

/-- The buffer of argument 20 after the loop. -/
theorem read20 (C : Fin k0_t1_loop.trips → Chunk F) (m : Memref sig .tc .vmem S2x84x8x192 .i8)
    (f : BufTy.Contents (Elt F) m.view.ty) (i : Fin 2) (b : Fin 84) (l : Fin 8) (x : Fin 192) :
    m.view.read (Elt F) (iter (st20 C m) f 7) (ix4 i b l x) = win20 (C (trip b)) i (b.val % 12 < 6) (ix4 0 (place6 b) l x) :=
  read20_of C m f i b l x 7 le_rfl (by omega)

/-- The window of trip `k` that latitude row `i` and the half of the trip's longitudes belong to. -/
def win22 (C : Chunk F) (i : Fin 2) (h : Prop) [Decidable h] : Vec F S1x6x8x192 .i8 :=
  if i = 0 then (if h then C.v95 else C.v128) else (if h then C.v161 else C.v194)

/-- The buffer of argument 22 after the first `n` trips, where they reach. -/
theorem read22_of (C : Fin k0_t1_loop.trips → Chunk F) (m : Memref sig .tc .vmem S2x84x8x192 .i8)
    (f : BufTy.Contents (Elt F) m.view.ty) (i : Fin 2) (b : Fin 84) (l : Fin 8) (x : Fin 192) :
    ∀ n ≤ 7, b.val < 12 * n → m.view.read (Elt F) (iter (st22 C m) f n) (ix4 i b l x) = win22 (C (trip b)) i (b.val % 12 < 6) (ix4 0 (place6 b) l x)
  | 0, _, h => by omega
  | n + 1, hn, h => by
    have ht : n < k0_t1_loop.trips := by rw [trips_eq]; omega
    rw [iter_step _ _ n ht, st22]
    by_cases hb : b.val < 12 * n
    · rw [View.read_writes_cons_unit_of_not_mem _ _ _ _ _ _ (off3_6 _) 1 (Or.inl (show b.val < 12 * n + 6 by omega)),
        View.read_writes_cons_unit_of_not_mem _ _ _ _ _ _ (off3_0 _) 1 (Or.inl hb),
        View.read_writes_cons_unit_of_not_mem _ _ _ _ _ _ (off2_6 _) 1 (Or.inl (show b.val < 12 * n + 6 by omega)),
        View.read_writes_cons_unit_of_not_mem _ _ _ _ _ _ (off2_0 _) 1 (Or.inl hb), View.writes_nil]
      exact read22_of C m f i b l x n (by omega) hb
    · have e : trip b = ⟨n, ht⟩ := Fin.ext (show b.val / 12 = n by omega)
      rw [e, win22]
      by_cases hi : i = 0
      · subst hi
        rw [if_pos rfl, View.read_writes_cons_unit_of_not_mem _ _ _ _ _ _ (off3_6 _) 0 (Or.inl (show 0 < 1 by omega)),
          View.read_writes_cons_unit_of_not_mem _ _ _ _ _ _ (off3_0 _) 0 (Or.inl (show 0 < 1 by omega))]
        by_cases h6 : b.val % 12 < 6
        · rw [if_pos h6, View.read_writes_cons_unit_of_not_mem _ _ _ _ _ _ (off2_6 _) 1 (Or.inl (show b.val < 12 * n + 6 by omega))]
          have hx : ∀ a : Fin 4, (ix4 (0 : Fin 2) b l x a).val = (![0, 12 * n, 0, 0] : Fin 4 → ℕ) a + ((ix4 0 (place6 b) l x : S1x6x8x192.Idx) a).val := by
            intro a; match a with | 0 => rfl | 1 => exact (show b.val = 12 * n + b.val % 6 by omega) | 2 => exact (Nat.zero_add _).symm | 3 => exact (Nat.zero_add _).symm
          exact View.read_writes_cons_unit_of_mem (e := .i8) m.view _ (off := k0_off2 ⟨n, ht⟩ 0#32) (off' := ![0, 12 * n, 0, 0]) (size := S1x6x8x192.size) (k0_off2_inb ⟨n, ht⟩ 0) _ _ (ix4 0 b l x) (ix4 0 (place6 b) l x) (off2_0 ⟨n, ht⟩) hx
        · rw [if_neg h6]
          have hx : ∀ a : Fin 4, (ix4 (0 : Fin 2) b l x a).val = (![0, 12 * n + 6, 0, 0] : Fin 4 → ℕ) a + ((ix4 0 (place6 b) l x : S1x6x8x192.Idx) a).val := by
            intro a; match a with | 0 => rfl | 1 => exact (show b.val = 12 * n + 6 + b.val % 6 by omega) | 2 => exact (Nat.zero_add _).symm | 3 => exact (Nat.zero_add _).symm
          exact View.read_writes_cons_unit_of_mem (e := .i8) m.view _ (off := k0_off2 ⟨n, ht⟩ 6#32) (off' := ![0, 12 * n + 6, 0, 0]) (size := S1x6x8x192.size) (k0_off2_inb ⟨n, ht⟩ 1) _ _ (ix4 0 b l x) (ix4 0 (place6 b) l x) (off2_6 ⟨n, ht⟩) hx
      · have hi1 : i = 1 := by omega
        subst hi1
        rw [if_neg hi]
        by_cases h6 : b.val % 12 < 6
        · rw [if_pos h6, View.read_writes_cons_unit_of_not_mem _ _ _ _ _ _ (off3_6 _) 1 (Or.inl (show b.val < 12 * n + 6 by omega))]
          have hx : ∀ a : Fin 4, (ix4 (1 : Fin 2) b l x a).val = (![1, 12 * n, 0, 0] : Fin 4 → ℕ) a + ((ix4 0 (place6 b) l x : S1x6x8x192.Idx) a).val := by
            intro a; match a with | 0 => rfl | 1 => exact (show b.val = 12 * n + b.val % 6 by omega) | 2 => exact (Nat.zero_add _).symm | 3 => exact (Nat.zero_add _).symm
          exact View.read_writes_cons_unit_of_mem (e := .i8) m.view _ (off := k0_off3 ⟨n, ht⟩ 0#32) (off' := ![1, 12 * n, 0, 0]) (size := S1x6x8x192.size) (k0_off3_inb ⟨n, ht⟩ 0) _ _ (ix4 1 b l x) (ix4 0 (place6 b) l x) (off3_0 ⟨n, ht⟩) hx
        · rw [if_neg h6]
          have hx : ∀ a : Fin 4, (ix4 (1 : Fin 2) b l x a).val = (![1, 12 * n + 6, 0, 0] : Fin 4 → ℕ) a + ((ix4 0 (place6 b) l x : S1x6x8x192.Idx) a).val := by
            intro a; match a with | 0 => rfl | 1 => exact (show b.val = 12 * n + 6 + b.val % 6 by omega) | 2 => exact (Nat.zero_add _).symm | 3 => exact (Nat.zero_add _).symm
          exact View.read_writes_cons_unit_of_mem (e := .i8) m.view _ (off := k0_off3 ⟨n, ht⟩ 6#32) (off' := ![1, 12 * n + 6, 0, 0]) (size := S1x6x8x192.size) (k0_off3_inb ⟨n, ht⟩ 1) _ _ (ix4 1 b l x) (ix4 0 (place6 b) l x) (off3_6 ⟨n, ht⟩) hx

/-- The buffer of argument 22 after the loop. -/
theorem read22 (C : Fin k0_t1_loop.trips → Chunk F) (m : Memref sig .tc .vmem S2x84x8x192 .i8)
    (f : BufTy.Contents (Elt F) m.view.ty) (i : Fin 2) (b : Fin 84) (l : Fin 8) (x : Fin 192) :
    m.view.read (Elt F) (iter (st22 C m) f 7) (ix4 i b l x) = win22 (C (trip b)) i (b.val % 12 < 6) (ix4 0 (place6 b) l x) :=
  read22_of C m f i b l x 7 le_rfl (by omega)

/-- A trip's rows of the buffer of argument 25: row 0. -/
theorem tile25_0_step (C : Fin k0_t1_loop.trips → Chunk F) (m : Memref sig .tc .vmem S2x8x84 .f32) (k : Fin k0_t1_loop.trips)
    (f : BufTy.Contents (Elt F) m.view.ty) :
    View.readAt (Elt F) m.view (Rect.unit (s := S2x8x84) ![0, 0, 0] S1x8x84.size inb_S2x8x84_S1x8x84_0_0_0).toLoadRect (st25 C m k f) = (C k).v412 (View.readAt (Elt F) m.view (Rect.unit (s := S2x8x84) ![0, 0, 0] S1x8x84.size inb_S2x8x84_S1x8x84_0_0_0).toLoadRect f) := by
  funext y
  have h0 : (y 0).val = 0 := by have h : (y 0).val < 1 := (y 0).isLt; omega
  show m.view.read (Elt F) (st25 C m k f) ((Rect.unit (s := S2x8x84) ![0, 0, 0] S1x8x84.size inb_S2x8x84_S1x8x84_0_0_0).emb y) = _
  rw [st25]
  rw [View.read_writes_cons_unit_of_not_mem _ _ _ _ _ _ rfl 0 (Or.inl (show 0 + 1 * (y 0).val < 1 by omega))]
  exact View.read_writes_cons_unit_of_mem _ _ _ _ _ _ y rfl
    (by intro a; match a with | 0 => exact (show 0 + 1 * (y 0).val = 0 + (y 0).val by omega) | 1 => exact (show 0 + 1 * (y 1).val = 0 + (y 1).val by omega) | 2 => exact (show 0 + 1 * (y 2).val = 0 + (y 2).val by omega))

/-- Row 0 of the buffer of argument 25 after the first `n` trips. -/
theorem tile25_0 (C : Fin k0_t1_loop.trips → Chunk F) (m : Memref sig .tc .vmem S2x8x84 .f32)
    (f : BufTy.Contents (Elt F) m.view.ty) : ∀ n ≤ 7,
    View.readAt (Elt F) m.view (Rect.unit (s := S2x8x84) ![0, 0, 0] S1x8x84.size inb_S2x8x84_S1x8x84_0_0_0).toLoadRect (iter (st25 C m) f n)
      = iter (fun k t => (C k).v412 t) (View.readAt (Elt F) m.view (Rect.unit (s := S2x8x84) ![0, 0, 0] S1x8x84.size inb_S2x8x84_S1x8x84_0_0_0).toLoadRect f) n
  | 0, _ => rfl
  | n + 1, hn => by
    have ht : n < k0_t1_loop.trips := by rw [trips_eq]; omega
    rw [iter_step _ _ n ht, iter_step _ _ n ht, tile25_0_step, tile25_0 C m f n (by omega)]

/-- An entry of row 0 of the buffer of argument 25 after the loop. -/
theorem read25_0 (C : Fin k0_t1_loop.trips → Chunk F) (m : Memref sig .tc .vmem S2x8x84 .f32)
    (f : BufTy.Contents (Elt F) m.view.ty) (l : Fin 8) (b : Fin 84) :
    m.view.read (Elt F) (iter (st25 C m) f 7) (ix3 0 l b)
      = iter (fun k t => (C k).v412 t) (View.readAt (Elt F) m.view (Rect.unit (s := S2x8x84) ![0, 0, 0] S1x8x84.size inb_S2x8x84_S1x8x84_0_0_0).toLoadRect f) 7 (ix3 0 l b) := by
  rw [← tile25_0 C m f 7 le_rfl]
  show _ = m.view.read (Elt F) (iter (st25 C m) f 7) ((Rect.unit (s := S2x8x84) ![0, 0, 0] S1x8x84.size inb_S2x8x84_S1x8x84_0_0_0).emb (ix3 0 l b))
  congr 1
  funext a
  match a with
  | 0 => rfl
  | 1 => exact Fin.ext (show l.val = 0 + 1 * l.val by omega)
  | 2 => exact Fin.ext (show b.val = 0 + 1 * b.val by omega)

/-- A trip's rows of the buffer of argument 25: row 1. -/
theorem tile25_1_step (C : Fin k0_t1_loop.trips → Chunk F) (m : Memref sig .tc .vmem S2x8x84 .f32) (k : Fin k0_t1_loop.trips)
    (f : BufTy.Contents (Elt F) m.view.ty) :
    View.readAt (Elt F) m.view (Rect.unit (s := S2x8x84) ![1, 0, 0] S1x8x84.size inb_S2x8x84_S1x8x84_1_0_0).toLoadRect (st25 C m k f) = (C k).v501 (View.readAt (Elt F) m.view (Rect.unit (s := S2x8x84) ![1, 0, 0] S1x8x84.size inb_S2x8x84_S1x8x84_1_0_0).toLoadRect f) := by
  funext y
  have h0 : (y 0).val = 0 := by have h : (y 0).val < 1 := (y 0).isLt; omega
  show m.view.read (Elt F) (st25 C m k f) ((Rect.unit (s := S2x8x84) ![1, 0, 0] S1x8x84.size inb_S2x8x84_S1x8x84_1_0_0).emb y) = _
  rw [st25]
  exact View.read_writes_cons_unit_of_mem _ _ _ _ _ _ y rfl
    (by intro a; match a with | 0 => exact (show 1 + 1 * (y 0).val = 1 + (y 0).val by omega) | 1 => exact (show 0 + 1 * (y 1).val = 0 + (y 1).val by omega) | 2 => exact (show 0 + 1 * (y 2).val = 0 + (y 2).val by omega))

/-- Row 1 of the buffer of argument 25 after the first `n` trips. -/
theorem tile25_1 (C : Fin k0_t1_loop.trips → Chunk F) (m : Memref sig .tc .vmem S2x8x84 .f32)
    (f : BufTy.Contents (Elt F) m.view.ty) : ∀ n ≤ 7,
    View.readAt (Elt F) m.view (Rect.unit (s := S2x8x84) ![1, 0, 0] S1x8x84.size inb_S2x8x84_S1x8x84_1_0_0).toLoadRect (iter (st25 C m) f n)
      = iter (fun k t => (C k).v501 t) (View.readAt (Elt F) m.view (Rect.unit (s := S2x8x84) ![1, 0, 0] S1x8x84.size inb_S2x8x84_S1x8x84_1_0_0).toLoadRect f) n
  | 0, _ => rfl
  | n + 1, hn => by
    have ht : n < k0_t1_loop.trips := by rw [trips_eq]; omega
    rw [iter_step _ _ n ht, iter_step _ _ n ht, tile25_1_step, tile25_1 C m f n (by omega)]

/-- An entry of row 1 of the buffer of argument 25 after the loop. -/
theorem read25_1 (C : Fin k0_t1_loop.trips → Chunk F) (m : Memref sig .tc .vmem S2x8x84 .f32)
    (f : BufTy.Contents (Elt F) m.view.ty) (l : Fin 8) (b : Fin 84) :
    m.view.read (Elt F) (iter (st25 C m) f 7) (ix3 1 l b)
      = iter (fun k t => (C k).v501 t) (View.readAt (Elt F) m.view (Rect.unit (s := S2x8x84) ![1, 0, 0] S1x8x84.size inb_S2x8x84_S1x8x84_1_0_0).toLoadRect f) 7 (ix3 0 l b) := by
  rw [← tile25_1 C m f 7 le_rfl]
  show _ = m.view.read (Elt F) (iter (st25 C m) f 7) ((Rect.unit (s := S2x8x84) ![1, 0, 0] S1x8x84.size inb_S2x8x84_S1x8x84_1_0_0).emb (ix3 0 l b))
  congr 1
  funext a
  match a with
  | 0 => rfl
  | 1 => exact Fin.ext (show l.val = 0 + 1 * l.val by omega)
  | 2 => exact Fin.ext (show b.val = 0 + 1 * b.val by omega)

/-- A trip's rows of the buffer of argument 27: row 0. -/
theorem tile27_0_step (C : Fin k0_t1_loop.trips → Chunk F) (m : Memref sig .tc .vmem S2x8x84 .f32) (k : Fin k0_t1_loop.trips)
    (f : BufTy.Contents (Elt F) m.view.ty) :
    View.readAt (Elt F) m.view (Rect.unit (s := S2x8x84) ![0, 0, 0] S1x8x84.size inb_S2x8x84_S1x8x84_0_0_0).toLoadRect (st27 C m k f) = (C k).v630 (View.readAt (Elt F) m.view (Rect.unit (s := S2x8x84) ![0, 0, 0] S1x8x84.size inb_S2x8x84_S1x8x84_0_0_0).toLoadRect f) := by
  funext y
  have h0 : (y 0).val = 0 := by have h : (y 0).val < 1 := (y 0).isLt; omega
  show m.view.read (Elt F) (st27 C m k f) ((Rect.unit (s := S2x8x84) ![0, 0, 0] S1x8x84.size inb_S2x8x84_S1x8x84_0_0_0).emb y) = _
  rw [st27]
  rw [View.read_writes_cons_unit_of_not_mem _ _ _ _ _ _ rfl 0 (Or.inl (show 0 + 1 * (y 0).val < 1 by omega))]
  exact View.read_writes_cons_unit_of_mem _ _ _ _ _ _ y rfl
    (by intro a; match a with | 0 => exact (show 0 + 1 * (y 0).val = 0 + (y 0).val by omega) | 1 => exact (show 0 + 1 * (y 1).val = 0 + (y 1).val by omega) | 2 => exact (show 0 + 1 * (y 2).val = 0 + (y 2).val by omega))

/-- Row 0 of the buffer of argument 27 after the first `n` trips. -/
theorem tile27_0 (C : Fin k0_t1_loop.trips → Chunk F) (m : Memref sig .tc .vmem S2x8x84 .f32)
    (f : BufTy.Contents (Elt F) m.view.ty) : ∀ n ≤ 7,
    View.readAt (Elt F) m.view (Rect.unit (s := S2x8x84) ![0, 0, 0] S1x8x84.size inb_S2x8x84_S1x8x84_0_0_0).toLoadRect (iter (st27 C m) f n)
      = iter (fun k t => (C k).v630 t) (View.readAt (Elt F) m.view (Rect.unit (s := S2x8x84) ![0, 0, 0] S1x8x84.size inb_S2x8x84_S1x8x84_0_0_0).toLoadRect f) n
  | 0, _ => rfl
  | n + 1, hn => by
    have ht : n < k0_t1_loop.trips := by rw [trips_eq]; omega
    rw [iter_step _ _ n ht, iter_step _ _ n ht, tile27_0_step, tile27_0 C m f n (by omega)]

/-- An entry of row 0 of the buffer of argument 27 after the loop. -/
theorem read27_0 (C : Fin k0_t1_loop.trips → Chunk F) (m : Memref sig .tc .vmem S2x8x84 .f32)
    (f : BufTy.Contents (Elt F) m.view.ty) (l : Fin 8) (b : Fin 84) :
    m.view.read (Elt F) (iter (st27 C m) f 7) (ix3 0 l b)
      = iter (fun k t => (C k).v630 t) (View.readAt (Elt F) m.view (Rect.unit (s := S2x8x84) ![0, 0, 0] S1x8x84.size inb_S2x8x84_S1x8x84_0_0_0).toLoadRect f) 7 (ix3 0 l b) := by
  rw [← tile27_0 C m f 7 le_rfl]
  show _ = m.view.read (Elt F) (iter (st27 C m) f 7) ((Rect.unit (s := S2x8x84) ![0, 0, 0] S1x8x84.size inb_S2x8x84_S1x8x84_0_0_0).emb (ix3 0 l b))
  congr 1
  funext a
  match a with
  | 0 => rfl
  | 1 => exact Fin.ext (show l.val = 0 + 1 * l.val by omega)
  | 2 => exact Fin.ext (show b.val = 0 + 1 * b.val by omega)

/-- A trip's rows of the buffer of argument 27: row 1. -/
theorem tile27_1_step (C : Fin k0_t1_loop.trips → Chunk F) (m : Memref sig .tc .vmem S2x8x84 .f32) (k : Fin k0_t1_loop.trips)
    (f : BufTy.Contents (Elt F) m.view.ty) :
    View.readAt (Elt F) m.view (Rect.unit (s := S2x8x84) ![1, 0, 0] S1x8x84.size inb_S2x8x84_S1x8x84_1_0_0).toLoadRect (st27 C m k f) = (C k).v719 (View.readAt (Elt F) m.view (Rect.unit (s := S2x8x84) ![1, 0, 0] S1x8x84.size inb_S2x8x84_S1x8x84_1_0_0).toLoadRect f) := by
  funext y
  have h0 : (y 0).val = 0 := by have h : (y 0).val < 1 := (y 0).isLt; omega
  show m.view.read (Elt F) (st27 C m k f) ((Rect.unit (s := S2x8x84) ![1, 0, 0] S1x8x84.size inb_S2x8x84_S1x8x84_1_0_0).emb y) = _
  rw [st27]
  exact View.read_writes_cons_unit_of_mem _ _ _ _ _ _ y rfl
    (by intro a; match a with | 0 => exact (show 1 + 1 * (y 0).val = 1 + (y 0).val by omega) | 1 => exact (show 0 + 1 * (y 1).val = 0 + (y 1).val by omega) | 2 => exact (show 0 + 1 * (y 2).val = 0 + (y 2).val by omega))

/-- Row 1 of the buffer of argument 27 after the first `n` trips. -/
theorem tile27_1 (C : Fin k0_t1_loop.trips → Chunk F) (m : Memref sig .tc .vmem S2x8x84 .f32)
    (f : BufTy.Contents (Elt F) m.view.ty) : ∀ n ≤ 7,
    View.readAt (Elt F) m.view (Rect.unit (s := S2x8x84) ![1, 0, 0] S1x8x84.size inb_S2x8x84_S1x8x84_1_0_0).toLoadRect (iter (st27 C m) f n)
      = iter (fun k t => (C k).v719 t) (View.readAt (Elt F) m.view (Rect.unit (s := S2x8x84) ![1, 0, 0] S1x8x84.size inb_S2x8x84_S1x8x84_1_0_0).toLoadRect f) n
  | 0, _ => rfl
  | n + 1, hn => by
    have ht : n < k0_t1_loop.trips := by rw [trips_eq]; omega
    rw [iter_step _ _ n ht, iter_step _ _ n ht, tile27_1_step, tile27_1 C m f n (by omega)]

/-- An entry of row 1 of the buffer of argument 27 after the loop. -/
theorem read27_1 (C : Fin k0_t1_loop.trips → Chunk F) (m : Memref sig .tc .vmem S2x8x84 .f32)
    (f : BufTy.Contents (Elt F) m.view.ty) (l : Fin 8) (b : Fin 84) :
    m.view.read (Elt F) (iter (st27 C m) f 7) (ix3 1 l b)
      = iter (fun k t => (C k).v719 t) (View.readAt (Elt F) m.view (Rect.unit (s := S2x8x84) ![1, 0, 0] S1x8x84.size inb_S2x8x84_S1x8x84_1_0_0).toLoadRect f) 7 (ix3 0 l b) := by
  rw [← tile27_1 C m f 7 le_rfl]
  show _ = m.view.read (Elt F) (iter (st27 C m) f 7) ((Rect.unit (s := S2x8x84) ![1, 0, 0] S1x8x84.size inb_S2x8x84_S1x8x84_1_0_0).emb (ix3 0 l b))
  congr 1
  funext a
  match a with
  | 0 => rfl
  | 1 => exact Fin.ext (show l.val = 0 + 1 * l.val by omega)
  | 2 => exact Fin.ext (show b.val = 0 + 1 * b.val by omega)

/-- A trip's rows of the buffer of argument 29: row 0. -/
theorem tile29_0_step (C : Fin k0_t1_loop.trips → Chunk F) (m : Memref sig .tc .vmem S1x8x42 .f32) (k : Fin k0_t1_loop.trips)
    (f : BufTy.Contents (Elt F) m.view.ty) :
    View.readAt (Elt F) m.view (Rect.unit (s := S1x8x42) ![0, 0, 0] S1x8x42.size inb_S1x8x42_S1x8x42_0_0_0).toLoadRect (st29 C m k f) = (C k).v985 (View.readAt (Elt F) m.view (Rect.unit (s := S1x8x42) ![0, 0, 0] S1x8x42.size inb_S1x8x42_S1x8x42_0_0_0).toLoadRect f) := by
  funext y
  have h0 : (y 0).val = 0 := by have h : (y 0).val < 1 := (y 0).isLt; omega
  show m.view.read (Elt F) (st29 C m k f) ((Rect.unit (s := S1x8x42) ![0, 0, 0] S1x8x42.size inb_S1x8x42_S1x8x42_0_0_0).emb y) = _
  rw [st29]
  exact View.read_writes_cons_unit_of_mem _ _ _ _ _ _ y rfl
    (by intro a; match a with | 0 => exact (show 0 + 1 * (y 0).val = 0 + (y 0).val by omega) | 1 => exact (show 0 + 1 * (y 1).val = 0 + (y 1).val by omega) | 2 => exact (show 0 + 1 * (y 2).val = 0 + (y 2).val by omega))

/-- Row 0 of the buffer of argument 29 after the first `n` trips. -/
theorem tile29_0 (C : Fin k0_t1_loop.trips → Chunk F) (m : Memref sig .tc .vmem S1x8x42 .f32)
    (f : BufTy.Contents (Elt F) m.view.ty) : ∀ n ≤ 7,
    View.readAt (Elt F) m.view (Rect.unit (s := S1x8x42) ![0, 0, 0] S1x8x42.size inb_S1x8x42_S1x8x42_0_0_0).toLoadRect (iter (st29 C m) f n)
      = iter (fun k t => (C k).v985 t) (View.readAt (Elt F) m.view (Rect.unit (s := S1x8x42) ![0, 0, 0] S1x8x42.size inb_S1x8x42_S1x8x42_0_0_0).toLoadRect f) n
  | 0, _ => rfl
  | n + 1, hn => by
    have ht : n < k0_t1_loop.trips := by rw [trips_eq]; omega
    rw [iter_step _ _ n ht, iter_step _ _ n ht, tile29_0_step, tile29_0 C m f n (by omega)]

/-- An entry of row 0 of the buffer of argument 29 after the loop. -/
theorem read29_0 (C : Fin k0_t1_loop.trips → Chunk F) (m : Memref sig .tc .vmem S1x8x42 .f32)
    (f : BufTy.Contents (Elt F) m.view.ty) (l : Fin 8) (b : Fin 42) :
    m.view.read (Elt F) (iter (st29 C m) f 7) (ix3 0 l b)
      = iter (fun k t => (C k).v985 t) (View.readAt (Elt F) m.view (Rect.unit (s := S1x8x42) ![0, 0, 0] S1x8x42.size inb_S1x8x42_S1x8x42_0_0_0).toLoadRect f) 7 (ix3 0 l b) := by
  rw [← tile29_0 C m f 7 le_rfl]
  show _ = m.view.read (Elt F) (iter (st29 C m) f 7) ((Rect.unit (s := S1x8x42) ![0, 0, 0] S1x8x42.size inb_S1x8x42_S1x8x42_0_0_0).emb (ix3 0 l b))
  congr 1
  funext a
  match a with
  | 0 => rfl
  | 1 => exact Fin.ext (show l.val = 0 + 1 * l.val by omega)
  | 2 => exact Fin.ext (show b.val = 0 + 1 * b.val by omega)

end Cert.KernelIdeal.Val

end
-- ==== Proof.KernelBlock.lean ====
/- One grid point of the kernel as plain values: from the blocks it is given, what each trip works on and what each
   output block holds at the end. -/
module

public import proofs.«01_k».proof.Proof.KernelRead
public import Idealize.ShloMosaic.Lib.WholeRead

@[expose] public section

set_option maxRecDepth 16384
set_option maxHeartbeats 1000000
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The lane number at each place. -/
def lane : IVec S8x128 32 := (iota .tc S8x128 32 [1] iota_S8x128_d1_w32)

/-- What trip `k` works on, from the blocks of the grid point. -/
def chunkIn (x1 : Vec F S2x84x8x192 .bf16) (x2 : Vec F S1x84x8x192 .i8) (x3 : Vec F S1x84x8x192 .i8) (x4 : Vec F S1x8x128 .f32) (x5 : Vec F S1x8x128 .f32) (x6 : Vec F S1x84x8x192 .i8) (x7 : Vec F S1x84x8x192 .i8) (x10 : Vec F S192x192 .i8) (x11 : Vec F S192x768 .i8) (x12 : Vec F S768x192 .i8) (x13 : Vec F S768x384 .i8) (x14 : Vec F S8x192 .f32) (x15 : Vec F S2x768 .f32) (x16 : Vec F S8x192 .f32) (x17 : Vec F S1x384 .f32) (k : Fin k0_t1_loop.trips) : Chunk F where
  k := k
  v1 := k0_pay92 (fun y => x14 ((Rect.unit (s := S8x192) ![0, 0] S1x192.size inb_S8x192_S1x192_0_0).toLoadRect.idx y))
  v3 := k0_pay93 (fun y => x14 ((Rect.unit (s := S8x192) ![1, 0] S1x192.size inb_S8x192_S1x192_1_0).toLoadRect.idx y))
  v5 := k0_pay94 (fun y => x14 ((Rect.unit (s := S8x192) ![2, 0] S1x192.size inb_S8x192_S1x192_2_0).toLoadRect.idx y))
  v7 := k0_pay95 (fun y => x14 ((Rect.unit (s := S8x192) ![3, 0] S1x192.size inb_S8x192_S1x192_3_0).toLoadRect.idx y))
  v9 := k0_pay96 (fun y => x14 ((Rect.unit (s := S8x192) ![4, 0] S1x192.size inb_S8x192_S1x192_4_0).toLoadRect.idx y))
  v11 := k0_pay97 (fun y => x14 ((Rect.unit (s := S8x192) ![5, 0] S1x192.size inb_S8x192_S1x192_5_0).toLoadRect.idx y))
  v13 := k0_pay98 (fun y => x14 ((Rect.unit (s := S8x192) ![6, 0] S1x192.size inb_S8x192_S1x192_6_0).toLoadRect.idx y))
  v15 := k0_pay99 (fun y => x14 ((Rect.unit (s := S8x192) ![7, 0] S1x192.size inb_S8x192_S1x192_7_0).toLoadRect.idx y))
  v17 := k0_pay100 (fun y => x15 ((Rect.unit (s := S2x768) ![0, 0] S1x768.size inb_S2x768_S1x768_0_0).toLoadRect.idx y))
  v19 := k0_pay101 (fun y => x15 ((Rect.unit (s := S2x768) ![1, 0] S1x768.size inb_S2x768_S1x768_1_0).toLoadRect.idx y))
  v20 := lane
  v89 := (fun y => x2 ((Rect.unit (s := S1x84x8x192) (k0_off1 k 0#32) S1x6x8x192.size (k0_off1_inb k 0)).toLoadRect.idx y))
  v122 := (fun y => x2 ((Rect.unit (s := S1x84x8x192) (k0_off1 k 1#32) S1x6x8x192.size (k0_off1_inb k 1)).toLoadRect.idx y))
  v155 := (fun y => x3 ((Rect.unit (s := S1x84x8x192) (k0_off1 k 0#32) S1x6x8x192.size (k0_off1_inb k 0)).toLoadRect.idx y))
  v188 := (fun y => x3 ((Rect.unit (s := S1x84x8x192) (k0_off1 k 1#32) S1x6x8x192.size (k0_off1_inb k 1)).toLoadRect.idx y))
  v97 := (fun y => x6 ((Rect.unit (s := S1x84x8x192) (k0_off1 k 0#32) S1x6x8x192.size (k0_off1_inb k 0)).toLoadRect.idx y))
  v130 := (fun y => x6 ((Rect.unit (s := S1x84x8x192) (k0_off1 k 1#32) S1x6x8x192.size (k0_off1_inb k 1)).toLoadRect.idx y))
  v163 := (fun y => x7 ((Rect.unit (s := S1x84x8x192) (k0_off1 k 0#32) S1x6x8x192.size (k0_off1_inb k 0)).toLoadRect.idx y))
  v196 := (fun y => x7 ((Rect.unit (s := S1x84x8x192) (k0_off1 k 1#32) S1x6x8x192.size (k0_off1_inb k 1)).toLoadRect.idx y))
  v209 := k0_pay104 lane (fun y => x4 ((Rect.unit (s := S1x8x128) ![0, 0, 0] S1x8x128.size inb_S1x8x128_S1x8x128_0_0_0).toLoadRect.idx y))
  v237 := k0_pay1 (k0_pay106 lane (fun y => x5 ((Rect.unit (s := S1x8x128) ![0, 0, 0] S1x8x128.size inb_S1x8x128_S1x8x128_0_0_0).toLoadRect.idx y)))
  v266 := (fun y => x10 ((Rect.unit (s := S192x192) ![0, 0] S192x192.size inb_S192x192_S192x192_0_0).toLoadRect.idx y))
  v277 := (fun y => x1 ((Rect.unit (s := S2x84x8x192) (k0_off4 k) S2x12x8x192.size (k0_off4_inb k)).toLoadRect.idx y))
  v503 := (fun y => x11 ((Rect.unit (s := S192x768) ![0, 0] S192x768.size inb_S192x768_S192x768_0_0).toLoadRect.idx y))
  v721 := (fun y => x12 ((Rect.unit (s := S768x192) ![0, 0] S768x192.size inb_S768x192_S768x192_0_0).toLoadRect.idx y))
  v905 := (fun y => x13 ((Rect.unit (s := S768x384) ![0, 0] S768x384.size inb_S768x384_S768x384_0_0).toLoadRect.idx y))
  v805 := (fun y => x16 ((Rect.unit (s := S8x192) ![0, 0] S1x192.size inb_S8x192_S1x192_0_0).toLoadRect.idx y))
  v810 := (fun y => x16 ((Rect.unit (s := S8x192) ![4, 0] S1x192.size inb_S8x192_S1x192_4_0).toLoadRect.idx y))
  v817 := (fun y => x16 ((Rect.unit (s := S8x192) ![1, 0] S1x192.size inb_S8x192_S1x192_1_0).toLoadRect.idx y))
  v822 := (fun y => x16 ((Rect.unit (s := S8x192) ![5, 0] S1x192.size inb_S8x192_S1x192_5_0).toLoadRect.idx y))
  v829 := (fun y => x16 ((Rect.unit (s := S8x192) ![2, 0] S1x192.size inb_S8x192_S1x192_2_0).toLoadRect.idx y))
  v834 := (fun y => x16 ((Rect.unit (s := S8x192) ![6, 0] S1x192.size inb_S8x192_S1x192_6_0).toLoadRect.idx y))
  v841 := (fun y => x16 ((Rect.unit (s := S8x192) ![3, 0] S1x192.size inb_S8x192_S1x192_3_0).toLoadRect.idx y))
  v846 := (fun y => x16 ((Rect.unit (s := S8x192) ![7, 0] S1x192.size inb_S8x192_S1x192_7_0).toLoadRect.idx y))
  v911 := (fun y => x17 ((Rect.unit (s := S1x384) ![0, 0] S1x384.size inb_S1x384_S1x384_0_0).toLoadRect.idx y))

/-- A trip's loads, read off whole buffers holding the blocks. -/
theorem chunkOf_eq (arg1 : Memref sig .tc .vmem S2x84x8x192 .bf16) (h1 : arg1.IsWhole) (arg2 : Memref sig .tc .vmem S1x84x8x192 .i8) (h2 : arg2.IsWhole) (arg3 : Memref sig .tc .vmem S1x84x8x192 .i8) (h3 : arg3.IsWhole) (arg4 : Memref sig .tc .vmem S1x8x128 .f32) (h4 : arg4.IsWhole) (arg5 : Memref sig .tc .vmem S1x8x128 .f32) (h5 : arg5.IsWhole) (arg6 : Memref sig .tc .vmem S1x84x8x192 .i8) (h6 : arg6.IsWhole) (arg7 : Memref sig .tc .vmem S1x84x8x192 .i8) (h7 : arg7.IsWhole) (arg10 : Memref sig .tc .vmem S192x192 .i8) (h10 : arg10.IsWhole) (arg11 : Memref sig .tc .vmem S192x768 .i8) (h11 : arg11.IsWhole) (arg12 : Memref sig .tc .vmem S768x192 .i8) (h12 : arg12.IsWhole) (arg13 : Memref sig .tc .vmem S768x384 .i8) (h13 : arg13.IsWhole) (arg14 : Memref sig .tc .vmem S8x192 .f32) (h14 : arg14.IsWhole) (arg15 : Memref sig .tc .vmem S2x768 .f32) (h15 : arg15.IsWhole) (arg16 : Memref sig .tc .vmem S8x192 .f32) (h16 : arg16.IsWhole) (arg17 : Memref sig .tc .vmem S1x384 .f32) (h17 : arg17.IsWhole) (arg23 : Memref sig .tc .vmem S2x8x84 .f32) (x1 : Vec F S2x84x8x192 .bf16) (x2 : Vec F S1x84x8x192 .i8) (x3 : Vec F S1x84x8x192 .i8) (x4 : Vec F S1x8x128 .f32) (x5 : Vec F S1x8x128 .f32) (x6 : Vec F S1x84x8x192 .i8) (x7 : Vec F S1x84x8x192 .i8) (x10 : Vec F S192x192 .i8) (x11 : Vec F S192x768 .i8) (x12 : Vec F S768x192 .i8) (x13 : Vec F S768x384 .i8) (x14 : Vec F S8x192 .f32) (x15 : Vec F S2x768 .f32) (x16 : Vec F S8x192 .f32) (x17 : Vec F S1x384 .f32)
    (X23 : BufTy.Contents (Elt F) arg23.view.ty)
    (hX0 : View.readAt (Elt F) arg23.view (Rect.unit (s := S2x8x84) ![0, 0, 0] S1x8x84.size inb_S2x8x84_S1x8x84_0_0_0).toLoadRect X23 = k0_pay104 (iota .tc S8x128 32 [1] iota_S8x128_d1_w32) (View.readAt (Elt F) arg4.view (Rect.unit (s := S1x8x128) ![0, 0, 0] S1x8x128.size inb_S1x8x128_S1x8x128_0_0_0).toLoadRect (h4.unread x4)))
    (hX1 : View.readAt (Elt F) arg23.view (Rect.unit (s := S2x8x84) ![1, 0, 0] S1x8x84.size inb_S2x8x84_S1x8x84_1_0_0).toLoadRect X23 = k0_pay1 (k0_pay106 (iota .tc S8x128 32 [1] iota_S8x128_d1_w32) (View.readAt (Elt F) arg5.view (Rect.unit (s := S1x8x128) ![0, 0, 0] S1x8x128.size inb_S1x8x128_S1x8x128_0_0_0).toLoadRect (h5.unread x5)))) :
    (chunkOf F arg1 arg2 arg3 arg6 arg7 arg10 arg11 arg12 arg13 arg16 arg17 arg23 (k0_pay92 (View.readAt (Elt F) arg14.view (Rect.unit (s := S8x192) ![0, 0] S1x192.size inb_S8x192_S1x192_0_0).toLoadRect (h14.unread x14))) (k0_pay93 (View.readAt (Elt F) arg14.view (Rect.unit (s := S8x192) ![1, 0] S1x192.size inb_S8x192_S1x192_1_0).toLoadRect (h14.unread x14))) (k0_pay94 (View.readAt (Elt F) arg14.view (Rect.unit (s := S8x192) ![2, 0] S1x192.size inb_S8x192_S1x192_2_0).toLoadRect (h14.unread x14))) (k0_pay95 (View.readAt (Elt F) arg14.view (Rect.unit (s := S8x192) ![3, 0] S1x192.size inb_S8x192_S1x192_3_0).toLoadRect (h14.unread x14))) (k0_pay96 (View.readAt (Elt F) arg14.view (Rect.unit (s := S8x192) ![4, 0] S1x192.size inb_S8x192_S1x192_4_0).toLoadRect (h14.unread x14))) (k0_pay97 (View.readAt (Elt F) arg14.view (Rect.unit (s := S8x192) ![5, 0] S1x192.size inb_S8x192_S1x192_5_0).toLoadRect (h14.unread x14))) (k0_pay98 (View.readAt (Elt F) arg14.view (Rect.unit (s := S8x192) ![6, 0] S1x192.size inb_S8x192_S1x192_6_0).toLoadRect (h14.unread x14))) (k0_pay99 (View.readAt (Elt F) arg14.view (Rect.unit (s := S8x192) ![7, 0] S1x192.size inb_S8x192_S1x192_7_0).toLoadRect (h14.unread x14))) (k0_pay100 (View.readAt (Elt F) arg15.view (Rect.unit (s := S2x768) ![0, 0] S1x768.size inb_S2x768_S1x768_0_0).toLoadRect (h15.unread x15))) (k0_pay101 (View.readAt (Elt F) arg15.view (Rect.unit (s := S2x768) ![1, 0] S1x768.size inb_S2x768_S1x768_1_0).toLoadRect (h15.unread x15))) (iota .tc S8x128 32 [1] iota_S8x128_d1_w32) (h1.unread x1) (h2.unread x2) (h3.unread x3) (h6.unread x6) (h7.unread x7) (h10.unread x10) (h11.unread x11) (h12.unread x12) (h13.unread x13) (h16.unread x16) (h17.unread x17) X23)
      = chunkIn x1 x2 x3 x4 x5 x6 x7 x10 x11 x12 x13 x14 x15 x16 x17 := by
  funext k
  have hr : ∀ {s : Shape} {e : EltTy} (m : Memref sig .tc .vmem s e) (h : m.IsWhole) (X : Vec F s e) (B : LoadRect s),
      View.readAt (Elt F) m.view B (h.unread X) = fun y => X (B.idx y) := fun m h X B => funext fun y => h.readAt_unread X B y
  simp only [chunkOf, chunkIn, hX0, hX1, hr, lane]
  rfl

/-- Two rows written one after the other: the first. -/
theorem rows_read0 (m : Memref sig .tc .vmem S2x8x84 .f32) (f : BufTy.Contents (Elt F) m.view.ty) (a b : Vec F S1x8x84 .f32) :
    View.readAt (Elt F) m.view (Rect.unit (s := S2x8x84) ![0, 0, 0] S1x8x84.size inb_S2x8x84_S1x8x84_0_0_0).toLoadRect (m.view.writes (Elt F) f [⟨(Rect.unit (s := S2x8x84) ![1, 0, 0] S1x8x84.size inb_S2x8x84_S1x8x84_1_0_0), b⟩, ⟨(Rect.unit (s := S2x8x84) ![0, 0, 0] S1x8x84.size inb_S2x8x84_S1x8x84_0_0_0), a⟩]) = a := by
  funext y
  have h0 : (y 0).val = 0 := by have h : (y 0).val < 1 := (y 0).isLt; omega
  show m.view.read (Elt F) _ ((Rect.unit (s := S2x8x84) ![0, 0, 0] S1x8x84.size inb_S2x8x84_S1x8x84_0_0_0).emb y) = _
  rw [View.read_writes_cons_unit_of_not_mem _ _ _ _ _ _ rfl 0 (Or.inl (show 0 + 1 * (y 0).val < 1 by omega))]
  exact View.read_writes_cons_unit_of_mem _ _ _ _ _ _ y rfl
    (by intro a; match a with | 0 => exact (show 0 + 1 * (y 0).val = 0 + (y 0).val by omega) | 1 => exact (show 0 + 1 * (y 1).val = 0 + (y 1).val by omega) | 2 => exact (show 0 + 1 * (y 2).val = 0 + (y 2).val by omega))

/-- Two rows written one after the other: the second. -/
theorem rows_read1 (m : Memref sig .tc .vmem S2x8x84 .f32) (f : BufTy.Contents (Elt F) m.view.ty) (a b : Vec F S1x8x84 .f32) :
    View.readAt (Elt F) m.view (Rect.unit (s := S2x8x84) ![1, 0, 0] S1x8x84.size inb_S2x8x84_S1x8x84_1_0_0).toLoadRect (m.view.writes (Elt F) f [⟨(Rect.unit (s := S2x8x84) ![1, 0, 0] S1x8x84.size inb_S2x8x84_S1x8x84_1_0_0), b⟩, ⟨(Rect.unit (s := S2x8x84) ![0, 0, 0] S1x8x84.size inb_S2x8x84_S1x8x84_0_0_0), a⟩]) = b := by
  funext y
  show m.view.read (Elt F) _ ((Rect.unit (s := S2x8x84) ![1, 0, 0] S1x8x84.size inb_S2x8x84_S1x8x84_1_0_0).emb y) = _
  exact View.read_writes_cons_unit_of_mem _ _ _ _ _ _ y rfl
    (by intro a; match a with | 0 => exact (show 1 + 1 * (y 0).val = 1 + (y 0).val by omega) | 1 => exact (show 0 + 1 * (y 1).val = 0 + (y 1).val by omega) | 2 => exact (show 0 + 1 * (y 2).val = 0 + (y 2).val by omega))

/-- Two rows side by side. -/
def rows2 (a b : Vec F S1x8x84 .f32) : Vec F S2x8x84 .f32 := fun y =>
  if (y 0).val = 0 then a (ix3 0 (y 1) (y 2)) else b (ix3 0 (y 1) (y 2))

theorem read_rows2 (m : Memref sig .tc .vmem S2x8x84 .f32) (X : BufTy.Contents (Elt F) m.view.ty) (a b : Vec F S1x8x84 .f32)
    (ha : ∀ l j, m.view.read (Elt F) X (ix3 0 l j) = a (ix3 0 l j)) (hb : ∀ l j, m.view.read (Elt F) X (ix3 1 l j) = b (ix3 0 l j)) :
    m.view.read (Elt F) X = rows2 a b := by
  funext y
  have e := eq_ix3 (n0 := 2) (n1 := 8) (n2 := 84) y
  have h0 : (y 0).val < 2 := (y 0).isLt
  by_cases h : (y 0).val = 0
  · rw [rows2, if_pos h]
    have : y 0 = (0 : Fin 2) := Fin.ext h
    rw [this] at e; exact (congrArg _ e).trans (ha (y 1) (y 2))
  · rw [rows2, if_neg h]
    have : y 0 = (1 : Fin 2) := Fin.ext (show (y 0).val = 1 by omega)
    rw [this] at e; exact (congrArg _ e).trans (hb (y 1) (y 2))

/-- Two rows written one after the other, as a whole. -/
theorem rows_read (m : Memref sig .tc .vmem S2x8x84 .f32) (f : BufTy.Contents (Elt F) m.view.ty) (a b : Vec F S1x8x84 .f32) :
    m.view.read (Elt F) (m.view.writes (Elt F) f [⟨(Rect.unit (s := S2x8x84) ![1, 0, 0] S1x8x84.size inb_S2x8x84_S1x8x84_1_0_0), b⟩, ⟨(Rect.unit (s := S2x8x84) ![0, 0, 0] S1x8x84.size inb_S2x8x84_S1x8x84_0_0_0), a⟩]) = rows2 a b := by
  refine read_rows2 m _ a b (fun l j => ?_) (fun l j => ?_)
  · have h := congrFun (rows_read0 m f a b) (ix3 0 l j)
    refine Eq.trans ?_ h
    show _ = m.view.read (Elt F) _ ((Rect.unit (s := S2x8x84) ![0, 0, 0] S1x8x84.size inb_S2x8x84_S1x8x84_0_0_0).emb (ix3 0 l j))
    congr 1; funext a
    match a with
    | 0 => rfl
    | 1 => exact Fin.ext (show l.val = 0 + 1 * l.val by omega)
    | 2 => exact Fin.ext (show j.val = 0 + 1 * j.val by omega)
  · have h := congrFun (rows_read1 m f a b) (ix3 0 l j)
    refine Eq.trans ?_ h
    show _ = m.view.read (Elt F) _ ((Rect.unit (s := S2x8x84) ![1, 0, 0] S1x8x84.size inb_S2x8x84_S1x8x84_1_0_0).emb (ix3 0 l j))
    congr 1; funext a
    match a with
    | 0 => rfl
    | 1 => exact Fin.ext (show l.val = 0 + 1 * l.val by omega)
    | 2 => exact Fin.ext (show j.val = 0 + 1 * j.val by omega)

/-- The output block of argument 18. -/
def blk18 (C : Fin k0_t1_loop.trips → Chunk F) : Vec F S2x84x8x192 .bf16 := fun y => (C (trip (y 1))).v752 (ix4 (y 0) (place (y 1)) (y 2) (y 3))

theorem out18 (C : Fin k0_t1_loop.trips → Chunk F) (m : Memref sig .tc .vmem S2x84x8x192 .bf16) (f : BufTy.Contents (Elt F) m.view.ty) :
    m.view.read (Elt F) (iter (st18 C m) f 7) = blk18 C := by
  funext y
  have e := eq_ix4 (n0 := 2) (n1 := 84) (n2 := 8) (n3 := 192) y
  exact (congrArg _ e).trans (read18 C m f (y 0) (y 1) (y 2) (y 3))

/-- The output block of argument 24. -/
def blk24 (C : Fin k0_t1_loop.trips → Chunk F) : Vec F S2x84x8x192 .i8 := fun y => (C (trip (y 1))).v321 (ix4 (y 0) (place (y 1)) (y 2) (y 3))

theorem out24 (C : Fin k0_t1_loop.trips → Chunk F) (m : Memref sig .tc .vmem S2x84x8x192 .i8) (f : BufTy.Contents (Elt F) m.view.ty) :
    m.view.read (Elt F) (iter (st24 C m) f 7) = blk24 C := by
  funext y
  have e := eq_ix4 (n0 := 2) (n1 := 84) (n2 := 8) (n3 := 192) y
  exact (congrArg _ e).trans (read24 C m f (y 0) (y 1) (y 2) (y 3))

/-- The output block of argument 26. -/
def blk26 (C : Fin k0_t1_loop.trips → Chunk F) : Vec F S2x84x8x768 .i8 := fun y => (C (trip (y 1))).v539 (ix4 (y 0) (place (y 1)) (y 2) (y 3))

theorem out26 (C : Fin k0_t1_loop.trips → Chunk F) (m : Memref sig .tc .vmem S2x84x8x768 .i8) (f : BufTy.Contents (Elt F) m.view.ty) :
    m.view.read (Elt F) (iter (st26 C m) f 7) = blk26 C := by
  funext y
  have e := eq_ix4 (n0 := 2) (n1 := 84) (n2 := 8) (n3 := 768) y
  exact (congrArg _ e).trans (read26 C m f (y 0) (y 1) (y 2) (y 3))

/-- The output block of argument 19. -/
def blk19 (C : Fin k0_t1_loop.trips → Chunk F) : Vec F S1x42x8x384 .bf16 := fun y => (C (trip2 (y 1))).v920 (ix4 (y 0) (place2 (y 1)) (y 2) (y 3))

theorem out19 (C : Fin k0_t1_loop.trips → Chunk F) (m : Memref sig .tc .vmem S1x42x8x384 .bf16) (f : BufTy.Contents (Elt F) m.view.ty) :
    m.view.read (Elt F) (iter (st19 C m) f 7) = blk19 C := by
  funext y
  have e := eq_ix4 (n0 := 1) (n1 := 42) (n2 := 8) (n3 := 384) y
  exact (congrArg _ e).trans (read19 C m f (y 0) (y 1) (y 2) (y 3))

/-- The output block of argument 28. -/
def blk28 (C : Fin k0_t1_loop.trips → Chunk F) : Vec F S1x42x8x768 .i8 := fun y => (C (trip2 (y 1))).v902 (ix4 (y 0) (place2 (y 1)) (y 2) (y 3))

theorem out28 (C : Fin k0_t1_loop.trips → Chunk F) (m : Memref sig .tc .vmem S1x42x8x768 .i8) (f : BufTy.Contents (Elt F) m.view.ty) :
    m.view.read (Elt F) (iter (st28 C m) f 7) = blk28 C := by
  funext y
  have e := eq_ix4 (n0 := 1) (n1 := 42) (n2 := 8) (n3 := 768) y
  exact (congrArg _ e).trans (read28 C m f (y 0) (y 1) (y 2) (y 3))

/-- The output block of argument 20. -/
def blk20 (C : Fin k0_t1_loop.trips → Chunk F) : Vec F S2x84x8x192 .i8 := fun y => win20 (C (trip (y 1))) (y 0) ((y 1).val % 12 < 6) (ix4 0 (place6 (y 1)) (y 2) (y 3))

theorem out20 (C : Fin k0_t1_loop.trips → Chunk F) (m : Memref sig .tc .vmem S2x84x8x192 .i8) (f : BufTy.Contents (Elt F) m.view.ty) :
    m.view.read (Elt F) (iter (st20 C m) f 7) = blk20 C := by
  funext y
  have e := eq_ix4 (n0 := 2) (n1 := 84) (n2 := 8) (n3 := 192) y
  exact (congrArg _ e).trans (read20 C m f (y 0) (y 1) (y 2) (y 3))

/-- The output block of argument 22. -/
def blk22 (C : Fin k0_t1_loop.trips → Chunk F) : Vec F S2x84x8x192 .i8 := fun y => win22 (C (trip (y 1))) (y 0) ((y 1).val % 12 < 6) (ix4 0 (place6 (y 1)) (y 2) (y 3))

theorem out22 (C : Fin k0_t1_loop.trips → Chunk F) (m : Memref sig .tc .vmem S2x84x8x192 .i8) (f : BufTy.Contents (Elt F) m.view.ty) :
    m.view.read (Elt F) (iter (st22 C m) f 7) = blk22 C := by
  funext y
  have e := eq_ix4 (n0 := 2) (n1 := 84) (n2 := 8) (n3 := 192) y
  exact (congrArg _ e).trans (read22 C m f (y 0) (y 1) (y 2) (y 3))

/-- The output block of argument 25: each row's tile after the trips. -/
def blk25 (C : Fin k0_t1_loop.trips → Chunk F) : Vec F S2x8x84 .f32 :=
  rows2 (iter (fun k t => (C k).v412 t) (fun y => k0_pay2 ((Rect.unit (s := S2x8x84) ![0, 0, 0] S1x8x84.size inb_S2x8x84_S1x8x84_0_0_0).emb y)) 7)
    (iter (fun k t => (C k).v501 t) (fun y => k0_pay2 ((Rect.unit (s := S2x8x84) ![1, 0, 0] S1x8x84.size inb_S2x8x84_S1x8x84_1_0_0).emb y)) 7)

theorem out25 (C : Fin k0_t1_loop.trips → Chunk F) (m : Memref sig .tc .vmem S2x8x84 .f32) (f : BufTy.Contents (Elt F) m.view.ty) :
    m.view.read (Elt F) (iter (st25 C m) (m.view.writes (Elt F) f [⟨(Rect.unit (s := S2x8x84) ![0, 0, 0] S2x8x84.size inb_S2x8x84_S2x8x84_0_0_0), k0_pay2⟩]) 7) = blk25 C := by
  have hz : ∀ y, m.view.read (Elt F) (m.view.writes (Elt F) f [⟨(Rect.unit (s := S2x8x84) ![0, 0, 0] S2x8x84.size inb_S2x8x84_S2x8x84_0_0_0), k0_pay2⟩]) y = k0_pay2 (F := F) y := fun y =>
    View.read_writes_cons_unit_of_mem (e := .f32) m.view f (off := ![0, 0, 0]) (off' := ![0, 0, 0]) (size := S2x8x84.size) inb_S2x8x84_S2x8x84_0_0_0 _ [] y y rfl (by intro a; match a with | 0 => exact (Nat.zero_add _).symm | 1 => exact (Nat.zero_add _).symm | 2 => exact (Nat.zero_add _).symm)
  have h0 : View.readAt (Elt F) m.view (Rect.unit (s := S2x8x84) ![0, 0, 0] S1x8x84.size inb_S2x8x84_S1x8x84_0_0_0).toLoadRect (m.view.writes (Elt F) f [⟨(Rect.unit (s := S2x8x84) ![0, 0, 0] S2x8x84.size inb_S2x8x84_S2x8x84_0_0_0), k0_pay2⟩]) = fun y => k0_pay2 ((Rect.unit (s := S2x8x84) ![0, 0, 0] S1x8x84.size inb_S2x8x84_S1x8x84_0_0_0).emb y) :=
    funext fun y => hz ((Rect.unit (s := S2x8x84) ![0, 0, 0] S1x8x84.size inb_S2x8x84_S1x8x84_0_0_0).emb y)
  have h1 : View.readAt (Elt F) m.view (Rect.unit (s := S2x8x84) ![1, 0, 0] S1x8x84.size inb_S2x8x84_S1x8x84_1_0_0).toLoadRect (m.view.writes (Elt F) f [⟨(Rect.unit (s := S2x8x84) ![0, 0, 0] S2x8x84.size inb_S2x8x84_S2x8x84_0_0_0), k0_pay2⟩]) = fun y => k0_pay2 ((Rect.unit (s := S2x8x84) ![1, 0, 0] S1x8x84.size inb_S2x8x84_S1x8x84_1_0_0).emb y) :=
    funext fun y => hz ((Rect.unit (s := S2x8x84) ![1, 0, 0] S1x8x84.size inb_S2x8x84_S1x8x84_1_0_0).emb y)
  refine read_rows2 m _ _ _ (fun l j => ?_) (fun l j => ?_)
  · rw [read25_0, h0] <;> rfl
  · rw [read25_1, h1] <;> rfl

/-- The output block of argument 27: each row's tile after the trips. -/
def blk27 (C : Fin k0_t1_loop.trips → Chunk F) : Vec F S2x8x84 .f32 :=
  rows2 (iter (fun k t => (C k).v630 t) (fun y => k0_pay3 ((Rect.unit (s := S2x8x84) ![0, 0, 0] S1x8x84.size inb_S2x8x84_S1x8x84_0_0_0).emb y)) 7)
    (iter (fun k t => (C k).v719 t) (fun y => k0_pay3 ((Rect.unit (s := S2x8x84) ![1, 0, 0] S1x8x84.size inb_S2x8x84_S1x8x84_1_0_0).emb y)) 7)

theorem out27 (C : Fin k0_t1_loop.trips → Chunk F) (m : Memref sig .tc .vmem S2x8x84 .f32) (f : BufTy.Contents (Elt F) m.view.ty) :
    m.view.read (Elt F) (iter (st27 C m) (m.view.writes (Elt F) f [⟨(Rect.unit (s := S2x8x84) ![0, 0, 0] S2x8x84.size inb_S2x8x84_S2x8x84_0_0_0), k0_pay3⟩]) 7) = blk27 C := by
  have hz : ∀ y, m.view.read (Elt F) (m.view.writes (Elt F) f [⟨(Rect.unit (s := S2x8x84) ![0, 0, 0] S2x8x84.size inb_S2x8x84_S2x8x84_0_0_0), k0_pay3⟩]) y = k0_pay3 (F := F) y := fun y =>
    View.read_writes_cons_unit_of_mem (e := .f32) m.view f (off := ![0, 0, 0]) (off' := ![0, 0, 0]) (size := S2x8x84.size) inb_S2x8x84_S2x8x84_0_0_0 _ [] y y rfl (by intro a; match a with | 0 => exact (Nat.zero_add _).symm | 1 => exact (Nat.zero_add _).symm | 2 => exact (Nat.zero_add _).symm)
  have h0 : View.readAt (Elt F) m.view (Rect.unit (s := S2x8x84) ![0, 0, 0] S1x8x84.size inb_S2x8x84_S1x8x84_0_0_0).toLoadRect (m.view.writes (Elt F) f [⟨(Rect.unit (s := S2x8x84) ![0, 0, 0] S2x8x84.size inb_S2x8x84_S2x8x84_0_0_0), k0_pay3⟩]) = fun y => k0_pay3 ((Rect.unit (s := S2x8x84) ![0, 0, 0] S1x8x84.size inb_S2x8x84_S1x8x84_0_0_0).emb y) :=
    funext fun y => hz ((Rect.unit (s := S2x8x84) ![0, 0, 0] S1x8x84.size inb_S2x8x84_S1x8x84_0_0_0).emb y)
  have h1 : View.readAt (Elt F) m.view (Rect.unit (s := S2x8x84) ![1, 0, 0] S1x8x84.size inb_S2x8x84_S1x8x84_1_0_0).toLoadRect (m.view.writes (Elt F) f [⟨(Rect.unit (s := S2x8x84) ![0, 0, 0] S2x8x84.size inb_S2x8x84_S2x8x84_0_0_0), k0_pay3⟩]) = fun y => k0_pay3 ((Rect.unit (s := S2x8x84) ![1, 0, 0] S1x8x84.size inb_S2x8x84_S1x8x84_1_0_0).emb y) :=
    funext fun y => hz ((Rect.unit (s := S2x8x84) ![1, 0, 0] S1x8x84.size inb_S2x8x84_S1x8x84_1_0_0).emb y)
  refine read_rows2 m _ _ _ (fun l j => ?_) (fun l j => ?_)
  · rw [read27_0, h0] <;> rfl
  · rw [read27_1, h1] <;> rfl

/-- The output block of argument 29: the tile after the trips. -/
def blk29 (C : Fin k0_t1_loop.trips → Chunk F) : Vec F S1x8x42 .f32 := fun y =>
  iter (fun k t => (C k).v985 t) (fun y => k0_pay4 ((Rect.unit (s := S1x8x42) ![0, 0, 0] S1x8x42.size inb_S1x8x42_S1x8x42_0_0_0).emb y)) 7 (ix3 0 (y 1) (y 2))

theorem out29 (C : Fin k0_t1_loop.trips → Chunk F) (m : Memref sig .tc .vmem S1x8x42 .f32) (f : BufTy.Contents (Elt F) m.view.ty) :
    m.view.read (Elt F) (iter (st29 C m) (m.view.writes (Elt F) f [⟨(Rect.unit (s := S1x8x42) ![0, 0, 0] S1x8x42.size inb_S1x8x42_S1x8x42_0_0_0), k0_pay4⟩]) 7) = blk29 C := by
  have hz : ∀ y, m.view.read (Elt F) (m.view.writes (Elt F) f [⟨(Rect.unit (s := S1x8x42) ![0, 0, 0] S1x8x42.size inb_S1x8x42_S1x8x42_0_0_0), k0_pay4⟩]) y = k0_pay4 (F := F) y := fun y =>
    View.read_writes_cons_unit_of_mem (e := .f32) m.view f (off := ![0, 0, 0]) (off' := ![0, 0, 0]) (size := S1x8x42.size) inb_S1x8x42_S1x8x42_0_0_0 _ [] y y rfl (by intro a; match a with | 0 => exact (Nat.zero_add _).symm | 1 => exact (Nat.zero_add _).symm | 2 => exact (Nat.zero_add _).symm)
  funext y
  have h0 : (y 0).val < 1 := (y 0).isLt
  have e : y = ix3 (n0 := 1) (n1 := 8) (n2 := 42) 0 (y 1) (y 2) := by
    have e := eq_ix3 (n0 := 1) (n1 := 8) (n2 := 42) y
    have h : y 0 = (0 : Fin 1) := Fin.ext (show (y 0).val = 0 by omega)
    rw [h] at e; exact e
  have h0 : View.readAt (Elt F) m.view (Rect.unit (s := S1x8x42) ![0, 0, 0] S1x8x42.size inb_S1x8x42_S1x8x42_0_0_0).toLoadRect (m.view.writes (Elt F) f [⟨(Rect.unit (s := S1x8x42) ![0, 0, 0] S1x8x42.size inb_S1x8x42_S1x8x42_0_0_0), k0_pay4⟩]) = fun y => k0_pay4 ((Rect.unit (s := S1x8x42) ![0, 0, 0] S1x8x42.size inb_S1x8x42_S1x8x42_0_0_0).emb y) :=
    funext fun y => hz ((Rect.unit (s := S1x8x42) ![0, 0, 0] S1x8x42.size inb_S1x8x42_S1x8x42_0_0_0).emb y)
  refine (congrArg _ e).trans ((read29_0 C m _ (y 1) (y 2)).trans ?_)
  rw [blk29, h0] <;> rfl

/-- The output block of argument 21: the window scales' two rows. -/
def blk21 (x8 x9 : Vec F S1x8x128 .f32) : Vec F S2x8x84 .f32 :=
  rows2 (k0_pay103 (k0_pay102 (fun y => x8 ((Rect.unit (s := S1x8x128) ![0, 0, 0] S1x8x128.size inb_S1x8x128_S1x8x128_0_0_0).toLoadRect.idx y)))) (k0_pay105 lane (fun y => x9 ((Rect.unit (s := S1x8x128) ![0, 0, 0] S1x8x128.size inb_S1x8x128_S1x8x128_0_0_0).toLoadRect.idx y)))

/-- The output block of argument 23. -/
def blk23 (x4 x5 : Vec F S1x8x128 .f32) : Vec F S2x8x84 .f32 :=
  rows2 (k0_pay104 lane (fun y => x4 ((Rect.unit (s := S1x8x128) ![0, 0, 0] S1x8x128.size inb_S1x8x128_S1x8x128_0_0_0).toLoadRect.idx y))) (k0_pay1 (k0_pay106 lane (fun y => x5 ((Rect.unit (s := S1x8x128) ![0, 0, 0] S1x8x128.size inb_S1x8x128_S1x8x128_0_0_0).toLoadRect.idx y))))

end Cert.KernelIdeal.Val

end
-- ==== Proof.KernelBody.lean ====
/- One run of the kernel body at a grid point: the blocks it leaves in the output buffers. -/
module

public import proofs.«01_k».proof.Proof.Gen.KernelIdeal.Frame
public import proofs.«01_k».proof.Proof.KernelBlock
public import Idealize.ShloMosaic.Lib.Claim

@[expose] public section

set_option maxRecDepth 16384
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- One run of the kernel's body on whole staging buffers: the inputs end as they were, each output ends
    at its block. -/
theorem body_run (c : Dev nD) (i : grid0.Coords) (arg1 : Memref sig .tc .vmem S2x84x8x192 .bf16) (harg1 : arg1.IsWhole) (arg2 : Memref sig .tc .vmem S1x84x8x192 .i8) (harg2 : arg2.IsWhole) (arg3 : Memref sig .tc .vmem S1x84x8x192 .i8) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x84x8x192 .i8) (harg6 : arg6.IsWhole) (arg7 : Memref sig .tc .vmem S1x84x8x192 .i8) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S192x192 .i8) (harg10 : arg10.IsWhole) (arg11 : Memref sig .tc .vmem S192x768 .i8) (harg11 : arg11.IsWhole) (arg12 : Memref sig .tc .vmem S768x192 .i8) (harg12 : arg12.IsWhole) (arg13 : Memref sig .tc .vmem S768x384 .i8) (harg13 : arg13.IsWhole) (arg14 : Memref sig .tc .vmem S8x192 .f32) (harg14 : arg14.IsWhole) (arg15 : Memref sig .tc .vmem S2x768 .f32) (harg15 : arg15.IsWhole) (arg16 : Memref sig .tc .vmem S8x192 .f32) (harg16 : arg16.IsWhole) (arg17 : Memref sig .tc .vmem S1x384 .f32) (harg17 : arg17.IsWhole) (arg18 : Memref sig .tc .vmem S2x84x8x192 .bf16) (harg18 : arg18.IsWhole) (arg19 : Memref sig .tc .vmem S1x42x8x384 .bf16) (harg19 : arg19.IsWhole) (arg20 : Memref sig .tc .vmem S2x84x8x192 .i8) (harg20 : arg20.IsWhole) (arg21 : Memref sig .tc .vmem S2x8x84 .f32) (harg21 : arg21.IsWhole) (arg22 : Memref sig .tc .vmem S2x84x8x192 .i8) (harg22 : arg22.IsWhole) (arg23 : Memref sig .tc .vmem S2x8x84 .f32) (harg23 : arg23.IsWhole) (arg24 : Memref sig .tc .vmem S2x84x8x192 .i8) (harg24 : arg24.IsWhole) (arg25 : Memref sig .tc .vmem S2x8x84 .f32) (harg25 : arg25.IsWhole) (arg26 : Memref sig .tc .vmem S2x84x8x768 .i8) (harg26 : arg26.IsWhole) (arg27 : Memref sig .tc .vmem S2x8x84 .f32) (harg27 : arg27.IsWhole) (arg28 : Memref sig .tc .vmem S1x42x8x768 .i8) (harg28 : arg28.IsWhole) (arg29 : Memref sig .tc .vmem S1x8x42 .f32) (harg29 : arg29.IsWhole)
    (x1 : Vec F S2x84x8x192 .bf16) (x2 : Vec F S1x84x8x192 .i8) (x3 : Vec F S1x84x8x192 .i8) (x4 : Vec F S1x8x128 .f32) (x5 : Vec F S1x8x128 .f32) (x6 : Vec F S1x84x8x192 .i8) (x7 : Vec F S1x84x8x192 .i8) (x8 : Vec F S1x8x128 .f32) (x9 : Vec F S1x8x128 .f32) (x10 : Vec F S192x192 .i8) (x11 : Vec F S192x768 .i8) (x12 : Vec F S768x192 .i8) (x13 : Vec F S768x384 .i8) (x14 : Vec F S8x192 .f32) (x15 : Vec F S2x768 .f32) (x16 : Vec F S8x192 .f32) (x17 : Vec F S1x384 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (blk18 (chunkIn x1 x2 x3 x4 x5 x6 x7 x10 x11 x12 x13 x14 x15 x16 x17)) ∗ owns (c : Thread nD τ) arg19 fullShare (blk19 (chunkIn x1 x2 x3 x4 x5 x6 x7 x10 x11 x12 x13 x14 x15 x16 x17)) ∗ owns (c : Thread nD τ) arg20 fullShare (blk20 (chunkIn x1 x2 x3 x4 x5 x6 x7 x10 x11 x12 x13 x14 x15 x16 x17)) ∗ owns (c : Thread nD τ) arg21 fullShare (blk21 x8 x9) ∗ owns (c : Thread nD τ) arg22 fullShare (blk22 (chunkIn x1 x2 x3 x4 x5 x6 x7 x10 x11 x12 x13 x14 x15 x16 x17)) ∗ owns (c : Thread nD τ) arg23 fullShare (blk23 x4 x5) ∗ owns (c : Thread nD τ) arg24 fullShare (blk24 (chunkIn x1 x2 x3 x4 x5 x6 x7 x10 x11 x12 x13 x14 x15 x16 x17)) ∗ owns (c : Thread nD τ) arg25 fullShare (blk25 (chunkIn x1 x2 x3 x4 x5 x6 x7 x10 x11 x12 x13 x14 x15 x16 x17)) ∗ owns (c : Thread nD τ) arg26 fullShare (blk26 (chunkIn x1 x2 x3 x4 x5 x6 x7 x10 x11 x12 x13 x14 x15 x16 x17)) ∗ owns (c : Thread nD τ) arg27 fullShare (blk27 (chunkIn x1 x2 x3 x4 x5 x6 x7 x10 x11 x12 x13 x14 x15 x16 x17)) ∗ owns (c : Thread nD τ) arg28 fullShare (blk28 (chunkIn x1 x2 x3 x4 x5 x6 x7 x10 x11 x12 x13 x14 x15 x16 x17)) ∗ owns (c : Thread nD τ) arg29 fullShare (blk29 (chunkIn x1 x2 x3 x4 x5 x6 x7 x10 x11 x12 x13 x14 x15 x16 x17))) -∗ K ⟨⟩))
      ⊢ wp frame (wpE (defs₀ (F := F)) Variants.none c none) E (cc0_mlp_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_mlp_merge_eq_skeleton]; unfold cc0_mlp_merge_skel
  simp only [k0_part21_eq_skeleton, k0_part22_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec
  sl_step
  iapply Hk
  have hT : Scf.trips k0_t1_loop.lb k0_t1_loop.ub k0_t1_loop.st = 7 := trips_eq
  have hC : (chunkOf F arg1 arg2 arg3 arg6 arg7 arg10 arg11 arg12 arg13 arg16 arg17 arg23 (body_run.sl.r c arg14 harg14 x14) (body_run.sl.r_1 c arg14 harg14 x14) (body_run.sl.r_2 c arg14 harg14 x14) (body_run.sl.r_3 c arg14 harg14 x14) (body_run.sl.r_4 c arg14 harg14 x14) (body_run.sl.r_5 c arg14 harg14 x14) (body_run.sl.r_6 c arg14 harg14 x14) (body_run.sl.r_7 c arg14 harg14 x14) (body_run.sl.r_8 c arg15 harg15 x15) (body_run.sl.r_9 c arg15 harg15 x15) body_run.sl.v20 (harg1.unread x1) (harg2.unread x2) (harg3.unread x3) (harg6.unread x6) (harg7.unread x7) (harg10.unread x10) (harg11.unread x11) (harg12.unread x12) (harg13.unread x13) (harg16.unread x16) (harg17.unread x17) (arg23.view.writes (Elt F) arg23.view.junk (body_run.sl.H23_2 c arg4 harg4 arg5 harg5 x4 x5))) = (chunkIn x1 x2 x3 x4 x5 x6 x7 x10 x11 x12 x13 x14 x15 x16 x17) := by
    delta body_run.sl.r body_run.sl.r_1 body_run.sl.r_2 body_run.sl.r_3 body_run.sl.r_4 body_run.sl.r_5 body_run.sl.r_6 body_run.sl.r_7 body_run.sl.r_8 body_run.sl.r_9 body_run.sl.v20
    refine chunkOf_eq arg1 harg1 arg2 harg2 arg3 harg3 arg4 harg4 arg5 harg5 arg6 harg6 arg7 harg7 arg10 harg10 arg11 harg11 arg12 harg12 arg13 harg13 arg14 harg14 arg15 harg15 arg16 harg16 arg17 harg17 arg23 x1 x2 x3 x4 x5 x6 x7 x10 x11 x12 x13 x14 x15 x16 x17 _ ?_ ?_
    · delta body_run.sl.H23_2
      exact rows_read0 arg23 _ _ _
    · delta body_run.sl.H23_2 body_run.sl.r_12
      exact rows_read1 arg23 _ _ _
  rw [hT]
  rw [hC]
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; swap; · iexact H18
    ipureintro; exact out18 _ arg18 _
  isplitl [H19]
  · iexists _; isplitr; swap; · iexact H19
    ipureintro; exact out19 _ arg19 _
  isplitl [H20]
  · iexists _; isplitr; swap; · iexact H20
    ipureintro; exact out20 _ arg20 _
  isplitl [H21]
  · iexists _; isplitr; swap; · iexact H21
    ipureintro; delta body_run.sl.H21_2 body_run.sl.r_10 body_run.sl.v20
    have e8 : View.readAt (Elt F) arg8.view (Rect.unit (s := S1x8x128) ![0, 0, 0] S1x8x128.size inb_S1x8x128_S1x8x128_0_0_0).toLoadRect (harg8.unread x8) = fun y => x8 ((Rect.unit (s := S1x8x128) ![0, 0, 0] S1x8x128.size inb_S1x8x128_S1x8x128_0_0_0).toLoadRect.idx y) :=
      funext fun y => harg8.readAt_unread x8 _ y
    have e9 : View.readAt (Elt F) arg9.view (Rect.unit (s := S1x8x128) ![0, 0, 0] S1x8x128.size inb_S1x8x128_S1x8x128_0_0_0).toLoadRect (harg9.unread x9) = fun y => x9 ((Rect.unit (s := S1x8x128) ![0, 0, 0] S1x8x128.size inb_S1x8x128_S1x8x128_0_0_0).toLoadRect.idx y) :=
      funext fun y => harg9.readAt_unread x9 _ y
    rw [e8, e9]
    exact rows_read (F := F) arg21 arg21.view.junk _ _
  isplitl [H22]
  · iexists _; isplitr; swap; · iexact H22
    ipureintro; exact out22 _ arg22 _
  isplitl [H23]
  · iexists _; isplitr; swap; · iexact H23
    ipureintro; delta body_run.sl.H23_2 body_run.sl.r_12 body_run.sl.v20
    have e4 : View.readAt (Elt F) arg4.view (Rect.unit (s := S1x8x128) ![0, 0, 0] S1x8x128.size inb_S1x8x128_S1x8x128_0_0_0).toLoadRect (harg4.unread x4) = fun y => x4 ((Rect.unit (s := S1x8x128) ![0, 0, 0] S1x8x128.size inb_S1x8x128_S1x8x128_0_0_0).toLoadRect.idx y) :=
      funext fun y => harg4.readAt_unread x4 _ y
    have e5 : View.readAt (Elt F) arg5.view (Rect.unit (s := S1x8x128) ![0, 0, 0] S1x8x128.size inb_S1x8x128_S1x8x128_0_0_0).toLoadRect (harg5.unread x5) = fun y => x5 ((Rect.unit (s := S1x8x128) ![0, 0, 0] S1x8x128.size inb_S1x8x128_S1x8x128_0_0_0).toLoadRect.idx y) :=
      funext fun y => harg5.readAt_unread x5 _ y
    rw [e4, e5]
    exact rows_read (F := F) arg23 arg23.view.junk _ _
  isplitl [H24]
  · iexists _; isplitr; swap; · iexact H24
    ipureintro; exact out24 _ arg24 _
  isplitl [H25]
  · iexists _; isplitr; swap; · iexact H25
    ipureintro; exact out25 _ arg25 _
  isplitl [H26]
  · iexists _; isplitr; swap; · iexact H26
    ipureintro; exact out26 _ arg26 _
  isplitl [H27]
  · iexists _; isplitr; swap; · iexact H27
    ipureintro; exact out27 _ arg27 _
  isplitl [H28]
  · iexists _; isplitr; swap; · iexact H28
    ipureintro; exact out28 _ arg28 _
  · iexists _; isplitr; swap; · iexact H29
    ipureintro; exact out29 _ arg29 _

end Cert.KernelIdeal.Val

end
-- ==== Proof.KernelRun.lean ====
/- The run of the kernel: it ends from every memory, leaves its arguments as they were and every counter at zero, and
   its result arrays are put together from the output blocks of the grid points. -/
module

public import proofs.«01_k».proof.Proof.Gen.KernelIdeal.Frame
public import proofs.«01_k».proof.Proof.KernelBody
public import Idealize.ShloMosaic.Lib.Claim

@[expose] public section

set_option maxRecDepth 16384
noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffer of each window at grid point `t`. -/
abbrev ms0_0 (t : Fin cfg0.N) : Memref sig .tc .vmem S2x84x8x192 .bf16 := win0_0.stage (cfg0.slots t 0)
abbrev ms0_1 (t : Fin cfg0.N) : Memref sig .tc .vmem S1x84x8x192 .i8 := win0_1.stage (cfg0.slots t 1)
abbrev ms0_2 (t : Fin cfg0.N) : Memref sig .tc .vmem S1x84x8x192 .i8 := win0_2.stage (cfg0.slots t 2)
abbrev ms0_3 (t : Fin cfg0.N) : Memref sig .tc .vmem S1x8x128 .f32 := win0_3.stage (cfg0.slots t 3)
abbrev ms0_4 (t : Fin cfg0.N) : Memref sig .tc .vmem S1x8x128 .f32 := win0_4.stage (cfg0.slots t 4)
abbrev ms0_5 (t : Fin cfg0.N) : Memref sig .tc .vmem S1x84x8x192 .i8 := win0_5.stage (cfg0.slots t 5)
abbrev ms0_6 (t : Fin cfg0.N) : Memref sig .tc .vmem S1x84x8x192 .i8 := win0_6.stage (cfg0.slots t 6)
abbrev ms0_7 (t : Fin cfg0.N) : Memref sig .tc .vmem S1x8x128 .f32 := win0_7.stage (cfg0.slots t 7)
abbrev ms0_8 (t : Fin cfg0.N) : Memref sig .tc .vmem S1x8x128 .f32 := win0_8.stage (cfg0.slots t 8)
abbrev ms0_9 (t : Fin cfg0.N) : Memref sig .tc .vmem S192x192 .i8 := win0_9.stage (cfg0.slots t 9)
abbrev ms0_10 (t : Fin cfg0.N) : Memref sig .tc .vmem S192x768 .i8 := win0_10.stage (cfg0.slots t 10)
abbrev ms0_11 (t : Fin cfg0.N) : Memref sig .tc .vmem S768x192 .i8 := win0_11.stage (cfg0.slots t 11)
abbrev ms0_12 (t : Fin cfg0.N) : Memref sig .tc .vmem S768x384 .i8 := win0_12.stage (cfg0.slots t 12)
abbrev ms0_13 (t : Fin cfg0.N) : Memref sig .tc .vmem S8x192 .f32 := win0_13.stage (cfg0.slots t 13)
abbrev ms0_14 (t : Fin cfg0.N) : Memref sig .tc .vmem S2x768 .f32 := win0_14.stage (cfg0.slots t 14)
abbrev ms0_15 (t : Fin cfg0.N) : Memref sig .tc .vmem S8x192 .f32 := win0_15.stage (cfg0.slots t 15)
abbrev ms0_16 (t : Fin cfg0.N) : Memref sig .tc .vmem S1x384 .f32 := win0_16.stage (cfg0.slots t 16)
abbrev ms0_17 (t : Fin cfg0.N) : Memref sig .tc .vmem S2x84x8x192 .bf16 := win0_17.stage (cfg0.slots t 17)
abbrev ms0_18 (t : Fin cfg0.N) : Memref sig .tc .vmem S1x42x8x384 .bf16 := win0_18.stage (cfg0.slots t 18)
abbrev ms0_19 (t : Fin cfg0.N) : Memref sig .tc .vmem S2x84x8x192 .i8 := win0_19.stage (cfg0.slots t 19)
abbrev ms0_20 (t : Fin cfg0.N) : Memref sig .tc .vmem S2x8x84 .f32 := win0_20.stage (cfg0.slots t 20)
abbrev ms0_21 (t : Fin cfg0.N) : Memref sig .tc .vmem S2x84x8x192 .i8 := win0_21.stage (cfg0.slots t 21)
abbrev ms0_22 (t : Fin cfg0.N) : Memref sig .tc .vmem S2x8x84 .f32 := win0_22.stage (cfg0.slots t 22)
abbrev ms0_23 (t : Fin cfg0.N) : Memref sig .tc .vmem S2x84x8x192 .i8 := win0_23.stage (cfg0.slots t 23)
abbrev ms0_24 (t : Fin cfg0.N) : Memref sig .tc .vmem S2x8x84 .f32 := win0_24.stage (cfg0.slots t 24)
abbrev ms0_25 (t : Fin cfg0.N) : Memref sig .tc .vmem S2x84x8x768 .i8 := win0_25.stage (cfg0.slots t 25)
abbrev ms0_26 (t : Fin cfg0.N) : Memref sig .tc .vmem S2x8x84 .f32 := win0_26.stage (cfg0.slots t 26)
abbrev ms0_27 (t : Fin cfg0.N) : Memref sig .tc .vmem S1x42x8x768 .i8 := win0_27.stage (cfg0.slots t 27)
abbrev ms0_28 (t : Fin cfg0.N) : Memref sig .tc .vmem S1x8x42 .f32 := win0_28.stage (cfg0.slots t 28)

/-- What trip `k` at grid point `t` works on. -/
def chunkAt (c : Dev nD) (t : Fin cfg0.N) : Fin k0_t1_loop.trips → Chunk F :=
  chunkIn (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t)

/-- The proof data of the one pipeline on core `c`: the arrays as the region finds them (`V`); after the body at
    point `t` each input's buffer at its block and the outputs at their blocks; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (blk18 (chunkAt m c t))
    | ⟨18, _⟩ => (blk19 (chunkAt m c t))
    | ⟨19, _⟩ => (blk20 (chunkAt m c t))
    | ⟨20, _⟩ => (blk21 (iblk m c 7 t) (iblk m c 8 t))
    | ⟨21, _⟩ => (blk22 (chunkAt m c t))
    | ⟨22, _⟩ => (blk23 (iblk m c 3 t) (iblk m c 4 t))
    | ⟨23, _⟩ => (blk24 (chunkAt m c t))
    | ⟨24, _⟩ => (blk25 (chunkAt m c t))
    | ⟨25, _⟩ => (blk26 (chunkAt m c t))
    | ⟨26, _⟩ => (blk27 (chunkAt m c t))
    | ⟨27, _⟩ => (blk28 (chunkAt m c t))
    | ⟨28, _⟩ => (blk29 (chunkAt m c t))
    | ⟨_ + 29, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (blk18 (chunkAt m c t)) := by dsimp only [dats]
theorem after0_18 (c : Dev nD) (t : Fin cfg0.N) : (dats m 0 c).after 18 t = (blk19 (chunkAt m c t)) := by dsimp only [dats]
theorem after0_19 (c : Dev nD) (t : Fin cfg0.N) : (dats m 0 c).after 19 t = (blk20 (chunkAt m c t)) := by dsimp only [dats]
theorem after0_20 (c : Dev nD) (t : Fin cfg0.N) : (dats m 0 c).after 20 t = (blk21 (iblk m c 7 t) (iblk m c 8 t)) := by dsimp only [dats]
theorem after0_21 (c : Dev nD) (t : Fin cfg0.N) : (dats m 0 c).after 21 t = (blk22 (chunkAt m c t)) := by dsimp only [dats]
theorem after0_22 (c : Dev nD) (t : Fin cfg0.N) : (dats m 0 c).after 22 t = (blk23 (iblk m c 3 t) (iblk m c 4 t)) := by dsimp only [dats]
theorem after0_23 (c : Dev nD) (t : Fin cfg0.N) : (dats m 0 c).after 23 t = (blk24 (chunkAt m c t)) := by dsimp only [dats]
theorem after0_24 (c : Dev nD) (t : Fin cfg0.N) : (dats m 0 c).after 24 t = (blk25 (chunkAt m c t)) := by dsimp only [dats]
theorem after0_25 (c : Dev nD) (t : Fin cfg0.N) : (dats m 0 c).after 25 t = (blk26 (chunkAt m c t)) := by dsimp only [dats]
theorem after0_26 (c : Dev nD) (t : Fin cfg0.N) : (dats m 0 c).after 26 t = (blk27 (chunkAt m c t)) := by dsimp only [dats]
theorem after0_27 (c : Dev nD) (t : Fin cfg0.N) : (dats m 0 c).after 27 t = (blk28 (chunkAt m c t)) := by dsimp only [dats]
theorem after0_28 (c : Dev nD) (t : Fin cfg0.N) : (dats m 0 c).after 28 t = (blk29 (chunkAt m c t)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 2800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what its blocks make of it, and every
    other unscoped buffer as it was. -/
theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 1740000 in
/-- From a run in which every input window's array is unchanged, the arguments are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).1 4).trans (((dats 0 c).arrAt_in 4 rfl _).trans ((hA c 4).trans (V_main_arg2 m c))),
      ((h c).1 6).trans (((dats 0 c).arrAt_in 6 rfl _).trans ((hA c 6).trans (V_main_arg3 m c))),
      ((h c).1 8).trans (((dats 0 c).arrAt_in 8 rfl _).trans ((hA c 8).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 10).trans (((dats 0 c).arrAt_in 10 rfl _).trans ((hA c 10).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 11).trans (((dats 0 c).arrAt_in 11 rfl _).trans ((hA c 11).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).1 12).trans (((dats 0 c).arrAt_in 12 rfl _).trans ((hA c 12).trans (V_main_arg20 m c))),
      ((h c).2 main_arg21 (Pipeline.mem_restRefs_of main_arg21 (by decide) (by decide))).trans (V_main_arg21 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- THE FRAME: `Cert.quiescent_KernelIdeal`'s statement (Defs.lean) at any `F` — Proof.lean cites it at `Bits`:
    Proof.lean. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.KernelIdeal.Val

end
-- ==== Proof.Rows.lean ====
module

public import Idealize.ShloMosaic.Lib.Pointwise

@[expose] public section

/-! The arithmetic of one token's row over the extended reals: the eight-bit quantiser, the layer norm, the
linear layers and the activation, in the form the reference writes them, and the forms in which the kernel
writes the same numbers. -/

open Idealize.ShloMosaic

namespace Cert.Rows

/-- The largest magnitude in a row. -/
noncomputable def amax {n : Nat} (f : Fin n → EReal) : EReal :=
  Finset.univ.fold max (Ideal.ofBits .f32 4286578688#32) fun x => max (f x) (-(f x))

/-- The quantiser's scale of a row: its largest magnitude over 127, or one for a row of zeros. -/
noncomputable def scale {n : Nat} (f : Fin n → EReal) : EReal :=
  if amax f = 0 then 1 else Ideal.div (amax f) (Ideal.ofBits .f32 1123942400#32)

/-- The quantiser's code of one entry, still as a float: divided by the scale, rounded to even, clamped. -/
noncomputable def codef (v s : EReal) : EReal :=
  min (((127 : ℤ) : ℝ) : EReal) (max (((-127 : ℤ) : ℝ) : EReal) (Ideal.liftRound Ideal.roundHalfEven (Ideal.div v s)))

/-- The quantiser's code of one entry. -/
noncomputable def code (v s : EReal) : BitVec 8 := Ideal.fptosi 8 (codef v s)

/-- A code read back as a number. -/
noncomputable def back (c : BitVec 8) : EReal := ((c.toInt : ℝ) : EReal)

/-- The mean of a row, the divisor given by its bit pattern. -/
noncomputable def mean (N : BitVec 32) {n : Nat} (f : Fin n → EReal) : EReal :=
  Ideal.div (∑ x, f x) (Ideal.ofBits .f32 N)

/-- The layer norm of a row. -/
noncomputable def lnorm (N : BitVec 32) {n : Nat} (f g b : Fin n → EReal) (j : Fin n) : EReal :=
  Ideal.div (f j - mean N f)
    (Ideal.sqrt (Ideal.div (∑ x, (f x - mean N f) * (f x - mean N f)) (Ideal.ofBits .f32 N)
      + Ideal.ofBits .f32 925353388#32)) * g j + b j

/-- The activation. -/
noncomputable def gelu (z : EReal) : EReal :=
  Ideal.ofBits .f32 1056964608#32 * z * (1 + Ideal.erf (z * Ideal.ofBits .f32 1060439283#32))

/-! ### Constants -/

theorem ofBits_127 : Ideal.ofBits .f32 1123942400#32 = ((127 : ℝ) : EReal) := by
  simp [Ideal.ofBits, Ideal.ieee, -EReal.coe_mul]; norm_num

theorem ofBits_neg127 : Ideal.ofBits .f32 3271426048#32 = ((-127 : ℝ) : EReal) := by
  simp [Ideal.ofBits, Ideal.ieee, -EReal.coe_mul]; norm_num

theorem ofBits_192 : Ideal.ofBits .f32 1128267776#32 = ((192 : ℝ) : EReal) := by
  simp [Ideal.ofBits, Ideal.ieee, -EReal.coe_mul]; norm_num

theorem ofBits_768 : Ideal.ofBits .f32 1145044992#32 = ((768 : ℝ) : EReal) := by
  simp [Ideal.ofBits, Ideal.ieee, -EReal.coe_mul]; norm_num

theorem ofBits_eps : ∃ r : ℝ, 0 < r ∧ Ideal.ofBits .f32 925353388#32 = (r : EReal) := by
  refine ⟨_, ?_, by simp [Ideal.ofBits, Ideal.ieee, -EReal.coe_mul]; rfl⟩
  norm_num

theorem ofBits_bot : Ideal.ofBits .f32 4286578688#32 = ⊥ := by
  simp [Ideal.ofBits, Ideal.ieee, -EReal.coe_mul]

/-! ### The quantiser -/

/-- A row's scale is not zero. -/
theorem scale_ne_zero {n : Nat} (f : Fin n → EReal) : scale f ≠ 0 := by
  unfold scale
  split
  · exact one_ne_zero
  · rename_i h
    rw [ofBits_127, Ideal.div_coe (by norm_num)]
    refine mul_ne_zero h ?_
    exact_mod_cast (by norm_num : (1 / 127 : ℝ) ≠ 0)

/-- Multiplying by the reciprocal of a nonzero number is dividing by it. -/
theorem mul_recip {v s : EReal} (h : s ≠ 0) : v * Ideal.div 1 s = Ideal.div v s := by
  simp [Ideal.div, h]

/-- The code of one entry as the kernel computes it: by the reciprocal of the scale. -/
theorem codef_recip {v s : EReal} (h : s ≠ 0) :
    min (Ideal.ofBits .f32 1123942400#32) (max (Ideal.ofBits .f32 3271426048#32)
      (Ideal.liftRound Ideal.roundHalfEven (v * Ideal.div 1 s))) = codef v s := by
  rw [mul_recip h, ofBits_127, ofBits_neg127, codef]
  norm_num

/-- A clamped code is a whole number between -127 and 127. -/
theorem codef_int (v s : EReal) : ∃ k : ℤ, -127 ≤ k ∧ k ≤ 127 ∧ codef v s = ((k : ℝ) : EReal) := by
  unfold codef
  generalize Ideal.div v s = z
  induction z using EReal.rec with
  | bot =>
    refine ⟨-127, by norm_num, by norm_num, ?_⟩
    rw [Ideal.liftRound_bot, max_eq_left bot_le, min_eq_right]
    exact_mod_cast (by norm_num : (-127 : ℤ) ≤ 127)
  | top =>
    refine ⟨127, by norm_num, by norm_num, ?_⟩
    rw [Ideal.liftRound_top, max_eq_right le_top, min_eq_left le_top]
  | coe r =>
    refine ⟨min 127 (max (-127) (Ideal.roundHalfEven r)), by omega, by omega, ?_⟩
    rw [Ideal.liftRound_coe]
    push_cast
    rfl

/-- A code read back is the rounded and clamped float it was made from. -/
theorem back_code (v s : EReal) : back (code v s) = codef v s := by
  obtain ⟨k, h1, h2, h⟩ := codef_int v s
  have e : Ideal.fptosi 8 ((k : ℝ) : EReal) = BitVec.ofInt 8 k := by
    rw [Ideal.fptosi, Ideal.toIntClamped_coe]
    congr 1
    simp only [Int.floor_intCast, Int.ceil_intCast, ite_self]
    norm_num
    omega
  rw [back, code, h, e, BitVec.toInt_ofInt]
  congr 2
  rw [Int.bmod_eq_of_le (by norm_num; omega) (by norm_num; omega)]

/-! ### The layer norm -/

/-- Dividing by the square root of a positive number is multiplying by its reciprocal square root. -/
theorem div_sqrt {c v : EReal} (h : 0 < v) : Ideal.div c (Ideal.sqrt v) = c * Ideal.rsqrt v := by
  induction v using EReal.rec with
  | bot => simp at h
  | top => simp [Ideal.div]
  | coe r =>
    have hr : 0 < r := by exact_mod_cast h
    have hs : Real.sqrt r ≠ 0 := (Real.sqrt_pos.mpr hr).ne'
    rw [Ideal.sqrt_coe, Ideal.rsqrt_coe, if_neg (by linarith), if_neg (by linarith), if_neg hr.ne', Ideal.div_coe hs,
      one_div]

theorem mul_self_nonneg' (a : EReal) : 0 ≤ a * a := by
  rcases le_total 0 a with h | h
  · exact EReal.mul_nonneg h h
  · rw [← neg_mul_neg]
    have h' : 0 ≤ -a := by simpa using EReal.neg_le_neg_iff.mpr h
    exact EReal.mul_nonneg h' h'

/-- A positive multiple of a sum of squares plus the norm's small constant is positive. -/
theorem var_pos {n : Nat} (f : Fin n → EReal) {N : ℝ} (hN : 0 < N) :
    0 < Ideal.div (∑ x, f x * f x) (N : EReal) + Ideal.ofBits .f32 925353388#32 := by
  obtain ⟨r, hr, e⟩ := ofBits_eps
  rw [e, Ideal.div_coe hN.ne']
  refine lt_of_lt_of_le (b := (r : EReal)) (by exact_mod_cast hr) ?_
  have h : (0 : EReal) ≤ (∑ x, f x * f x) * ((1 / N : ℝ) : EReal) :=
    EReal.mul_nonneg (Finset.sum_nonneg fun x _ => mul_self_nonneg' _) (by exact_mod_cast (by positivity : (0:ℝ) ≤ 1 / N))
  calc (r : EReal) = 0 + r := (zero_add _).symm
    _ ≤ _ := add_le_add_left h _

/-- The layer norm of 192 entries as the kernel computes it: means by the reciprocal of 192, and a reciprocal
    square root. -/
theorem lnorm_192 (f g b : Fin 192 → EReal) (j : Fin 192) :
    (f j - (∑ x, f x) * ((1 / 192 : ℝ) : EReal)) *
      Ideal.rsqrt ((∑ x, (f x - (∑ x, f x) * ((1 / 192 : ℝ) : EReal)) * (f x - (∑ x, f x) * ((1 / 192 : ℝ) : EReal)))
        * ((1 / 192 : ℝ) : EReal) + Ideal.ofBits .f32 925353388#32) * g j + b j
      = lnorm 1128267776#32 f g b j := by
  have hm : (∑ x, f x) * ((1 / 192 : ℝ) : EReal) = mean 1128267776#32 f := by
    rw [mean, ofBits_192, Ideal.div_coe (by norm_num)]
  rw [hm, lnorm, ofBits_192, ← Ideal.div_coe (by norm_num : (192:ℝ) ≠ 0), div_sqrt (var_pos _ (by norm_num))]

/-! ### A row of 768 entries made of four rows of 192 -/

/-- Four rows of 192 entries one after the other. -/
noncomputable def cat (y : Fin 4 → Fin 192 → EReal) (j : Fin 768) : EReal :=
  y ⟨j / 192, by omega⟩ ⟨j % 192, by omega⟩

/-- The sum of the 768 entries is the sum over the 192 columns of the four rows' entries. -/
theorem sum_cat (y : Fin 4 → Fin 192 → EReal) :
    ∑ x, cat y x = ∑ c, (y 0 c + y 1 c + y 2 c + y 3 c) := by
  have e : ∑ x, cat y x = ∑ p : Fin 4 × Fin 192, y p.1 p.2 := by
    rw [← Equiv.sum_comp (finProdFinEquiv (m := 4) (n := 192)) (cat y)]
    refine Finset.sum_congr rfl fun p _ => ?_
    unfold cat
    have h1 : ((finProdFinEquiv p : Fin (4 * 192)) : Nat) = p.2 + 192 * p.1 := rfl
    congr 1
    · apply Fin.ext
      show ((finProdFinEquiv p : Fin (4 * 192)) : Nat) / 192 = p.1
      rw [h1]; omega
    · apply Fin.ext
      show ((finProdFinEquiv p : Fin (4 * 192)) : Nat) % 192 = p.2
      rw [h1]; omega
  rw [e, Fintype.sum_prod_type_right]
  exact Finset.sum_congr rfl fun c _ => Fin.sum_univ_four _

end Cert.Rows
-- ==== Proof.Token.lean ====
/- One token through the block after attention, and four tokens through the downsampling, over the extended
   reals: the functions both programs are shown to compute. -/
module

public import proofs.«01_k».proof.Proof.Rows

@[expose] public section

noncomputable section

open Idealize.ShloMosaic

namespace Cert.Rows

/-- The weights (as codes), their column scales, the biases and the norms' parameters. -/
structure Par where
  wp : Fin 192 → Fin 192 → BitVec 8
  sp : Fin 192 → EReal
  bp : Fin 192 → EReal
  g1 : Fin 192 → EReal
  b1 : Fin 192 → EReal
  wf : Fin 192 → Fin 768 → BitVec 8
  sf : Fin 768 → EReal
  bf : Fin 768 → EReal
  wo : Fin 768 → Fin 192 → BitVec 8
  so : Fin 192 → EReal
  bo : Fin 192 → EReal
  g2 : Fin 192 → EReal
  b2 : Fin 192 → EReal
  g3 : Fin 768 → EReal
  b3 : Fin 768 → EReal
  wd : Fin 768 → Fin 384 → BitVec 8
  sd : Fin 384 → EReal

/-- One token: its stream entry, its attention output's codes and their scale. -/
structure Tok where
  x : Fin 192 → EReal
  o : Fin 192 → BitVec 8
  s : EReal

variable (P : Par) (T : Tok)

/-- The projection of the attention output. -/
def proj (j : Fin 192) : EReal := (∑ c, back (T.o c) * back (P.wp c j)) * T.s * P.sp j + P.bp j

/-- The stream after the attention branch. -/
def y1 (j : Fin 192) : EReal := T.x j + lnorm 1128267776#32 (proj P T) P.g1 P.b1 j

/-- The scale of the stream's codes. -/
def ms : EReal := scale (y1 P T)

/-- The hidden layer. -/
def hid (j : Fin 768) : EReal :=
  gelu ((∑ c, codef (y1 P T c) (ms P T) * back (P.wf c j)) * ms P T * P.sf j + P.bf j)

/-- The scale of the hidden layer's codes. -/
def hs : EReal := scale (hid P T)

/-- The second layer. -/
def out (j : Fin 192) : EReal :=
  (∑ c, codef (hid P T c) (hs P T) * back (P.wo c j)) * hs P T * P.so j + P.bo j

/-- The stream after the block. -/
def y2 (j : Fin 192) : EReal := y1 P T j + lnorm 1128267776#32 (out P T) P.g2 P.b2 j

variable (Q : Fin 4 → Tok)

/-- Four neighbouring tokens side by side, normed. -/
def merged (x : Fin 768) : EReal := lnorm 1145044992#32 (cat fun a => y2 P (Q a)) P.g3 P.b3 x

/-- The scale of the merged tokens' codes. -/
def ds : EReal := scale (merged P Q)

/-- The downsampled token. -/
def down (j : Fin 384) : EReal :=
  (∑ c, codef (merged P Q c) (ds P Q) * back (P.wd c j)) * ds P Q * P.sd j

/-! ### The merged norm as the kernel computes it -/

variable (y : Fin 4 → Fin 192 → EReal)

/-- The mean of the four rows as the kernel computes it. -/
def mean4 : EReal := (∑ c, (y 0 c + y 1 c + y 2 c + y 3 c)) * ((1 / 768 : ℝ) : EReal)

theorem mean4_eq : mean4 y = mean 1145044992#32 (cat y) := by
  rw [mean4, mean, ofBits_768, Ideal.div_coe (by norm_num), sum_cat]

/-- The reciprocal square root of the four rows' variance as the kernel computes it. -/
def rstd4 : EReal :=
  Ideal.rsqrt ((∑ c, ((y 0 c - mean4 y) * (y 0 c - mean4 y) + (y 1 c - mean4 y) * (y 1 c - mean4 y)
    + (y 2 c - mean4 y) * (y 2 c - mean4 y) + (y 3 c - mean4 y) * (y 3 c - mean4 y))) * ((1 / 768 : ℝ) : EReal)
    + Ideal.ofBits .f32 925353388#32)

/-- The layer norm of the 768 entries, an entry of row `x / 192`. -/
theorem lnorm_768 (g b : Fin 768 → EReal) (x : Fin 768) :
    (y ⟨x / 192, by omega⟩ ⟨x % 192, by omega⟩ - mean4 y) * rstd4 y * g x + b x
      = lnorm 1145044992#32 (cat y) g b x := by
  have h := sum_cat fun a c => (y a c - mean4 y) * (y a c - mean4 y)
  have h' : ∑ x, (cat y x - mean4 y) * (cat y x - mean4 y)
      = ∑ x, cat (fun a c => (y a c - mean4 y) * (y a c - mean4 y)) x := rfl
  have e : rstd4 y = Ideal.rsqrt (Ideal.div (∑ x, (cat y x - mean4 y) * (cat y x - mean4 y)) (Ideal.ofBits .f32 1145044992#32)
      + Ideal.ofBits .f32 925353388#32) := by
    rw [h', h, rstd4, ofBits_768, Ideal.div_coe (by norm_num)]
  rw [e, ofBits_768, lnorm, ← mean4_eq, ofBits_768, div_sqrt (var_pos _ (by norm_num))]
  rfl

/-- The largest magnitude of the 768 entries, column by column. -/
theorem amax_cat : amax (cat y) = Finset.univ.fold max (Ideal.ofBits .f32 4286578688#32) fun c =>
    max (max (max (max (y 0 c) (-(y 0 c))) (max (y 1 c) (-(y 1 c)))) (max (y 2 c) (-(y 2 c)))) (max (y 3 c) (-(y 3 c))) := by
  refine eq_of_forall_ge_iff fun z => ?_
  rw [amax, Finset.fold_max_le, Finset.fold_max_le]
  refine and_congr_right fun _ => ⟨fun h c _ => ?_, fun h x _ => ?_⟩
  · have k : ∀ a : Fin 4, max (y a c) (-(y a c)) ≤ z := fun a => by
      have := h (⟨a * 192 + c, by omega⟩ : Fin 768) (Finset.mem_univ _)
      have e : cat y (⟨a * 192 + c, by omega⟩ : Fin 768) = y a c := by
        unfold cat
        congr 1
        · apply Fin.ext; show (a * 192 + c : ℕ) / 192 = a; omega
        · apply Fin.ext; show (a * 192 + c : ℕ) % 192 = c; omega
      rwa [e] at this
    exact max_le (max_le (max_le (k 0) (k 1)) (k 2)) (k 3)
  · have k := h ⟨x % 192, by omega⟩ (Finset.mem_univ _)
    have k4 : ∀ a : Fin 4, max (y a ⟨x % 192, by omega⟩) (-(y a ⟨x % 192, by omega⟩)) ≤ z := by
      simp only [max_le_iff] at k ⊢
      intro a
      match a with
      | 0 => exact k.1.1.1
      | 1 => exact k.1.1.2
      | 2 => exact k.1.2
      | 3 => exact k.2
    exact k4 _

/-! ### An entry of four rows side by side -/

theorem cat_0 (j : Fin 768) (h : j.val < 192) : cat y j = y 0 ⟨j, h⟩ := by
  unfold cat
  congr 1
  · apply Fin.ext; show (j / 192 : ℕ) = 0; omega
  · apply Fin.ext; show (j % 192 : ℕ) = j; omega

theorem cat_1 (j : Fin 768) (h0 : ¬j.val < 192) (h : j.val - 192 < 192) : cat y j = y 1 ⟨j - 192, h⟩ := by
  unfold cat
  congr 1
  · apply Fin.ext; show (j / 192 : ℕ) = 1; omega
  · apply Fin.ext; show (j % 192 : ℕ) = j - 192; omega

theorem cat_2 (j : Fin 768) (h0 : ¬j.val - 192 < 192) (h : j.val - 192 - 192 < 192) : cat y j = y 2 ⟨j - 192 - 192, h⟩ := by
  unfold cat
  congr 1
  · apply Fin.ext; show (j / 192 : ℕ) = 2; omega
  · apply Fin.ext; show (j % 192 : ℕ) = j - 192 - 192; omega

theorem cat_3 (j : Fin 768) (h0 : ¬j.val - 192 - 192 < 192) :
    cat y j = y 3 ⟨j - 192 - 192 - 192, by have := j.isLt; omega⟩ := by
  have hj := j.isLt
  unfold cat
  congr 1
  · apply Fin.ext; show (j / 192 : ℕ) = 3; omega
  · apply Fin.ext; show (j % 192 : ℕ) = j - 192 - 192 - 192; omega

end Cert.Rows

end
-- ==== Proof.KernelRows.lean ====
/- What one trip of the kernel's loop computes over the extended reals: row by row, the functions of one token. -/
module

public import proofs.«01_k».proof.Proof.KernelRead
public import proofs.«01_k».proof.Proof.Token
public import Idealize.ShloMosaic.Lib.KernelVsHost

@[expose] public section

set_option maxRecDepth 16384
noncomputable section

namespace Cert.KernelIdeal.Val

open Idealize.ShloMosaic Idealize.ShloMosaic.TcCoe
open Cert.KernelIdeal Cert.KernelIdeal.Gen
open Cert.Rows (Par Tok back codef code scale amax mean lnorm gelu proj y1 ms hid hs y2 merged ds down cat mean4 rstd4)

theorem inv192 : Named.named (F := Ideal) Cert.KernelIdeal.κ "inv_192" (φ := .f32) 0x3BAAAAAB#32 = ((1 / 192 : ℝ) : EReal) :=
  IdealRules.named_const.ideal_named_scalar _ _ _ _ rfl

theorem inv768 : Named.named (F := Ideal) Cert.KernelIdeal.κ "inv_768" (φ := .f32) 0x3AAAAAAB#32 = ((1 / 768 : ℝ) : EReal) :=
  IdealRules.named_const.ideal_named_scalar _ _ _ _ rfl

theorem k_lt (k : Fin k0_t1_loop.trips) : k.val < 7 := lt_of_lt_of_eq k.isLt trips_eq

/-! ### The scale column of a trip -/

/-- The distance a trip's rotation moves, as the program computes it. -/
def amt (v72 : BitVec 32) : BitVec 32 :=
  let v213 : BitVec 32 := Scalar.subi 128#32 v72
  let v214 : BitVec 1 := Scalar.cmpi .eq 128#32 0#32
  let v215 : BitVec 32 := Scalar.select v214 1#32 128#32
  let v216 : BitVec 32 := Scalar.remsi v213 v215
  let v217 : BitVec 1 := Scalar.cmpi .ne v216 0#32
  let v218 : BitVec 1 := Scalar.cmpi .slt v216 0#32
  let v219 : BitVec 1 := Scalar.cmpi .slt v215 0#32
  let v220 : BitVec 1 := Scalar.xori v218 v219
  let v221 : BitVec 1 := Scalar.andi v220 v217
  let v222 : BitVec 32 := Scalar.addi v216 v215
  Scalar.select v221 v222 v216

/-- Trip `k` rotates back by `12 k` lanes. -/
theorem amt_eq : ∀ k : Fin k0_t1_loop.trips,
    (amt (Scalar.muli (Scf.iv 0#32 1#32 k) 12#32)).toNat = (128 - 12 * k.val) % 128 := by
  decide +kernel

/-- A row of 84 scales, padded and rotated so that lane 0 is the trip's first, at one of its first twelve lanes. -/
theorem rot_at (k : Fin k0_t1_loop.trips) (v : Vec Ideal S1x8x84 .f32) (l : Fin 8) (q : Fin 12)
    (h : (1 : Fin S8x128.rank).val < 2) :
    dynamicRotate (s := S8x128) 1 (amt (Scalar.muli (Scf.iv 0#32 1#32 k) 12#32)) none (k0_pay36 (F := Ideal) v) rotates_S8x128_d1
      (ix2 l ⟨q, by omega⟩) = v (ix3 0 l ⟨12 * k + q, by have := k_lt k; omega⟩) := by
  have hk := k_lt k
  refine (dynamicRotate_apply (s := S8x128) 1 _ _ rotates_S8x128_d1 _ (ix2 l ⟨12 * k + q, by omega⟩) ?_).trans ?_
  · intro b
    rw [amt_eq]
    match b with
    | 0 => rfl
    | 1 =>
      rw [if_pos rfl]
      show 12 * k.val + q.val = (q.val + 128 - (128 - 12 * k.val) % 128 % 128) % 128
      omega
  · pointwise [k0_pay36]
    rw [dif_pos (by omega)]

theorem pay24_at (k : Fin k0_t1_loop.trips) (v : Vec Ideal S1x8x84 .f32) (l : Fin 8) :
    k0_pay24 (F := Ideal) (Scalar.muli (Scf.iv 0#32 1#32 k) 12#32) v (ix2 l 0) = v (ix3 0 l ⟨12 * k + 0, by have := k_lt k; omega⟩) := by
  pointwise [k0_pay24]
  exact rot_at k v l 0 (by decide)

theorem pay25_at (k : Fin k0_t1_loop.trips) (v : Vec Ideal S1x8x84 .f32) (l : Fin 8) :
    k0_pay25 (F := Ideal) (Scalar.muli (Scf.iv 0#32 1#32 k) 12#32) v (ix2 l 0) = v (ix3 0 l ⟨12 * k + 1, by have := k_lt k; omega⟩) := by
  pointwise [k0_pay25]
  exact rot_at k v l 1 (by decide)

theorem pay26_at (k : Fin k0_t1_loop.trips) (v : Vec Ideal S1x8x84 .f32) (l : Fin 8) :
    k0_pay26 (F := Ideal) (Scalar.muli (Scf.iv 0#32 1#32 k) 12#32) v (ix2 l 0) = v (ix3 0 l ⟨12 * k + 2, by have := k_lt k; omega⟩) := by
  pointwise [k0_pay26]
  exact rot_at k v l 2 (by decide)

theorem pay27_at (k : Fin k0_t1_loop.trips) (v : Vec Ideal S1x8x84 .f32) (l : Fin 8) :
    k0_pay27 (F := Ideal) (Scalar.muli (Scf.iv 0#32 1#32 k) 12#32) v (ix2 l 0) = v (ix3 0 l ⟨12 * k + 3, by have := k_lt k; omega⟩) := by
  pointwise [k0_pay27]
  exact rot_at k v l 3 (by decide)

theorem pay28_at (k : Fin k0_t1_loop.trips) (v : Vec Ideal S1x8x84 .f32) (l : Fin 8) :
    k0_pay28 (F := Ideal) (Scalar.muli (Scf.iv 0#32 1#32 k) 12#32) v (ix2 l 0) = v (ix3 0 l ⟨12 * k + 4, by have := k_lt k; omega⟩) := by
  pointwise [k0_pay28]
  exact rot_at k v l 4 (by decide)

theorem pay29_at (k : Fin k0_t1_loop.trips) (v : Vec Ideal S1x8x84 .f32) (l : Fin 8) :
    k0_pay29 (F := Ideal) (Scalar.muli (Scf.iv 0#32 1#32 k) 12#32) v (ix2 l 0) = v (ix3 0 l ⟨12 * k + 5, by have := k_lt k; omega⟩) := by
  pointwise [k0_pay29]
  exact rot_at k v l 5 (by decide)

theorem pay30_at (k : Fin k0_t1_loop.trips) (v : Vec Ideal S1x8x84 .f32) (l : Fin 8) :
    k0_pay30 (F := Ideal) (Scalar.muli (Scf.iv 0#32 1#32 k) 12#32) v (ix2 l 0) = v (ix3 0 l ⟨12 * k + 6, by have := k_lt k; omega⟩) := by
  pointwise [k0_pay30]
  exact rot_at k v l 6 (by decide)

theorem pay31_at (k : Fin k0_t1_loop.trips) (v : Vec Ideal S1x8x84 .f32) (l : Fin 8) :
    k0_pay31 (F := Ideal) (Scalar.muli (Scf.iv 0#32 1#32 k) 12#32) v (ix2 l 0) = v (ix3 0 l ⟨12 * k + 7, by have := k_lt k; omega⟩) := by
  pointwise [k0_pay31]
  exact rot_at k v l 7 (by decide)

theorem pay32_at (k : Fin k0_t1_loop.trips) (v : Vec Ideal S1x8x84 .f32) (l : Fin 8) :
    k0_pay32 (F := Ideal) (Scalar.muli (Scf.iv 0#32 1#32 k) 12#32) v (ix2 l 0) = v (ix3 0 l ⟨12 * k + 8, by have := k_lt k; omega⟩) := by
  pointwise [k0_pay32]
  exact rot_at k v l 8 (by decide)

theorem pay33_at (k : Fin k0_t1_loop.trips) (v : Vec Ideal S1x8x84 .f32) (l : Fin 8) :
    k0_pay33 (F := Ideal) (Scalar.muli (Scf.iv 0#32 1#32 k) 12#32) v (ix2 l 0) = v (ix3 0 l ⟨12 * k + 9, by have := k_lt k; omega⟩) := by
  pointwise [k0_pay33]
  exact rot_at k v l 9 (by decide)

theorem pay34_at (k : Fin k0_t1_loop.trips) (v : Vec Ideal S1x8x84 .f32) (l : Fin 8) :
    k0_pay34 (F := Ideal) (Scalar.muli (Scf.iv 0#32 1#32 k) 12#32) v (ix2 l 0) = v (ix3 0 l ⟨12 * k + 10, by have := k_lt k; omega⟩) := by
  pointwise [k0_pay34]
  exact rot_at k v l 10 (by decide)

theorem pay35_at (k : Fin k0_t1_loop.trips) (v : Vec Ideal S1x8x84 .f32) (l : Fin 8) :
    k0_pay35 (F := Ideal) (Scalar.muli (Scf.iv 0#32 1#32 k) 12#32) v (ix2 l 0) = v (ix3 0 l ⟨12 * k + 11, by have := k_lt k; omega⟩) := by
  pointwise [k0_pay35]
  exact rot_at k v l 11 (by decide)

/-! ### The payloads at an index -/

theorem pay22_at (k : Fin k0_t1_loop.trips) (l : Fin 8) (b : Fin 128) :
    k0_pay22 (iota .tc S8x128 32 [1] iota_S8x128_d1_w32) (Scalar.muli (Scf.iv 0#32 1#32 k) 12#32) (ix2 l b)
      = BitVec.ofNat 32 b - BitVec.ofNat 32 (12 * k) := by
  have e : ∀ k : Fin k0_t1_loop.trips, Scalar.muli (Scf.iv 0#32 1#32 k) 12#32 = BitVec.ofNat 32 (12 * k) := by decide +kernel
  pointwise [k0_pay22]
  rw [e]
  rfl

/-- The program's value `v252`: the second row of scales rotated. -/
def rot2 (k : Fin k0_t1_loop.trips) (v240 : FVec Ideal S8x128 .f32) : FVec Ideal S8x128 .f32 :=
  dynamicRotate (s := S8x128) 1 (amt (Scalar.muli (Scf.iv 0#32 1#32 k) 12#32)) none v240 rotates_S8x128_d1

/-- The program's value `v265`: the scale of every row. -/
def col (C : Chunk Ideal) : FVec Ideal S192x1 .f32 :=
  concatenate S192x1 0 [⟨S8x1, C.v225⟩, ⟨S8x1, C.v226⟩, ⟨S8x1, C.v227⟩, ⟨S8x1, C.v228⟩, ⟨S8x1, C.v229⟩, ⟨S8x1, C.v230⟩, ⟨S8x1, C.v231⟩, ⟨S8x1, C.v232⟩, ⟨S8x1, C.v233⟩, ⟨S8x1, C.v234⟩, ⟨S8x1, C.v235⟩, ⟨S8x1, C.v236⟩, ⟨S8x1, extractStridedSlice S8x1 ![0, 0] (rot2 C.k C.v240) slices_S8x128_o0_0_S8x1⟩, ⟨S8x1, extractStridedSlice S8x1 ![0, 1] (rot2 C.k C.v240) slices_S8x128_o0_1_S8x1⟩, ⟨S8x1, extractStridedSlice S8x1 ![0, 2] (rot2 C.k C.v240) slices_S8x128_o0_2_S8x1⟩, ⟨S8x1, extractStridedSlice S8x1 ![0, 3] (rot2 C.k C.v240) slices_S8x128_o0_3_S8x1⟩, ⟨S8x1, extractStridedSlice S8x1 ![0, 4] (rot2 C.k C.v240) slices_S8x128_o0_4_S8x1⟩, ⟨S8x1, extractStridedSlice S8x1 ![0, 5] (rot2 C.k C.v240) slices_S8x128_o0_5_S8x1⟩, ⟨S8x1, extractStridedSlice S8x1 ![0, 6] (rot2 C.k C.v240) slices_S8x128_o0_6_S8x1⟩, ⟨S8x1, extractStridedSlice S8x1 ![0, 7] (rot2 C.k C.v240) slices_S8x128_o0_7_S8x1⟩, ⟨S8x1, extractStridedSlice S8x1 ![0, 8] (rot2 C.k C.v240) slices_S8x128_o0_8_S8x1⟩, ⟨S8x1, extractStridedSlice S8x1 ![0, 9] (rot2 C.k C.v240) slices_S8x128_o0_9_S8x1⟩, ⟨S8x1, extractStridedSlice S8x1 ![0, 10] (rot2 C.k C.v240) slices_S8x128_o0_10_S8x1⟩, ⟨S8x1, extractStridedSlice S8x1 ![0, 11] (rot2 C.k C.v240) slices_S8x128_o0_11_S8x1⟩] concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S192x1_d0

/-- The projection of every row: the program's value `v275`. -/
def v275 (v1 : FVec Ideal S1x192 .f32) (v3 : FVec Ideal S1x192 .f32) (v206 : FVec Ideal S192x192 .bf16)
    (v265 : FVec Ideal S192x1 .f32) (v266 : Vec Ideal S192x192 .i8) : FVec Ideal S192x192 .f32 :=
  have v267 : IVec S192x192 8 := shapeCast S192x192 v266 shapeCasts_S192x192_S192x192
  have v268 : FVec Ideal S192x192 .bf16 := sitofp .bf16 v267
  have cst_179 : FVec Ideal S192x192 .f32 := constant S192x192 .f32 0x00000000#32
  have v269 : FVec Ideal S192x192 .f32 := matmul dot_S192x192_S192x192_S192x192_1_0_0_1_n_n none v206 v268 cst_179
  have v270 : FVec Ideal S192x192 .f32 := broadcastTo S192x192 v265 broadcasts_S192x1_S192x192
  have v271 : FVec Ideal S192x192 .f32 := mulf v269 v270
  have v272 : FVec Ideal S192x192 .f32 := broadcastTo S192x192 v1 broadcasts_S1x192_S192x192
  have v273 : FVec Ideal S192x192 .f32 := mulf v271 v272
  have v274 : FVec Ideal S192x192 .f32 := broadcastTo S192x192 v3 broadcasts_S1x192_S192x192
  addf v273 v274

theorem v275_at (v1 : FVec Ideal S1x192 .f32) (v3 : FVec Ideal S1x192 .f32) (v206 : FVec Ideal S192x192 .bf16)
    (v265 : FVec Ideal S192x1 .f32) (v266 : Vec Ideal S192x192 .i8) (r j : Fin 192) :
    v275 v1 v3 v206 v265 v266 (ix2 r j)
      = (∑ x, v206 (ix2 r x) * back (v266 (ix2 x j))) * v265 (ix2 r 0) * v1 (ix2 0 j) + v3 (ix2 0 j) := by
  pointwise [v275]
  rfl

/-- Rows less their means: the program's value `v286`. -/
def cen (v275 : FVec Ideal S192x192 .f32) : FVec Ideal S192x192 .f32 :=
  have v281 : FVec Ideal S192 .f32 := multiReduction .add [1] S192 v275 0x00000000#32 reduces_S192x192_S192 (.inl rfl) rfl
  have v282 : FVec Ideal S192x1 .f32 := shapeCast S192x1 v281 shapeCasts_S192_S192x1
  have cst_184 : Ideal .f32 := Named.named κ "inv_192" 0x3BAAAAAB#32
  have v283 : FVec Ideal S192x1 .f32 := broadcast S192x1 cst_184
  have v284 : FVec Ideal S192x1 .f32 := mulf v282 v283
  have v285 : FVec Ideal S192x192 .f32 := broadcastTo S192x192 v284 broadcasts_S192x1_S192x192
  subf v275 v285

theorem cen_at (v : FVec Ideal S192x192 .f32) (r j : Fin 192) :
    cen v (ix2 r j) = v (ix2 r j) - (∑ x, v (ix2 r x)) * ((1 / 192 : ℝ) : EReal) := by
  pointwise [cen]
  rw [inv192]

/-- The sums of a row's squares: the program's value `v289`. -/
def sq (v286 : FVec Ideal S192x192 .f32) : FVec Ideal S192x1 .f32 :=
  have v287 : FVec Ideal S192x192 .f32 := mulf v286 v286
  have v288 : FVec Ideal S192 .f32 := multiReduction .add [1] S192 v287 0x00000000#32 reduces_S192x192_S192 (.inl rfl) rfl
  shapeCast S192x1 v288 shapeCasts_S192_S192x1

theorem sq_at (v : FVec Ideal S192x192 .f32) (r : Fin 192) : sq v (ix2 r 0) = ∑ x, v (ix2 r x) * v (ix2 r x) := by
  pointwise [sq]

theorem pay37_at (v : Vec Ideal S2x12x8x192 .bf16) (r j : Fin 192) :
    k0_pay37 (F := Ideal) v (ix2 r j) = v (ix4 ⟨r / 96, by omega⟩ ⟨r / 8 % 12, by omega⟩ ⟨r % 8, by omega⟩ j) := by
  pointwise [k0_pay37]

theorem pay40_at (v5 v7 : FVec Ideal S1x192 .f32) (v280 v286 : FVec Ideal S192x192 .f32) (v289 : FVec Ideal S192x1 .f32)
    (c : Ideal .f32) (r j : Fin 192) :
    k0_pay40 (F := Ideal) v5 v7 v280 v286 v289 c (ix2 r j)
      = v280 (ix2 r j) + (v286 (ix2 r j) * Ideal.rsqrt (v289 (ix2 r 0) * c + Ideal.ofBits .f32 925353388#32) * v5 (ix2 0 j)
        + v7 (ix2 0 j)) := by
  pointwise [k0_pay40]

/-- The row of a trip's block: window row `i`, place `q`, level `l`. -/
def row (i : Fin 2) (q : Fin 12) (l : Fin 8) : Fin 192 := ⟨i * 96 + q * 8 + l, by omega⟩

/-- The same with the place split into a pair number and a parity. -/
def row5 (i : Fin 2) (a : Fin 6) (q : Fin 2) (l : Fin 8) : Fin 192 := ⟨i * 96 + a * 16 + q * 8 + l, by omega⟩

theorem pay41_at (v5 v7 : FVec Ideal S1x192 .f32) (v280 v286 : FVec Ideal S192x192 .f32) (v289 : FVec Ideal S192x1 .f32)
    (c : Ideal .f32) (r : Fin 192) :
    k0_pay41 (F := Ideal) v5 v7 v280 v286 v289 c (ix2 r 0) = scale fun j => k0_pay40 (F := Ideal) v5 v7 v280 v286 v289 c (ix2 r j) := by
  pointwise [k0_pay41]
  rfl

theorem pay42_at (v5 v7 : FVec Ideal S1x192 .f32) (v280 v286 : FVec Ideal S192x192 .f32) (v289 : FVec Ideal S192x1 .f32)
    (c : Ideal .f32) (r j : Fin 192) :
    k0_pay42 (F := Ideal) v5 v7 v280 v286 v289 c (ix2 r j) = codef (k0_pay40 (F := Ideal) v5 v7 v280 v286 v289 c (ix2 r j))
      (scale fun j => k0_pay40 (F := Ideal) v5 v7 v280 v286 v289 c (ix2 r j)) := by
  pointwise [k0_pay42]
  rw [pay41_at]
  exact Cert.Rows.codef_recip (Cert.Rows.scale_ne_zero _)

theorem pay43_at (v5 v7 : FVec Ideal S1x192 .f32) (v280 v286 : FVec Ideal S192x192 .f32) (v289 : FVec Ideal S192x1 .f32)
    (c : Ideal .f32) (i : Fin 2) (q : Fin 12) (l : Fin 8) (j : Fin 192) :
    k0_pay43 (F := Ideal) v5 v7 v280 v286 v289 c (ix4 i q l j)
      = Ideal.fptosi 8 (k0_pay42 (F := Ideal) v5 v7 v280 v286 v289 c (ix2 (row i q l) j)) := by
  pointwise [k0_pay43]
  rfl

theorem pay56_at (v17 v19 : FVec Ideal S1x768 .f32) (v310 : FVec Ideal S192x1 .f32) (v319 : FVec Ideal S192x192 .f32)
    (v503 : Vec Ideal S192x768 .i8) (r : Fin 192) (j : Fin 768) :
    k0_pay56 (F := Ideal) v17 v19 v310 v319 v503 (ix2 r j)
      = gelu ((∑ x, v319 (ix2 r x) * back (v503 (ix2 x j))) * v310 (ix2 r 0) * v17 (ix2 0 j) + v19 (ix2 0 j)) := by
  pointwise [k0_pay56]
  rfl

theorem pay57_at (v17 v19 : FVec Ideal S1x768 .f32) (v310 : FVec Ideal S192x1 .f32) (v319 : FVec Ideal S192x192 .f32)
    (v503 : Vec Ideal S192x768 .i8) (r : Fin 192) :
    k0_pay57 (F := Ideal) v17 v19 v310 v319 v503 (ix2 r 0) = scale fun j => k0_pay56 (F := Ideal) v17 v19 v310 v319 v503 (ix2 r j) := by
  pointwise [k0_pay57]
  rfl

theorem pay58_at (v519 : FVec Ideal S192x768 .f32) (v528 : FVec Ideal S192x1 .f32) (r : Fin 192) (j : Fin 768)
    (h : v528 (ix2 r 0) ≠ 0) :
    k0_pay58 (F := Ideal) v519 v528 (Scalar.ofBits .f32 0x3F800000#32) (ix2 r j) = codef (v519 (ix2 r j)) (v528 (ix2 r 0)) := by
  pointwise [k0_pay58]
  exact Cert.Rows.codef_recip h

theorem pay59_at (v519 : FVec Ideal S192x768 .f32) (v528 : FVec Ideal S192x1 .f32) (c : Ideal .f32)
    (i : Fin 2) (q : Fin 12) (l : Fin 8) (j : Fin 768) :
    k0_pay59 (F := Ideal) v519 v528 c (ix4 i q l j)
      = Ideal.fptosi 8 (k0_pay58 (F := Ideal) v519 v528 c (ix2 (row i q l) j)) := by
  pointwise [k0_pay59]
  rfl

theorem pay66_at (v : FVec Ideal S192x768 .f32) (r : Fin 192) (j : Fin 768) : k0_pay66 (F := Ideal) v (ix2 r j) = v (ix2 r j) := by
  pointwise [k0_pay66]

theorem pay67_at (v : Vec Ideal S768x192 .i8) (r : Fin 768) (j : Fin 192) : k0_pay67 (F := Ideal) v (ix2 r j) = back (v (ix2 r j)) := by
  pointwise [k0_pay67]
  rfl

/-- The second layer of every row: the program's value `v729`. -/
def v729 (v9 v11 : FVec Ideal S1x192 .f32) (v528 : FVec Ideal S192x1 .f32) (v720 : FVec Ideal S192x768 .bf16)
    (v722 : FVec Ideal S768x192 .bf16) : FVec Ideal S192x192 .f32 :=
  have cst_281 : FVec Ideal S192x192 .f32 := constant S192x192 .f32 0x00000000#32
  have v723 : FVec Ideal S192x192 .f32 := matmul dot_S192x768_S768x192_S192x192_1_0_0_1_n_n none v720 v722 cst_281
  have v724 : FVec Ideal S192x192 .f32 := broadcastTo S192x192 v528 broadcasts_S192x1_S192x192
  have v725 : FVec Ideal S192x192 .f32 := mulf v723 v724
  have v726 : FVec Ideal S192x192 .f32 := broadcastTo S192x192 v9 broadcasts_S1x192_S192x192
  have v727 : FVec Ideal S192x192 .f32 := mulf v725 v726
  have v728 : FVec Ideal S192x192 .f32 := broadcastTo S192x192 v11 broadcasts_S1x192_S192x192
  addf v727 v728

theorem v729_at (v9 v11 : FVec Ideal S1x192 .f32) (v528 : FVec Ideal S192x1 .f32) (v720 : FVec Ideal S192x768 .bf16)
    (v722 : FVec Ideal S768x192 .bf16) (r j : Fin 192) :
    v729 v9 v11 v528 v720 v722 (ix2 r j)
      = (∑ x, v720 (ix2 r x) * v722 (ix2 x j)) * v528 (ix2 r 0) * v9 (ix2 0 j) + v11 (ix2 0 j) := by
  pointwise [v729]

/-- The program's value `v750`: the stream plus the normed second layer. -/
def v750 (v13 v15 : FVec Ideal S1x192 .f32) (v301 v729 : FVec Ideal S192x192 .f32) : FVec Ideal S192x192 .f32 :=
  k0_pay40 (F := Ideal) v13 v15 v301 (cen v729) (sq (cen v729)) (Named.named κ "inv_192" 0x3BAAAAAB#32)

theorem pay68_eq (v9 v11 v13 v15 : FVec Ideal S1x192 .f32) (v301 : FVec Ideal S192x192 .f32) (v528 : FVec Ideal S192x1 .f32)
    (v720 : FVec Ideal S192x768 .bf16) (v722 : FVec Ideal S768x192 .bf16) :
    k0_pay68 (F := Ideal) v9 v11 v13 v15 v301 v528 v720 v722 = v750 v13 v15 v301 (v729 v9 v11 v528 v720 v722) := rfl

theorem pay69_at (v9 v11 v13 v15 : FVec Ideal S1x192 .f32) (v301 : FVec Ideal S192x192 .f32) (v528 : FVec Ideal S192x1 .f32)
    (v720 : FVec Ideal S192x768 .bf16) (v722 : FVec Ideal S768x192 .bf16) (i : Fin 2) (q : Fin 12) (l : Fin 8) (j : Fin 192) :
    k0_pay69 (F := Ideal) v9 v11 v13 v15 v301 v528 v720 v722 (ix4 i q l j)
      = k0_pay68 (F := Ideal) v9 v11 v13 v15 v301 v528 v720 v722 (ix2 (row i q l) j) := by
  pointwise [k0_pay69]
  rfl

theorem pay70_at (v9 v11 v13 v15 : FVec Ideal S1x192 .f32) (v301 : FVec Ideal S192x192 .f32) (v528 : FVec Ideal S192x1 .f32)
    (v720 : FVec Ideal S192x768 .bf16) (v722 : FVec Ideal S768x192 .bf16) (i : Fin 2) (a : Fin 6) (q : Fin 2) (l : Fin 8) (j : Fin 192) :
    k0_pay70 (F := Ideal) v9 v11 v13 v15 v301 v528 v720 v722 (ix5 i a q l j)
      = k0_pay68 (F := Ideal) v9 v11 v13 v15 v301 v528 v720 v722 (ix2 (row5 i a q l) j) := by
  pointwise [k0_pay70]
  rfl

theorem pay71_at (v9 v11 v13 v15 : FVec Ideal S1x192 .f32) (v301 : FVec Ideal S192x192 .f32) (v528 : FVec Ideal S192x1 .f32)
    (v720 : FVec Ideal S192x768 .bf16) (v722 : FVec Ideal S768x192 .bf16) (a : Fin 6) (l : Fin 8) :
    k0_pay71 (F := Ideal) v9 v11 v13 v15 v301 v528 v720 v722 (ix3 a l 0)
      = (∑ x, (k0_pay70 (F := Ideal) v9 v11 v13 v15 v301 v528 v720 v722 (ix5 0 a 0 l x)
          + k0_pay70 (F := Ideal) v9 v11 v13 v15 v301 v528 v720 v722 (ix5 0 a 1 l x)
          + k0_pay70 (F := Ideal) v9 v11 v13 v15 v301 v528 v720 v722 (ix5 1 a 0 l x)
          + k0_pay70 (F := Ideal) v9 v11 v13 v15 v301 v528 v720 v722 (ix5 1 a 1 l x))) * ((1 / 768 : ℝ) : EReal) := by
  pointwise [k0_pay71]
  rw [inv768]

theorem pay72_at (v755 : FVec Ideal S2x6x2x8x192 .f32) (v770 : FVec Ideal S6x8x1 .f32) (a : Fin 6) (l : Fin 8) (j : Fin 192) :
    k0_pay72 (F := Ideal) v755 v770 (ix3 a l j) = v755 (ix5 0 a 0 l j) - v770 (ix3 a l 0) := by
  pointwise [k0_pay72]

theorem pay73_at (v755 : FVec Ideal S2x6x2x8x192 .f32) (v770 : FVec Ideal S6x8x1 .f32) (a : Fin 6) (l : Fin 8) (j : Fin 192) :
    k0_pay73 (F := Ideal) v755 v770 (ix3 a l j) = v755 (ix5 0 a 1 l j) - v770 (ix3 a l 0) := by
  pointwise [k0_pay73]

theorem pay74_at (v755 : FVec Ideal S2x6x2x8x192 .f32) (v770 : FVec Ideal S6x8x1 .f32) (a : Fin 6) (l : Fin 8) (j : Fin 192) :
    k0_pay74 (F := Ideal) v755 v770 (ix3 a l j) = v755 (ix5 1 a 0 l j) - v770 (ix3 a l 0) := by
  pointwise [k0_pay74]

theorem pay75_at (v755 : FVec Ideal S2x6x2x8x192 .f32) (v770 : FVec Ideal S6x8x1 .f32) (a : Fin 6) (l : Fin 8) (j : Fin 192) :
    k0_pay75 (F := Ideal) v755 v770 (ix3 a l j) = v755 (ix5 1 a 1 l j) - v770 (ix3 a l 0) := by
  pointwise [k0_pay75]

theorem pay76_at (v755 : FVec Ideal S2x6x2x8x192 .f32) (v770 : FVec Ideal S6x8x1 .f32) (a : Fin 6) (l : Fin 8) :
    k0_pay76 (F := Ideal) v755 v770 (ix3 a l 0) = Ideal.rsqrt
      ((∑ x, (k0_pay72 (F := Ideal) v755 v770 (ix3 a l x) * k0_pay72 (F := Ideal) v755 v770 (ix3 a l x)
        + k0_pay73 (F := Ideal) v755 v770 (ix3 a l x) * k0_pay73 (F := Ideal) v755 v770 (ix3 a l x)
        + k0_pay74 (F := Ideal) v755 v770 (ix3 a l x) * k0_pay74 (F := Ideal) v755 v770 (ix3 a l x)
        + k0_pay75 (F := Ideal) v755 v770 (ix3 a l x) * k0_pay75 (F := Ideal) v755 v770 (ix3 a l x))) * ((1 / 768 : ℝ) : EReal)
        + Ideal.ofBits .f32 925353388#32) := by
  pointwise [k0_pay76]
  rw [inv768]

theorem pay77_at (v755 : FVec Ideal S2x6x2x8x192 .f32) (v770 : FVec Ideal S6x8x1 .f32) (v805 v810 : Vec Ideal S1x192 .f32)
    (a : Fin 6) (l : Fin 8) (j : Fin 192) :
    k0_pay77 (F := Ideal) v755 v770 v805 v810 (ix3 a l j)
      = k0_pay72 (F := Ideal) v755 v770 (ix3 a l j) * k0_pay76 (F := Ideal) v755 v770 (ix3 a l 0) * v805 (ix2 0 j) + v810 (ix2 0 j) := by
  pointwise [k0_pay77]

theorem pay78_at (v755 : FVec Ideal S2x6x2x8x192 .f32) (v770 : FVec Ideal S6x8x1 .f32) (a : Fin 6) (l : Fin 8) (j : Fin 192) :
    k0_pay78 (F := Ideal) v755 v770 (ix3 a l j)
      = k0_pay73 (F := Ideal) v755 v770 (ix3 a l j) * k0_pay76 (F := Ideal) v755 v770 (ix3 a l 0) := by
  pointwise [k0_pay78]

theorem pay79_at (v817 : Vec Ideal S1x192 .f32) (a : Fin 6) (l : Fin 8) (j : Fin 192) :
    k0_pay79 (F := Ideal) v817 (ix3 a l j) = v817 (ix2 0 j) := by
  pointwise [k0_pay79]

theorem pay80_at (v816 v820 : FVec Ideal S6x8x192 .f32) (v822 : Vec Ideal S1x192 .f32) (a : Fin 6) (l : Fin 8) (j : Fin 192) :
    k0_pay80 (F := Ideal) v816 v820 v822 (ix3 a l j) = v816 (ix3 a l j) * v820 (ix3 a l j) + v822 (ix2 0 j) := by
  pointwise [k0_pay80]

theorem pay81_at (v782 : FVec Ideal S6x8x192 .f32) (v802 : FVec Ideal S6x8x1 .f32) (g b : Vec Ideal S1x192 .f32)
    (a : Fin 6) (l : Fin 8) (j : Fin 192) :
    k0_pay81 (F := Ideal) v782 v802 g b (ix3 a l j) = v782 (ix3 a l j) * v802 (ix3 a l 0) * g (ix2 0 j) + b (ix2 0 j) := by
  pointwise [k0_pay81]

theorem pay82_at (v786 : FVec Ideal S6x8x192 .f32) (v802 : FVec Ideal S6x8x1 .f32) (g b : Vec Ideal S1x192 .f32)
    (a : Fin 6) (l : Fin 8) (j : Fin 192) :
    k0_pay82 (F := Ideal) v786 v802 g b (ix3 a l j) = v786 (ix3 a l j) * v802 (ix3 a l 0) * g (ix2 0 j) + b (ix2 0 j) := by
  pointwise [k0_pay82]

/-- The scale of four rows side by side, from the four rows. -/
theorem pay83_at (v782 v786 : FVec Ideal S6x8x192 .f32) (v802 : FVec Ideal S6x8x1 .f32) (v814 v816 v820 : FVec Ideal S6x8x192 .f32)
    (v822 v829 v834 v841 v846 : Vec Ideal S1x192 .f32) (a : Fin 6) (l : Fin 8) (Z : Fin 4 → Fin 192 → EReal)
    (h0 : ∀ j, v814 (ix3 a l j) = Z 0 j) (h1 : ∀ j, k0_pay80 (F := Ideal) v816 v820 v822 (ix3 a l j) = Z 1 j)
    (h2 : ∀ j, k0_pay81 (F := Ideal) v782 v802 v829 v834 (ix3 a l j) = Z 2 j)
    (h3 : ∀ j, k0_pay82 (F := Ideal) v786 v802 v841 v846 (ix3 a l j) = Z 3 j) :
    k0_pay83 (F := Ideal) v782 v786 v802 v814 v816 v820 v822 v829 v834 v841 v846 (ix3 a l 0) = scale (cat Z) := by
  pointwise [k0_pay83]
  simp only [h0, h1, h2, h3]
  rw [scale, Cert.Rows.amax_cat]
  rfl

/-- The clamped codes of four rows side by side. -/
theorem pay84_at (v814 v826 v838 v850 : FVec Ideal S6x8x192 .f32) (v865 : FVec Ideal S6x8x1 .f32) (a : Fin 6) (l : Fin 8)
    (x : Fin 768) (Z : Fin 4 → Fin 192 → EReal) (s : EReal) (hs0 : s ≠ 0) (hs : v865 (ix3 a l 0) = s)
    (h0 : ∀ j, v814 (ix3 a l j) = Z 0 j) (h1 : ∀ j, v826 (ix3 a l j) = Z 1 j)
    (h2 : ∀ j, v838 (ix3 a l j) = Z 2 j) (h3 : ∀ j, v850 (ix3 a l j) = Z 3 j) :
    k0_pay84 (F := Ideal) v814 v826 v838 v850 v865 (Scalar.ofBits .f32 0x3F800000#32) (ix3 a l x) = codef (cat Z x) s := by
  pointwise [k0_pay84]
  simp only [h0, h1, h2, h3, hs]
  split
  · rename_i h; rw [Cert.Rows.cat_0 _ _ h]; exact Cert.Rows.codef_recip hs0
  · rename_i g0
    split
    · rename_i h; rw [Cert.Rows.cat_1 _ _ g0 h]; exact Cert.Rows.codef_recip hs0
    · rename_i g1
      split
      · rename_i h; rw [Cert.Rows.cat_2 _ _ g1 h]; exact Cert.Rows.codef_recip hs0
      · rename_i g2; rw [Cert.Rows.cat_3 _ _ g2]; exact Cert.Rows.codef_recip hs0

theorem pay85_at (v814 v826 v838 v850 : FVec Ideal S6x8x192 .f32) (v865 : FVec Ideal S6x8x1 .f32) (c : Ideal .f32)
    (a : Fin 6) (l : Fin 8) (j : Fin 768) :
    k0_pay85 (F := Ideal) v814 v826 v838 v850 v865 c (ix4 0 a l j)
      = Ideal.fptosi 8 (k0_pay84 (F := Ideal) v814 v826 v838 v850 v865 c (ix3 a l j)) := by
  pointwise [k0_pay85]
  rfl

theorem pay86_at (v814 v826 v838 v850 : FVec Ideal S6x8x192 .f32) (v865 : FVec Ideal S6x8x1 .f32) (c : Ideal .f32)
    (v905 : Vec Ideal S768x384 .i8) (a : Fin 6) (l : Fin 8) (j : Fin 384) :
    k0_pay86 (F := Ideal) v814 v826 v838 v850 v865 c v905 (ix2 ⟨a * 8 + l, by omega⟩ j)
      = ∑ x, k0_pay84 (F := Ideal) v814 v826 v838 v850 v865 c (ix3 a l x) * back (v905 (ix2 x j)) := by
  pointwise [k0_pay86]
  refine Finset.sum_congr rfl fun x _ => ?_
  refine congrArg₂ (· * ·) (congrArg _ ?_) rfl
  congr 1 <;> apply Fin.ext <;> show (_ : ℕ) = _ <;> omega

theorem pay87_at (v865 : FVec Ideal S6x8x1 .f32) (a : Fin 6) (l : Fin 8) (j : Fin 384) :
    k0_pay87 (F := Ideal) v865 (ix2 ⟨a * 8 + l, by omega⟩ j) = v865 (ix3 a l 0) := by
  pointwise [k0_pay87]

theorem pay88_at (v907 v909 : FVec Ideal S48x384 .f32) (v911 : Vec Ideal S1x384 .f32) (a : Fin 6) (l : Fin 8) (j : Fin 384) :
    k0_pay88 (F := Ideal) v907 v909 v911 (ix4 0 a l j)
      = v907 (ix2 ⟨a * 8 + l, by omega⟩ j) * v909 (ix2 ⟨a * 8 + l, by omega⟩ j) * v911 (ix2 0 j) := by
  pointwise [k0_pay88]

/-- The stream plus a layer norm, row by row. -/
theorem norm_at (v5 v7 : FVec Ideal S1x192 .f32) (v280 z : FVec Ideal S192x192 .f32) (r j : Fin 192) :
    k0_pay40 (F := Ideal) v5 v7 v280 (cen z) (sq (cen z)) (Named.named κ "inv_192" 0x3BAAAAAB#32) (ix2 r j)
      = v280 (ix2 r j) + lnorm 1128267776#32 (fun x => z (ix2 r x)) (fun x => v5 (ix2 0 x)) (fun x => v7 (ix2 0 x)) j := by
  rw [pay40_at, sq_at, inv192, ← Cert.Rows.lnorm_192]
  simp only [cen_at]

/-! ### A trip's rows -/

namespace Chunk

variable (C : Chunk Ideal)

/-- The parameters a trip works with. -/
def par : Par where
  wp c j := C.v266 (ix2 c j)
  sp j := C.v1 (ix2 0 j)
  bp j := C.v3 (ix2 0 j)
  g1 j := C.v5 (ix2 0 j)
  b1 j := C.v7 (ix2 0 j)
  wf c j := C.v503 (ix2 c j)
  sf j := C.v17 (ix2 0 j)
  bf j := C.v19 (ix2 0 j)
  wo c j := C.v721 (ix2 c j)
  so j := C.v9 (ix2 0 j)
  bo j := C.v11 (ix2 0 j)
  g2 j := C.v13 (ix2 0 j)
  b2 j := C.v15 (ix2 0 j)
  g3 := cat ![fun j => C.v805 (ix2 0 j), fun j => C.v817 (ix2 0 j), fun j => C.v829 (ix2 0 j), fun j => C.v841 (ix2 0 j)]
  b3 := cat ![fun j => C.v810 (ix2 0 j), fun j => C.v822 (ix2 0 j), fun j => C.v834 (ix2 0 j), fun j => C.v846 (ix2 0 j)]
  wd c j := C.v905 (ix2 c j)
  sd j := C.v911 (ix2 0 j)

/-- The codes of a row's attention output. -/
def codes (r c : Fin 192) : BitVec 8 :=
  if h : r.val < 48 then C.v89 (ix4 0 ⟨r / 8, by omega⟩ ⟨r % 8, by omega⟩ c)
  else if h : r.val - 48 < 48 then C.v122 (ix4 0 ⟨(r - 48) / 8, by omega⟩ ⟨(r - 48) % 8, by omega⟩ c)
  else if h : r.val - 48 - 48 < 48 then C.v155 (ix4 0 ⟨(r - 48 - 48) / 8, by omega⟩ ⟨(r - 48 - 48) % 8, by omega⟩ c)
  else C.v188 (ix4 0 ⟨(r - 48 - 48 - 48) / 8, by omega⟩ ⟨(r - 48 - 48 - 48) % 8, by omega⟩ c)

/-- The token of a row. -/
def tok (r : Fin 192) : Tok where
  x j := C.v277 (ix4 ⟨r / 96, by omega⟩ ⟨r / 8 % 12, by omega⟩ ⟨r % 8, by omega⟩ j)
  o := C.codes r
  s := col C (ix2 r 0)

/-- The four tokens that are merged at pair `a` and level `l`. -/
def quad (a : Fin 6) (l : Fin 8) : Fin 4 → Tok :=
  ![C.tok (row5 0 a 0 l), C.tok (row5 0 a 1 l), C.tok (row5 1 a 0 l), C.tok (row5 1 a 1 l)]

theorem v206_at (r c : Fin 192) : C.v206 (ix2 r c) = back (C.codes r c) := by
  unfold v206 v105 v138 v171 v189 v90 v123 v156 codes
  pointwise [k0_pay21, k0_pay9, k0_pay13, k0_pay17, k0_pay6, k0_pay10, k0_pay14, k0_pay18]
  split_ifs <;> rfl

theorem v286_eq : C.v286 = cen (Val.v275 C.v1 C.v3 C.v206 (col C) C.v266) := rfl

theorem v289_eq : C.v289 = sq (cen (Val.v275 C.v1 C.v3 C.v206 (col C) C.v266)) := rfl

/-- The stream after the attention branch. -/
theorem v301_at (r j : Fin 192) : C.v301 (ix2 r j) = y1 C.par (C.tok r) j := by
  rw [v301, v286_eq, v289_eq, norm_at, v280, pay37_at]
  simp only [v275_at, v206_at]
  rfl

theorem pay40_v (r j : Fin 192) :
    k0_pay40 (F := Ideal) C.v5 C.v7 C.v280 C.v286 C.v289 (Named.named κ "inv_192" 0x3BAAAAAB#32) (ix2 r j) = y1 C.par (C.tok r) j :=
  C.v301_at r j

theorem v310_at (r : Fin 192) : C.v310 (ix2 r 0) = ms C.par (C.tok r) := by
  rw [v310, pay41_at]
  simp only [pay40_v]
  rfl

theorem v319_at (r j : Fin 192) : C.v319 (ix2 r j) = codef (y1 C.par (C.tok r) j) (ms C.par (C.tok r)) := by
  rw [v319, pay42_at]
  simp only [pay40_v]
  rfl

/-- The codes of the stream. -/
theorem v321_at (i : Fin 2) (q : Fin 12) (l : Fin 8) (j : Fin 192) :
    C.v321 (ix4 i q l j) = code (y1 C.par (C.tok (row i q l)) j) (ms C.par (C.tok (row i q l))) := by
  rw [v321, pay43_at]
  exact congrArg _ (C.v319_at _ _)

theorem v519_at (r : Fin 192) (j : Fin 768) : C.v519 (ix2 r j) = hid C.par (C.tok r) j := by
  rw [v519, pay56_at]
  simp only [v319_at, v310_at]
  rfl

theorem v528_at (r : Fin 192) : C.v528 (ix2 r 0) = hs C.par (C.tok r) := by
  rw [v528, pay57_at]
  exact congrArg scale (funext fun j => C.v519_at r j)

theorem hs_ne (P : Par) (T : Tok) : hs P T ≠ 0 := Cert.Rows.scale_ne_zero _

theorem v537_at (r : Fin 192) (j : Fin 768) :
    C.v537 (ix2 r j) = codef (hid C.par (C.tok r) j) (hs C.par (C.tok r)) := by
  rw [v537, pay58_at _ _ _ _ (by rw [v528_at]; exact hs_ne _ _), v519_at, v528_at]

/-- The codes of the hidden layer. -/
theorem v539_at (i : Fin 2) (q : Fin 12) (l : Fin 8) (j : Fin 768) :
    C.v539 (ix4 i q l j) = code (hid C.par (C.tok (row i q l)) j) (hs C.par (C.tok (row i q l))) := by
  rw [v539, pay59_at]
  exact congrArg _ (C.v537_at _ _)

theorem pay68_v (r j : Fin 192) :
    k0_pay68 (F := Ideal) C.v9 C.v11 C.v13 C.v15 C.v301 C.v528 C.v720 C.v722 (ix2 r j) = y2 C.par (C.tok r) j := by
  rw [pay68_eq, v750, norm_at]
  simp only [v729_at, v301_at, v528_at, v720, v722, pay66_at, pay67_at, v537_at]
  rfl

/-- The stream after the block. -/
theorem v752_at (i : Fin 2) (q : Fin 12) (l : Fin 8) (j : Fin 192) :
    C.v752 (ix4 i q l j) = y2 C.par (C.tok (row i q l)) j := by
  rw [v752, pay69_at, pay68_v]

theorem pay70_v (i : Fin 2) (a : Fin 6) (q : Fin 2) (l : Fin 8) (j : Fin 192) :
    k0_pay70 (F := Ideal) C.v9 C.v11 C.v13 C.v15 C.v301 C.v528 C.v720 C.v722 (ix5 i a q l j)
      = y2 C.par (C.tok (row5 i a q l)) j := by
  rw [pay70_at, pay68_v]

theorem v755_at (i : Fin 2) (a : Fin 6) (q : Fin 2) (l : Fin 8) (j : Fin 192) :
    C.v755 (ix5 i a q l j) = y2 C.par (C.tok (row5 i a q l)) j := C.pay70_v i a q l j

/-- The four streams of a merged token. -/
def four (a : Fin 6) (l : Fin 8) : Fin 4 → Fin 192 → EReal := fun p => y2 C.par (C.quad a l p)

theorem v770_at (a : Fin 6) (l : Fin 8) : C.v770 (ix3 a l 0) = mean4 (C.four a l) := by
  rw [v770, pay71_at]
  simp only [pay70_v]
  rfl

theorem v802_at (a : Fin 6) (l : Fin 8) : C.v802 (ix3 a l 0) = rstd4 (C.four a l) := by
  rw [v802, pay76_at]
  simp only [pay72_at, pay73_at, pay74_at, pay75_at, v755_at, v770_at]
  rfl

theorem pay76_v (a : Fin 6) (l : Fin 8) : k0_pay76 (F := Ideal) C.v755 C.v770 (ix3 a l 0) = rstd4 (C.four a l) := C.v802_at a l

/-- The normed entries of the four rows. -/
def normed (a : Fin 6) (l : Fin 8) (p : Fin 4) (j : Fin 192) : EReal :=
  (C.four a l p j - mean4 (C.four a l)) * rstd4 (C.four a l)
    * (![fun j => C.v805 (ix2 0 j), fun j => C.v817 (ix2 0 j), fun j => C.v829 (ix2 0 j), fun j => C.v841 (ix2 0 j)] :
        Fin 4 → Fin 192 → EReal) p j
    + (![fun j => C.v810 (ix2 0 j), fun j => C.v822 (ix2 0 j), fun j => C.v834 (ix2 0 j), fun j => C.v846 (ix2 0 j)] :
        Fin 4 → Fin 192 → EReal) p j

theorem cat_normed (a : Fin 6) (l : Fin 8) : cat (C.normed a l) = merged C.par (C.quad a l) :=
  funext fun x => Cert.Rows.lnorm_768 (C.four a l) C.par.g3 C.par.b3 x

theorem v814_at (a : Fin 6) (l : Fin 8) (j : Fin 192) : C.v814 (ix3 a l j) = C.normed a l 0 j := by
  rw [v814, pay77_at, pay72_at, pay76_v, v755_at, v770_at]
  rfl

theorem v826_at (a : Fin 6) (l : Fin 8) (j : Fin 192) : C.v826 (ix3 a l j) = C.normed a l 1 j := by
  rw [v826, pay80_at, v816, v820, pay78_at, pay79_at, pay73_at, pay76_v, v755_at, v770_at]
  rfl

theorem v838_at (a : Fin 6) (l : Fin 8) (j : Fin 192) : C.v838 (ix3 a l j) = C.normed a l 2 j := by
  rw [v838, pay81_at, v782, pay74_at, v802_at, v755_at, v770_at]
  rfl

theorem v850_at (a : Fin 6) (l : Fin 8) (j : Fin 192) : C.v850 (ix3 a l j) = C.normed a l 3 j := by
  rw [v850, pay82_at, v786, pay75_at, v802_at, v755_at, v770_at]
  rfl

/-- The scale of the merged token. -/
theorem v865_at (a : Fin 6) (l : Fin 8) : C.v865 (ix3 a l 0) = ds C.par (C.quad a l) := by
  rw [v865, pay83_at _ _ _ _ _ _ _ _ _ _ _ _ _ (C.normed a l) (C.v814_at a l) (C.v826_at a l) (C.v838_at a l) (C.v850_at a l),
    cat_normed]
  rfl

theorem pay84_v (a : Fin 6) (l : Fin 8) (x : Fin 768) :
    k0_pay84 (F := Ideal) C.v814 C.v826 C.v838 C.v850 C.v865 (Scalar.ofBits .f32 0x3F800000#32) (ix3 a l x)
      = codef (merged C.par (C.quad a l) x) (ds C.par (C.quad a l)) := by
  rw [pay84_at _ _ _ _ _ _ _ _ (C.normed a l) _ (Cert.Rows.scale_ne_zero _) (C.v865_at a l)
    (C.v814_at a l) (C.v826_at a l) (C.v838_at a l) (C.v850_at a l), cat_normed]
  rfl

/-- The codes of the merged token. -/
theorem v902_at (a : Fin 6) (l : Fin 8) (x : Fin 768) :
    C.v902 (ix4 0 a l x) = code (merged C.par (C.quad a l) x) (ds C.par (C.quad a l)) := by
  rw [v902, pay85_at, pay84_v]
  rfl

/-- The downsampled token. -/
theorem v920_at (a : Fin 6) (l : Fin 8) (j : Fin 384) : C.v920 (ix4 0 a l j) = down C.par (C.quad a l) j := by
  rw [v920, pay88_at, v907, v909, pay86_at, pay87_at, v865_at]
  simp only [pay84_v]
  rfl

end Chunk

end Cert.KernelIdeal.Val

end
-- ==== Proof.KernelColumn.lean ====
/- The scale that each row of a trip of the kernel's loop reads. -/
module

public import proofs.«01_k».proof.Proof.KernelRows
public import Idealize.ShloMosaic.Lib.Pointwise

@[expose] public section

set_option maxRecDepth 16384
noncomputable section

namespace Cert.KernelIdeal.Val

open Idealize.ShloMosaic Idealize.ShloMosaic.TcCoe
open Cert.KernelIdeal Cert.KernelIdeal.Gen
open Cert.Rows (Par Tok back codef code scale amax mean lnorm gelu proj y1 ms hid hs y2 merged ds down cat mean4 rstd4)

/-! ### The scale column -/

/-- Columns of eight rows put under each other, read at row `8 p + l`: entry `l` of column `p`. -/
theorem rows_at (j : S192x1.Idx) : ∀ (xs : List (S8x1.Idx → EReal))
    (hs : ∀ s ∈ (xs.map fun f => (⟨S8x1, f⟩ : (s : Shape) × (s.Idx → EReal))).map (·.1), s.FitsOff S192x1 0) (c : ℕ)
    (hc : c < (axisSizes S192x1 0 (xs.map fun f => (⟨S8x1, f⟩ : (s : Shape) × (s.Idx → EReal)))).sum) (p : ℕ) (l : Fin 8)
    (hp : p < xs.length), c = 8 * p + l →
    concatenateAt S192x1 0 j (xs.map fun f => (⟨S8x1, f⟩ : (s : Shape) × (s.Idx → EReal))) hs c hc = xs[p] (ix2 l 0)
  | [], _, _, hc, _, _, _, _ => absurd hc (Nat.not_lt_zero _)
  | [f], hs, c, hc, p, l, hp, e => by
    have hp0 : p = 0 := by simpa using hp
    subst hp0
    show f (Shape.Idx.norm _) = f (ix2 l 0)
    rw [Shape.Idx.norm_def]
    refine congrArg f (funext fun b => Fin.ext ?_)
    match b with
    | 0 => show c = l.val; omega
    | 1 => have h : (j 1).val < 1 := (j 1).isLt
           show (j 1).val = 0; omega
  | f :: g :: xs, hs, c, hc, p, l, hp, e => by
    have hl := l.isLt
    have h0 : (f :: g :: xs).map (fun f => (⟨S8x1, f⟩ : (s : Shape) × (s.Idx → EReal)))
      = ⟨S8x1, f⟩ :: ⟨S8x1, g⟩ :: xs.map (fun f => (⟨S8x1, f⟩ : (s : Shape) × (s.Idx → EReal))) := rfl
    match p with
    | 0 =>
      refine (dif_pos (show c < 8 by omega)).trans ?_
      show f (Shape.Idx.norm _) = f (ix2 l 0)
      rw [Shape.Idx.norm_def]
      refine congrArg f (funext fun b => Fin.ext ?_)
      match b with
      | 0 => show c = l.val; omega
      | 1 => have h : (j 1).val < 1 := (j 1).isLt
             show (j 1).val = 0; omega
    | p + 1 =>
      refine (dif_neg (show ¬ c < 8 by omega)).trans ?_
      refine (rows_at j (g :: xs) _ (c - 8) _ p l (by simpa using hp) (by omega)).trans ?_
      rfl

/-- The columns under each other in `col`. -/
def colList (C : Chunk Ideal) : List (S8x1.Idx → EReal) :=
  [C.v225, C.v226, C.v227, C.v228, C.v229, C.v230, C.v231, C.v232, C.v233, C.v234, C.v235, C.v236,
    extractStridedSlice S8x1 ![0, 0] (rot2 C.k C.v240) slices_S8x128_o0_0_S8x1,
    extractStridedSlice S8x1 ![0, 1] (rot2 C.k C.v240) slices_S8x128_o0_1_S8x1,
    extractStridedSlice S8x1 ![0, 2] (rot2 C.k C.v240) slices_S8x128_o0_2_S8x1,
    extractStridedSlice S8x1 ![0, 3] (rot2 C.k C.v240) slices_S8x128_o0_3_S8x1,
    extractStridedSlice S8x1 ![0, 4] (rot2 C.k C.v240) slices_S8x128_o0_4_S8x1,
    extractStridedSlice S8x1 ![0, 5] (rot2 C.k C.v240) slices_S8x128_o0_5_S8x1,
    extractStridedSlice S8x1 ![0, 6] (rot2 C.k C.v240) slices_S8x128_o0_6_S8x1,
    extractStridedSlice S8x1 ![0, 7] (rot2 C.k C.v240) slices_S8x128_o0_7_S8x1,
    extractStridedSlice S8x1 ![0, 8] (rot2 C.k C.v240) slices_S8x128_o0_8_S8x1,
    extractStridedSlice S8x1 ![0, 9] (rot2 C.k C.v240) slices_S8x128_o0_9_S8x1,
    extractStridedSlice S8x1 ![0, 10] (rot2 C.k C.v240) slices_S8x128_o0_10_S8x1,
    extractStridedSlice S8x1 ![0, 11] (rot2 C.k C.v240) slices_S8x128_o0_11_S8x1]

theorem col_at (C : Chunk Ideal) (p : ℕ) (hp : p < 24) (l : Fin 8) (r : Fin 192) (hr : r.val = 8 * p + l) :
    col C (ix2 r 0) = ((colList C)[p]'hp) (ix2 l 0) := by
  unfold col
  rw [concatenate_eq_readAt, concatReadAt_locate]
  exact rows_at (ix2 r 0) (colList C) _ _ _ p l hp hr

theorem slice_0 (C : Chunk Ideal) (l : Fin 8) :
    extractStridedSlice S8x1 ![0, 0] (rot2 C.k C.v240) slices_S8x128_o0_0_S8x1 (ix2 l 0) = rot2 C.k C.v240 (ix2 l ⟨0, by omega⟩) := by
  pointwise []

theorem slice_1 (C : Chunk Ideal) (l : Fin 8) :
    extractStridedSlice S8x1 ![0, 1] (rot2 C.k C.v240) slices_S8x128_o0_1_S8x1 (ix2 l 0) = rot2 C.k C.v240 (ix2 l ⟨1, by omega⟩) := by
  pointwise []

theorem slice_2 (C : Chunk Ideal) (l : Fin 8) :
    extractStridedSlice S8x1 ![0, 2] (rot2 C.k C.v240) slices_S8x128_o0_2_S8x1 (ix2 l 0) = rot2 C.k C.v240 (ix2 l ⟨2, by omega⟩) := by
  pointwise []

theorem slice_3 (C : Chunk Ideal) (l : Fin 8) :
    extractStridedSlice S8x1 ![0, 3] (rot2 C.k C.v240) slices_S8x128_o0_3_S8x1 (ix2 l 0) = rot2 C.k C.v240 (ix2 l ⟨3, by omega⟩) := by
  pointwise []

theorem slice_4 (C : Chunk Ideal) (l : Fin 8) :
    extractStridedSlice S8x1 ![0, 4] (rot2 C.k C.v240) slices_S8x128_o0_4_S8x1 (ix2 l 0) = rot2 C.k C.v240 (ix2 l ⟨4, by omega⟩) := by
  pointwise []

theorem slice_5 (C : Chunk Ideal) (l : Fin 8) :
    extractStridedSlice S8x1 ![0, 5] (rot2 C.k C.v240) slices_S8x128_o0_5_S8x1 (ix2 l 0) = rot2 C.k C.v240 (ix2 l ⟨5, by omega⟩) := by
  pointwise []

theorem slice_6 (C : Chunk Ideal) (l : Fin 8) :
    extractStridedSlice S8x1 ![0, 6] (rot2 C.k C.v240) slices_S8x128_o0_6_S8x1 (ix2 l 0) = rot2 C.k C.v240 (ix2 l ⟨6, by omega⟩) := by
  pointwise []

theorem slice_7 (C : Chunk Ideal) (l : Fin 8) :
    extractStridedSlice S8x1 ![0, 7] (rot2 C.k C.v240) slices_S8x128_o0_7_S8x1 (ix2 l 0) = rot2 C.k C.v240 (ix2 l ⟨7, by omega⟩) := by
  pointwise []

theorem slice_8 (C : Chunk Ideal) (l : Fin 8) :
    extractStridedSlice S8x1 ![0, 8] (rot2 C.k C.v240) slices_S8x128_o0_8_S8x1 (ix2 l 0) = rot2 C.k C.v240 (ix2 l ⟨8, by omega⟩) := by
  pointwise []

theorem slice_9 (C : Chunk Ideal) (l : Fin 8) :
    extractStridedSlice S8x1 ![0, 9] (rot2 C.k C.v240) slices_S8x128_o0_9_S8x1 (ix2 l 0) = rot2 C.k C.v240 (ix2 l ⟨9, by omega⟩) := by
  pointwise []

theorem slice_10 (C : Chunk Ideal) (l : Fin 8) :
    extractStridedSlice S8x1 ![0, 10] (rot2 C.k C.v240) slices_S8x128_o0_10_S8x1 (ix2 l 0) = rot2 C.k C.v240 (ix2 l ⟨10, by omega⟩) := by
  pointwise []

theorem slice_11 (C : Chunk Ideal) (l : Fin 8) :
    extractStridedSlice S8x1 ![0, 11] (rot2 C.k C.v240) slices_S8x128_o0_11_S8x1 (ix2 l 0) = rot2 C.k C.v240 (ix2 l ⟨11, by omega⟩) := by
  pointwise []

set_option maxHeartbeats 2000000 in
/-- The scale of a row is the entry of its latitude row's scales at its longitude and level. -/
theorem col_row (C : Chunk Ideal) (i : Fin 2) (q : Fin 12) (l : Fin 8) :
    col C (ix2 (row i q l) 0) = (if i = 0 then C.v209 else C.v237) (ix3 0 l ⟨12 * C.k + q, by have := k_lt C.k; omega⟩) := by
  have hv : (row i q l).val = i.val * 96 + q.val * 8 + l.val := rfl
  refine (col_at C (12 * i.val + q.val) (by omega) l (row i q l) (by omega)).trans ?_
  match i, q with
  | 0, 0 => exact pay24_at C.k C.v209 l
  | 0, 1 => exact pay25_at C.k C.v209 l
  | 0, 2 => exact pay26_at C.k C.v209 l
  | 0, 3 => exact pay27_at C.k C.v209 l
  | 0, 4 => exact pay28_at C.k C.v209 l
  | 0, 5 => exact pay29_at C.k C.v209 l
  | 0, 6 => exact pay30_at C.k C.v209 l
  | 0, 7 => exact pay31_at C.k C.v209 l
  | 0, 8 => exact pay32_at C.k C.v209 l
  | 0, 9 => exact pay33_at C.k C.v209 l
  | 0, 10 => exact pay34_at C.k C.v209 l
  | 0, 11 => exact pay35_at C.k C.v209 l
  | 1, 0 => exact (slice_0 C l).trans (rot_at C.k C.v237 l 0 (by decide))
  | 1, 1 => exact (slice_1 C l).trans (rot_at C.k C.v237 l 1 (by decide))
  | 1, 2 => exact (slice_2 C l).trans (rot_at C.k C.v237 l 2 (by decide))
  | 1, 3 => exact (slice_3 C l).trans (rot_at C.k C.v237 l 3 (by decide))
  | 1, 4 => exact (slice_4 C l).trans (rot_at C.k C.v237 l 4 (by decide))
  | 1, 5 => exact (slice_5 C l).trans (rot_at C.k C.v237 l 5 (by decide))
  | 1, 6 => exact (slice_6 C l).trans (rot_at C.k C.v237 l 6 (by decide))
  | 1, 7 => exact (slice_7 C l).trans (rot_at C.k C.v237 l 7 (by decide))
  | 1, 8 => exact (slice_8 C l).trans (rot_at C.k C.v237 l 8 (by decide))
  | 1, 9 => exact (slice_9 C l).trans (rot_at C.k C.v237 l 9 (by decide))
  | 1, 10 => exact (slice_10 C l).trans (rot_at C.k C.v237 l 10 (by decide))
  | 1, 11 => exact (slice_11 C l).trans (rot_at C.k C.v237 l 11 (by decide))

end Cert.KernelIdeal.Val

end
-- ==== Proof.Whole.lean ====
/- The whole arrays both programs work on, and the token of each place of the grid. -/
module

public import proofs.«01_k».proof.Proof.Token

@[expose] public section

noncomputable section

namespace Cert.Rows

/-- The arrays that hold one entry per place: the stream, and the attention output's codes and scales, which still lie in
the shifted window order. -/
structure Data where
  x : Fin 8 → Fin 186 → Fin 84 → Fin 192 → EReal
  oc : Fin 186 → Fin 84 → Fin 8 → Fin 192 → BitVec 8
  os : Fin 186 → Fin 8 → Fin 128 → EReal

/-- The latitude row that the shift by 3 brings to row `a`. -/
def lat (a : Fin 186) : Fin 186 := ⟨(a + 183) % 186, Nat.mod_lt _ (by norm_num)⟩

/-- The longitude that the shift by 6 brings to longitude `n`. -/
def lon (n : Fin 84) : Fin 84 := ⟨(n + 78) % 84, Nat.mod_lt _ (by norm_num)⟩

/-- The same longitude as a lane of a padded row of scales. -/
def lonLane (n : Fin 84) : Fin 128 := ⟨(n + 78) % 84, lt_trans (Nat.mod_lt _ (by norm_num)) (by norm_num)⟩

/-- The token at latitude `a`, longitude `n` and level `l`. -/
def Data.tok (D : Data) (a : Fin 186) (n : Fin 84) (l : Fin 8) : Tok where
  x j := D.x l a n j
  o j := D.oc (lat a) (lon n) l j
  s := D.os (lat a) l (lonLane n)

/-- The four tokens that the merge puts together at pair `(p, b)` and level `l`. -/
def Data.quad (D : Data) (p : Fin 93) (b : Fin 42) (l : Fin 8) : Fin 4 → Tok :=
  ![D.tok ⟨2 * p, by omega⟩ ⟨2 * b, by omega⟩ l, D.tok ⟨2 * p, by omega⟩ ⟨2 * b + 1, by omega⟩ l,
    D.tok ⟨2 * p + 1, by omega⟩ ⟨2 * b, by omega⟩ l, D.tok ⟨2 * p + 1, by omega⟩ ⟨2 * b + 1, by omega⟩ l]

end Cert.Rows

end
-- ==== Proof.KernelPick.lean ====
/- What one trip of the kernel's loop works on, read out of the blocks of its grid point. -/
module

public import proofs.«01_k».proof.Proof.KernelColumn
public import proofs.«01_k».proof.Proof.KernelBlock
public import proofs.«01_k».proof.Proof.Whole
public import Idealize.ShloMosaic.Lib.Pipeline.ValueKit

@[expose] public section

set_option maxRecDepth 16384
noncomputable section

namespace Cert.KernelIdeal.Val

open Idealize.ShloMosaic Idealize.ShloMosaic.TcCoe
open Cert.KernelIdeal Cert.KernelIdeal.Gen
open Cert.Rows (Par Tok cat)

/-- A block read through a unit-stride rectangle. -/
theorem at_unit {s : Shape} {α : Type} (x : s.Idx → α) (off off' size : Fin s.rank → ℕ) (inb : ∀ a, off a + size a ≤ s.size a)
    (y : (Rect.unit off size inb).toLoadRect.shape.Idx) (z : s.Idx) (ho : off = off')
    (hz : ∀ a, (z a).val = off' a + (y a).val) :
    x ((Rect.unit (s := s) off size inb).toLoadRect.idx y) = x z := by
  subst ho
  refine congrArg x (funext fun a => Fin.ext ?_)
  show off a + 1 * (y a).val = (z a).val
  rw [hz, Nat.one_mul]

theorem off1_0 : ∀ k : Fin k0_t1_loop.trips, k0_off1 k 0#32 = ![0, (2 * k.val + 13) % 14 * 6, 0, 0] := by decide +kernel
theorem off1_1 : ∀ k : Fin k0_t1_loop.trips, k0_off1 k 1#32 = ![0, (2 * k.val + 14) % 14 * 6, 0, 0] := by decide +kernel

/-! ### The shift of a row of scales -/

/-- Where the program's choice between the two rotations takes lane `n` from. -/
theorem shift_at (x : Vec Ideal S1x8x128 .f32) (l : Fin 8) (n : Fin 84) (h1 : (n.val + 128 - 50) % 128 < 128) (h2 : (n.val + 128 - 6) % 128 < 128) :
    Scalar.select (IntOp.cmpi CmpIPredicate.slt (BitVec.ofNat 32 n.val) 6#32) (x (ix3 0 l ⟨(n.val + 128 - 50) % 128, h1⟩))
      (x (ix3 0 l ⟨(n.val + 128 - 6) % 128, h2⟩)) = x (ix3 0 l (Cert.Rows.lonLane n)) := by
  have hn := n.isLt
  have hc : IntOp.cmpi CmpIPredicate.slt (BitVec.ofNat 32 n.val) 6#32 = if n.val < 6 then 1#1 else 0#1 :=
    (by decide +kernel : ∀ n : Fin 84, IntOp.cmpi CmpIPredicate.slt (BitVec.ofNat 32 n.val) 6#32 = if n.val < 6 then 1#1 else 0#1) n
  rw [hc]
  by_cases h : n.val < 6
  · rw [if_pos h]
    refine (show Scalar.select 1#1 _ _ = _ from rfl).trans (congrArg (fun z => x (ix3 0 l z)) (Fin.ext ?_))
    show (n.val + 128 - 50) % 128 = (n.val + 78) % 84
    omega
  · rw [if_neg h]
    refine (show Scalar.select 0#1 _ _ = _ from rfl).trans (congrArg (fun z => x (ix3 0 l z)) (Fin.ext ?_))
    show (n.val + 128 - 6) % 128 = (n.val + 78) % 84
    omega

theorem pay102_at (x : Vec Ideal S1x8x128 .f32) (l : Fin 8) (n : Fin 84) :
    k0_pay103 (k0_pay102 (F := Ideal) x) (ix3 0 l n) = x (ix3 0 l (Cert.Rows.lonLane n)) := by
  pointwise [k0_pay103, k0_pay102]
  exact shift_at x l n _ _

theorem pay104_at (x : Vec Ideal S1x8x128 .f32) (l : Fin 8) (n : Fin 84) :
    k0_pay104 (F := Ideal) lane x (ix3 0 l n) = x (ix3 0 l (Cert.Rows.lonLane n)) := by
  unfold lane
  pointwise [k0_pay104]
  exact shift_at x l n _ _

theorem pay105_at (x : Vec Ideal S1x8x128 .f32) (l : Fin 8) (n : Fin 84) :
    k0_pay105 (F := Ideal) lane x (ix3 0 l n) = x (ix3 0 l (Cert.Rows.lonLane n)) := by
  unfold lane
  pointwise [k0_pay105]
  exact shift_at x l n _ _

theorem pay106_at (x : Vec Ideal S1x8x128 .f32) (l : Fin 8) (n : Fin 84) :
    k0_pay1 (k0_pay106 (F := Ideal) lane x) (ix3 0 l n) = x (ix3 0 l (Cert.Rows.lonLane n)) := by
  unfold lane
  pointwise [k0_pay1, k0_pay106]
  exact shift_at x l n _ _

theorem whole_row (x : Vec Ideal S1x8x128 .f32) :
    (fun y => x ((Rect.unit (s := S1x8x128) ![0, 0, 0] S1x8x128.size inb_S1x8x128_S1x8x128_0_0_0).toLoadRect.idx y)) = x :=
  funext fun y => at_unit x _ _ _ _ _ y rfl fun a => match a with
    | 0 => (Nat.zero_add _).symm | 1 => (Nat.zero_add _).symm | 2 => (Nat.zero_add _).symm

/-! ### The output blocks of the shifted scales -/

/-- Both rows of a block of scales that the kernel only shifts. -/
theorem blk21_at (x8 x9 : Vec Ideal S1x8x128 .f32) (i : Fin 2) (l : Fin 8) (n : Fin 84) :
    blk21 x8 x9 (ix3 i l n) = (if i = 0 then x8 else x9) (ix3 0 l (Cert.Rows.lonLane n)) := by
  match i with
  | 0 => exact (congrFun (congrArg (fun z => k0_pay103 (k0_pay102 (F := Ideal) z)) (whole_row x8)) _).trans (pay102_at x8 l n)
  | 1 => exact (congrFun (congrArg (fun z => k0_pay105 (F := Ideal) lane z) (whole_row x9)) _).trans (pay105_at x9 l n)

theorem blk23_at (x4 x5 : Vec Ideal S1x8x128 .f32) (i : Fin 2) (l : Fin 8) (n : Fin 84) :
    blk23 x4 x5 (ix3 i l n) = (if i = 0 then x4 else x5) (ix3 0 l (Cert.Rows.lonLane n)) := by
  match i with
  | 0 => exact (congrFun (congrArg (fun z => k0_pay104 (F := Ideal) lane z) (whole_row x4)) _).trans (pay104_at x4 l n)
  | 1 => exact (congrFun (congrArg (fun z => k0_pay1 (k0_pay106 (F := Ideal) lane z)) (whole_row x5)) _).trans (pay106_at x5 l n)

/-! ### The parameters -/

/-- The parameters, read out of the blocks that hold them. -/
def parIn (x10 : Vec Ideal S192x192 .i8) (x11 : Vec Ideal S192x768 .i8) (x12 : Vec Ideal S768x192 .i8) (x13 : Vec Ideal S768x384 .i8) (x14 : Vec Ideal S8x192 .f32) (x15 : Vec Ideal S2x768 .f32) (x16 : Vec Ideal S8x192 .f32) (x17 : Vec Ideal S1x384 .f32) : Par where
  wp a j := x10 (ix2 a j)
  sp j := x14 (ix2 0 j)
  bp j := x14 (ix2 1 j)
  g1 j := x14 (ix2 2 j)
  b1 j := x14 (ix2 3 j)
  wf a j := x11 (ix2 a j)
  sf j := x15 (ix2 0 j)
  bf j := x15 (ix2 1 j)
  wo a j := x12 (ix2 a j)
  so j := x14 (ix2 4 j)
  bo j := x14 (ix2 5 j)
  g2 j := x14 (ix2 6 j)
  b2 j := x14 (ix2 7 j)
  g3 := cat fun p j => x16 (ix2 ⟨p, by omega⟩ j)
  b3 := cat fun p j => x16 (ix2 ⟨4 + p, by omega⟩ j)
  wd a j := x13 (ix2 a j)
  sd j := x17 (ix2 0 j)

variable (x1 : Vec Ideal S2x84x8x192 .bf16) (x2 : Vec Ideal S1x84x8x192 .i8) (x3 : Vec Ideal S1x84x8x192 .i8) (x4 : Vec Ideal S1x8x128 .f32) (x5 : Vec Ideal S1x8x128 .f32) (x6 : Vec Ideal S1x84x8x192 .i8) (x7 : Vec Ideal S1x84x8x192 .i8) (x10 : Vec Ideal S192x192 .i8) (x11 : Vec Ideal S192x768 .i8) (x12 : Vec Ideal S768x192 .i8) (x13 : Vec Ideal S768x384 .i8) (x14 : Vec Ideal S8x192 .f32) (x15 : Vec Ideal S2x768 .f32) (x16 : Vec Ideal S8x192 .f32) (x17 : Vec Ideal S1x384 .f32) (k : Fin k0_t1_loop.trips)

theorem at_v1 (j : Fin 192) : (chunkIn x1 x2 x3 x4 x5 x6 x7 x10 x11 x12 x13 x14 x15 x16 x17 k).v1 (ix2 0 j) = x14 (ix2 0 j) := by
  refine (show (chunkIn x1 x2 x3 x4 x5 x6 x7 x10 x11 x12 x13 x14 x15 x16 x17 k).v1 (ix2 0 j) = _ from rfl).trans (Eq.trans ?_ (at_unit x14 ![0, 0] ![0, 0] (S1x192).size (inb_S8x192_S1x192_0_0) (ix2 (n0 := 1) (n1 := 192) 0 j) (ix2 0 j) rfl fun a => match a with | 0 => rfl | 1 => (Nat.zero_add _).symm))
  unfold chunkIn
  pointwise [k0_pay92]

theorem at_v3 (j : Fin 192) : (chunkIn x1 x2 x3 x4 x5 x6 x7 x10 x11 x12 x13 x14 x15 x16 x17 k).v3 (ix2 0 j) = x14 (ix2 1 j) := by
  refine (show (chunkIn x1 x2 x3 x4 x5 x6 x7 x10 x11 x12 x13 x14 x15 x16 x17 k).v3 (ix2 0 j) = _ from rfl).trans (Eq.trans ?_ (at_unit x14 ![1, 0] ![1, 0] (S1x192).size (inb_S8x192_S1x192_1_0) (ix2 (n0 := 1) (n1 := 192) 0 j) (ix2 1 j) rfl fun a => match a with | 0 => rfl | 1 => (Nat.zero_add _).symm))
  unfold chunkIn
  pointwise [k0_pay93]

theorem at_v5 (j : Fin 192) : (chunkIn x1 x2 x3 x4 x5 x6 x7 x10 x11 x12 x13 x14 x15 x16 x17 k).v5 (ix2 0 j) = x14 (ix2 2 j) := by
  refine (show (chunkIn x1 x2 x3 x4 x5 x6 x7 x10 x11 x12 x13 x14 x15 x16 x17 k).v5 (ix2 0 j) = _ from rfl).trans (Eq.trans ?_ (at_unit x14 ![2, 0] ![2, 0] (S1x192).size (inb_S8x192_S1x192_2_0) (ix2 (n0 := 1) (n1 := 192) 0 j) (ix2 2 j) rfl fun a => match a with | 0 => rfl | 1 => (Nat.zero_add _).symm))
  unfold chunkIn
  pointwise [k0_pay94]

theorem at_v7 (j : Fin 192) : (chunkIn x1 x2 x3 x4 x5 x6 x7 x10 x11 x12 x13 x14 x15 x16 x17 k).v7 (ix2 0 j) = x14 (ix2 3 j) := by
  refine (show (chunkIn x1 x2 x3 x4 x5 x6 x7 x10 x11 x12 x13 x14 x15 x16 x17 k).v7 (ix2 0 j) = _ from rfl).trans (Eq.trans ?_ (at_unit x14 ![3, 0] ![3, 0] (S1x192).size (inb_S8x192_S1x192_3_0) (ix2 (n0 := 1) (n1 := 192) 0 j) (ix2 3 j) rfl fun a => match a with | 0 => rfl | 1 => (Nat.zero_add _).symm))
  unfold chunkIn
  pointwise [k0_pay95]

theorem at_v9 (j : Fin 192) : (chunkIn x1 x2 x3 x4 x5 x6 x7 x10 x11 x12 x13 x14 x15 x16 x17 k).v9 (ix2 0 j) = x14 (ix2 4 j) := by
  refine (show (chunkIn x1 x2 x3 x4 x5 x6 x7 x10 x11 x12 x13 x14 x15 x16 x17 k).v9 (ix2 0 j) = _ from rfl).trans (Eq.trans ?_ (at_unit x14 ![4, 0] ![4, 0] (S1x192).size (inb_S8x192_S1x192_4_0) (ix2 (n0 := 1) (n1 := 192) 0 j) (ix2 4 j) rfl fun a => match a with | 0 => rfl | 1 => (Nat.zero_add _).symm))
  unfold chunkIn
  pointwise [k0_pay96]

theorem at_v11 (j : Fin 192) : (chunkIn x1 x2 x3 x4 x5 x6 x7 x10 x11 x12 x13 x14 x15 x16 x17 k).v11 (ix2 0 j) = x14 (ix2 5 j) := by
  refine (show (chunkIn x1 x2 x3 x4 x5 x6 x7 x10 x11 x12 x13 x14 x15 x16 x17 k).v11 (ix2 0 j) = _ from rfl).trans (Eq.trans ?_ (at_unit x14 ![5, 0] ![5, 0] (S1x192).size (inb_S8x192_S1x192_5_0) (ix2 (n0 := 1) (n1 := 192) 0 j) (ix2 5 j) rfl fun a => match a with | 0 => rfl | 1 => (Nat.zero_add _).symm))
  unfold chunkIn
  pointwise [k0_pay97]

theorem at_v13 (j : Fin 192) : (chunkIn x1 x2 x3 x4 x5 x6 x7 x10 x11 x12 x13 x14 x15 x16 x17 k).v13 (ix2 0 j) = x14 (ix2 6 j) := by
  refine (show (chunkIn x1 x2 x3 x4 x5 x6 x7 x10 x11 x12 x13 x14 x15 x16 x17 k).v13 (ix2 0 j) = _ from rfl).trans (Eq.trans ?_ (at_unit x14 ![6, 0] ![6, 0] (S1x192).size (inb_S8x192_S1x192_6_0) (ix2 (n0 := 1) (n1 := 192) 0 j) (ix2 6 j) rfl fun a => match a with | 0 => rfl | 1 => (Nat.zero_add _).symm))
  unfold chunkIn
  pointwise [k0_pay98]

theorem at_v15 (j : Fin 192) : (chunkIn x1 x2 x3 x4 x5 x6 x7 x10 x11 x12 x13 x14 x15 x16 x17 k).v15 (ix2 0 j) = x14 (ix2 7 j) := by
  refine (show (chunkIn x1 x2 x3 x4 x5 x6 x7 x10 x11 x12 x13 x14 x15 x16 x17 k).v15 (ix2 0 j) = _ from rfl).trans (Eq.trans ?_ (at_unit x14 ![7, 0] ![7, 0] (S1x192).size (inb_S8x192_S1x192_7_0) (ix2 (n0 := 1) (n1 := 192) 0 j) (ix2 7 j) rfl fun a => match a with | 0 => rfl | 1 => (Nat.zero_add _).symm))
  unfold chunkIn
  pointwise [k0_pay99]

theorem at_v17 (j : Fin 768) : (chunkIn x1 x2 x3 x4 x5 x6 x7 x10 x11 x12 x13 x14 x15 x16 x17 k).v17 (ix2 0 j) = x15 (ix2 0 j) := by
  refine (show (chunkIn x1 x2 x3 x4 x5 x6 x7 x10 x11 x12 x13 x14 x15 x16 x17 k).v17 (ix2 0 j) = _ from rfl).trans (Eq.trans ?_ (at_unit x15 ![0, 0] ![0, 0] (S1x768).size (inb_S2x768_S1x768_0_0) (ix2 (n0 := 1) (n1 := 768) 0 j) (ix2 0 j) rfl fun a => match a with | 0 => rfl | 1 => (Nat.zero_add _).symm))
  unfold chunkIn
  pointwise [k0_pay100]

theorem at_v19 (j : Fin 768) : (chunkIn x1 x2 x3 x4 x5 x6 x7 x10 x11 x12 x13 x14 x15 x16 x17 k).v19 (ix2 0 j) = x15 (ix2 1 j) := by
  refine (show (chunkIn x1 x2 x3 x4 x5 x6 x7 x10 x11 x12 x13 x14 x15 x16 x17 k).v19 (ix2 0 j) = _ from rfl).trans (Eq.trans ?_ (at_unit x15 ![1, 0] ![1, 0] (S1x768).size (inb_S2x768_S1x768_1_0) (ix2 (n0 := 1) (n1 := 768) 0 j) (ix2 1 j) rfl fun a => match a with | 0 => rfl | 1 => (Nat.zero_add _).symm))
  unfold chunkIn
  pointwise [k0_pay101]

theorem at_v266 (a : Fin 192) (j : Fin 192) : (chunkIn x1 x2 x3 x4 x5 x6 x7 x10 x11 x12 x13 x14 x15 x16 x17 k).v266 (ix2 a j) = x10 (ix2 a j) :=
  at_unit x10 _ ![0, 0] _ _ (ix2 (n0 := 192) (n1 := 192) a j) (ix2 a j) rfl fun b => match b with | 0 => (Nat.zero_add _).symm | 1 => (Nat.zero_add _).symm

theorem at_v503 (a : Fin 192) (j : Fin 768) : (chunkIn x1 x2 x3 x4 x5 x6 x7 x10 x11 x12 x13 x14 x15 x16 x17 k).v503 (ix2 a j) = x11 (ix2 a j) :=
  at_unit x11 _ ![0, 0] _ _ (ix2 (n0 := 192) (n1 := 768) a j) (ix2 a j) rfl fun b => match b with | 0 => (Nat.zero_add _).symm | 1 => (Nat.zero_add _).symm

theorem at_v721 (a : Fin 768) (j : Fin 192) : (chunkIn x1 x2 x3 x4 x5 x6 x7 x10 x11 x12 x13 x14 x15 x16 x17 k).v721 (ix2 a j) = x12 (ix2 a j) :=
  at_unit x12 _ ![0, 0] _ _ (ix2 (n0 := 768) (n1 := 192) a j) (ix2 a j) rfl fun b => match b with | 0 => (Nat.zero_add _).symm | 1 => (Nat.zero_add _).symm

theorem at_v905 (a : Fin 768) (j : Fin 384) : (chunkIn x1 x2 x3 x4 x5 x6 x7 x10 x11 x12 x13 x14 x15 x16 x17 k).v905 (ix2 a j) = x13 (ix2 a j) :=
  at_unit x13 _ ![0, 0] _ _ (ix2 (n0 := 768) (n1 := 384) a j) (ix2 a j) rfl fun b => match b with | 0 => (Nat.zero_add _).symm | 1 => (Nat.zero_add _).symm

theorem at_v805 (j : Fin 192) : (chunkIn x1 x2 x3 x4 x5 x6 x7 x10 x11 x12 x13 x14 x15 x16 x17 k).v805 (ix2 0 j) = x16 (ix2 0 j) :=
  at_unit x16 ![0, 0] ![0, 0] (S1x192).size (inb_S8x192_S1x192_0_0) (ix2 (n0 := 1) (n1 := 192) 0 j) (ix2 0 j) rfl fun a => match a with | 0 => rfl | 1 => (Nat.zero_add _).symm

theorem at_v817 (j : Fin 192) : (chunkIn x1 x2 x3 x4 x5 x6 x7 x10 x11 x12 x13 x14 x15 x16 x17 k).v817 (ix2 0 j) = x16 (ix2 1 j) :=
  at_unit x16 ![1, 0] ![1, 0] (S1x192).size (inb_S8x192_S1x192_1_0) (ix2 (n0 := 1) (n1 := 192) 0 j) (ix2 1 j) rfl fun a => match a with | 0 => rfl | 1 => (Nat.zero_add _).symm

theorem at_v829 (j : Fin 192) : (chunkIn x1 x2 x3 x4 x5 x6 x7 x10 x11 x12 x13 x14 x15 x16 x17 k).v829 (ix2 0 j) = x16 (ix2 2 j) :=
  at_unit x16 ![2, 0] ![2, 0] (S1x192).size (inb_S8x192_S1x192_2_0) (ix2 (n0 := 1) (n1 := 192) 0 j) (ix2 2 j) rfl fun a => match a with | 0 => rfl | 1 => (Nat.zero_add _).symm

theorem at_v841 (j : Fin 192) : (chunkIn x1 x2 x3 x4 x5 x6 x7 x10 x11 x12 x13 x14 x15 x16 x17 k).v841 (ix2 0 j) = x16 (ix2 3 j) :=
  at_unit x16 ![3, 0] ![3, 0] (S1x192).size (inb_S8x192_S1x192_3_0) (ix2 (n0 := 1) (n1 := 192) 0 j) (ix2 3 j) rfl fun a => match a with | 0 => rfl | 1 => (Nat.zero_add _).symm

theorem at_v810 (j : Fin 192) : (chunkIn x1 x2 x3 x4 x5 x6 x7 x10 x11 x12 x13 x14 x15 x16 x17 k).v810 (ix2 0 j) = x16 (ix2 4 j) :=
  at_unit x16 ![4, 0] ![4, 0] (S1x192).size (inb_S8x192_S1x192_4_0) (ix2 (n0 := 1) (n1 := 192) 0 j) (ix2 4 j) rfl fun a => match a with | 0 => rfl | 1 => (Nat.zero_add _).symm

theorem at_v822 (j : Fin 192) : (chunkIn x1 x2 x3 x4 x5 x6 x7 x10 x11 x12 x13 x14 x15 x16 x17 k).v822 (ix2 0 j) = x16 (ix2 5 j) :=
  at_unit x16 ![5, 0] ![5, 0] (S1x192).size (inb_S8x192_S1x192_5_0) (ix2 (n0 := 1) (n1 := 192) 0 j) (ix2 5 j) rfl fun a => match a with | 0 => rfl | 1 => (Nat.zero_add _).symm

theorem at_v834 (j : Fin 192) : (chunkIn x1 x2 x3 x4 x5 x6 x7 x10 x11 x12 x13 x14 x15 x16 x17 k).v834 (ix2 0 j) = x16 (ix2 6 j) :=
  at_unit x16 ![6, 0] ![6, 0] (S1x192).size (inb_S8x192_S1x192_6_0) (ix2 (n0 := 1) (n1 := 192) 0 j) (ix2 6 j) rfl fun a => match a with | 0 => rfl | 1 => (Nat.zero_add _).symm

theorem at_v846 (j : Fin 192) : (chunkIn x1 x2 x3 x4 x5 x6 x7 x10 x11 x12 x13 x14 x15 x16 x17 k).v846 (ix2 0 j) = x16 (ix2 7 j) :=
  at_unit x16 ![7, 0] ![7, 0] (S1x192).size (inb_S8x192_S1x192_7_0) (ix2 (n0 := 1) (n1 := 192) 0 j) (ix2 7 j) rfl fun a => match a with | 0 => rfl | 1 => (Nat.zero_add _).symm

theorem at_v911 (j : Fin 384) : (chunkIn x1 x2 x3 x4 x5 x6 x7 x10 x11 x12 x13 x14 x15 x16 x17 k).v911 (ix2 0 j) = x17 (ix2 0 j) :=
  at_unit x17 ![0, 0] ![0, 0] (S1x384).size (inb_S1x384_S1x384_0_0) (ix2 (n0 := 1) (n1 := 384) 0 j) (ix2 0 j) rfl fun a => match a with | 0 => rfl | 1 => (Nat.zero_add _).symm

/-- The parameters of every trip are the blocks' parameters. -/
theorem par_eq : (chunkIn x1 x2 x3 x4 x5 x6 x7 x10 x11 x12 x13 x14 x15 x16 x17 k).par = parIn x10 x11 x12 x13 x14 x15 x16 x17 := by
  unfold Chunk.par parIn
  simp only [at_v1, at_v3, at_v5, at_v7, at_v9, at_v11, at_v13, at_v15, at_v17, at_v19, at_v266, at_v503, at_v721, at_v905, at_v805, at_v817, at_v829, at_v841, at_v810, at_v822, at_v834, at_v846, at_v911]
  congr 1
  · refine congrArg cat (funext fun p => ?_)
    match p with
    | 0 => rfl
    | 1 => rfl
    | 2 => rfl
    | 3 => rfl
  · refine congrArg cat (funext fun p => ?_)
    match p with
    | 0 => rfl
    | 1 => rfl
    | 2 => rfl
    | 3 => rfl

/-! ### The tokens -/

/-- The longitude of a place of the trip. -/
def lonOf (q : Fin 12) : Fin 84 := ⟨12 * k + q, by have := k_lt k; omega⟩

theorem x_at (i : Fin 2) (q : Fin 12) (l : Fin 8) (j : Fin 192) :
    (chunkIn x1 x2 x3 x4 x5 x6 x7 x10 x11 x12 x13 x14 x15 x16 x17 k).v277 (ix4 i q l j) = x1 (ix4 i (lonOf k q) l j) :=
  at_unit x1 _ _ _ _ (ix4 (n0 := 2) (n1 := 12) (n2 := 8) (n3 := 192) i q l j) (ix4 i (lonOf k q) l j) (off4_eq k) fun a => match a with
    | 0 => (Nat.zero_add _).symm | 1 => rfl | 2 => (Nat.zero_add _).symm | 3 => (Nat.zero_add _).symm

theorem at_v89 (q : Fin 6) (l : Fin 8) (j : Fin 192) :
    (chunkIn x1 x2 x3 x4 x5 x6 x7 x10 x11 x12 x13 x14 x15 x16 x17 k).v89 (ix4 0 q l j) = x2 (ix4 0 (Cert.Rows.lon (lonOf k ⟨0 + q, by omega⟩)) l j) := by
  have hk := k_lt k
  have hq := q.isLt
  refine at_unit x2 _ _ _ _ (ix4 (n0 := 1) (n1 := 6) (n2 := 8) (n3 := 192) 0 q l j)
    (ix4 0 (Cert.Rows.lon (lonOf k ⟨0 + q, by omega⟩)) l j) (off1_0 k) fun a => ?_
  match a with
  | 0 => rfl
  | 1 =>
    show (12 * k.val + (0 + q.val) + 78) % 84 = (2 * k.val + 13) % 14 * 6 + q.val
    omega
  | 2 => exact (Nat.zero_add _).symm
  | 3 => exact (Nat.zero_add _).symm

theorem at_v122 (q : Fin 6) (l : Fin 8) (j : Fin 192) :
    (chunkIn x1 x2 x3 x4 x5 x6 x7 x10 x11 x12 x13 x14 x15 x16 x17 k).v122 (ix4 0 q l j) = x2 (ix4 0 (Cert.Rows.lon (lonOf k ⟨6 + q, by omega⟩)) l j) := by
  have hk := k_lt k
  have hq := q.isLt
  refine at_unit x2 _ _ _ _ (ix4 (n0 := 1) (n1 := 6) (n2 := 8) (n3 := 192) 0 q l j)
    (ix4 0 (Cert.Rows.lon (lonOf k ⟨6 + q, by omega⟩)) l j) (off1_1 k) fun a => ?_
  match a with
  | 0 => rfl
  | 1 =>
    show (12 * k.val + (6 + q.val) + 78) % 84 = (2 * k.val + 14) % 14 * 6 + q.val
    omega
  | 2 => exact (Nat.zero_add _).symm
  | 3 => exact (Nat.zero_add _).symm

theorem at_v155 (q : Fin 6) (l : Fin 8) (j : Fin 192) :
    (chunkIn x1 x2 x3 x4 x5 x6 x7 x10 x11 x12 x13 x14 x15 x16 x17 k).v155 (ix4 0 q l j) = x3 (ix4 0 (Cert.Rows.lon (lonOf k ⟨0 + q, by omega⟩)) l j) := by
  have hk := k_lt k
  have hq := q.isLt
  refine at_unit x3 _ _ _ _ (ix4 (n0 := 1) (n1 := 6) (n2 := 8) (n3 := 192) 0 q l j)
    (ix4 0 (Cert.Rows.lon (lonOf k ⟨0 + q, by omega⟩)) l j) (off1_0 k) fun a => ?_
  match a with
  | 0 => rfl
  | 1 =>
    show (12 * k.val + (0 + q.val) + 78) % 84 = (2 * k.val + 13) % 14 * 6 + q.val
    omega
  | 2 => exact (Nat.zero_add _).symm
  | 3 => exact (Nat.zero_add _).symm

theorem at_v188 (q : Fin 6) (l : Fin 8) (j : Fin 192) :
    (chunkIn x1 x2 x3 x4 x5 x6 x7 x10 x11 x12 x13 x14 x15 x16 x17 k).v188 (ix4 0 q l j) = x3 (ix4 0 (Cert.Rows.lon (lonOf k ⟨6 + q, by omega⟩)) l j) := by
  have hk := k_lt k
  have hq := q.isLt
  refine at_unit x3 _ _ _ _ (ix4 (n0 := 1) (n1 := 6) (n2 := 8) (n3 := 192) 0 q l j)
    (ix4 0 (Cert.Rows.lon (lonOf k ⟨6 + q, by omega⟩)) l j) (off1_1 k) fun a => ?_
  match a with
  | 0 => rfl
  | 1 =>
    show (12 * k.val + (6 + q.val) + 78) % 84 = (2 * k.val + 14) % 14 * 6 + q.val
    omega
  | 2 => exact (Nat.zero_add _).symm
  | 3 => exact (Nat.zero_add _).symm

theorem at_v97 (q : Fin 6) (l : Fin 8) (j : Fin 192) :
    (chunkIn x1 x2 x3 x4 x5 x6 x7 x10 x11 x12 x13 x14 x15 x16 x17 k).v97 (ix4 0 q l j) = x6 (ix4 0 (Cert.Rows.lon (lonOf k ⟨0 + q, by omega⟩)) l j) := by
  have hk := k_lt k
  have hq := q.isLt
  refine at_unit x6 _ _ _ _ (ix4 (n0 := 1) (n1 := 6) (n2 := 8) (n3 := 192) 0 q l j)
    (ix4 0 (Cert.Rows.lon (lonOf k ⟨0 + q, by omega⟩)) l j) (off1_0 k) fun a => ?_
  match a with
  | 0 => rfl
  | 1 =>
    show (12 * k.val + (0 + q.val) + 78) % 84 = (2 * k.val + 13) % 14 * 6 + q.val
    omega
  | 2 => exact (Nat.zero_add _).symm
  | 3 => exact (Nat.zero_add _).symm

theorem at_v130 (q : Fin 6) (l : Fin 8) (j : Fin 192) :
    (chunkIn x1 x2 x3 x4 x5 x6 x7 x10 x11 x12 x13 x14 x15 x16 x17 k).v130 (ix4 0 q l j) = x6 (ix4 0 (Cert.Rows.lon (lonOf k ⟨6 + q, by omega⟩)) l j) := by
  have hk := k_lt k
  have hq := q.isLt
  refine at_unit x6 _ _ _ _ (ix4 (n0 := 1) (n1 := 6) (n2 := 8) (n3 := 192) 0 q l j)
    (ix4 0 (Cert.Rows.lon (lonOf k ⟨6 + q, by omega⟩)) l j) (off1_1 k) fun a => ?_
  match a with
  | 0 => rfl
  | 1 =>
    show (12 * k.val + (6 + q.val) + 78) % 84 = (2 * k.val + 14) % 14 * 6 + q.val
    omega
  | 2 => exact (Nat.zero_add _).symm
  | 3 => exact (Nat.zero_add _).symm

theorem at_v163 (q : Fin 6) (l : Fin 8) (j : Fin 192) :
    (chunkIn x1 x2 x3 x4 x5 x6 x7 x10 x11 x12 x13 x14 x15 x16 x17 k).v163 (ix4 0 q l j) = x7 (ix4 0 (Cert.Rows.lon (lonOf k ⟨0 + q, by omega⟩)) l j) := by
  have hk := k_lt k
  have hq := q.isLt
  refine at_unit x7 _ _ _ _ (ix4 (n0 := 1) (n1 := 6) (n2 := 8) (n3 := 192) 0 q l j)
    (ix4 0 (Cert.Rows.lon (lonOf k ⟨0 + q, by omega⟩)) l j) (off1_0 k) fun a => ?_
  match a with
  | 0 => rfl
  | 1 =>
    show (12 * k.val + (0 + q.val) + 78) % 84 = (2 * k.val + 13) % 14 * 6 + q.val
    omega
  | 2 => exact (Nat.zero_add _).symm
  | 3 => exact (Nat.zero_add _).symm

theorem at_v196 (q : Fin 6) (l : Fin 8) (j : Fin 192) :
    (chunkIn x1 x2 x3 x4 x5 x6 x7 x10 x11 x12 x13 x14 x15 x16 x17 k).v196 (ix4 0 q l j) = x7 (ix4 0 (Cert.Rows.lon (lonOf k ⟨6 + q, by omega⟩)) l j) := by
  have hk := k_lt k
  have hq := q.isLt
  refine at_unit x7 _ _ _ _ (ix4 (n0 := 1) (n1 := 6) (n2 := 8) (n3 := 192) 0 q l j)
    (ix4 0 (Cert.Rows.lon (lonOf k ⟨6 + q, by omega⟩)) l j) (off1_1 k) fun a => ?_
  match a with
  | 0 => rfl
  | 1 =>
    show (12 * k.val + (6 + q.val) + 78) % 84 = (2 * k.val + 14) % 14 * 6 + q.val
    omega
  | 2 => exact (Nat.zero_add _).symm
  | 3 => exact (Nat.zero_add _).symm

theorem codes_at (i : Fin 2) (q : Fin 12) (l : Fin 8) (j : Fin 192) :
    (chunkIn x1 x2 x3 x4 x5 x6 x7 x10 x11 x12 x13 x14 x15 x16 x17 k).codes (row i q l) j = (if i = 0 then x2 else x3) (ix4 0 (Cert.Rows.lon (lonOf k q)) l j) := by
  have hq := q.isLt
  have hl := l.isLt
  unfold Chunk.codes
  match i with
  | 0 =>
    by_cases h : q.val < 6
    · have hr : (row 0 q l).val = 0 * 96 + q.val * 8 + l.val := rfl
      rw [dif_pos (by omega)]
      refine Eq.trans ?_ ((at_v89 x1 x2 x3 x4 x5 x6 x7 x10 x11 x12 x13 x14 x15 x16 x17 k ⟨q.val - 0, by omega⟩ l j).trans ?_)
      · refine congrArg (chunkIn x1 x2 x3 x4 x5 x6 x7 x10 x11 x12 x13 x14 x15 x16 x17 k).v89 ?_
        refine congrArg₂ (fun a b => ix4 0 a b j) (Fin.ext ?_) (Fin.ext ?_)
        · show ((row 0 q l).val) / 8 = q.val - 0
          omega
        · show ((row 0 q l).val) % 8 = l.val
          omega
      · refine congrArg (fun z => x2 (ix4 0 (Cert.Rows.lon (lonOf k z)) l j)) (Fin.ext ?_)
        show 0 + (q.val - 0) = q.val
        omega
    · have hr : (row 0 q l).val = 0 * 96 + q.val * 8 + l.val := rfl
      rw [dif_neg (by omega)]
      rw [dif_pos (by omega)]
      refine Eq.trans ?_ ((at_v122 x1 x2 x3 x4 x5 x6 x7 x10 x11 x12 x13 x14 x15 x16 x17 k ⟨q.val - 6, by omega⟩ l j).trans ?_)
      · refine congrArg (chunkIn x1 x2 x3 x4 x5 x6 x7 x10 x11 x12 x13 x14 x15 x16 x17 k).v122 ?_
        refine congrArg₂ (fun a b => ix4 0 a b j) (Fin.ext ?_) (Fin.ext ?_)
        · show ((row 0 q l).val - 48) / 8 = q.val - 6
          omega
        · show ((row 0 q l).val - 48) % 8 = l.val
          omega
      · refine congrArg (fun z => x2 (ix4 0 (Cert.Rows.lon (lonOf k z)) l j)) (Fin.ext ?_)
        show 6 + (q.val - 6) = q.val
        omega
  | 1 =>
    by_cases h : q.val < 6
    · have hr : (row 1 q l).val = 1 * 96 + q.val * 8 + l.val := rfl
      rw [dif_neg (by omega)]
      rw [dif_neg (by omega)]
      rw [dif_pos (by omega)]
      refine Eq.trans ?_ ((at_v155 x1 x2 x3 x4 x5 x6 x7 x10 x11 x12 x13 x14 x15 x16 x17 k ⟨q.val - 0, by omega⟩ l j).trans ?_)
      · refine congrArg (chunkIn x1 x2 x3 x4 x5 x6 x7 x10 x11 x12 x13 x14 x15 x16 x17 k).v155 ?_
        refine congrArg₂ (fun a b => ix4 0 a b j) (Fin.ext ?_) (Fin.ext ?_)
        · show ((row 1 q l).val - 48 - 48) / 8 = q.val - 0
          omega
        · show ((row 1 q l).val - 48 - 48) % 8 = l.val
          omega
      · refine congrArg (fun z => x3 (ix4 0 (Cert.Rows.lon (lonOf k z)) l j)) (Fin.ext ?_)
        show 0 + (q.val - 0) = q.val
        omega
    · have hr : (row 1 q l).val = 1 * 96 + q.val * 8 + l.val := rfl
      rw [dif_neg (by omega)]
      rw [dif_neg (by omega)]
      rw [dif_neg (by omega)]
      refine Eq.trans ?_ ((at_v188 x1 x2 x3 x4 x5 x6 x7 x10 x11 x12 x13 x14 x15 x16 x17 k ⟨q.val - 6, by omega⟩ l j).trans ?_)
      · refine congrArg (chunkIn x1 x2 x3 x4 x5 x6 x7 x10 x11 x12 x13 x14 x15 x16 x17 k).v188 ?_
        refine congrArg₂ (fun a b => ix4 0 a b j) (Fin.ext ?_) (Fin.ext ?_)
        · show ((row 1 q l).val - 48 - 48 - 48) / 8 = q.val - 6
          omega
        · show ((row 1 q l).val - 48 - 48 - 48) % 8 = l.val
          omega
      · refine congrArg (fun z => x3 (ix4 0 (Cert.Rows.lon (lonOf k z)) l j)) (Fin.ext ?_)
        show 6 + (q.val - 6) = q.val
        omega

theorem s_at (i : Fin 2) (q : Fin 12) (l : Fin 8) :
    col (chunkIn x1 x2 x3 x4 x5 x6 x7 x10 x11 x12 x13 x14 x15 x16 x17 k) (ix2 (row i q l) 0) = (if i = 0 then x4 else x5) (ix3 0 l (Cert.Rows.lonLane (lonOf k q))) := by
  refine (col_row (chunkIn x1 x2 x3 x4 x5 x6 x7 x10 x11 x12 x13 x14 x15 x16 x17 k) i q l).trans ?_
  match i with
  | 0 =>
    exact (congrFun (congrArg (k0_pay104 (F := Ideal) lane) (whole_row x4)) _).trans (pay104_at x4 l (lonOf k q))
  | 1 =>
    exact (congrFun (congrArg (fun z => k0_pay1 (k0_pay106 (F := Ideal) lane z)) (whole_row x5)) _).trans (pay106_at x5 l (lonOf k q))

/-- The token at row `i` of the block, longitude `n` and level `l`, from the blocks. -/
def tokIn (x1 : Vec Ideal S2x84x8x192 .bf16) (x2 x3 : Vec Ideal S1x84x8x192 .i8) (x4 x5 : Vec Ideal S1x8x128 .f32) (i : Fin 2) (n : Fin 84) (l : Fin 8) : Tok where
  x j := x1 (ix4 i n l j)
  o j := (if i = 0 then x2 else x3) (ix4 0 (Cert.Rows.lon n) l j)
  s := (if i = 0 then x4 else x5) (ix3 0 l (Cert.Rows.lonLane n))

/-- The token of a row of a trip. -/
theorem tok_eq (i : Fin 2) (q : Fin 12) (l : Fin 8) : (chunkIn x1 x2 x3 x4 x5 x6 x7 x10 x11 x12 x13 x14 x15 x16 x17 k).tok (row i q l) = tokIn x1 x2 x3 x4 x5 i (lonOf k q) l := by
  have hi := i.isLt
  have hq := q.isLt
  have hl := l.isLt
  have e0 : (⟨(row i q l).val / 96, by omega⟩ : Fin 2) = i := Fin.ext (show (i.val * 96 + q.val * 8 + l.val) / 96 = i.val by omega)
  have e1 : (⟨(row i q l).val / 8 % 12, by omega⟩ : Fin 12) = q := Fin.ext (show (i.val * 96 + q.val * 8 + l.val) / 8 % 12 = q.val by omega)
  have e2 : (⟨(row i q l).val % 8, by omega⟩ : Fin 8) = l := Fin.ext (show (i.val * 96 + q.val * 8 + l.val) % 8 = l.val by omega)
  unfold Chunk.tok tokIn
  rw [s_at, e0, e1, e2]
  congr 1
  · exact funext fun j => x_at x1 x2 x3 x4 x5 x6 x7 x10 x11 x12 x13 x14 x15 x16 x17 k i q l j
  · exact funext fun j => codes_at x1 x2 x3 x4 x5 x6 x7 x10 x11 x12 x13 x14 x15 x16 x17 k i q l j

end Cert.KernelIdeal.Val

end
-- ==== Proof.KernelInputs.lean ====
/- What the input blocks of a grid point read: the parameters and the tokens of the whole arrays. -/
module

public import proofs.«01_k».proof.Proof.KernelRun
public import proofs.«01_k».proof.Proof.KernelPick
public import Idealize.ShloMosaic.Lib.Pipeline.ValueKit
public import Idealize.ShloMosaic.Lib.Pointwise
public import Idealize.ShloMosaic.Lib.Claim

@[expose] public section

set_option maxRecDepth 16384
noncomputable section

namespace Cert.KernelIdeal.Val

attribute [ext] Cert.Rows.Par Cert.Rows.Tok

open Idealize.ShloMosaic Idealize.ShloMosaic.TcCoe Idealize.SL.Sem
open Cert.KernelIdeal Cert.KernelIdeal.Gen
open Cert.Rows (Par Tok Data cat lat lon lonLane)

variable (m : (ℓ : Loc nD τ sig) → Buf (Elt Ideal) ℓ) (c : Dev nD)

/-- The arrays that hold one entry per place. -/
def dataOf : Data where
  x l a n j := (show Vec Ideal S1x8x186x84x192 .bf16 from m ((c : Thread nD τ).loc main_arg0)) (ix5 0 l a n j)
  oc a n l j := (show Vec Ideal S186x84x8x192 .i8 from m ((c : Thread nD τ).loc main_arg1)) (ix4 a n l j)
  os a l n := (show Vec Ideal S186x8x128 .f32 from m ((c : Thread nD τ).loc main_arg2)) (ix3 a l n)

/-- The parameters. -/
def parOf : Par where
  wp a j := (show Vec Ideal S6x32x192 .i8 from m ((c : Thread nD τ).loc main_arg5)) (ix3 ⟨a / 32, by omega⟩ ⟨a % 32, by omega⟩ j)
  sp j := (show Vec Ideal S192 .f32 from m ((c : Thread nD τ).loc main_arg6)) (ix1 j)
  bp j := (show Vec Ideal S192 .f32 from m ((c : Thread nD τ).loc main_arg7)) (ix1 j)
  g1 j := (show Vec Ideal S192 .f32 from m ((c : Thread nD τ).loc main_arg14)) (ix1 j)
  b1 j := (show Vec Ideal S192 .f32 from m ((c : Thread nD τ).loc main_arg15)) (ix1 j)
  wf a j := (show Vec Ideal S192x768 .i8 from m ((c : Thread nD τ).loc main_arg8)) (ix2 a j)
  sf j := (show Vec Ideal S768 .f32 from m ((c : Thread nD τ).loc main_arg9)) (ix1 j)
  bf j := (show Vec Ideal S768 .f32 from m ((c : Thread nD τ).loc main_arg10)) (ix1 j)
  wo a j := (show Vec Ideal S768x192 .i8 from m ((c : Thread nD τ).loc main_arg11)) (ix2 a j)
  so j := (show Vec Ideal S192 .f32 from m ((c : Thread nD τ).loc main_arg12)) (ix1 j)
  bo j := (show Vec Ideal S192 .f32 from m ((c : Thread nD τ).loc main_arg13)) (ix1 j)
  g2 j := (show Vec Ideal S192 .f32 from m ((c : Thread nD τ).loc main_arg16)) (ix1 j)
  b2 j := (show Vec Ideal S192 .f32 from m ((c : Thread nD τ).loc main_arg17)) (ix1 j)
  g3 j := (show Vec Ideal S768 .f32 from m ((c : Thread nD τ).loc main_arg18)) (ix1 j)
  b3 j := (show Vec Ideal S768 .f32 from m ((c : Thread nD τ).loc main_arg19)) (ix1 j)
  wd a j := (show Vec Ideal S768x384 .i8 from m ((c : Thread nD τ).loc main_arg20)) (ix2 a j)
  sd j := (show Vec Ideal S384 .f32 from m ((c : Thread nD τ).loc main_arg21)) (ix1 j)

theorem idx0 : ∀ t : Fin cfg0.N, win0_0.index t = ![t.val, 0, 0, 0] := (by decide +kernel : ∀ t : Fin grid0.N, _)
theorem idx1 : ∀ t : Fin cfg0.N, win0_1.index t = ![(2 * t.val + 183) % 186, 0, 0, 0] := (by decide +kernel : ∀ t : Fin grid0.N, _)
theorem idx2 : ∀ t : Fin cfg0.N, win0_2.index t = ![(2 * t.val + 184) % 186, 0, 0, 0] := (by decide +kernel : ∀ t : Fin grid0.N, _)
theorem idx3 : ∀ t : Fin cfg0.N, win0_3.index t = ![(2 * t.val + 183) % 186, 0, 0] := (by decide +kernel : ∀ t : Fin grid0.N, _)
theorem idx4 : ∀ t : Fin cfg0.N, win0_4.index t = ![(2 * t.val + 184) % 186, 0, 0] := (by decide +kernel : ∀ t : Fin grid0.N, _)
theorem idx5 : ∀ t : Fin cfg0.N, win0_5.index t = ![(2 * t.val + 183) % 186, 0, 0, 0] := (by decide +kernel : ∀ t : Fin grid0.N, _)
theorem idx6 : ∀ t : Fin cfg0.N, win0_6.index t = ![(2 * t.val + 184) % 186, 0, 0, 0] := (by decide +kernel : ∀ t : Fin grid0.N, _)
theorem idx7 : ∀ t : Fin cfg0.N, win0_7.index t = ![(2 * t.val + 183) % 186, 0, 0] := (by decide +kernel : ∀ t : Fin grid0.N, _)
theorem idx8 : ∀ t : Fin cfg0.N, win0_8.index t = ![(2 * t.val + 184) % 186, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![t.val, 0, 0, 0] := (by decide +kernel : ∀ t : Fin grid0.N, _)
theorem idx18 : ∀ t : Fin cfg0.N, win0_18.index t = ![t.val, 0, 0, 0] := (by decide +kernel : ∀ t : Fin grid0.N, _)
theorem idx19 : ∀ t : Fin cfg0.N, win0_19.index t = ![t.val, 0, 0, 0] := (by decide +kernel : ∀ t : Fin grid0.N, _)
theorem idx20 : ∀ t : Fin cfg0.N, win0_20.index t = ![t.val, 0, 0] := (by decide +kernel : ∀ t : Fin grid0.N, _)
theorem idx21 : ∀ t : Fin cfg0.N, win0_21.index t = ![t.val, 0, 0, 0] := (by decide +kernel : ∀ t : Fin grid0.N, _)
theorem idx22 : ∀ t : Fin cfg0.N, win0_22.index t = ![t.val, 0, 0] := (by decide +kernel : ∀ t : Fin grid0.N, _)
theorem idx23 : ∀ t : Fin cfg0.N, win0_23.index t = ![t.val, 0, 0, 0] := (by decide +kernel : ∀ t : Fin grid0.N, _)
theorem idx24 : ∀ t : Fin cfg0.N, win0_24.index t = ![t.val, 0, 0] := (by decide +kernel : ∀ t : Fin grid0.N, _)
theorem idx25 : ∀ t : Fin cfg0.N, win0_25.index t = ![t.val, 0, 0, 0] := (by decide +kernel : ∀ t : Fin grid0.N, _)
theorem idx26 : ∀ t : Fin cfg0.N, win0_26.index t = ![t.val, 0, 0] := (by decide +kernel : ∀ t : Fin grid0.N, _)
theorem idx27 : ∀ t : Fin cfg0.N, win0_27.index t = ![t.val, 0, 0, 0] := (by decide +kernel : ∀ t : Fin grid0.N, _)
theorem idx28 : ∀ t : Fin cfg0.N, win0_28.index t = ![t.val, 0, 0] := (by decide +kernel : ∀ t : Fin grid0.N, _)

theorem iblk1 (t : Fin cfg0.N) (n : Fin 84) (l : Fin 8) (j : Fin 192) :
    (show Vec Ideal S1x84x8x192 .i8 from iblk m c 1 t) (ix4 0 n l j) = (show Vec Ideal S186x84x8x192 .i8 from m ((c : Thread nD τ).loc main_arg1)) (ix4 ⟨(2 * t.val + 183) % 186, Nat.mod_lt _ (by norm_num)⟩ n l j) := by
  blk_ext [iblk, V, idx1 t]

theorem iblk2 (t : Fin cfg0.N) (n : Fin 84) (l : Fin 8) (j : Fin 192) :
    (show Vec Ideal S1x84x8x192 .i8 from iblk m c 2 t) (ix4 0 n l j) = (show Vec Ideal S186x84x8x192 .i8 from m ((c : Thread nD τ).loc main_arg1)) (ix4 ⟨(2 * t.val + 184) % 186, Nat.mod_lt _ (by norm_num)⟩ n l j) := by
  blk_ext [iblk, V, idx2 t]

theorem iblk5 (t : Fin cfg0.N) (n : Fin 84) (l : Fin 8) (j : Fin 192) :
    (show Vec Ideal S1x84x8x192 .i8 from iblk m c 5 t) (ix4 0 n l j) = (show Vec Ideal S186x84x8x192 .i8 from m ((c : Thread nD τ).loc main_arg3)) (ix4 ⟨(2 * t.val + 183) % 186, Nat.mod_lt _ (by norm_num)⟩ n l j) := by
  blk_ext [iblk, V, idx5 t]

theorem iblk6 (t : Fin cfg0.N) (n : Fin 84) (l : Fin 8) (j : Fin 192) :
    (show Vec Ideal S1x84x8x192 .i8 from iblk m c 6 t) (ix4 0 n l j) = (show Vec Ideal S186x84x8x192 .i8 from m ((c : Thread nD τ).loc main_arg3)) (ix4 ⟨(2 * t.val + 184) % 186, Nat.mod_lt _ (by norm_num)⟩ n l j) := by
  blk_ext [iblk, V, idx6 t]

theorem iblk3 (t : Fin cfg0.N) (l : Fin 8) (n : Fin 128) :
    (show Vec Ideal S1x8x128 .f32 from iblk m c 3 t) (ix3 0 l n) = (show Vec Ideal S186x8x128 .f32 from m ((c : Thread nD τ).loc main_arg2)) (ix3 ⟨(2 * t.val + 183) % 186, Nat.mod_lt _ (by norm_num)⟩ l n) := by
  blk_ext [iblk, V, idx3 t]

theorem iblk4 (t : Fin cfg0.N) (l : Fin 8) (n : Fin 128) :
    (show Vec Ideal S1x8x128 .f32 from iblk m c 4 t) (ix3 0 l n) = (show Vec Ideal S186x8x128 .f32 from m ((c : Thread nD τ).loc main_arg2)) (ix3 ⟨(2 * t.val + 184) % 186, Nat.mod_lt _ (by norm_num)⟩ l n) := by
  blk_ext [iblk, V, idx4 t]

theorem iblk7 (t : Fin cfg0.N) (l : Fin 8) (n : Fin 128) :
    (show Vec Ideal S1x8x128 .f32 from iblk m c 7 t) (ix3 0 l n) = (show Vec Ideal S186x8x128 .f32 from m ((c : Thread nD τ).loc main_arg4)) (ix3 ⟨(2 * t.val + 183) % 186, Nat.mod_lt _ (by norm_num)⟩ l n) := by
  blk_ext [iblk, V, idx7 t]

theorem iblk8 (t : Fin cfg0.N) (l : Fin 8) (n : Fin 128) :
    (show Vec Ideal S1x8x128 .f32 from iblk m c 8 t) (ix3 0 l n) = (show Vec Ideal S186x8x128 .f32 from m ((c : Thread nD τ).loc main_arg4)) (ix3 ⟨(2 * t.val + 184) % 186, Nat.mod_lt _ (by norm_num)⟩ l n) := by
  blk_ext [iblk, V, idx8 t]

theorem stack_0 (x0 x1 x2 x3 x4 x5 x6 x7 : Vec Ideal S192 .f32) (j : Fin 192) :
    concatenate S8x192 0 [⟨S1x192, broadcastInDim S1x192 ![1] bcast_S192_S1x192_1 x0⟩, ⟨S1x192, broadcastInDim S1x192 ![1] bcast_S192_S1x192_1 x1⟩, ⟨S1x192, broadcastInDim S1x192 ![1] bcast_S192_S1x192_1 x2⟩, ⟨S1x192, broadcastInDim S1x192 ![1] bcast_S192_S1x192_1 x3⟩, ⟨S1x192, broadcastInDim S1x192 ![1] bcast_S192_S1x192_1 x4⟩, ⟨S1x192, broadcastInDim S1x192 ![1] bcast_S192_S1x192_1 x5⟩, ⟨S1x192, broadcastInDim S1x192 ![1] bcast_S192_S1x192_1 x6⟩, ⟨S1x192, broadcastInDim S1x192 ![1] bcast_S192_S1x192_1 x7⟩] concatenates_S1x192_S1x192_S1x192_S1x192_S1x192_S1x192_S1x192_S1x192_S8x192_d0 (ix2 0 j) = x0 (ix1 j) := by
  pointwise

theorem stack_1 (x0 x1 x2 x3 x4 x5 x6 x7 : Vec Ideal S192 .f32) (j : Fin 192) :
    concatenate S8x192 0 [⟨S1x192, broadcastInDim S1x192 ![1] bcast_S192_S1x192_1 x0⟩, ⟨S1x192, broadcastInDim S1x192 ![1] bcast_S192_S1x192_1 x1⟩, ⟨S1x192, broadcastInDim S1x192 ![1] bcast_S192_S1x192_1 x2⟩, ⟨S1x192, broadcastInDim S1x192 ![1] bcast_S192_S1x192_1 x3⟩, ⟨S1x192, broadcastInDim S1x192 ![1] bcast_S192_S1x192_1 x4⟩, ⟨S1x192, broadcastInDim S1x192 ![1] bcast_S192_S1x192_1 x5⟩, ⟨S1x192, broadcastInDim S1x192 ![1] bcast_S192_S1x192_1 x6⟩, ⟨S1x192, broadcastInDim S1x192 ![1] bcast_S192_S1x192_1 x7⟩] concatenates_S1x192_S1x192_S1x192_S1x192_S1x192_S1x192_S1x192_S1x192_S8x192_d0 (ix2 1 j) = x1 (ix1 j) := by
  pointwise

theorem stack_2 (x0 x1 x2 x3 x4 x5 x6 x7 : Vec Ideal S192 .f32) (j : Fin 192) :
    concatenate S8x192 0 [⟨S1x192, broadcastInDim S1x192 ![1] bcast_S192_S1x192_1 x0⟩, ⟨S1x192, broadcastInDim S1x192 ![1] bcast_S192_S1x192_1 x1⟩, ⟨S1x192, broadcastInDim S1x192 ![1] bcast_S192_S1x192_1 x2⟩, ⟨S1x192, broadcastInDim S1x192 ![1] bcast_S192_S1x192_1 x3⟩, ⟨S1x192, broadcastInDim S1x192 ![1] bcast_S192_S1x192_1 x4⟩, ⟨S1x192, broadcastInDim S1x192 ![1] bcast_S192_S1x192_1 x5⟩, ⟨S1x192, broadcastInDim S1x192 ![1] bcast_S192_S1x192_1 x6⟩, ⟨S1x192, broadcastInDim S1x192 ![1] bcast_S192_S1x192_1 x7⟩] concatenates_S1x192_S1x192_S1x192_S1x192_S1x192_S1x192_S1x192_S1x192_S8x192_d0 (ix2 2 j) = x2 (ix1 j) := by
  pointwise

theorem stack_3 (x0 x1 x2 x3 x4 x5 x6 x7 : Vec Ideal S192 .f32) (j : Fin 192) :
    concatenate S8x192 0 [⟨S1x192, broadcastInDim S1x192 ![1] bcast_S192_S1x192_1 x0⟩, ⟨S1x192, broadcastInDim S1x192 ![1] bcast_S192_S1x192_1 x1⟩, ⟨S1x192, broadcastInDim S1x192 ![1] bcast_S192_S1x192_1 x2⟩, ⟨S1x192, broadcastInDim S1x192 ![1] bcast_S192_S1x192_1 x3⟩, ⟨S1x192, broadcastInDim S1x192 ![1] bcast_S192_S1x192_1 x4⟩, ⟨S1x192, broadcastInDim S1x192 ![1] bcast_S192_S1x192_1 x5⟩, ⟨S1x192, broadcastInDim S1x192 ![1] bcast_S192_S1x192_1 x6⟩, ⟨S1x192, broadcastInDim S1x192 ![1] bcast_S192_S1x192_1 x7⟩] concatenates_S1x192_S1x192_S1x192_S1x192_S1x192_S1x192_S1x192_S1x192_S8x192_d0 (ix2 3 j) = x3 (ix1 j) := by
  pointwise

theorem stack_4 (x0 x1 x2 x3 x4 x5 x6 x7 : Vec Ideal S192 .f32) (j : Fin 192) :
    concatenate S8x192 0 [⟨S1x192, broadcastInDim S1x192 ![1] bcast_S192_S1x192_1 x0⟩, ⟨S1x192, broadcastInDim S1x192 ![1] bcast_S192_S1x192_1 x1⟩, ⟨S1x192, broadcastInDim S1x192 ![1] bcast_S192_S1x192_1 x2⟩, ⟨S1x192, broadcastInDim S1x192 ![1] bcast_S192_S1x192_1 x3⟩, ⟨S1x192, broadcastInDim S1x192 ![1] bcast_S192_S1x192_1 x4⟩, ⟨S1x192, broadcastInDim S1x192 ![1] bcast_S192_S1x192_1 x5⟩, ⟨S1x192, broadcastInDim S1x192 ![1] bcast_S192_S1x192_1 x6⟩, ⟨S1x192, broadcastInDim S1x192 ![1] bcast_S192_S1x192_1 x7⟩] concatenates_S1x192_S1x192_S1x192_S1x192_S1x192_S1x192_S1x192_S1x192_S8x192_d0 (ix2 4 j) = x4 (ix1 j) := by
  pointwise

theorem stack_5 (x0 x1 x2 x3 x4 x5 x6 x7 : Vec Ideal S192 .f32) (j : Fin 192) :
    concatenate S8x192 0 [⟨S1x192, broadcastInDim S1x192 ![1] bcast_S192_S1x192_1 x0⟩, ⟨S1x192, broadcastInDim S1x192 ![1] bcast_S192_S1x192_1 x1⟩, ⟨S1x192, broadcastInDim S1x192 ![1] bcast_S192_S1x192_1 x2⟩, ⟨S1x192, broadcastInDim S1x192 ![1] bcast_S192_S1x192_1 x3⟩, ⟨S1x192, broadcastInDim S1x192 ![1] bcast_S192_S1x192_1 x4⟩, ⟨S1x192, broadcastInDim S1x192 ![1] bcast_S192_S1x192_1 x5⟩, ⟨S1x192, broadcastInDim S1x192 ![1] bcast_S192_S1x192_1 x6⟩, ⟨S1x192, broadcastInDim S1x192 ![1] bcast_S192_S1x192_1 x7⟩] concatenates_S1x192_S1x192_S1x192_S1x192_S1x192_S1x192_S1x192_S1x192_S8x192_d0 (ix2 5 j) = x5 (ix1 j) := by
  pointwise

theorem stack_6 (x0 x1 x2 x3 x4 x5 x6 x7 : Vec Ideal S192 .f32) (j : Fin 192) :
    concatenate S8x192 0 [⟨S1x192, broadcastInDim S1x192 ![1] bcast_S192_S1x192_1 x0⟩, ⟨S1x192, broadcastInDim S1x192 ![1] bcast_S192_S1x192_1 x1⟩, ⟨S1x192, broadcastInDim S1x192 ![1] bcast_S192_S1x192_1 x2⟩, ⟨S1x192, broadcastInDim S1x192 ![1] bcast_S192_S1x192_1 x3⟩, ⟨S1x192, broadcastInDim S1x192 ![1] bcast_S192_S1x192_1 x4⟩, ⟨S1x192, broadcastInDim S1x192 ![1] bcast_S192_S1x192_1 x5⟩, ⟨S1x192, broadcastInDim S1x192 ![1] bcast_S192_S1x192_1 x6⟩, ⟨S1x192, broadcastInDim S1x192 ![1] bcast_S192_S1x192_1 x7⟩] concatenates_S1x192_S1x192_S1x192_S1x192_S1x192_S1x192_S1x192_S1x192_S8x192_d0 (ix2 6 j) = x6 (ix1 j) := by
  pointwise

theorem stack_7 (x0 x1 x2 x3 x4 x5 x6 x7 : Vec Ideal S192 .f32) (j : Fin 192) :
    concatenate S8x192 0 [⟨S1x192, broadcastInDim S1x192 ![1] bcast_S192_S1x192_1 x0⟩, ⟨S1x192, broadcastInDim S1x192 ![1] bcast_S192_S1x192_1 x1⟩, ⟨S1x192, broadcastInDim S1x192 ![1] bcast_S192_S1x192_1 x2⟩, ⟨S1x192, broadcastInDim S1x192 ![1] bcast_S192_S1x192_1 x3⟩, ⟨S1x192, broadcastInDim S1x192 ![1] bcast_S192_S1x192_1 x4⟩, ⟨S1x192, broadcastInDim S1x192 ![1] bcast_S192_S1x192_1 x5⟩, ⟨S1x192, broadcastInDim S1x192 ![1] bcast_S192_S1x192_1 x6⟩, ⟨S1x192, broadcastInDim S1x192 ![1] bcast_S192_S1x192_1 x7⟩] concatenates_S1x192_S1x192_S1x192_S1x192_S1x192_S1x192_S1x192_S1x192_S8x192_d0 (ix2 7 j) = x7 (ix1 j) := by
  pointwise

set_option maxHeartbeats 2000000 in
theorem V_main_v10 : V m c main_v10 = concatenate S8x192 0 [⟨S1x192, broadcastInDim S1x192 ![1] bcast_S192_S1x192_1 (show Vec Ideal S192 .f32 from m ((c : Thread nD τ).loc main_arg6))⟩, ⟨S1x192, broadcastInDim S1x192 ![1] bcast_S192_S1x192_1 (show Vec Ideal S192 .f32 from m ((c : Thread nD τ).loc main_arg7))⟩, ⟨S1x192, broadcastInDim S1x192 ![1] bcast_S192_S1x192_1 (show Vec Ideal S192 .f32 from m ((c : Thread nD τ).loc main_arg14))⟩, ⟨S1x192, broadcastInDim S1x192 ![1] bcast_S192_S1x192_1 (show Vec Ideal S192 .f32 from m ((c : Thread nD τ).loc main_arg15))⟩, ⟨S1x192, broadcastInDim S1x192 ![1] bcast_S192_S1x192_1 (show Vec Ideal S192 .f32 from m ((c : Thread nD τ).loc main_arg12))⟩, ⟨S1x192, broadcastInDim S1x192 ![1] bcast_S192_S1x192_1 (show Vec Ideal S192 .f32 from m ((c : Thread nD τ).loc main_arg13))⟩, ⟨S1x192, broadcastInDim S1x192 ![1] bcast_S192_S1x192_1 (show Vec Ideal S192 .f32 from m ((c : Thread nD τ).loc main_arg16))⟩, ⟨S1x192, broadcastInDim S1x192 ![1] bcast_S192_S1x192_1 (show Vec Ideal S192 .f32 from m ((c : Thread nD τ).loc main_arg17))⟩] concatenates_S1x192_S1x192_S1x192_S1x192_S1x192_S1x192_S1x192_S1x192_S8x192_d0 := by
  unfold V
  after_results
  rfl

theorem stack_high (x y : Vec Ideal S768 .f32) (p : Fin 4) (j : Fin 192) :
    concatenate S8x192 0 [⟨S4x192, shapeCast S4x192 x shapeCasts_S768_S4x192⟩, ⟨S4x192, shapeCast S4x192 y shapeCasts_S768_S4x192⟩] concatenates_S4x192_S4x192_S8x192_d0 (ix2 ⟨4 + p, by omega⟩ j) = y (ix1 ⟨192 * p + j, by omega⟩) := by
  pointwise
  refine congrArg y ?_
  blk_ext []

theorem V_main_v16 : V m c main_v16 = concatenate S8x192 0 [⟨S4x192, shapeCast S4x192 (show Vec Ideal S768 .f32 from m ((c : Thread nD τ).loc main_arg18)) shapeCasts_S768_S4x192⟩, ⟨S4x192, shapeCast S4x192 (show Vec Ideal S768 .f32 from m ((c : Thread nD τ).loc main_arg19)) shapeCasts_S768_S4x192⟩] concatenates_S4x192_S4x192_S8x192_d0 := by
  unfold V
  after_results
  rfl

theorem iblk13_eq (t : Fin cfg0.N) : (show Vec Ideal S8x192 .f32 from iblk m c 13 t) = V m c main_v10 := by
  blk_ext! [iblk, idx13 t]

theorem iblk14_eq (t : Fin cfg0.N) : (show Vec Ideal S2x768 .f32 from iblk m c 14 t) = V m c main_v13 := by
  blk_ext! [iblk, idx14 t]

theorem iblk15_eq (t : Fin cfg0.N) : (show Vec Ideal S8x192 .f32 from iblk m c 15 t) = V m c main_v16 := by
  blk_ext! [iblk, idx15 t]

theorem N_lt (t : Fin cfg0.N) : t.val < 93 := lt_of_lt_of_eq t.isLt N_0

theorem iblk0 (t : Fin cfg0.N) (i : Fin 2) (n : Fin 84) (l : Fin 8) (j : Fin 192) :
    (show Vec Ideal S2x84x8x192 .bf16 from iblk m c 0 t) (ix4 i n l j) = (dataOf m c).x l ⟨2 * t.val + i.val, by have := N_lt t; omega⟩ n j := by
  have := N_lt t
  unfold dataOf
  blk_simp [iblk]
  entry_read
  pointwise
  blk_ext [idx0 t]

theorem iblk9_wp (t : Fin cfg0.N) (a : Fin 192) (j : Fin 192) : (show Vec Ideal S192x192 .i8 from iblk m c 9 t) (ix2 a j) = (parOf m c).wp a j := by
  unfold parOf
  blk_simp [iblk]
  entry_read
  pointwise
  blk_ext [idx9 t]

theorem iblk10_wf (t : Fin cfg0.N) (a : Fin 192) (j : Fin 768) : (show Vec Ideal S192x768 .i8 from iblk m c 10 t) (ix2 a j) = (parOf m c).wf a j := by
  unfold parOf
  blk_ext [iblk, V, idx10 t]

theorem iblk11_wo (t : Fin cfg0.N) (a : Fin 768) (j : Fin 192) : (show Vec Ideal S768x192 .i8 from iblk m c 11 t) (ix2 a j) = (parOf m c).wo a j := by
  unfold parOf
  blk_ext [iblk, V, idx11 t]

theorem iblk12_wd (t : Fin cfg0.N) (a : Fin 768) (j : Fin 384) : (show Vec Ideal S768x384 .i8 from iblk m c 12 t) (ix2 a j) = (parOf m c).wd a j := by
  unfold parOf
  blk_ext [iblk, V, idx12 t]

theorem iblk16_sd (t : Fin cfg0.N) (j : Fin 384) : (show Vec Ideal S1x384 .f32 from iblk m c 16 t) (ix2 0 j) = (parOf m c).sd j := by
  unfold parOf
  blk_simp [iblk]
  entry_read
  pointwise
  blk_ext [idx16 t]

theorem iblk13_sp (t : Fin cfg0.N) (j : Fin 192) : (show Vec Ideal S8x192 .f32 from iblk m c 13 t) (ix2 0 j) = (parOf m c).sp j := by
  rw [iblk13_eq, V_main_v10]
  exact stack_0 _ _ _ _ _ _ _ _ j

theorem iblk13_bp (t : Fin cfg0.N) (j : Fin 192) : (show Vec Ideal S8x192 .f32 from iblk m c 13 t) (ix2 1 j) = (parOf m c).bp j := by
  rw [iblk13_eq, V_main_v10]
  exact stack_1 _ _ _ _ _ _ _ _ j

theorem iblk13_g1 (t : Fin cfg0.N) (j : Fin 192) : (show Vec Ideal S8x192 .f32 from iblk m c 13 t) (ix2 2 j) = (parOf m c).g1 j := by
  rw [iblk13_eq, V_main_v10]
  exact stack_2 _ _ _ _ _ _ _ _ j

theorem iblk13_b1 (t : Fin cfg0.N) (j : Fin 192) : (show Vec Ideal S8x192 .f32 from iblk m c 13 t) (ix2 3 j) = (parOf m c).b1 j := by
  rw [iblk13_eq, V_main_v10]
  exact stack_3 _ _ _ _ _ _ _ _ j

theorem iblk13_so (t : Fin cfg0.N) (j : Fin 192) : (show Vec Ideal S8x192 .f32 from iblk m c 13 t) (ix2 4 j) = (parOf m c).so j := by
  rw [iblk13_eq, V_main_v10]
  exact stack_4 _ _ _ _ _ _ _ _ j

theorem iblk13_bo (t : Fin cfg0.N) (j : Fin 192) : (show Vec Ideal S8x192 .f32 from iblk m c 13 t) (ix2 5 j) = (parOf m c).bo j := by
  rw [iblk13_eq, V_main_v10]
  exact stack_5 _ _ _ _ _ _ _ _ j

theorem iblk13_g2 (t : Fin cfg0.N) (j : Fin 192) : (show Vec Ideal S8x192 .f32 from iblk m c 13 t) (ix2 6 j) = (parOf m c).g2 j := by
  rw [iblk13_eq, V_main_v10]
  exact stack_6 _ _ _ _ _ _ _ _ j

theorem iblk13_b2 (t : Fin cfg0.N) (j : Fin 192) : (show Vec Ideal S8x192 .f32 from iblk m c 13 t) (ix2 7 j) = (parOf m c).b2 j := by
  rw [iblk13_eq, V_main_v10]
  exact stack_7 _ _ _ _ _ _ _ _ j

theorem iblk14_sf (t : Fin cfg0.N) (j : Fin 768) : (show Vec Ideal S2x768 .f32 from iblk m c 14 t) (ix2 0 j) = (parOf m c).sf j := by
  rw [iblk14_eq]
  unfold parOf
  entry_read
  pointwise

theorem iblk14_bf (t : Fin cfg0.N) (j : Fin 768) : (show Vec Ideal S2x768 .f32 from iblk m c 14 t) (ix2 1 j) = (parOf m c).bf j := by
  rw [iblk14_eq]
  unfold parOf
  entry_read
  pointwise

theorem iblk15_g3 (t : Fin cfg0.N) (p : Fin 4) (j : Fin 192) :
    (show Vec Ideal S8x192 .f32 from iblk m c 15 t) (ix2 ⟨p, by omega⟩ j) = (parOf m c).g3 ⟨192 * p + j, by omega⟩ := by
  rw [iblk15_eq]
  unfold parOf
  entry_read
  pointwise
  blk_point []

theorem iblk15_b3 (t : Fin cfg0.N) (p : Fin 4) (j : Fin 192) :
    (show Vec Ideal S8x192 .f32 from iblk m c 15 t) (ix2 ⟨4 + p, by omega⟩ j) = (parOf m c).b3 ⟨192 * p + j, by omega⟩ := by
  rw [iblk15_eq, V_main_v16]
  exact stack_high _ _ p j

/-- A row of 768 put together from four rows of 192 is the row of 768. -/
theorem cat_split (f : Fin 768 → EReal) : (cat fun p j => f ⟨192 * p + j, by omega⟩) = f := by
  funext y
  exact congrArg f (Fin.ext (Nat.div_add_mod y.val 192))

set_option maxHeartbeats 2000000 in
theorem par_in (t : Fin cfg0.N) : parIn (iblk m c 9 t) (iblk m c 10 t) (iblk m c 11 t) (iblk m c 12 t) (iblk m c 13 t) (iblk m c 14 t) (iblk m c 15 t) (iblk m c 16 t) = parOf m c := by
  refine Cert.Rows.Par.ext ?_ ?_ ?_ ?_ ?_ ?_ ?_ ?_ ?_ ?_ ?_ ?_ ?_ ?_ ?_ ?_ ?_
  · exact funext fun a => funext fun j => iblk9_wp m c t a j
  · exact funext fun j => iblk13_sp m c t j
  · exact funext fun j => iblk13_bp m c t j
  · exact funext fun j => iblk13_g1 m c t j
  · exact funext fun j => iblk13_b1 m c t j
  · exact funext fun a => funext fun j => iblk10_wf m c t a j
  · exact funext fun j => iblk14_sf m c t j
  · exact funext fun j => iblk14_bf m c t j
  · exact funext fun a => funext fun j => iblk11_wo m c t a j
  · exact funext fun j => iblk13_so m c t j
  · exact funext fun j => iblk13_bo m c t j
  · exact funext fun j => iblk13_g2 m c t j
  · exact funext fun j => iblk13_b2 m c t j
  · exact (congrArg cat (funext fun p => funext fun j => iblk15_g3 m c t p j)).trans (cat_split _)
  · exact (congrArg cat (funext fun p => funext fun j => iblk15_b3 m c t p j)).trans (cat_split _)
  · exact funext fun a => funext fun j => iblk12_wd m c t a j
  · exact funext fun j => iblk16_sd m c t j

theorem tok_in (t : Fin cfg0.N) (i : Fin 2) (n : Fin 84) (l : Fin 8) :
    tokIn (iblk m c 0 t) (iblk m c 1 t) (iblk m c 2 t) (iblk m c 3 t) (iblk m c 4 t) i n l
      = (dataOf m c).tok ⟨2 * t.val + i.val, by have := N_lt t; omega⟩ n l := by
  have e0 : (⟨(2 * t.val + 183) % 186, Nat.mod_lt _ (by norm_num)⟩ : Fin 186) = lat ⟨2 * t.val + (0 : Fin 2).val, by have := N_lt t; omega⟩ := rfl
  have e1 : (⟨(2 * t.val + 184) % 186, Nat.mod_lt _ (by norm_num)⟩ : Fin 186) = lat ⟨2 * t.val + (1 : Fin 2).val, by have := N_lt t; omega⟩ :=
    Fin.ext (congrArg (· % 186) (show 2 * t.val + 184 = 2 * t.val + 1 + 183 by omega))
  refine Cert.Rows.Tok.ext (funext fun j => iblk0 m c t i n l j) ?_ ?_
  · match i with
    | 0 => exact funext fun j => (iblk1 m c t (lon n) l j).trans (congrArg (fun a => (dataOf m c).oc a (lon n) l j) e0)
    | 1 => exact funext fun j => (iblk2 m c t (lon n) l j).trans (congrArg (fun a => (dataOf m c).oc a (lon n) l j) e1)
  · match i with
    | 0 => exact (iblk3 m c t l (lonLane n)).trans (congrArg (fun a => (dataOf m c).os a l (lonLane n)) e0)
    | 1 => exact (iblk4 m c t l (lonLane n)).trans (congrArg (fun a => (dataOf m c).os a l (lonLane n)) e1)

end Cert.KernelIdeal.Val

end
-- ==== Proof.KernelTiles.lean ====
/- The scale tiles over the trips of the kernel's loop: what each lane holds. -/
module

public import proofs.«01_k».proof.Proof.KernelRows
public import proofs.«01_k».proof.Proof.KernelBlock

@[expose] public section

set_option maxRecDepth 16384
noncomputable section

namespace Cert.KernelIdeal.Val

open Idealize.ShloMosaic Idealize.ShloMosaic.TcCoe
open Cert.KernelIdeal Cert.KernelIdeal.Gen
open Cert.Rows (Par Tok back codef code scale amax mean lnorm gelu proj y1 ms hid hs y2 merged ds down cat mean4 rstd4)

/-! ### The tiles -/

/-- A comparison of a lane with a place of the trip. -/
theorem sel (k b r w : ℕ) (hk : k < 7) (hb : b < 128) (hr : r < w) (hw : w ≤ 12) (x y : EReal) :
    Scalar.select (IntOp.cmpi CmpIPredicate.eq (BitVec.ofNat 32 b - BitVec.ofNat 32 (w * k)) (BitVec.ofNat 32 r)) x y
      = if b = w * k + r then x else y := by
  have hwk : w * k ≤ 12 * 7 := Nat.mul_le_mul hw (by omega)
  have e : (BitVec.ofNat 32 b - BitVec.ofNat 32 (w * k) = BitVec.ofNat 32 r) ↔ b = w * k + r := by
    generalize w * k = z at hwk ⊢
    rw [← BitVec.toNat_inj]
    simp only [BitVec.toNat_sub, BitVec.toNat_ofNat]
    omega
  by_cases h : b = w * k + r
  · rw [if_pos h, e.mpr h]
    simp [Scalar.select, IntOp.cmpi]
  · rw [if_neg h]
    have h' := fun h' => h (e.mp h')
    simp only [Scalar.select, IntOp.cmpi, beq_eq_false_iff_ne.mpr h']
    rfl

/-- A tile whose trips each fill their own lanes holds, after the trips, at each lane the value of the lane's trip. -/
theorem iter_sel {s : Shape} (f : Fin k0_t1_loop.trips → Vec Ideal s .f32 → Vec Ideal s .f32) (init : Vec Ideal s .f32)
    (y : s.Idx) (d : Fin k0_t1_loop.trips) (v : EReal)
    (h : ∀ k t, f k t y = if d = k then v else t y) :
    ∀ n : ℕ, d.val < n → n ≤ 7 → iter f init n y = v := by
  intro n
  induction n with
  | zero => intro hd _; omega
  | succ n ih =>
    intro hd hn
    have hn' : n < k0_t1_loop.trips := by rw [trips_eq]; omega
    rw [iter, dif_pos hn', h]
    split
    · rfl
    · rename_i hne
      refine ih ?_ (by omega)
      have : d.val ≠ n := fun e => hne (Fin.ext e)
      omega

/-- The tile of the first latitude row after a trip: the trip's lanes are filled, the others are kept. -/
theorem v412_at (C : Chunk Ideal) (hl : C.v20 = lane) (t : Vec Ideal S1x8x84 .f32) (l : Fin 8) (b : Fin 84) :
    C.v412 t (ix3 0 l b) = if trip b = C.k then C.v310 (ix2 (row 0 (place b) l) 0) else t (ix3 0 l b) := by
  have hk := k_lt C.k
  have hm : trip b = C.k ↔ b.val / 12 = C.k.val := ⟨fun h => congrArg Fin.val h, fun h => Fin.ext h⟩
  have h8 : ∀ b' : Fin 128, C.v208 (ix2 l b') = BitVec.ofNat 32 b' - BitVec.ofNat 32 (12 * C.k) := fun b' => by
    rw [Chunk.v208, hl]; exact pay22_at C.k l b'
  unfold Chunk.v412
  pointwise [k0_pay49, k0_pay46, k0_pay44, k0_pay45, k0_pay47, k0_pay48]
  simp only [h8]
  have hb := b.isLt
  rw [sel C.k b 11 12 hk (by omega) (by decide) (by decide)]
  rw [sel C.k b 10 12 hk (by omega) (by decide) (by decide)]
  rw [sel C.k b 9 12 hk (by omega) (by decide) (by decide)]
  rw [sel C.k b 8 12 hk (by omega) (by decide) (by decide)]
  rw [sel C.k b 7 12 hk (by omega) (by decide) (by decide)]
  rw [sel C.k b 6 12 hk (by omega) (by decide) (by decide)]
  rw [sel C.k b 5 12 hk (by omega) (by decide) (by decide)]
  rw [sel C.k b 4 12 hk (by omega) (by decide) (by decide)]
  rw [sel C.k b 3 12 hk (by omega) (by decide) (by decide)]
  rw [sel C.k b 2 12 hk (by omega) (by decide) (by decide)]
  rw [sel C.k b 1 12 hk (by omega) (by decide) (by decide)]
  rw [sel C.k b 0 12 hk (by omega) (by decide) (by decide)]
  by_cases hc : b.val / 12 = C.k.val
  · rw [if_pos (hm.mpr hc)]
    have hr : b.val = 12 * C.k.val + b.val % 12 := by omega
    have hlt : b.val % 12 < 12 := Nat.mod_lt _ (by decide)
    have hp : (place b).val = b.val % 12 := rfl
    generalize place b = p at hp ⊢
    match p, hp with
    | 0, hp =>
      have hp : 0 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show l.val = 0 * 96 + 0 * 8 + l.val by omega))
    | 1, hp =>
      have hp : 1 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 8 + l.val = 0 * 96 + 1 * 8 + l.val by omega))
    | 2, hp =>
      have hp : 2 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 16 + l.val = 0 * 96 + 2 * 8 + l.val by omega))
    | 3, hp =>
      have hp : 3 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 24 + l.val = 0 * 96 + 3 * 8 + l.val by omega))
    | 4, hp =>
      have hp : 4 = b.val % 12 := hp
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 32 + l.val = 0 * 96 + 4 * 8 + l.val by omega))
    | 5, hp =>
      have hp : 5 = b.val % 12 := hp
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 40 + l.val = 0 * 96 + 5 * 8 + l.val by omega))
    | 6, hp =>
      have hp : 6 = b.val % 12 := hp
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 48 + l.val = 0 * 96 + 6 * 8 + l.val by omega))
    | 7, hp =>
      have hp : 7 = b.val % 12 := hp
      rw [if_neg (by omega)]
      rw [if_neg (by omega)]
      rw [if_neg (by omega)]
      rw [if_neg (by omega)]
      rw [if_pos (by omega)]
      exact congrArg (fun r => C.v310 (ix2 r 0)) (Fin.ext (show 56 + l.val = 0 * 96 + 7 * 8 + l.val by omega))
    | 8, hp =>
      have hp : 8 = b.val % 12 := hp
      rw [if_neg (by omega)]
      rw [if_neg (by omega)]
      rw [if_neg (by omega)]
      rw [if_pos (by omega)]
      exact congrArg (fun r => C.v310 (ix2 r 0)) (Fin.ext (show 64 + l.val = 0 * 96 + 8 * 8 + l.val by omega))
    | 9, hp =>
      have hp : 9 = b.val % 12 := hp
      rw [if_neg (by omega)]
      rw [if_neg (by omega)]
      rw [if_pos (by omega)]
      exact congrArg (fun r => C.v310 (ix2 r 0)) (Fin.ext (show 72 + l.val = 0 * 96 + 9 * 8 + l.val by omega))
    | 10, hp =>
      have hp : 10 = b.val % 12 := hp
      rw [if_neg (by omega)]
      rw [if_pos (by omega)]
      exact congrArg (fun r => C.v310 (ix2 r 0)) (Fin.ext (show 80 + l.val = 0 * 96 + 10 * 8 + l.val by omega))
    | 11, hp =>
      have hp : 11 = b.val % 12 := hp
      rw [if_pos (by omega)]
      exact congrArg (fun r => C.v310 (ix2 r 0)) (Fin.ext (show 88 + l.val = 0 * 96 + 11 * 8 + l.val by omega))
  · rw [if_neg (fun h => hc (hm.mp h))]
    rw [if_neg (by omega), if_neg (by omega), if_neg (by omega), if_neg (by omega), if_neg (by omega), if_neg (by omega), if_neg (by omega), if_neg (by omega), if_neg (by omega), if_neg (by omega), if_neg (by omega), if_neg (by omega)]

/-- The tile of the second latitude row after a trip. -/
theorem v501_at (C : Chunk Ideal) (hl : C.v20 = lane) (t : Vec Ideal S1x8x84 .f32) (l : Fin 8) (b : Fin 84) :
    C.v501 t (ix3 0 l b) = if trip b = C.k then C.v310 (ix2 (row 1 (place b) l) 0) else t (ix3 0 l b) := by
  have hk := k_lt C.k
  have hm : trip b = C.k ↔ b.val / 12 = C.k.val := ⟨fun h => congrArg Fin.val h, fun h => Fin.ext h⟩
  have h8 : ∀ b' : Fin 128, C.v208 (ix2 l b') = BitVec.ofNat 32 b' - BitVec.ofNat 32 (12 * C.k) := fun b' => by
    rw [Chunk.v208, hl]; exact pay22_at C.k l b'
  unfold Chunk.v501
  pointwise [k0_pay55, k0_pay53, k0_pay50, k0_pay51, k0_pay52, k0_pay54]
  simp only [h8]
  have hb := b.isLt
  rw [sel C.k b 11 12 hk (by omega) (by decide) (by decide)]
  rw [sel C.k b 10 12 hk (by omega) (by decide) (by decide)]
  rw [sel C.k b 9 12 hk (by omega) (by decide) (by decide)]
  rw [sel C.k b 8 12 hk (by omega) (by decide) (by decide)]
  rw [sel C.k b 7 12 hk (by omega) (by decide) (by decide)]
  rw [sel C.k b 6 12 hk (by omega) (by decide) (by decide)]
  rw [sel C.k b 5 12 hk (by omega) (by decide) (by decide)]
  rw [sel C.k b 4 12 hk (by omega) (by decide) (by decide)]
  rw [sel C.k b 3 12 hk (by omega) (by decide) (by decide)]
  rw [sel C.k b 2 12 hk (by omega) (by decide) (by decide)]
  rw [sel C.k b 1 12 hk (by omega) (by decide) (by decide)]
  rw [sel C.k b 0 12 hk (by omega) (by decide) (by decide)]
  by_cases hc : b.val / 12 = C.k.val
  · rw [if_pos (hm.mpr hc)]
    have hr : b.val = 12 * C.k.val + b.val % 12 := by omega
    have hlt : b.val % 12 < 12 := Nat.mod_lt _ (by decide)
    have hp : (place b).val = b.val % 12 := rfl
    generalize place b = p at hp ⊢
    match p, hp with
    | 0, hp =>
      have hp : 0 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 96 + l.val = 1 * 96 + 0 * 8 + l.val by omega))
    | 1, hp =>
      have hp : 1 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 104 + l.val = 1 * 96 + 1 * 8 + l.val by omega))
    | 2, hp =>
      have hp : 2 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 112 + l.val = 1 * 96 + 2 * 8 + l.val by omega))
    | 3, hp =>
      have hp : 3 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 120 + l.val = 1 * 96 + 3 * 8 + l.val by omega))
    | 4, hp =>
      have hp : 4 = b.val % 12 := hp
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 128 + l.val = 1 * 96 + 4 * 8 + l.val by omega))
    | 5, hp =>
      have hp : 5 = b.val % 12 := hp
      rw [if_neg (by omega)]
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 136 + l.val = 1 * 96 + 5 * 8 + l.val by omega))
    | 6, hp =>
      have hp : 6 = b.val % 12 := hp
      rw [if_neg (by omega)]
      rw [if_neg (by omega)]
      rw [if_neg (by omega)]
      rw [if_neg (by omega)]
      rw [if_neg (by omega)]
      rw [if_pos (by omega)]
      exact congrArg (fun r => C.v310 (ix2 r 0)) (Fin.ext (show 144 + l.val = 1 * 96 + 6 * 8 + l.val by omega))
    | 7, hp =>
      have hp : 7 = b.val % 12 := hp
      rw [if_neg (by omega)]
      rw [if_neg (by omega)]
      rw [if_neg (by omega)]
      rw [if_neg (by omega)]
      rw [if_pos (by omega)]
      exact congrArg (fun r => C.v310 (ix2 r 0)) (Fin.ext (show 152 + l.val = 1 * 96 + 7 * 8 + l.val by omega))
    | 8, hp =>
      have hp : 8 = b.val % 12 := hp
      rw [if_neg (by omega)]
      rw [if_neg (by omega)]
      rw [if_neg (by omega)]
      rw [if_pos (by omega)]
      exact congrArg (fun r => C.v310 (ix2 r 0)) (Fin.ext (show 160 + l.val = 1 * 96 + 8 * 8 + l.val by omega))
    | 9, hp =>
      have hp : 9 = b.val % 12 := hp
      rw [if_neg (by omega)]
      rw [if_neg (by omega)]
      rw [if_pos (by omega)]
      exact congrArg (fun r => C.v310 (ix2 r 0)) (Fin.ext (show 168 + l.val = 1 * 96 + 9 * 8 + l.val by omega))
    | 10, hp =>
      have hp : 10 = b.val % 12 := hp
      rw [if_neg (by omega)]
      rw [if_pos (by omega)]
      exact congrArg (fun r => C.v310 (ix2 r 0)) (Fin.ext (show 176 + l.val = 1 * 96 + 10 * 8 + l.val by omega))
    | 11, hp =>
      have hp : 11 = b.val % 12 := hp
      rw [if_pos (by omega)]
      exact congrArg (fun r => C.v310 (ix2 r 0)) (Fin.ext (show 184 + l.val = 1 * 96 + 11 * 8 + l.val by omega))
  · rw [if_neg (fun h => hc (hm.mp h))]
    rw [if_neg (by omega), if_neg (by omega), if_neg (by omega), if_neg (by omega), if_neg (by omega), if_neg (by omega), if_neg (by omega), if_neg (by omega), if_neg (by omega), if_neg (by omega), if_neg (by omega), if_neg (by omega)]

/-- The hidden layer's tile of the first latitude row after a trip. -/
theorem v630_at (C : Chunk Ideal) (hl : C.v20 = lane) (t : Vec Ideal S1x8x84 .f32) (l : Fin 8) (b : Fin 84) :
    C.v630 t (ix3 0 l b) = if trip b = C.k then C.v528 (ix2 (row 0 (place b) l) 0) else t (ix3 0 l b) := by
  have hk := k_lt C.k
  have hm : trip b = C.k ↔ b.val / 12 = C.k.val := ⟨fun h => congrArg Fin.val h, fun h => Fin.ext h⟩
  have h8 : ∀ b' : Fin 128, C.v208 (ix2 l b') = BitVec.ofNat 32 b' - BitVec.ofNat 32 (12 * C.k) := fun b' => by
    rw [Chunk.v208, hl]; exact pay22_at C.k l b'
  unfold Chunk.v630
  pointwise [k0_pay63, k0_pay62, k0_pay60, k0_pay61]
  simp only [h8]
  have hb := b.isLt
  rw [sel C.k b 11 12 hk (by omega) (by decide) (by decide)]
  rw [sel C.k b 10 12 hk (by omega) (by decide) (by decide)]
  rw [sel C.k b 9 12 hk (by omega) (by decide) (by decide)]
  rw [sel C.k b 8 12 hk (by omega) (by decide) (by decide)]
  rw [sel C.k b 7 12 hk (by omega) (by decide) (by decide)]
  rw [sel C.k b 6 12 hk (by omega) (by decide) (by decide)]
  rw [sel C.k b 5 12 hk (by omega) (by decide) (by decide)]
  rw [sel C.k b 4 12 hk (by omega) (by decide) (by decide)]
  rw [sel C.k b 3 12 hk (by omega) (by decide) (by decide)]
  rw [sel C.k b 2 12 hk (by omega) (by decide) (by decide)]
  rw [sel C.k b 1 12 hk (by omega) (by decide) (by decide)]
  rw [sel C.k b 0 12 hk (by omega) (by decide) (by decide)]
  by_cases hc : b.val / 12 = C.k.val
  · rw [if_pos (hm.mpr hc)]
    have hr : b.val = 12 * C.k.val + b.val % 12 := by omega
    have hlt : b.val % 12 < 12 := Nat.mod_lt _ (by decide)
    have hp : (place b).val = b.val % 12 := rfl
    generalize place b = p at hp ⊢
    match p, hp with
    | 0, hp =>
      have hp : 0 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show l.val = 0 * 96 + 0 * 8 + l.val by omega))
    | 1, hp =>
      have hp : 1 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 8 + l.val = 0 * 96 + 1 * 8 + l.val by omega))
    | 2, hp =>
      have hp : 2 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 16 + l.val = 0 * 96 + 2 * 8 + l.val by omega))
    | 3, hp =>
      have hp : 3 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 24 + l.val = 0 * 96 + 3 * 8 + l.val by omega))
    | 4, hp =>
      have hp : 4 = b.val % 12 := hp
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 32 + l.val = 0 * 96 + 4 * 8 + l.val by omega))
    | 5, hp =>
      have hp : 5 = b.val % 12 := hp
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 40 + l.val = 0 * 96 + 5 * 8 + l.val by omega))
    | 6, hp =>
      have hp : 6 = b.val % 12 := hp
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 48 + l.val = 0 * 96 + 6 * 8 + l.val by omega))
    | 7, hp =>
      have hp : 7 = b.val % 12 := hp
      rw [if_neg (by omega)]
      rw [if_neg (by omega)]
      rw [if_neg (by omega)]
      rw [if_neg (by omega)]
      rw [if_pos (by omega)]
      exact congrArg (fun r => C.v528 (ix2 r 0)) (Fin.ext (show 56 + l.val = 0 * 96 + 7 * 8 + l.val by omega))
    | 8, hp =>
      have hp : 8 = b.val % 12 := hp
      rw [if_neg (by omega)]
      rw [if_neg (by omega)]
      rw [if_neg (by omega)]
      rw [if_pos (by omega)]
      exact congrArg (fun r => C.v528 (ix2 r 0)) (Fin.ext (show 64 + l.val = 0 * 96 + 8 * 8 + l.val by omega))
    | 9, hp =>
      have hp : 9 = b.val % 12 := hp
      rw [if_neg (by omega)]
      rw [if_neg (by omega)]
      rw [if_pos (by omega)]
      exact congrArg (fun r => C.v528 (ix2 r 0)) (Fin.ext (show 72 + l.val = 0 * 96 + 9 * 8 + l.val by omega))
    | 10, hp =>
      have hp : 10 = b.val % 12 := hp
      rw [if_neg (by omega)]
      rw [if_pos (by omega)]
      exact congrArg (fun r => C.v528 (ix2 r 0)) (Fin.ext (show 80 + l.val = 0 * 96 + 10 * 8 + l.val by omega))
    | 11, hp =>
      have hp : 11 = b.val % 12 := hp
      rw [if_pos (by omega)]
      exact congrArg (fun r => C.v528 (ix2 r 0)) (Fin.ext (show 88 + l.val = 0 * 96 + 11 * 8 + l.val by omega))
  · rw [if_neg (fun h => hc (hm.mp h))]
    rw [if_neg (by omega), if_neg (by omega), if_neg (by omega), if_neg (by omega), if_neg (by omega), if_neg (by omega), if_neg (by omega), if_neg (by omega), if_neg (by omega), if_neg (by omega), if_neg (by omega), if_neg (by omega)]

/-- The hidden layer's tile of the second latitude row after a trip. -/
theorem v719_at (C : Chunk Ideal) (hl : C.v20 = lane) (t : Vec Ideal S1x8x84 .f32) (l : Fin 8) (b : Fin 84) :
    C.v719 t (ix3 0 l b) = if trip b = C.k then C.v528 (ix2 (row 1 (place b) l) 0) else t (ix3 0 l b) := by
  have hk := k_lt C.k
  have hm : trip b = C.k ↔ b.val / 12 = C.k.val := ⟨fun h => congrArg Fin.val h, fun h => Fin.ext h⟩
  have h8 : ∀ b' : Fin 128, C.v208 (ix2 l b') = BitVec.ofNat 32 b' - BitVec.ofNat 32 (12 * C.k) := fun b' => by
    rw [Chunk.v208, hl]; exact pay22_at C.k l b'
  unfold Chunk.v719
  pointwise [k0_pay65, k0_pay64]
  simp only [h8]
  have hb := b.isLt
  rw [sel C.k b 11 12 hk (by omega) (by decide) (by decide)]
  rw [sel C.k b 10 12 hk (by omega) (by decide) (by decide)]
  rw [sel C.k b 9 12 hk (by omega) (by decide) (by decide)]
  rw [sel C.k b 8 12 hk (by omega) (by decide) (by decide)]
  rw [sel C.k b 7 12 hk (by omega) (by decide) (by decide)]
  rw [sel C.k b 6 12 hk (by omega) (by decide) (by decide)]
  rw [sel C.k b 5 12 hk (by omega) (by decide) (by decide)]
  rw [sel C.k b 4 12 hk (by omega) (by decide) (by decide)]
  rw [sel C.k b 3 12 hk (by omega) (by decide) (by decide)]
  rw [sel C.k b 2 12 hk (by omega) (by decide) (by decide)]
  rw [sel C.k b 1 12 hk (by omega) (by decide) (by decide)]
  rw [sel C.k b 0 12 hk (by omega) (by decide) (by decide)]
  by_cases hc : b.val / 12 = C.k.val
  · rw [if_pos (hm.mpr hc)]
    have hr : b.val = 12 * C.k.val + b.val % 12 := by omega
    have hlt : b.val % 12 < 12 := Nat.mod_lt _ (by decide)
    have hp : (place b).val = b.val % 12 := rfl
    generalize place b = p at hp ⊢
    match p, hp with
    | 0, hp =>
      have hp : 0 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 96 + l.val = 1 * 96 + 0 * 8 + l.val by omega))
    | 1, hp =>
      have hp : 1 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 104 + l.val = 1 * 96 + 1 * 8 + l.val by omega))
    | 2, hp =>
      have hp : 2 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 112 + l.val = 1 * 96 + 2 * 8 + l.val by omega))
    | 3, hp =>
      have hp : 3 = b.val % 12 := hp
      rw [if_neg (by omega)]
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 120 + l.val = 1 * 96 + 3 * 8 + l.val by omega))
    | 4, hp =>
      have hp : 4 = b.val % 12 := hp
      rw [if_neg (by omega)]
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 128 + l.val = 1 * 96 + 4 * 8 + l.val by omega))
    | 5, hp =>
      have hp : 5 = b.val % 12 := hp
      rw [if_neg (by omega)]
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 136 + l.val = 1 * 96 + 5 * 8 + l.val by omega))
    | 6, hp =>
      have hp : 6 = b.val % 12 := hp
      rw [if_neg (by omega)]
      rw [if_neg (by omega)]
      rw [if_neg (by omega)]
      rw [if_neg (by omega)]
      rw [if_neg (by omega)]
      rw [if_pos (by omega)]
      exact congrArg (fun r => C.v528 (ix2 r 0)) (Fin.ext (show 144 + l.val = 1 * 96 + 6 * 8 + l.val by omega))
    | 7, hp =>
      have hp : 7 = b.val % 12 := hp
      rw [if_neg (by omega)]
      rw [if_neg (by omega)]
      rw [if_neg (by omega)]
      rw [if_neg (by omega)]
      rw [if_pos (by omega)]
      exact congrArg (fun r => C.v528 (ix2 r 0)) (Fin.ext (show 152 + l.val = 1 * 96 + 7 * 8 + l.val by omega))
    | 8, hp =>
      have hp : 8 = b.val % 12 := hp
      rw [if_neg (by omega)]
      rw [if_neg (by omega)]
      rw [if_neg (by omega)]
      rw [if_pos (by omega)]
      exact congrArg (fun r => C.v528 (ix2 r 0)) (Fin.ext (show 160 + l.val = 1 * 96 + 8 * 8 + l.val by omega))
    | 9, hp =>
      have hp : 9 = b.val % 12 := hp
      rw [if_neg (by omega)]
      rw [if_neg (by omega)]
      rw [if_pos (by omega)]
      exact congrArg (fun r => C.v528 (ix2 r 0)) (Fin.ext (show 168 + l.val = 1 * 96 + 9 * 8 + l.val by omega))
    | 10, hp =>
      have hp : 10 = b.val % 12 := hp
      rw [if_neg (by omega)]
      rw [if_pos (by omega)]
      exact congrArg (fun r => C.v528 (ix2 r 0)) (Fin.ext (show 176 + l.val = 1 * 96 + 10 * 8 + l.val by omega))
    | 11, hp =>
      have hp : 11 = b.val % 12 := hp
      rw [if_pos (by omega)]
      exact congrArg (fun r => C.v528 (ix2 r 0)) (Fin.ext (show 184 + l.val = 1 * 96 + 11 * 8 + l.val by omega))
  · rw [if_neg (fun h => hc (hm.mp h))]
    rw [if_neg (by omega), if_neg (by omega), if_neg (by omega), if_neg (by omega), if_neg (by omega), if_neg (by omega), if_neg (by omega), if_neg (by omega), if_neg (by omega), if_neg (by omega), if_neg (by omega), if_neg (by omega)]

/-- The merged tile after a trip. -/
theorem v985_at (C : Chunk Ideal) (t : Vec Ideal S1x8x42 .f32) (l : Fin 8) (b : Fin 42) :
    C.v985 t (ix3 0 l b) = if trip2 b = C.k then C.v865 (ix3 (place2 b) l 0) else t (ix3 0 l b) := by
  have hk := k_lt C.k
  have hm : trip2 b = C.k ↔ b.val / 6 = C.k.val := ⟨fun h => congrArg Fin.val h, fun h => Fin.ext h⟩
  have h8 : Scalar.muli (Scf.iv 0#32 1#32 C.k) 6#32 = BitVec.ofNat 32 (6 * C.k) :=
    (by decide +kernel : ∀ k : Fin k0_t1_loop.trips, Scalar.muli (Scf.iv 0#32 1#32 k) 6#32 = BitVec.ofNat 32 (6 * k)) C.k
  have hs : ∀ x y : BitVec 32, IntOp.subi x y = x - y := fun _ _ => rfl
  unfold Chunk.v985
  pointwise [k0_pay5, k0_pay89, k0_pay90, k0_pay91]
  simp only [h8, hs]
  have hb := b.isLt
  rw [sel C.k b 5 6 hk (by omega) (by decide) (by decide)]
  rw [sel C.k b 4 6 hk (by omega) (by decide) (by decide)]
  rw [sel C.k b 3 6 hk (by omega) (by decide) (by decide)]
  rw [sel C.k b 2 6 hk (by omega) (by decide) (by decide)]
  rw [sel C.k b 1 6 hk (by omega) (by decide) (by decide)]
  rw [sel C.k b 0 6 hk (by omega) (by decide) (by decide)]
  by_cases hc : b.val / 6 = C.k.val
  · rw [if_pos (hm.mpr hc)]
    have hr : b.val = 6 * C.k.val + b.val % 6 := by omega
    have hlt : b.val % 6 < 6 := Nat.mod_lt _ (by decide)
    have hp : (place2 b).val = b.val % 6 := rfl
    generalize place2 b = p at hp ⊢
    match p, hp with
    | 0, hp =>
      have hp : 0 = b.val % 6 := hp
      rw [if_neg (by omega)]
      rw [if_neg (by omega)]
      rw [if_neg (by omega)]
      rw [if_neg (by omega)]
      rw [if_neg (by omega)]
      rw [if_pos (by omega)]
    | 1, hp =>
      have hp : 1 = b.val % 6 := hp
      rw [if_neg (by omega)]
      rw [if_neg (by omega)]
      rw [if_neg (by omega)]
      rw [if_neg (by omega)]
      rw [if_pos (by omega)]
    | 2, hp =>
      have hp : 2 = b.val % 6 := hp
      rw [if_neg (by omega)]
      rw [if_neg (by omega)]
      rw [if_neg (by omega)]
      rw [if_pos (by omega)]
    | 3, hp =>
      have hp : 3 = b.val % 6 := hp
      rw [if_neg (by omega)]
      rw [if_neg (by omega)]
      rw [if_pos (by omega)]
    | 4, hp =>
      have hp : 4 = b.val % 6 := hp
      rw [if_neg (by omega)]
      rw [if_pos (by omega)]
    | 5, hp =>
      have hp : 5 = b.val % 6 := hp
      rw [if_pos (by omega)]
  · rw [if_neg (fun h => hc (hm.mp h))]
    rw [if_neg (by omega), if_neg (by omega), if_neg (by omega), if_neg (by omega), if_neg (by omega), if_neg (by omega)]

end Cert.KernelIdeal.Val

end
-- ==== Proof.KernelValues.lean ====
/- What the output blocks of one grid point hold, from its input blocks. -/
module

public import proofs.«01_k».proof.Proof.KernelPick
public import proofs.«01_k».proof.Proof.KernelTiles

@[expose] public section

set_option maxRecDepth 16384
noncomputable section

namespace Cert.KernelIdeal.Val

open Idealize.ShloMosaic Idealize.ShloMosaic.TcCoe
open Cert.KernelIdeal Cert.KernelIdeal.Gen
open Cert.Rows (Par Tok cat code y1 ms hid hs y2 merged ds down)

variable (x1 : Vec Ideal S2x84x8x192 .bf16) (x2 : Vec Ideal S1x84x8x192 .i8) (x3 : Vec Ideal S1x84x8x192 .i8) (x4 : Vec Ideal S1x8x128 .f32) (x5 : Vec Ideal S1x8x128 .f32) (x6 : Vec Ideal S1x84x8x192 .i8) (x7 : Vec Ideal S1x84x8x192 .i8) (x10 : Vec Ideal S192x192 .i8) (x11 : Vec Ideal S192x768 .i8) (x12 : Vec Ideal S768x192 .i8) (x13 : Vec Ideal S768x384 .i8) (x14 : Vec Ideal S8x192 .f32) (x15 : Vec Ideal S2x768 .f32) (x16 : Vec Ideal S8x192 .f32) (x17 : Vec Ideal S1x384 .f32)

theorem lonOf_trip (n : Fin 84) : lonOf (trip n) (place n) = n :=
  Fin.ext (show 12 * (n.val / 12) + n.val % 12 = n.val by omega)

/-- The four tokens merged at pair `b` and level `l`, from the blocks. -/
def quadIn (x1 : Vec Ideal S2x84x8x192 .bf16) (x2 x3 : Vec Ideal S1x84x8x192 .i8) (x4 x5 : Vec Ideal S1x8x128 .f32) (b : Fin 42) (l : Fin 8) : Fin 4 → Tok :=
  ![tokIn x1 x2 x3 x4 x5 0 ⟨2 * b, by omega⟩ l, tokIn x1 x2 x3 x4 x5 0 ⟨2 * b + 1, by omega⟩ l,
    tokIn x1 x2 x3 x4 x5 1 ⟨2 * b, by omega⟩ l, tokIn x1 x2 x3 x4 x5 1 ⟨2 * b + 1, by omega⟩ l]

theorem tok_trip (i : Fin 2) (n : Fin 84) (l : Fin 8) :
    ((chunkIn x1 x2 x3 x4 x5 x6 x7 x10 x11 x12 x13 x14 x15 x16 x17) (trip n)).tok (row i (place n) l) = (tokIn x1 x2 x3 x4 x5 i n l) := by
  rw [tok_eq, lonOf_trip]

theorem tok_trip2 (i : Fin 2) (b : Fin 42) (q : Fin 2) (l : Fin 8) :
    ((chunkIn x1 x2 x3 x4 x5 x6 x7 x10 x11 x12 x13 x14 x15 x16 x17) (trip2 b)).tok (row5 i (place2 b) q l) = tokIn x1 x2 x3 x4 x5 i ⟨2 * b + q, by omega⟩ l := by
  have hr : row5 i (place2 b) q l = row i ⟨2 * (b.val % 6) + q, by omega⟩ l :=
    Fin.ext (show i.val * 96 + b.val % 6 * 16 + q.val * 8 + l.val = i.val * 96 + (2 * (b.val % 6) + q.val) * 8 + l.val by omega)
  have hn : lonOf (trip2 b) ⟨2 * (b.val % 6) + q, by omega⟩ = ⟨2 * b + q, by omega⟩ :=
    Fin.ext (show 12 * (b.val / 6) + (2 * (b.val % 6) + q.val) = 2 * b.val + q.val by omega)
  rw [hr, tok_eq, hn]

theorem quad_trip (b : Fin 42) (l : Fin 8) :
    ((chunkIn x1 x2 x3 x4 x5 x6 x7 x10 x11 x12 x13 x14 x15 x16 x17) (trip2 b)).quad (place2 b) l = quadIn x1 x2 x3 x4 x5 b l := by
  unfold Chunk.quad quadIn
  rw [tok_trip2, tok_trip2, tok_trip2, tok_trip2]
  rfl

/-- The stream after the block. -/
theorem blk18_at (i : Fin 2) (n : Fin 84) (l : Fin 8) (j : Fin 192) :
    blk18 (chunkIn x1 x2 x3 x4 x5 x6 x7 x10 x11 x12 x13 x14 x15 x16 x17) (ix4 i n l j) = y2 (parIn x10 x11 x12 x13 x14 x15 x16 x17) (tokIn x1 x2 x3 x4 x5 i n l) j := by
  refine (((chunkIn x1 x2 x3 x4 x5 x6 x7 x10 x11 x12 x13 x14 x15 x16 x17) (trip n)).v752_at i (place n) l j).trans ?_
  rw [par_eq, tok_trip]

/-- The codes after the attention branch. -/
theorem blk24_at (i : Fin 2) (n : Fin 84) (l : Fin 8) (j : Fin 192) :
    blk24 (chunkIn x1 x2 x3 x4 x5 x6 x7 x10 x11 x12 x13 x14 x15 x16 x17) (ix4 i n l j) = code (y1 (parIn x10 x11 x12 x13 x14 x15 x16 x17) (tokIn x1 x2 x3 x4 x5 i n l) j) (ms (parIn x10 x11 x12 x13 x14 x15 x16 x17) (tokIn x1 x2 x3 x4 x5 i n l)) := by
  refine (((chunkIn x1 x2 x3 x4 x5 x6 x7 x10 x11 x12 x13 x14 x15 x16 x17) (trip n)).v321_at i (place n) l j).trans ?_
  rw [par_eq, tok_trip]

/-- The codes of the hidden layer. -/
theorem blk26_at (i : Fin 2) (n : Fin 84) (l : Fin 8) (j : Fin 768) :
    blk26 (chunkIn x1 x2 x3 x4 x5 x6 x7 x10 x11 x12 x13 x14 x15 x16 x17) (ix4 i n l j) = code (hid (parIn x10 x11 x12 x13 x14 x15 x16 x17) (tokIn x1 x2 x3 x4 x5 i n l) j) (hs (parIn x10 x11 x12 x13 x14 x15 x16 x17) (tokIn x1 x2 x3 x4 x5 i n l)) := by
  refine (((chunkIn x1 x2 x3 x4 x5 x6 x7 x10 x11 x12 x13 x14 x15 x16 x17) (trip n)).v539_at i (place n) l j).trans ?_
  rw [par_eq, tok_trip]

/-- The downsampled stream. -/
theorem blk19_at (b : Fin 42) (l : Fin 8) (j : Fin 384) :
    blk19 (chunkIn x1 x2 x3 x4 x5 x6 x7 x10 x11 x12 x13 x14 x15 x16 x17) (ix4 0 b l j) = down (parIn x10 x11 x12 x13 x14 x15 x16 x17) (quadIn x1 x2 x3 x4 x5 b l) j := by
  refine (((chunkIn x1 x2 x3 x4 x5 x6 x7 x10 x11 x12 x13 x14 x15 x16 x17) (trip2 b)).v920_at (place2 b) l j).trans ?_
  rw [par_eq, quad_trip]

/-- The codes of the merged tokens. -/
theorem blk28_at (b : Fin 42) (l : Fin 8) (j : Fin 768) :
    blk28 (chunkIn x1 x2 x3 x4 x5 x6 x7 x10 x11 x12 x13 x14 x15 x16 x17) (ix4 0 b l j) = code (merged (parIn x10 x11 x12 x13 x14 x15 x16 x17) (quadIn x1 x2 x3 x4 x5 b l) j) (ds (parIn x10 x11 x12 x13 x14 x15 x16 x17) (quadIn x1 x2 x3 x4 x5 b l)) := by
  refine (((chunkIn x1 x2 x3 x4 x5 x6 x7 x10 x11 x12 x13 x14 x15 x16 x17) (trip2 b)).v902_at (place2 b) l j).trans ?_
  rw [par_eq, quad_trip]

/-- The scales after the attention branch. -/
theorem blk25_at (i : Fin 2) (l : Fin 8) (n : Fin 84) :
    blk25 (chunkIn x1 x2 x3 x4 x5 x6 x7 x10 x11 x12 x13 x14 x15 x16 x17) (ix3 i l n) = ms (parIn x10 x11 x12 x13 x14 x15 x16 x17) (tokIn x1 x2 x3 x4 x5 i n l) := by
  have h (i : Fin 2) : ((chunkIn x1 x2 x3 x4 x5 x6 x7 x10 x11 x12 x13 x14 x15 x16 x17) (trip n)).v310 (ix2 (row i (place n) l) 0) = ms (parIn x10 x11 x12 x13 x14 x15 x16 x17) (tokIn x1 x2 x3 x4 x5 i n l) := by
    rw [Chunk.v310_at, par_eq, tok_trip]
  match i with
  | 0 =>
    refine (iter_sel (fun k t => ((chunkIn x1 x2 x3 x4 x5 x6 x7 x10 x11 x12 x13 x14 x15 x16 x17) k).v412 t) _ (ix3 0 l n) (trip n) _ (fun k t => ?_) 7 (k_lt (trip n)) le_rfl).trans (h 0)
    refine (v412_at ((chunkIn x1 x2 x3 x4 x5 x6 x7 x10 x11 x12 x13 x14 x15 x16 x17) k) rfl t l n).trans ?_
    by_cases e : trip n = k
    · subst e; rw [if_pos rfl]; exact (if_pos rfl).trans rfl
    · rw [if_neg e]; exact if_neg e
  | 1 =>
    refine (iter_sel (fun k t => ((chunkIn x1 x2 x3 x4 x5 x6 x7 x10 x11 x12 x13 x14 x15 x16 x17) k).v501 t) _ (ix3 0 l n) (trip n) _ (fun k t => ?_) 7 (k_lt (trip n)) le_rfl).trans (h 1)
    refine (v501_at ((chunkIn x1 x2 x3 x4 x5 x6 x7 x10 x11 x12 x13 x14 x15 x16 x17) k) rfl t l n).trans ?_
    by_cases e : trip n = k
    · subst e; rw [if_pos rfl]; exact (if_pos rfl).trans rfl
    · rw [if_neg e]; exact if_neg e

/-- The scales of the hidden layer. -/
theorem blk27_at (i : Fin 2) (l : Fin 8) (n : Fin 84) :
    blk27 (chunkIn x1 x2 x3 x4 x5 x6 x7 x10 x11 x12 x13 x14 x15 x16 x17) (ix3 i l n) = hs (parIn x10 x11 x12 x13 x14 x15 x16 x17) (tokIn x1 x2 x3 x4 x5 i n l) := by
  have h (i : Fin 2) : ((chunkIn x1 x2 x3 x4 x5 x6 x7 x10 x11 x12 x13 x14 x15 x16 x17) (trip n)).v528 (ix2 (row i (place n) l) 0) = hs (parIn x10 x11 x12 x13 x14 x15 x16 x17) (tokIn x1 x2 x3 x4 x5 i n l) := by
    rw [Chunk.v528_at, par_eq, tok_trip]
  match i with
  | 0 =>
    refine (iter_sel (fun k t => ((chunkIn x1 x2 x3 x4 x5 x6 x7 x10 x11 x12 x13 x14 x15 x16 x17) k).v630 t) _ (ix3 0 l n) (trip n) _ (fun k t => ?_) 7 (k_lt (trip n)) le_rfl).trans (h 0)
    refine (v630_at ((chunkIn x1 x2 x3 x4 x5 x6 x7 x10 x11 x12 x13 x14 x15 x16 x17) k) rfl t l n).trans ?_
    by_cases e : trip n = k
    · subst e; rw [if_pos rfl]; exact (if_pos rfl).trans rfl
    · rw [if_neg e]; exact if_neg e
  | 1 =>
    refine (iter_sel (fun k t => ((chunkIn x1 x2 x3 x4 x5 x6 x7 x10 x11 x12 x13 x14 x15 x16 x17) k).v719 t) _ (ix3 0 l n) (trip n) _ (fun k t => ?_) 7 (k_lt (trip n)) le_rfl).trans (h 1)
    refine (v719_at ((chunkIn x1 x2 x3 x4 x5 x6 x7 x10 x11 x12 x13 x14 x15 x16 x17) k) rfl t l n).trans ?_
    by_cases e : trip n = k
    · subst e; rw [if_pos rfl]; exact (if_pos rfl).trans rfl
    · rw [if_neg e]; exact if_neg e

/-- The scales of the merged tokens. -/
theorem blk29_at (l : Fin 8) (b : Fin 42) : blk29 (chunkIn x1 x2 x3 x4 x5 x6 x7 x10 x11 x12 x13 x14 x15 x16 x17) (ix3 0 l b) = ds (parIn x10 x11 x12 x13 x14 x15 x16 x17) (quadIn x1 x2 x3 x4 x5 b l) := by
  have h : ((chunkIn x1 x2 x3 x4 x5 x6 x7 x10 x11 x12 x13 x14 x15 x16 x17) (trip2 b)).v865 (ix3 (place2 b) l 0) = ds (parIn x10 x11 x12 x13 x14 x15 x16 x17) (quadIn x1 x2 x3 x4 x5 b l) := by
    rw [Chunk.v865_at, par_eq, quad_trip]
  refine (iter_sel (fun k t => ((chunkIn x1 x2 x3 x4 x5 x6 x7 x10 x11 x12 x13 x14 x15 x16 x17) k).v985 t) _ (ix3 0 l b) (trip2 b) _ (fun k t => ?_) 7 (k_lt (trip2 b)) le_rfl).trans h
  refine (v985_at ((chunkIn x1 x2 x3 x4 x5 x6 x7 x10 x11 x12 x13 x14 x15 x16 x17) k) t l b).trans ?_
  by_cases e : trip2 b = k
  · subst e; rw [if_pos rfl]; exact (if_pos rfl).trans rfl
  · rw [if_neg e]; exact if_neg e

theorem place6_low (n : Fin 84) (h : n.val % 12 < 6) : lonOf (trip n) ⟨0 + place6 n, by omega⟩ = n :=
  Fin.ext (show 12 * (n.val / 12) + (0 + n.val % 6) = n.val by omega)

theorem place6_high (n : Fin 84) (h : ¬ n.val % 12 < 6) : lonOf (trip n) ⟨6 + place6 n, by omega⟩ = n :=
  Fin.ext (show 12 * (n.val / 12) + (6 + n.val % 6) = n.val by omega)

theorem v103_at (C : Chunk Ideal) (q : Fin 6) (l : Fin 8) (j : Fin 192) : C.v103 (ix4 0 q l j) = C.v97 (ix4 0 q l j) := by
  unfold Chunk.v103
  pointwise [k0_pay8]

theorem v136_at (C : Chunk Ideal) (q : Fin 6) (l : Fin 8) (j : Fin 192) : C.v136 (ix4 0 q l j) = C.v130 (ix4 0 q l j) := by
  unfold Chunk.v136
  pointwise [k0_pay12]

theorem v169_at (C : Chunk Ideal) (q : Fin 6) (l : Fin 8) (j : Fin 192) : C.v169 (ix4 0 q l j) = C.v163 (ix4 0 q l j) := by
  unfold Chunk.v169
  pointwise [k0_pay16]

theorem v202_at (C : Chunk Ideal) (q : Fin 6) (l : Fin 8) (j : Fin 192) : C.v202 (ix4 0 q l j) = C.v196 (ix4 0 q l j) := by
  unfold Chunk.v202
  pointwise [k0_pay20]

theorem v95_at (C : Chunk Ideal) (q : Fin 6) (l : Fin 8) (j : Fin 192) : C.v95 (ix4 0 q l j) = C.v89 (ix4 0 q l j) := by
  unfold Chunk.v95
  pointwise [k0_pay7, k0_pay6]

theorem v128_at (C : Chunk Ideal) (q : Fin 6) (l : Fin 8) (j : Fin 192) : C.v128 (ix4 0 q l j) = C.v122 (ix4 0 q l j) := by
  unfold Chunk.v128
  pointwise [k0_pay11, k0_pay10]

theorem v161_at (C : Chunk Ideal) (q : Fin 6) (l : Fin 8) (j : Fin 192) : C.v161 (ix4 0 q l j) = C.v155 (ix4 0 q l j) := by
  unfold Chunk.v161
  pointwise [k0_pay15, k0_pay14]

theorem v194_at (C : Chunk Ideal) (q : Fin 6) (l : Fin 8) (j : Fin 192) : C.v194 (ix4 0 q l j) = C.v188 (ix4 0 q l j) := by
  unfold Chunk.v194
  pointwise [k0_pay19, k0_pay18]

/-- The codes of the input, shifted. -/
theorem blk20_at (i : Fin 2) (n : Fin 84) (l : Fin 8) (j : Fin 192) :
    blk20 (chunkIn x1 x2 x3 x4 x5 x6 x7 x10 x11 x12 x13 x14 x15 x16 x17) (ix4 i n l j) = (if i = 0 then x6 else x7) (ix4 0 (Cert.Rows.lon n) l j) := by
  show win20 ((chunkIn x1 x2 x3 x4 x5 x6 x7 x10 x11 x12 x13 x14 x15 x16 x17) (trip n)) i (n.val % 12 < 6) (ix4 0 (place6 n) l j) = _
  unfold win20
  match i with
  | 0 =>
    by_cases h : n.val % 12 < 6
    · simp only [Fin.isValue, h, ↓reduceIte, one_ne_zero]
      refine (v103_at _ _ _ _).trans ((at_v97 x1 x2 x3 x4 x5 x6 x7 x10 x11 x12 x13 x14 x15 x16 x17 (trip n) (place6 n) l j).trans ?_)
      rw [place6_low n h]
    · simp only [Fin.isValue, h, ↓reduceIte, one_ne_zero]
      refine (v136_at _ _ _ _).trans ((at_v130 x1 x2 x3 x4 x5 x6 x7 x10 x11 x12 x13 x14 x15 x16 x17 (trip n) (place6 n) l j).trans ?_)
      rw [place6_high n h]
  | 1 =>
    by_cases h : n.val % 12 < 6
    · simp only [Fin.isValue, h, ↓reduceIte, one_ne_zero]
      refine (v169_at _ _ _ _).trans ((at_v163 x1 x2 x3 x4 x5 x6 x7 x10 x11 x12 x13 x14 x15 x16 x17 (trip n) (place6 n) l j).trans ?_)
      rw [place6_low n h]
    · simp only [Fin.isValue, h, ↓reduceIte, one_ne_zero]
      refine (v202_at _ _ _ _).trans ((at_v196 x1 x2 x3 x4 x5 x6 x7 x10 x11 x12 x13 x14 x15 x16 x17 (trip n) (place6 n) l j).trans ?_)
      rw [place6_high n h]

/-- The codes of the attention output, shifted. -/
theorem blk22_at (i : Fin 2) (n : Fin 84) (l : Fin 8) (j : Fin 192) :
    blk22 (chunkIn x1 x2 x3 x4 x5 x6 x7 x10 x11 x12 x13 x14 x15 x16 x17) (ix4 i n l j) = (if i = 0 then x2 else x3) (ix4 0 (Cert.Rows.lon n) l j) := by
  show win22 ((chunkIn x1 x2 x3 x4 x5 x6 x7 x10 x11 x12 x13 x14 x15 x16 x17) (trip n)) i (n.val % 12 < 6) (ix4 0 (place6 n) l j) = _
  unfold win22
  match i with
  | 0 =>
    by_cases h : n.val % 12 < 6
    · simp only [Fin.isValue, h, ↓reduceIte, one_ne_zero]
      refine (v95_at _ _ _ _).trans ((at_v89 x1 x2 x3 x4 x5 x6 x7 x10 x11 x12 x13 x14 x15 x16 x17 (trip n) (place6 n) l j).trans ?_)
      rw [place6_low n h]
    · simp only [Fin.isValue, h, ↓reduceIte, one_ne_zero]
      refine (v128_at _ _ _ _).trans ((at_v122 x1 x2 x3 x4 x5 x6 x7 x10 x11 x12 x13 x14 x15 x16 x17 (trip n) (place6 n) l j).trans ?_)
      rw [place6_high n h]
  | 1 =>
    by_cases h : n.val % 12 < 6
    · simp only [Fin.isValue, h, ↓reduceIte, one_ne_zero]
      refine (v161_at _ _ _ _).trans ((at_v155 x1 x2 x3 x4 x5 x6 x7 x10 x11 x12 x13 x14 x15 x16 x17 (trip n) (place6 n) l j).trans ?_)
      rw [place6_low n h]
    · simp only [Fin.isValue, h, ↓reduceIte, one_ne_zero]
      refine (v194_at _ _ _ _).trans ((at_v188 x1 x2 x3 x4 x5 x6 x7 x10 x11 x12 x13 x14 x15 x16 x17 (trip n) (place6 n) l j).trans ?_)
      rw [place6_high n h]

end Cert.KernelIdeal.Val

end
-- ==== Proof.KernelArrays.lean ====
/- The result arrays of the kernel, entry by entry, from its arguments. -/
module

public import proofs.«01_k».proof.Proof.KernelInputs
public import proofs.«01_k».proof.Proof.KernelValues

@[expose] public section

set_option maxRecDepth 16384
noncomputable section

namespace Cert.KernelIdeal.Val

open Idealize.ShloMosaic Idealize.ShloMosaic.TcCoe Idealize.SL.Sem
open Cert.KernelIdeal Cert.KernelIdeal.Gen
open Cert.Rows (Par Tok Data cat lat lon lonLane code y1 ms hid hs y2 merged ds down)

variable (m : (ℓ : Loc nD τ sig) → Buf (Elt Ideal) ℓ) (c : Dev nD)

theorem quad_in (t : Fin cfg0.N) (b : Fin 42) (l : Fin 8) :
    quadIn (iblk m c 0 t) (iblk m c 1 t) (iblk m c 2 t) (iblk m c 3 t) (iblk m c 4 t) b l
      = (dataOf m c).quad ⟨t.val, N_lt t⟩ b l := by
  unfold quadIn Data.quad
  rw [tok_in, tok_in, tok_in, tok_in]
  rfl

theorem lat_0 (t : Fin cfg0.N) : (⟨(2 * t.val + 183) % 186, Nat.mod_lt _ (by norm_num)⟩ : Fin 186) = lat ⟨2 * t.val + (0 : Fin 2).val, by have := N_lt t; omega⟩ := rfl

theorem lat_1 (t : Fin cfg0.N) : (⟨(2 * t.val + 184) % 186, Nat.mod_lt _ (by norm_num)⟩ : Fin 186) = lat ⟨2 * t.val + (1 : Fin 2).val, by have := N_lt t; omega⟩ :=
  Fin.ext (congrArg (· % 186) (show 2 * t.val + 184 = 2 * t.val + 1 + 183 by omega))

/-- The stream after the block. -/
def arr17 : Vec Ideal S186x84x8x192 .bf16 := fun i => y2 (parOf m c) ((dataOf m c).tok (i 0) (i 1) (i 2)) (i 3)

theorem val17 (t : Fin cfg0.N) (i : Fin 2) (n : Fin 84) (l : Fin 8) (j : Fin 192) : blk18 (chunkAt m c t) (ix4 i n l j) = arr17 m c (ix4 ⟨2 * t.val + i.val, by have := N_lt t; omega⟩ n l j) := by
  refine (blk18_at (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t) i n l j).trans ?_
  rw [par_in, tok_in]
  rfl

theorem final17 : (dats m 0 c).arrAt 17 (cfgs 0).N = arr17 m c := by
  refine (dats m 0 c).arrAt_eq_of_covers 17 _ (by decide +kernel) fun t _ y => ?_
  have ht := N_lt t
  have e : ((cfg0.win 17).blk t).view.emb y = (ix4 ⟨2 * t.val + (y 0).val, by have : (y 0).val < 2 := (y 0).isLt; omega⟩ (y 1) (y 2) (y 3) : S186x84x8x192.Idx) := by
    blk_ext [idx17 t]
  refine Eq.trans ?_ (congrArg (arr17 m c) e.symm)
  blk_simp
  rw [after0_17]
  refine (congrArg _ (eq_ix4 (n0 := 2) (n1 := 84) (n2 := 8) (n3 := 192) y)).trans ?_
  exact val17 m c t (y 0) (y 1) (y 2) (y 3)

/-- The downsampled stream. -/
def arr18 : Vec Ideal S93x42x8x384 .bf16 := fun i => down (parOf m c) ((dataOf m c).quad (i 0) (i 1) (i 2)) (i 3)

theorem val18 (t : Fin cfg0.N) (b : Fin 42) (l : Fin 8) (j : Fin 384) : blk19 (chunkAt m c t) (ix4 0 b l j) = arr18 m c (ix4 ⟨t.val, N_lt t⟩ b l j) := by
  refine (blk19_at (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t) b l j).trans ?_
  rw [par_in, quad_in]
  rfl

theorem final18 : (dats m 0 c).arrAt 18 (cfgs 0).N = arr18 m c := by
  refine (dats m 0 c).arrAt_eq_of_covers 18 _ (by decide +kernel) fun t _ y => ?_
  have ht := N_lt t
  have hy : (y 0).val < 1 := (y 0).isLt
  have e : ((cfg0.win 18).blk t).view.emb y = (ix4 ⟨t.val, ht⟩ (y 1) (y 2) (y 3) : S93x42x8x384.Idx) := by
    blk_ext [idx18 t]
  refine Eq.trans ?_ (congrArg (arr18 m c) e.symm)
  blk_simp
  rw [after0_18]
  have e0 : y = (ix4 (0 : Fin 1) (y 1) (y 2) (y 3) : S1x42x8x384.Idx) := by blk_ext []
  refine (congrArg _ e0).trans ?_
  exact val18 m c t (y 1) (y 2) (y 3)

/-- The codes of the input, shifted. -/
def arr19 : Vec Ideal S186x84x8x192 .i8 := fun i => (show Vec Ideal S186x84x8x192 .i8 from m ((c : Thread nD τ).loc main_arg3)) (ix4 (lat (i 0)) (lon (i 1)) (i 2) (i 3))

theorem val19 (t : Fin cfg0.N) (i : Fin 2) (n : Fin 84) (l : Fin 8) (j : Fin 192) : blk20 (chunkAt m c t) (ix4 i n l j) = arr19 m c (ix4 ⟨2 * t.val + i.val, by have := N_lt t; omega⟩ n l j) := by
  refine (blk20_at (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t) i n l j).trans ?_
  match i with
  | 0 => exact (iblk5 m c t (lon n) l j).trans (congrArg (fun a => (show Vec Ideal S186x84x8x192 .i8 from m ((c : Thread nD τ).loc main_arg3)) (ix4 a (lon n) l j)) (lat_0 t))
  | 1 => exact (iblk6 m c t (lon n) l j).trans (congrArg (fun a => (show Vec Ideal S186x84x8x192 .i8 from m ((c : Thread nD τ).loc main_arg3)) (ix4 a (lon n) l j)) (lat_1 t))

theorem final19 : (dats m 0 c).arrAt 19 (cfgs 0).N = arr19 m c := by
  refine (dats m 0 c).arrAt_eq_of_covers 19 _ (by decide +kernel) fun t _ y => ?_
  have ht := N_lt t
  have e : ((cfg0.win 19).blk t).view.emb y = (ix4 ⟨2 * t.val + (y 0).val, by have : (y 0).val < 2 := (y 0).isLt; omega⟩ (y 1) (y 2) (y 3) : S186x84x8x192.Idx) := by
    blk_ext [idx19 t]
  refine Eq.trans ?_ (congrArg (arr19 m c) e.symm)
  blk_simp
  rw [after0_19]
  refine (congrArg _ (eq_ix4 (n0 := 2) (n1 := 84) (n2 := 8) (n3 := 192) y)).trans ?_
  exact val19 m c t (y 0) (y 1) (y 2) (y 3)

/-- The scales of the input, shifted. -/
def arr20 : Vec Ideal S186x8x84 .f32 := fun i => (show Vec Ideal S186x8x128 .f32 from m ((c : Thread nD τ).loc main_arg4)) (ix3 (lat (i 0)) (i 1) (lonLane (i 2)))

theorem val20 (t : Fin cfg0.N) (i : Fin 2) (l : Fin 8) (n : Fin 84) : blk21 (iblk m c 7 t) (iblk m c 8 t) (ix3 i l n) = arr20 m c (ix3 ⟨2 * t.val + i.val, by have := N_lt t; omega⟩ l n) := by
  refine (blk21_at (iblk m c 7 t) (iblk m c 8 t) i l n).trans ?_
  match i with
  | 0 => exact (iblk7 m c t l (lonLane n)).trans (congrArg (fun a => (show Vec Ideal S186x8x128 .f32 from m ((c : Thread nD τ).loc main_arg4)) (ix3 a l (lonLane n))) (lat_0 t))
  | 1 => exact (iblk8 m c t l (lonLane n)).trans (congrArg (fun a => (show Vec Ideal S186x8x128 .f32 from m ((c : Thread nD τ).loc main_arg4)) (ix3 a l (lonLane n))) (lat_1 t))

theorem final20 : (dats m 0 c).arrAt 20 (cfgs 0).N = arr20 m c := by
  refine (dats m 0 c).arrAt_eq_of_covers 20 _ (by decide +kernel) fun t _ y => ?_
  have ht := N_lt t
  have e : ((cfg0.win 20).blk t).view.emb y = (ix3 ⟨2 * t.val + (y 0).val, by have : (y 0).val < 2 := (y 0).isLt; omega⟩ (y 1) (y 2) : S186x8x84.Idx) := by
    blk_ext [idx20 t]
  refine Eq.trans ?_ (congrArg (arr20 m c) e.symm)
  blk_simp
  rw [after0_20]
  refine (congrArg _ (eq_ix3 (n0 := 2) (n1 := 8) (n2 := 84) y)).trans ?_
  exact val20 m c t (y 0) (y 1) (y 2)

/-- The codes of the attention output, shifted. -/
def arr21 : Vec Ideal S186x84x8x192 .i8 := fun i => (show Vec Ideal S186x84x8x192 .i8 from m ((c : Thread nD τ).loc main_arg1)) (ix4 (lat (i 0)) (lon (i 1)) (i 2) (i 3))

theorem val21 (t : Fin cfg0.N) (i : Fin 2) (n : Fin 84) (l : Fin 8) (j : Fin 192) : blk22 (chunkAt m c t) (ix4 i n l j) = arr21 m c (ix4 ⟨2 * t.val + i.val, by have := N_lt t; omega⟩ n l j) := by
  refine (blk22_at (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t) i n l j).trans ?_
  match i with
  | 0 => exact (iblk1 m c t (lon n) l j).trans (congrArg (fun a => (show Vec Ideal S186x84x8x192 .i8 from m ((c : Thread nD τ).loc main_arg1)) (ix4 a (lon n) l j)) (lat_0 t))
  | 1 => exact (iblk2 m c t (lon n) l j).trans (congrArg (fun a => (show Vec Ideal S186x84x8x192 .i8 from m ((c : Thread nD τ).loc main_arg1)) (ix4 a (lon n) l j)) (lat_1 t))

theorem final21 : (dats m 0 c).arrAt 21 (cfgs 0).N = arr21 m c := by
  refine (dats m 0 c).arrAt_eq_of_covers 21 _ (by decide +kernel) fun t _ y => ?_
  have ht := N_lt t
  have e : ((cfg0.win 21).blk t).view.emb y = (ix4 ⟨2 * t.val + (y 0).val, by have : (y 0).val < 2 := (y 0).isLt; omega⟩ (y 1) (y 2) (y 3) : S186x84x8x192.Idx) := by
    blk_ext [idx21 t]
  refine Eq.trans ?_ (congrArg (arr21 m c) e.symm)
  blk_simp
  rw [after0_21]
  refine (congrArg _ (eq_ix4 (n0 := 2) (n1 := 84) (n2 := 8) (n3 := 192) y)).trans ?_
  exact val21 m c t (y 0) (y 1) (y 2) (y 3)

/-- The scales of the attention output, shifted. -/
def arr22 : Vec Ideal S186x8x84 .f32 := fun i => (show Vec Ideal S186x8x128 .f32 from m ((c : Thread nD τ).loc main_arg2)) (ix3 (lat (i 0)) (i 1) (lonLane (i 2)))

theorem val22 (t : Fin cfg0.N) (i : Fin 2) (l : Fin 8) (n : Fin 84) : blk23 (iblk m c 3 t) (iblk m c 4 t) (ix3 i l n) = arr22 m c (ix3 ⟨2 * t.val + i.val, by have := N_lt t; omega⟩ l n) := by
  refine (blk23_at (iblk m c 3 t) (iblk m c 4 t) i l n).trans ?_
  match i with
  | 0 => exact (iblk3 m c t l (lonLane n)).trans (congrArg (fun a => (show Vec Ideal S186x8x128 .f32 from m ((c : Thread nD τ).loc main_arg2)) (ix3 a l (lonLane n))) (lat_0 t))
  | 1 => exact (iblk4 m c t l (lonLane n)).trans (congrArg (fun a => (show Vec Ideal S186x8x128 .f32 from m ((c : Thread nD τ).loc main_arg2)) (ix3 a l (lonLane n))) (lat_1 t))

theorem final22 : (dats m 0 c).arrAt 22 (cfgs 0).N = arr22 m c := by
  refine (dats m 0 c).arrAt_eq_of_covers 22 _ (by decide +kernel) fun t _ y => ?_
  have ht := N_lt t
  have e : ((cfg0.win 22).blk t).view.emb y = (ix3 ⟨2 * t.val + (y 0).val, by have : (y 0).val < 2 := (y 0).isLt; omega⟩ (y 1) (y 2) : S186x8x84.Idx) := by
    blk_ext [idx22 t]
  refine Eq.trans ?_ (congrArg (arr22 m c) e.symm)
  blk_simp
  rw [after0_22]
  refine (congrArg _ (eq_ix3 (n0 := 2) (n1 := 8) (n2 := 84) y)).trans ?_
  exact val22 m c t (y 0) (y 1) (y 2)

/-- The codes after the attention branch. -/
def arr23 : Vec Ideal S186x84x8x192 .i8 := fun i => code (y1 (parOf m c) ((dataOf m c).tok (i 0) (i 1) (i 2)) (i 3)) (ms (parOf m c) ((dataOf m c).tok (i 0) (i 1) (i 2)))

theorem val23 (t : Fin cfg0.N) (i : Fin 2) (n : Fin 84) (l : Fin 8) (j : Fin 192) : blk24 (chunkAt m c t) (ix4 i n l j) = arr23 m c (ix4 ⟨2 * t.val + i.val, by have := N_lt t; omega⟩ n l j) := by
  refine (blk24_at (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t) i n l j).trans ?_
  rw [par_in, tok_in]
  rfl

theorem final23 : (dats m 0 c).arrAt 23 (cfgs 0).N = arr23 m c := by
  refine (dats m 0 c).arrAt_eq_of_covers 23 _ (by decide +kernel) fun t _ y => ?_
  have ht := N_lt t
  have e : ((cfg0.win 23).blk t).view.emb y = (ix4 ⟨2 * t.val + (y 0).val, by have : (y 0).val < 2 := (y 0).isLt; omega⟩ (y 1) (y 2) (y 3) : S186x84x8x192.Idx) := by
    blk_ext [idx23 t]
  refine Eq.trans ?_ (congrArg (arr23 m c) e.symm)
  blk_simp
  rw [after0_23]
  refine (congrArg _ (eq_ix4 (n0 := 2) (n1 := 84) (n2 := 8) (n3 := 192) y)).trans ?_
  exact val23 m c t (y 0) (y 1) (y 2) (y 3)

/-- The scales after the attention branch. -/
def arr24 : Vec Ideal S186x8x84 .f32 := fun i => ms (parOf m c) ((dataOf m c).tok (i 0) (i 2) (i 1))

theorem val24 (t : Fin cfg0.N) (i : Fin 2) (l : Fin 8) (n : Fin 84) : blk25 (chunkAt m c t) (ix3 i l n) = arr24 m c (ix3 ⟨2 * t.val + i.val, by have := N_lt t; omega⟩ l n) := by
  refine (blk25_at (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t) i l n).trans ?_
  rw [par_in, tok_in]
  rfl

theorem final24 : (dats m 0 c).arrAt 24 (cfgs 0).N = arr24 m c := by
  refine (dats m 0 c).arrAt_eq_of_covers 24 _ (by decide +kernel) fun t _ y => ?_
  have ht := N_lt t
  have e : ((cfg0.win 24).blk t).view.emb y = (ix3 ⟨2 * t.val + (y 0).val, by have : (y 0).val < 2 := (y 0).isLt; omega⟩ (y 1) (y 2) : S186x8x84.Idx) := by
    blk_ext [idx24 t]
  refine Eq.trans ?_ (congrArg (arr24 m c) e.symm)
  blk_simp
  rw [after0_24]
  refine (congrArg _ (eq_ix3 (n0 := 2) (n1 := 8) (n2 := 84) y)).trans ?_
  exact val24 m c t (y 0) (y 1) (y 2)

/-- The codes of the hidden layer. -/
def arr25 : Vec Ideal S186x84x8x768 .i8 := fun i => code (hid (parOf m c) ((dataOf m c).tok (i 0) (i 1) (i 2)) (i 3)) (hs (parOf m c) ((dataOf m c).tok (i 0) (i 1) (i 2)))

theorem val25 (t : Fin cfg0.N) (i : Fin 2) (n : Fin 84) (l : Fin 8) (j : Fin 768) : blk26 (chunkAt m c t) (ix4 i n l j) = arr25 m c (ix4 ⟨2 * t.val + i.val, by have := N_lt t; omega⟩ n l j) := by
  refine (blk26_at (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t) i n l j).trans ?_
  rw [par_in, tok_in]
  rfl

theorem final25 : (dats m 0 c).arrAt 25 (cfgs 0).N = arr25 m c := by
  refine (dats m 0 c).arrAt_eq_of_covers 25 _ (by decide +kernel) fun t _ y => ?_
  have ht := N_lt t
  have e : ((cfg0.win 25).blk t).view.emb y = (ix4 ⟨2 * t.val + (y 0).val, by have : (y 0).val < 2 := (y 0).isLt; omega⟩ (y 1) (y 2) (y 3) : S186x84x8x768.Idx) := by
    blk_ext [idx25 t]
  refine Eq.trans ?_ (congrArg (arr25 m c) e.symm)
  blk_simp
  rw [after0_25]
  refine (congrArg _ (eq_ix4 (n0 := 2) (n1 := 84) (n2 := 8) (n3 := 768) y)).trans ?_
  exact val25 m c t (y 0) (y 1) (y 2) (y 3)

/-- The scales of the hidden layer. -/
def arr26 : Vec Ideal S186x8x84 .f32 := fun i => hs (parOf m c) ((dataOf m c).tok (i 0) (i 2) (i 1))

theorem val26 (t : Fin cfg0.N) (i : Fin 2) (l : Fin 8) (n : Fin 84) : blk27 (chunkAt m c t) (ix3 i l n) = arr26 m c (ix3 ⟨2 * t.val + i.val, by have := N_lt t; omega⟩ l n) := by
  refine (blk27_at (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t) i l n).trans ?_
  rw [par_in, tok_in]
  rfl

theorem final26 : (dats m 0 c).arrAt 26 (cfgs 0).N = arr26 m c := by
  refine (dats m 0 c).arrAt_eq_of_covers 26 _ (by decide +kernel) fun t _ y => ?_
  have ht := N_lt t
  have e : ((cfg0.win 26).blk t).view.emb y = (ix3 ⟨2 * t.val + (y 0).val, by have : (y 0).val < 2 := (y 0).isLt; omega⟩ (y 1) (y 2) : S186x8x84.Idx) := by
    blk_ext [idx26 t]
  refine Eq.trans ?_ (congrArg (arr26 m c) e.symm)
  blk_simp
  rw [after0_26]
  refine (congrArg _ (eq_ix3 (n0 := 2) (n1 := 8) (n2 := 84) y)).trans ?_
  exact val26 m c t (y 0) (y 1) (y 2)

/-- The codes of the merged tokens. -/
def arr27 : Vec Ideal S93x42x8x768 .i8 := fun i => code (merged (parOf m c) ((dataOf m c).quad (i 0) (i 1) (i 2)) (i 3)) (ds (parOf m c) ((dataOf m c).quad (i 0) (i 1) (i 2)))

theorem val27 (t : Fin cfg0.N) (b : Fin 42) (l : Fin 8) (j : Fin 768) : blk28 (chunkAt m c t) (ix4 0 b l j) = arr27 m c (ix4 ⟨t.val, N_lt t⟩ b l j) := by
  refine (blk28_at (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t) b l j).trans ?_
  rw [par_in, quad_in]
  rfl

theorem final27 : (dats m 0 c).arrAt 27 (cfgs 0).N = arr27 m c := by
  refine (dats m 0 c).arrAt_eq_of_covers 27 _ (by decide +kernel) fun t _ y => ?_
  have ht := N_lt t
  have hy : (y 0).val < 1 := (y 0).isLt
  have e : ((cfg0.win 27).blk t).view.emb y = (ix4 ⟨t.val, ht⟩ (y 1) (y 2) (y 3) : S93x42x8x768.Idx) := by
    blk_ext [idx27 t]
  refine Eq.trans ?_ (congrArg (arr27 m c) e.symm)
  blk_simp
  rw [after0_27]
  have e0 : y = (ix4 (0 : Fin 1) (y 1) (y 2) (y 3) : S1x42x8x768.Idx) := by blk_ext []
  refine (congrArg _ e0).trans ?_
  exact val27 m c t (y 1) (y 2) (y 3)

/-- The scales of the merged tokens. -/
def arr28 : Vec Ideal S93x8x42 .f32 := fun i => ds (parOf m c) ((dataOf m c).quad (i 0) (i 2) (i 1))

theorem val28 (t : Fin cfg0.N) (l : Fin 8) (b : Fin 42) : blk29 (chunkAt m c t) (ix3 0 l b) = arr28 m c (ix3 ⟨t.val, N_lt t⟩ l b) := by
  refine (blk29_at (iblk m c 0 t) (iblk m c 1 t) (iblk m c 2 t) (iblk m c 3 t) (iblk m c 4 t) (iblk m c 5 t) (iblk m c 6 t) (iblk m c 9 t) (iblk m c 10 t) (iblk m c 11 t) (iblk m c 12 t) (iblk m c 13 t) (iblk m c 14 t) (iblk m c 15 t) (iblk m c 16 t) l b).trans ?_
  rw [par_in, quad_in]
  rfl

theorem final28 : (dats m 0 c).arrAt 28 (cfgs 0).N = arr28 m c := by
  refine (dats m 0 c).arrAt_eq_of_covers 28 _ (by decide +kernel) fun t _ y => ?_
  have ht := N_lt t
  have hy : (y 0).val < 1 := (y 0).isLt
  have e : ((cfg0.win 28).blk t).view.emb y = (ix3 ⟨t.val, ht⟩ (y 1) (y 2) : S93x8x42.Idx) := by
    blk_ext [idx28 t]
  refine Eq.trans ?_ (congrArg (arr28 m c) e.symm)
  blk_simp
  rw [after0_28]
  have e0 : y = (ix3 (0 : Fin 1) (y 1) (y 2) : S1x8x42.Idx) := by blk_ext []
  refine (congrArg _ e0).trans ?_
  exact val28 m c t (y 1) (y 2)

end Cert.KernelIdeal.Val

end
-- ==== Proof.KernelResults.lean ====
/- The kernel's run: what its results hold at the end. -/
module

public import proofs.«01_k».proof.Proof.KernelArrays
public import proofs.«01_k».proof.Proof.KernelRun
public import Idealize.ShloMosaic.Lib.Claim

@[expose] public section

set_option maxRecDepth 16384
noncomputable section

namespace Cert.KernelIdeal.Val

open Idealize.ShloMosaic Idealize.ShloMosaic.TcCoe Idealize.SL.Sem
open Cert.KernelIdeal Cert.KernelIdeal.Gen
open Cert.Rows (lat lon lonLane)

variable (m : (ℓ : Loc nD τ sig) → Buf (Elt Ideal) ℓ) (ρ : Dev nD → PrngReg)

set_option maxHeartbeats 4000000 in
/-- Every execution ends with these values in the results, and with the arguments as they were. -/
theorem results : θ_run (defs (F := Ideal)) (onTc (τ := τ) (main (F := Ideal))) ⟨m, fun _ => 0, ρ⟩ (fun r => ∀ c : Dev nD,
      r.2.mem ((c.tc : Thread nD τ).loc main_v19_0) = arr17 m c
      ∧ r.2.mem ((c.tc : Thread nD τ).loc main_v19_1) = arr18 m c
      ∧ r.2.mem ((c.tc : Thread nD τ).loc main_v19_2) = arr19 m c
      ∧ r.2.mem ((c.tc : Thread nD τ).loc main_v19_3) = arr20 m c
      ∧ r.2.mem ((c.tc : Thread nD τ).loc main_v19_4) = arr21 m c
      ∧ r.2.mem ((c.tc : Thread nD τ).loc main_v19_5) = arr22 m c
      ∧ r.2.mem ((c.tc : Thread nD τ).loc main_v19_6) = arr23 m c
      ∧ r.2.mem ((c.tc : Thread nD τ).loc main_v19_7) = arr24 m c
      ∧ r.2.mem ((c.tc : Thread nD τ).loc main_v19_8) = arr25 m c
      ∧ r.2.mem ((c.tc : Thread nD τ).loc main_v19_9) = arr26 m c
      ∧ r.2.mem ((c.tc : Thread nD τ).loc main_v19_10) = arr27 m c
      ∧ r.2.mem ((c.tc : Thread nD τ).loc main_v19_11) = arr28 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h.1 c).1 17).trans (final17 m c),
    ((h.1 c).1 18).trans (final18 m c),
    ((h.1 c).1 19).trans (final19 m c),
    ((h.1 c).1 20).trans (final20 m c),
    ((h.1 c).1 21).trans (final21 m c),
    ((h.1 c).1 22).trans (final22 m c),
    ((h.1 c).1 23).trans (final23 m c),
    ((h.1 c).1 24).trans (final24 m c),
    ((h.1 c).1 25).trans (final25 m c),
    ((h.1 c).1 26).trans (final26 m c),
    ((h.1 c).1 27).trans (final27 m c),
    ((h.1 c).1 28).trans (final28 m c), h.2 c⟩)
    (θ_run_and (run_main m ρ) (unchanged m ρ))

end Cert.KernelIdeal.Val
-- ==== Proof.RefShift.lean ====
/- The two shifts of the reference, read at one entry. -/
module

public import proofs.«01_k».proof.Proof.Gen.ReferenceIdeal.Frame
public import proofs.«01_k».proof.Proof.Whole
public import Idealize.ShloMosaic.Lib.Pointwise
public import Idealize.ShloMosaic.Lib.Pipeline.ValueKit

@[expose] public section

set_option maxRecDepth 16384
noncomputable section

namespace Cert.ReferenceIdeal.Val

open Idealize.ShloMosaic Idealize.ShloMosaic.TcCoe
open Cert.ReferenceIdeal Cert.ReferenceIdeal.Gen
open Cert.Rows (lat lon lonLane)

variable (a : Fin 186) (n : Fin 84) (l : Fin 8)

/-- The shift of the latitudes by three. -/
def lats_code (z : Vec Ideal S186x84x8x192 .i8) : Vec Ideal S186x84x8x192 .i8 :=
  concatenate S186x84x8x192 0 [⟨S3x84x8x192, extractStridedSlice S3x84x8x192 ![183, 0, 0, 0] z slices_S186x84x8x192_S3x84x8x192_183_0_0_0⟩, ⟨S183x84x8x192, extractStridedSlice S183x84x8x192 ![0, 0, 0, 0] z slices_S186x84x8x192_S183x84x8x192_0_0_0_0⟩] concatenates_S3x84x8x192_S183x84x8x192_S186x84x8x192_d0

/-- The shift of the longitudes by six. -/
def lons_code (z : Vec Ideal S186x84x8x192 .i8) : Vec Ideal S186x84x8x192 .i8 :=
  concatenate S186x84x8x192 1 [⟨S186x6x8x192, extractStridedSlice S186x6x8x192 ![0, 78, 0, 0] z slices_S186x84x8x192_S186x6x8x192_0_78_0_0⟩, ⟨S186x78x8x192, extractStridedSlice S186x78x8x192 ![0, 0, 0, 0] z slices_S186x84x8x192_S186x78x8x192_0_0_0_0⟩] concatenates_S186x6x8x192_S186x78x8x192_S186x84x8x192_d1

theorem lats_code_at (z : Vec Ideal S186x84x8x192 .i8) (j : Fin 192) : lats_code z (ix4 a n l j) = z (ix4 (lat a) n l j) := by
  pointwise [lats_code]
  split
  all_goals refine congrArg z ?_
  all_goals refine congrArg (fun a => (ix4 a n l j : (S186x84x8x192).Idx)) (Fin.ext ?_)
  all_goals simp [lat]
  all_goals omega

theorem lons_code_at (z : Vec Ideal S186x84x8x192 .i8) (j : Fin 192) : lons_code z (ix4 a n l j) = z (ix4 a (lon n) l j) := by
  pointwise [lons_code]
  split
  all_goals refine congrArg z ?_
  all_goals refine congrArg (fun n => (ix4 a n l j : (S186x84x8x192).Idx)) (Fin.ext ?_)
  all_goals simp [lon]
  all_goals omega

/-- The shift of the latitudes by three. -/
def lats_scale (z : Vec Ideal S186x8x84 .f32) : Vec Ideal S186x8x84 .f32 :=
  concatenate S186x8x84 0 [⟨S3x8x84, extractStridedSlice S3x8x84 ![183, 0, 0] z slices_S186x8x84_S3x8x84_183_0_0⟩, ⟨S183x8x84, extractStridedSlice S183x8x84 ![0, 0, 0] z slices_S186x8x84_S183x8x84_0_0_0⟩] concatenates_S3x8x84_S183x8x84_S186x8x84_d0

/-- The shift of the longitudes by six. -/
def lons_scale (z : Vec Ideal S186x8x84 .f32) : Vec Ideal S186x8x84 .f32 :=
  concatenate S186x8x84 2 [⟨S186x8x6, extractStridedSlice S186x8x6 ![0, 0, 78] z slices_S186x8x84_S186x8x6_0_0_78⟩, ⟨S186x8x78, extractStridedSlice S186x8x78 ![0, 0, 0] z slices_S186x8x84_S186x8x78_0_0_0⟩] concatenates_S186x8x6_S186x8x78_S186x8x84_d2

theorem lats_scale_at (z : Vec Ideal S186x8x84 .f32) : lats_scale z (ix3 a l n) = z (ix3 (lat a) l n) := by
  pointwise [lats_scale]
  split
  all_goals refine congrArg z ?_
  all_goals refine congrArg (fun a => (ix3 a l n : (S186x8x84).Idx)) (Fin.ext ?_)
  all_goals simp [lat]
  all_goals omega

theorem lons_scale_at (z : Vec Ideal S186x8x84 .f32) : lons_scale z (ix3 a l n) = z (ix3 a l (lon n)) := by
  pointwise [lons_scale]
  split
  all_goals refine congrArg z ?_
  all_goals refine congrArg (fun n => (ix3 a l n : (S186x8x84).Idx)) (Fin.ext ?_)
  all_goals simp [lon]
  all_goals omega

theorem lanes_at (z : Vec Ideal S186x8x128 .f32) : extractStridedSlice S186x8x84 ![0, 0, 0] z slices_S186x8x128_S186x8x84_0_0_0 (ix3 a l (lon n)) = z (ix3 a l (lonLane n)) := by
  pointwise []
  all_goals rfl

end Cert.ReferenceIdeal.Val

end
-- ==== Proof.RefInputs.lean ====
/- What the reference's inputs read: the parameters and the tokens of the whole arrays. -/
module

public import proofs.«01_k».proof.Proof.Gen.ReferenceIdeal.Frame
public import proofs.«01_k».proof.Proof.RefShift
public import Idealize.ShloMosaic.Lib.Pipeline.ValueKit
public import Idealize.ShloMosaic.Lib.Pointwise
public import Idealize.ShloMosaic.Lib.Claim

@[expose] public section

set_option maxRecDepth 16384
noncomputable section

namespace Cert.ReferenceIdeal.Val

open Idealize.ShloMosaic Idealize.ShloMosaic.TcCoe Idealize.SL.Sem
open Cert.ReferenceIdeal Cert.ReferenceIdeal.Gen
open Cert.Rows (Par Tok Data lat lon lonLane)

variable (m : (ℓ : Loc nD τ sig) → Buf (Elt Ideal) ℓ) (c : Dev nD)

/-- The arrays that hold one entry per place. -/
def dataOf : Data where
  x l a n j := (show Vec Ideal S1x8x186x84x192 .bf16 from m ((c : Thread nD τ).loc main_arg0)) (ix5 0 l a n j)
  oc a n l j := (show Vec Ideal S186x84x8x192 .i8 from m ((c : Thread nD τ).loc main_arg1)) (ix4 a n l j)
  os a l n := (show Vec Ideal S186x8x128 .f32 from m ((c : Thread nD τ).loc main_arg2)) (ix3 a l n)

/-- The parameters. -/
def parOf : Par where
  wp a j := (show Vec Ideal S6x32x192 .i8 from m ((c : Thread nD τ).loc main_arg5)) (ix3 ⟨a / 32, by omega⟩ ⟨a % 32, by omega⟩ j)
  sp j := (show Vec Ideal S192 .f32 from m ((c : Thread nD τ).loc main_arg6)) (ix1 j)
  bp j := (show Vec Ideal S192 .f32 from m ((c : Thread nD τ).loc main_arg7)) (ix1 j)
  g1 j := (show Vec Ideal S192 .f32 from m ((c : Thread nD τ).loc main_arg14)) (ix1 j)
  b1 j := (show Vec Ideal S192 .f32 from m ((c : Thread nD τ).loc main_arg15)) (ix1 j)
  wf a j := (show Vec Ideal S192x768 .i8 from m ((c : Thread nD τ).loc main_arg8)) (ix2 a j)
  sf j := (show Vec Ideal S768 .f32 from m ((c : Thread nD τ).loc main_arg9)) (ix1 j)
  bf j := (show Vec Ideal S768 .f32 from m ((c : Thread nD τ).loc main_arg10)) (ix1 j)
  wo a j := (show Vec Ideal S768x192 .i8 from m ((c : Thread nD τ).loc main_arg11)) (ix2 a j)
  so j := (show Vec Ideal S192 .f32 from m ((c : Thread nD τ).loc main_arg12)) (ix1 j)
  bo j := (show Vec Ideal S192 .f32 from m ((c : Thread nD τ).loc main_arg13)) (ix1 j)
  g2 j := (show Vec Ideal S192 .f32 from m ((c : Thread nD τ).loc main_arg16)) (ix1 j)
  b2 j := (show Vec Ideal S192 .f32 from m ((c : Thread nD τ).loc main_arg17)) (ix1 j)
  g3 j := (show Vec Ideal S768 .f32 from m ((c : Thread nD τ).loc main_arg18)) (ix1 j)
  b3 j := (show Vec Ideal S768 .f32 from m ((c : Thread nD τ).loc main_arg19)) (ix1 j)
  wd a j := (show Vec Ideal S768x384 .i8 from m ((c : Thread nD τ).loc main_arg20)) (ix2 a j)
  sd j := (show Vec Ideal S384 .f32 from m ((c : Thread nD τ).loc main_arg21)) (ix1 j)

theorem idx0 : ∀ t : Fin cfg0.N, win0_0.index t = ![0, 0, 0, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0, 0, 0] := (by decide +kernel : ∀ t : Fin grid0.N, _)
theorem idx15 : ∀ t : Fin cfg0.N, win0_15.index t = ![0, 0, 0, 0] := (by decide +kernel : ∀ t : Fin grid0.N, _)
theorem idx16 : ∀ t : Fin cfg0.N, win0_16.index t = ![0, 0, 0, 0] := (by decide +kernel : ∀ t : Fin grid0.N, _)
theorem idx17 : ∀ t : Fin cfg0.N, win0_17.index t = ![0, 0, 0] := (by decide +kernel : ∀ t : Fin grid0.N, _)
theorem idx18 : ∀ t : Fin cfg0.N, win0_18.index t = ![0, 0, 0, 0] := (by decide +kernel : ∀ t : Fin grid0.N, _)
theorem idx19 : ∀ t : Fin cfg0.N, win0_19.index t = ![0, 0, 0] := (by decide +kernel : ∀ t : Fin grid0.N, _)
theorem idx20 : ∀ t : Fin cfg0.N, win0_20.index t = ![0, 0, 0, 0] := (by decide +kernel : ∀ t : Fin grid0.N, _)
theorem idx21 : ∀ t : Fin cfg0.N, win0_21.index t = ![0, 0, 0] := (by decide +kernel : ∀ t : Fin grid0.N, _)

theorem in0 (t : Fin cfg0.N) :
    (show Vec Ideal S186x84x8x192 .bf16 from iblk m c 0 t) = (show Vec Ideal S186x84x8x192 .bf16 from V m c main_v7) := by
  blk_ext! [iblk, idx0 t]

theorem in1 (t : Fin cfg0.N) :
    (show Vec Ideal S186x84x8x192 .i8 from iblk m c 1 t) = (show Vec Ideal S186x84x8x192 .i8 from V m c main_v0) := by
  blk_ext! [iblk, idx1 t]

theorem in2 (t : Fin cfg0.N) :
    (show Vec Ideal S186x8x84 .f32 from iblk m c 2 t) = (show Vec Ideal S186x8x84 .f32 from V m c main_v2) := by
  blk_ext! [iblk, idx2 t]

theorem in3 (t : Fin cfg0.N) :
    (show Vec Ideal S192x192 .i8 from iblk m c 3 t) = (show Vec Ideal S192x192 .i8 from V m c main_v8) := by
  blk_ext! [iblk, idx3 t]

theorem in4 (t : Fin cfg0.N) :
    (show Vec Ideal S2x192 .f32 from iblk m c 4 t) = (show Vec Ideal S2x192 .f32 from V m c main_v11) := by
  blk_ext! [iblk, idx4 t]

theorem in5 (t : Fin cfg0.N) :
    (show Vec Ideal S192x768 .i8 from iblk m c 5 t) = (show Vec Ideal S192x768 .i8 from V m c main_arg8) := by
  blk_ext! [iblk, idx5 t]

theorem in6 (t : Fin cfg0.N) :
    (show Vec Ideal S2x768 .f32 from iblk m c 6 t) = (show Vec Ideal S2x768 .f32 from V m c main_v14) := by
  blk_ext! [iblk, idx6 t]

theorem in7 (t : Fin cfg0.N) :
    (show Vec Ideal S768x192 .i8 from iblk m c 7 t) = (show Vec Ideal S768x192 .i8 from V m c main_arg11) := by
  blk_ext! [iblk, idx7 t]

theorem in8 (t : Fin cfg0.N) :
    (show Vec Ideal S2x192 .f32 from iblk m c 8 t) = (show Vec Ideal S2x192 .f32 from V m c main_v17) := by
  blk_ext! [iblk, idx8 t]

theorem in9 (t : Fin cfg0.N) :
    (show Vec Ideal S2x192 .f32 from iblk m c 9 t) = (show Vec Ideal S2x192 .f32 from V m c main_v20) := by
  blk_ext! [iblk, idx9 t]

theorem in10 (t : Fin cfg0.N) :
    (show Vec Ideal S2x192 .f32 from iblk m c 10 t) = (show Vec Ideal S2x192 .f32 from V m c main_v23) := by
  blk_ext! [iblk, idx10 t]

theorem in11 (t : Fin cfg0.N) :
    (show Vec Ideal S2x768 .f32 from iblk m c 11 t) = (show Vec Ideal S2x768 .f32 from V m c main_v26) := by
  blk_ext! [iblk, idx11 t]

theorem in12 (t : Fin cfg0.N) :
    (show Vec Ideal S768x384 .i8 from iblk m c 12 t) = (show Vec Ideal S768x384 .i8 from V m c main_arg20) := by
  blk_ext! [iblk, idx12 t]

theorem in13 (t : Fin cfg0.N) :
    (show Vec Ideal S1x384 .f32 from iblk m c 13 t) = (show Vec Ideal S1x384 .f32 from V m c main_v27) := by
  blk_ext! [iblk, idx13 t]

theorem x_at (a : Fin 186) (n : Fin 84) (l : Fin 8) (j : Fin 192) :
    (show Vec Ideal S186x84x8x192 .bf16 from V m c main_v7) (ix4 a n l j) = (dataOf m c).x l a n j := by
  unfold dataOf
  unfold V
  simp only [hostOps0, hostOps0_1, hostOps0_2, hostOps0_3, hostOps0_4, hostOps0_5, hostOps0_6, List.flatten_cons, List.flatten_nil, List.append_nil, List.cons_append, List.nil_append]
  after_results
  pointwise

theorem V_main_v0  :
    (show Vec Ideal S186x84x8x192 .i8 from V m c main_v0) = lons_code (lats_code (show Vec Ideal S186x84x8x192 .i8 from m ((c : Thread nD τ).loc main_arg1))) := by
  unfold V
  simp only [hostOps0, hostOps0_1, hostOps0_2, hostOps0_3, hostOps0_4, hostOps0_5, hostOps0_6, List.flatten_cons, List.flatten_nil, List.append_nil, List.cons_append, List.nil_append]
  after_results
  rfl

theorem oc_at (a : Fin 186) (n : Fin 84) (l : Fin 8) (j : Fin 192) :
    (show Vec Ideal S186x84x8x192 .i8 from V m c main_v0) (ix4 a n l j) = (show Vec Ideal S186x84x8x192 .i8 from m ((c : Thread nD τ).loc main_arg1)) (ix4 (lat a) (lon n) l j) := by
  rw [V_main_v0]
  exact (lons_code_at a n l _ j).trans (lats_code_at a (lon n) l _ j)

theorem V_main_v3  :
    (show Vec Ideal S186x84x8x192 .i8 from V m c main_v3) = lons_code (lats_code (show Vec Ideal S186x84x8x192 .i8 from m ((c : Thread nD τ).loc main_arg3))) := by
  unfold V
  simp only [hostOps0, hostOps0_1, hostOps0_2, hostOps0_3, hostOps0_4, hostOps0_5, hostOps0_6, List.flatten_cons, List.flatten_nil, List.append_nil, List.cons_append, List.nil_append]
  after_results
  rfl

theorem xc_at (a : Fin 186) (n : Fin 84) (l : Fin 8) (j : Fin 192) :
    (show Vec Ideal S186x84x8x192 .i8 from V m c main_v3) (ix4 a n l j) = (show Vec Ideal S186x84x8x192 .i8 from m ((c : Thread nD τ).loc main_arg3)) (ix4 (lat a) (lon n) l j) := by
  rw [V_main_v3]
  exact (lons_code_at a n l _ j).trans (lats_code_at a (lon n) l _ j)

theorem V_main_v2  :
    (show Vec Ideal S186x8x84 .f32 from V m c main_v2) = lons_scale (lats_scale (extractStridedSlice S186x8x84 ![0, 0, 0] (show Vec Ideal S186x8x128 .f32 from m ((c : Thread nD τ).loc main_arg2)) slices_S186x8x128_S186x8x84_0_0_0)) := by
  unfold V
  simp only [hostOps0, hostOps0_1, hostOps0_2, hostOps0_3, hostOps0_4, hostOps0_5, hostOps0_6, List.flatten_cons, List.flatten_nil, List.append_nil, List.cons_append, List.nil_append]
  after_results
  rfl

theorem os_at (a : Fin 186) (n : Fin 84) (l : Fin 8) :
    (show Vec Ideal S186x8x84 .f32 from V m c main_v2) (ix3 a l n) = (show Vec Ideal S186x8x128 .f32 from m ((c : Thread nD τ).loc main_arg2)) (ix3 (lat a) l (lonLane n)) := by
  rw [V_main_v2]
  exact ((lons_scale_at a n l _).trans (lats_scale_at a (lon n) l _)).trans (lanes_at (lat a) n l _)

theorem V_main_v5  :
    (show Vec Ideal S186x8x84 .f32 from V m c main_v5) = lons_scale (lats_scale (extractStridedSlice S186x8x84 ![0, 0, 0] (show Vec Ideal S186x8x128 .f32 from m ((c : Thread nD τ).loc main_arg4)) slices_S186x8x128_S186x8x84_0_0_0)) := by
  unfold V
  simp only [hostOps0, hostOps0_1, hostOps0_2, hostOps0_3, hostOps0_4, hostOps0_5, hostOps0_6, List.flatten_cons, List.flatten_nil, List.append_nil, List.cons_append, List.nil_append]
  after_results
  rfl

theorem xs_at (a : Fin 186) (n : Fin 84) (l : Fin 8) :
    (show Vec Ideal S186x8x84 .f32 from V m c main_v5) (ix3 a l n) = (show Vec Ideal S186x8x128 .f32 from m ((c : Thread nD τ).loc main_arg4)) (ix3 (lat a) l (lonLane n)) := by
  rw [V_main_v5]
  exact ((lons_scale_at a n l _).trans (lats_scale_at a (lon n) l _)).trans (lanes_at (lat a) n l _)

theorem wp_at (a j : Fin 192) :
    (show Vec Ideal S192x192 .i8 from V m c main_v8) (ix2 a j) = (parOf m c).wp a j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise
  all_goals blk_ext []

theorem sp_at (j : Fin 192) :
    (show Vec Ideal S2x192 .f32 from V m c main_v11) (ix2 0 j) = (parOf m c).sp j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem bp_at (j : Fin 192) :
    (show Vec Ideal S2x192 .f32 from V m c main_v11) (ix2 1 j) = (parOf m c).bp j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem sf_at (j : Fin 768) :
    (show Vec Ideal S2x768 .f32 from V m c main_v14) (ix2 0 j) = (parOf m c).sf j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem bf_at (j : Fin 768) :
    (show Vec Ideal S2x768 .f32 from V m c main_v14) (ix2 1 j) = (parOf m c).bf j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem so_at (j : Fin 192) :
    (show Vec Ideal S2x192 .f32 from V m c main_v17) (ix2 0 j) = (parOf m c).so j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem bo_at (j : Fin 192) :
    (show Vec Ideal S2x192 .f32 from V m c main_v17) (ix2 1 j) = (parOf m c).bo j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem g1_at (j : Fin 192) :
    (show Vec Ideal S2x192 .f32 from V m c main_v20) (ix2 0 j) = (parOf m c).g1 j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem b1_at (j : Fin 192) :
    (show Vec Ideal S2x192 .f32 from V m c main_v20) (ix2 1 j) = (parOf m c).b1 j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem g2_at (j : Fin 192) :
    (show Vec Ideal S2x192 .f32 from V m c main_v23) (ix2 0 j) = (parOf m c).g2 j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem b2_at (j : Fin 192) :
    (show Vec Ideal S2x192 .f32 from V m c main_v23) (ix2 1 j) = (parOf m c).b2 j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem g3_at (j : Fin 768) :
    (show Vec Ideal S2x768 .f32 from V m c main_v26) (ix2 0 j) = (parOf m c).g3 j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem b3_at (j : Fin 768) :
    (show Vec Ideal S2x768 .f32 from V m c main_v26) (ix2 1 j) = (parOf m c).b3 j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem sd_at (j : Fin 384) :
    (show Vec Ideal S1x384 .f32 from V m c main_v27) (ix2 0 j) = (parOf m c).sd j := by
  unfold parOf
  unfold V
  simp only [hostOps0, hostOps0_1, hostOps0_2, hostOps0_3, hostOps0_4, hostOps0_5, hostOps0_6, List.flatten_cons, List.flatten_nil, List.append_nil, List.cons_append, List.nil_append]
  after_results
  pointwise

theorem wf_at (a : Fin 192) (j : Fin 768) :
    (show Vec Ideal S192x768 .i8 from V m c main_arg8) (ix2 a j) = (parOf m c).wf a j := by
  exact congrFun (V_main_arg8 m c) (ix2 a j)

theorem wo_at (a : Fin 768) (j : Fin 192) :
    (show Vec Ideal S768x192 .i8 from V m c main_arg11) (ix2 a j) = (parOf m c).wo a j := by
  exact congrFun (V_main_arg11 m c) (ix2 a j)

theorem wd_at (a : Fin 768) (j : Fin 384) :
    (show Vec Ideal S768x384 .i8 from V m c main_arg20) (ix2 a j) = (parOf m c).wd a j := by
  exact congrFun (V_main_arg20 m c) (ix2 a j)

end Cert.ReferenceIdeal.Val

end
-- ==== Proof.RefQuant.lean ====
/- The quantiser's two steps on whole arrays, read at one entry. -/
module

public import proofs.«01_k».proof.Proof.Gen.ReferenceIdeal.Skeleton
public import proofs.«01_k».proof.Proof.Whole
public import Idealize.ShloMosaic.Lib.Pointwise
public import Idealize.ShloMosaic.Lib.KernelVsHost
public import Idealize.ShloMosaic.Lib.Pipeline.ValueKit

@[expose] public section

set_option maxRecDepth 16384
noncomputable section

namespace Cert.ReferenceIdeal.Val

open Idealize.ShloMosaic Idealize.ShloMosaic.TcCoe
open Cert.ReferenceIdeal Cert.ReferenceIdeal.Gen
open Cert.Rows (scale code codef back mean lnorm gelu cat amax)

/-- One for a magnitude of zero, the magnitude over 127 otherwise. -/
def pickv (x : EReal) : EReal := if x = 0 then 1 else Ideal.div x (Ideal.ofBits .f32 1123942400#32)

theorem pick_a (a : Fin 186) (n : Fin 84) (l : Fin 8) (v : FVec Ideal S186x84x8x1 .f32) :
    select (cmpf .oeq v (broadcast S186x84x8x1 (Scalar.ofBits .f32 0x00000000#32))) (broadcast S186x84x8x1 (Scalar.ofBits .f32 0x3F800000#32)) (divf v (broadcast S186x84x8x1 (Scalar.ofBits .f32 0x42FE0000#32))) (ix4 a n l 0) = pickv (v (ix4 a n l 0)) := by
  pointwise [pickv]

theorem amax_a (a : Fin 186) (n : Fin 84) (l : Fin 8) (z : FVec Ideal S186x84x8x192 .f32) :
    shapeCast S186x84x8x1 (multiReduction .maximumf [3] S186x84x8 (absf z) 0xFF800000#32 reduces_S186x84x8x192_S186x84x8 (.inl rfl) rfl) shapeCasts_S186x84x8_S186x84x8x1 (ix4 a n l 0) = amax fun j => z (ix4 a n l j) := by
  pointwise []
  all_goals rfl

/-- The scale of every row, one entry per row. -/
def scale_a_vec (z : FVec Ideal S186x84x8x192 .f32) : FVec Ideal S186x84x8x1 .f32 :=
  have v57 : FVec Ideal S186x84x8x1 .f32 := shapeCast S186x84x8x1 (multiReduction .maximumf [3] S186x84x8 (absf z) 0xFF800000#32 reduces_S186x84x8x192_S186x84x8 (.inl rfl) rfl) shapeCasts_S186x84x8_S186x84x8x1
  select (cmpf .oeq v57 (broadcast S186x84x8x1 (Scalar.ofBits .f32 0x00000000#32))) (broadcast S186x84x8x1 (Scalar.ofBits .f32 0x3F800000#32)) (divf v57 (broadcast S186x84x8x1 (Scalar.ofBits .f32 0x42FE0000#32)))

theorem scale_a_at (a : Fin 186) (n : Fin 84) (l : Fin 8) (z : FVec Ideal S186x84x8x192 .f32) :
    scale_a_vec z (ix4 a n l 0) = scale fun j => z (ix4 a n l j) :=
  (pick_a a n l _).trans (congrArg pickv (amax_a a n l z))

theorem spread_a (a : Fin 186) (n : Fin 84) (l : Fin 8) (j : Fin 192) (s : FVec Ideal S186x84x8x1 .f32) :
    broadcastTo S186x84x8x192 s broadcasts_S186x84x8x1_S186x84x8x192 (ix4 a n l j) = s (ix4 a n l 0) := by
  pointwise []

theorem clamp_a (a : Fin 186) (n : Fin 84) (l : Fin 8) (j : Fin 192) (z : FVec Ideal S186x84x8x192 .f32) :
    minimumf (broadcast S186x84x8x192 (Scalar.sitofp .f32 127#32)) (maximumf (broadcast S186x84x8x192 (Scalar.sitofp .f32 4294967169#32)) z) (ix4 a n l j) = min (((127 : ℤ) : ℝ) : EReal) (max (((-127 : ℤ) : ℝ) : EReal) (z (ix4 a n l j))) := by
  pointwise []
  all_goals rfl

theorem ratio_a (a : Fin 186) (n : Fin 84) (l : Fin 8) (j : Fin 192) (z w : FVec Ideal S186x84x8x192 .f32) :
    roundeven (divf z w) (ix4 a n l j) = Ideal.liftRound Ideal.roundHalfEven (Ideal.div (z (ix4 a n l j)) (w (ix4 a n l j))) := by
  pointwise []
  all_goals rfl

/-- The codes, still as floats. -/
def codef_a_vec (z : FVec Ideal S186x84x8x192 .f32) (s : FVec Ideal S186x84x8x1 .f32) : FVec Ideal S186x84x8x192 .f32 :=
  minimumf (broadcast S186x84x8x192 (Scalar.sitofp .f32 127#32)) (maximumf (broadcast S186x84x8x192 (Scalar.sitofp .f32 4294967169#32)) (roundeven (divf z (broadcastTo S186x84x8x192 s broadcasts_S186x84x8x1_S186x84x8x192))))

theorem codef_a_at (a : Fin 186) (n : Fin 84) (l : Fin 8) (j : Fin 192) (z : FVec Ideal S186x84x8x192 .f32) (s : FVec Ideal S186x84x8x1 .f32) :
    codef_a_vec z s (ix4 a n l j) = codef (z (ix4 a n l j)) (s (ix4 a n l 0)) := by
  refine (clamp_a a n l j _).trans ?_
  rw [ratio_a, spread_a]
  rfl

theorem code_a_at (a : Fin 186) (n : Fin 84) (l : Fin 8) (j : Fin 192) (z : FVec Ideal S186x84x8x192 .f32) (s : FVec Ideal S186x84x8x1 .f32) :
    fptosi 8 (codef_a_vec z s) (ix4 a n l j) = code (z (ix4 a n l j)) (s (ix4 a n l 0)) :=
  congrArg (Ideal.fptosi 8) (codef_a_at a n l j z s)

theorem amax_b (a : Fin 186) (n : Fin 84) (l : Fin 8) (z : FVec Ideal S186x84x8x768 .f32) :
    shapeCast S186x84x8x1 (multiReduction .maximumf [3] S186x84x8 (absf z) 0xFF800000#32 reduces_S186x84x8x768_S186x84x8 (.inl rfl) rfl) shapeCasts_S186x84x8_S186x84x8x1 (ix4 a n l 0) = amax fun j => z (ix4 a n l j) := by
  pointwise []
  all_goals rfl

/-- The scale of every row, one entry per row. -/
def scale_b_vec (z : FVec Ideal S186x84x8x768 .f32) : FVec Ideal S186x84x8x1 .f32 :=
  have v57 : FVec Ideal S186x84x8x1 .f32 := shapeCast S186x84x8x1 (multiReduction .maximumf [3] S186x84x8 (absf z) 0xFF800000#32 reduces_S186x84x8x768_S186x84x8 (.inl rfl) rfl) shapeCasts_S186x84x8_S186x84x8x1
  select (cmpf .oeq v57 (broadcast S186x84x8x1 (Scalar.ofBits .f32 0x00000000#32))) (broadcast S186x84x8x1 (Scalar.ofBits .f32 0x3F800000#32)) (divf v57 (broadcast S186x84x8x1 (Scalar.ofBits .f32 0x42FE0000#32)))

theorem scale_b_at (a : Fin 186) (n : Fin 84) (l : Fin 8) (z : FVec Ideal S186x84x8x768 .f32) :
    scale_b_vec z (ix4 a n l 0) = scale fun j => z (ix4 a n l j) :=
  (pick_a a n l _).trans (congrArg pickv (amax_b a n l z))

theorem spread_b (a : Fin 186) (n : Fin 84) (l : Fin 8) (j : Fin 768) (s : FVec Ideal S186x84x8x1 .f32) :
    broadcastTo S186x84x8x768 s broadcasts_S186x84x8x1_S186x84x8x768 (ix4 a n l j) = s (ix4 a n l 0) := by
  pointwise []

theorem clamp_b (a : Fin 186) (n : Fin 84) (l : Fin 8) (j : Fin 768) (z : FVec Ideal S186x84x8x768 .f32) :
    minimumf (broadcast S186x84x8x768 (Scalar.sitofp .f32 127#32)) (maximumf (broadcast S186x84x8x768 (Scalar.sitofp .f32 4294967169#32)) z) (ix4 a n l j) = min (((127 : ℤ) : ℝ) : EReal) (max (((-127 : ℤ) : ℝ) : EReal) (z (ix4 a n l j))) := by
  pointwise []
  all_goals rfl

theorem ratio_b (a : Fin 186) (n : Fin 84) (l : Fin 8) (j : Fin 768) (z w : FVec Ideal S186x84x8x768 .f32) :
    roundeven (divf z w) (ix4 a n l j) = Ideal.liftRound Ideal.roundHalfEven (Ideal.div (z (ix4 a n l j)) (w (ix4 a n l j))) := by
  pointwise []
  all_goals rfl

/-- The codes, still as floats. -/
def codef_b_vec (z : FVec Ideal S186x84x8x768 .f32) (s : FVec Ideal S186x84x8x1 .f32) : FVec Ideal S186x84x8x768 .f32 :=
  minimumf (broadcast S186x84x8x768 (Scalar.sitofp .f32 127#32)) (maximumf (broadcast S186x84x8x768 (Scalar.sitofp .f32 4294967169#32)) (roundeven (divf z (broadcastTo S186x84x8x768 s broadcasts_S186x84x8x1_S186x84x8x768))))

theorem codef_b_at (a : Fin 186) (n : Fin 84) (l : Fin 8) (j : Fin 768) (z : FVec Ideal S186x84x8x768 .f32) (s : FVec Ideal S186x84x8x1 .f32) :
    codef_b_vec z s (ix4 a n l j) = codef (z (ix4 a n l j)) (s (ix4 a n l 0)) := by
  refine (clamp_b a n l j _).trans ?_
  rw [ratio_b, spread_b]
  rfl

theorem code_b_at (a : Fin 186) (n : Fin 84) (l : Fin 8) (j : Fin 768) (z : FVec Ideal S186x84x8x768 .f32) (s : FVec Ideal S186x84x8x1 .f32) :
    fptosi 8 (codef_b_vec z s) (ix4 a n l j) = code (z (ix4 a n l j)) (s (ix4 a n l 0)) :=
  congrArg (Ideal.fptosi 8) (codef_b_at a n l j z s)

theorem pick_m (a : Fin 93) (n : Fin 42) (l : Fin 8) (v : FVec Ideal S93x42x8x1 .f32) :
    select (cmpf .oeq v (broadcast S93x42x8x1 (Scalar.ofBits .f32 0x00000000#32))) (broadcast S93x42x8x1 (Scalar.ofBits .f32 0x3F800000#32)) (divf v (broadcast S93x42x8x1 (Scalar.ofBits .f32 0x42FE0000#32))) (ix4 a n l 0) = pickv (v (ix4 a n l 0)) := by
  pointwise [pickv]

theorem amax_m (a : Fin 93) (n : Fin 42) (l : Fin 8) (z : FVec Ideal S93x42x8x768 .f32) :
    shapeCast S93x42x8x1 (multiReduction .maximumf [3] S93x42x8 (absf z) 0xFF800000#32 reduces_S93x42x8x768_S93x42x8 (.inl rfl) rfl) shapeCasts_S93x42x8_S93x42x8x1 (ix4 a n l 0) = amax fun j => z (ix4 a n l j) := by
  pointwise []
  all_goals rfl

/-- The scale of every row, one entry per row. -/
def scale_m_vec (z : FVec Ideal S93x42x8x768 .f32) : FVec Ideal S93x42x8x1 .f32 :=
  have v57 : FVec Ideal S93x42x8x1 .f32 := shapeCast S93x42x8x1 (multiReduction .maximumf [3] S93x42x8 (absf z) 0xFF800000#32 reduces_S93x42x8x768_S93x42x8 (.inl rfl) rfl) shapeCasts_S93x42x8_S93x42x8x1
  select (cmpf .oeq v57 (broadcast S93x42x8x1 (Scalar.ofBits .f32 0x00000000#32))) (broadcast S93x42x8x1 (Scalar.ofBits .f32 0x3F800000#32)) (divf v57 (broadcast S93x42x8x1 (Scalar.ofBits .f32 0x42FE0000#32)))

theorem scale_m_at (a : Fin 93) (n : Fin 42) (l : Fin 8) (z : FVec Ideal S93x42x8x768 .f32) :
    scale_m_vec z (ix4 a n l 0) = scale fun j => z (ix4 a n l j) :=
  (pick_m a n l _).trans (congrArg pickv (amax_m a n l z))

theorem spread_m (a : Fin 93) (n : Fin 42) (l : Fin 8) (j : Fin 768) (s : FVec Ideal S93x42x8x1 .f32) :
    broadcastTo S93x42x8x768 s broadcasts_S93x42x8x1_S93x42x8x768 (ix4 a n l j) = s (ix4 a n l 0) := by
  pointwise []

theorem clamp_m (a : Fin 93) (n : Fin 42) (l : Fin 8) (j : Fin 768) (z : FVec Ideal S93x42x8x768 .f32) :
    minimumf (broadcast S93x42x8x768 (Scalar.sitofp .f32 127#32)) (maximumf (broadcast S93x42x8x768 (Scalar.sitofp .f32 4294967169#32)) z) (ix4 a n l j) = min (((127 : ℤ) : ℝ) : EReal) (max (((-127 : ℤ) : ℝ) : EReal) (z (ix4 a n l j))) := by
  pointwise []
  all_goals rfl

theorem ratio_m (a : Fin 93) (n : Fin 42) (l : Fin 8) (j : Fin 768) (z w : FVec Ideal S93x42x8x768 .f32) :
    roundeven (divf z w) (ix4 a n l j) = Ideal.liftRound Ideal.roundHalfEven (Ideal.div (z (ix4 a n l j)) (w (ix4 a n l j))) := by
  pointwise []
  all_goals rfl

/-- The codes, still as floats. -/
def codef_m_vec (z : FVec Ideal S93x42x8x768 .f32) (s : FVec Ideal S93x42x8x1 .f32) : FVec Ideal S93x42x8x768 .f32 :=
  minimumf (broadcast S93x42x8x768 (Scalar.sitofp .f32 127#32)) (maximumf (broadcast S93x42x8x768 (Scalar.sitofp .f32 4294967169#32)) (roundeven (divf z (broadcastTo S93x42x8x768 s broadcasts_S93x42x8x1_S93x42x8x768))))

theorem codef_m_at (a : Fin 93) (n : Fin 42) (l : Fin 8) (j : Fin 768) (z : FVec Ideal S93x42x8x768 .f32) (s : FVec Ideal S93x42x8x1 .f32) :
    codef_m_vec z s (ix4 a n l j) = codef (z (ix4 a n l j)) (s (ix4 a n l 0)) := by
  refine (clamp_m a n l j _).trans ?_
  rw [ratio_m, spread_m]
  rfl

theorem code_m_at (a : Fin 93) (n : Fin 42) (l : Fin 8) (j : Fin 768) (z : FVec Ideal S93x42x8x768 .f32) (s : FVec Ideal S93x42x8x1 .f32) :
    fptosi 8 (codef_m_vec z s) (ix4 a n l j) = code (z (ix4 a n l j)) (s (ix4 a n l 0)) :=
  congrArg (Ideal.fptosi 8) (codef_m_at a n l j z s)

end Cert.ReferenceIdeal.Val

end
-- ==== Proof.RefRows.lean ====
/- What the reference's body computes, entry by entry, from the values its steps read. -/
module

public import proofs.«01_k».proof.Proof.Gen.ReferenceIdeal.Skeleton
public import proofs.«01_k».proof.Proof.Whole
public import proofs.«01_k».proof.Proof.RefQuant
public import Idealize.ShloMosaic.Lib.Pointwise
public import Idealize.ShloMosaic.Lib.KernelVsHost
public import Idealize.ShloMosaic.Lib.Pipeline.ValueKit

@[expose] public section

set_option maxRecDepth 16384
noncomputable section

namespace Cert.ReferenceIdeal.Val

open Idealize.ShloMosaic Idealize.ShloMosaic.TcCoe
open Cert.ReferenceIdeal Cert.ReferenceIdeal.Gen
open Cert.Rows (scale code codef back mean lnorm gelu cat)

variable (a : Fin 186) (n : Fin 84) (l : Fin 8)

theorem pay2_at (v0 : Vec Ideal S186x84x8x192 .bf16) (j : Fin 192) :
    k0_pay2 v0 (ix4 a n l j) = v0 (ix4 a n l j) := by
  pointwise [k0_pay2]

theorem pay3_at (v3 : Vec Ideal S186x8x84 .f32) (v7 : Vec Ideal S186x84x8x192 .i8) (v9 : Vec Ideal S192x192 .i8) (v11 v23 : Vec Ideal S1x192 .f32) (j : Fin 192) :
    k0_pay3 v3 v7 v9 v11 v23 (ix4 a n l j) = (∑ c, back (v7 (ix4 a n l c)) * back (v9 (ix2 c j))) * v3 (ix3 a l n) * v11 (ix2 0 j) + v23 (ix2 0 j) := by
  pointwise [k0_pay3]
  rfl

theorem pay4_at (v : Vec Ideal S1x192 .f32) (j : Fin 192) :
    k0_pay4 v (ix2 0 j) = v (ix2 0 j) := by
  pointwise [k0_pay4]

theorem pay5_at (v : Vec Ideal S1x192 .f32) (j : Fin 192) :
    k0_pay5 v (ix2 0 j) = v (ix2 0 j) := by
  pointwise [k0_pay5]

theorem pay16_at (v : Vec Ideal S1x192 .f32) (j : Fin 192) :
    k0_pay16 v (ix2 0 j) = v (ix2 0 j) := by
  pointwise [k0_pay16]

theorem pay17_at (v : Vec Ideal S1x192 .f32) (j : Fin 192) :
    k0_pay17 v (ix2 0 j) = v (ix2 0 j) := by
  pointwise [k0_pay17]

theorem pay22_at (v : Vec Ideal S1x768 .f32) (j : Fin 768) :
    k0_pay22 v (ix2 0 j) = v (ix2 0 j) := by
  pointwise [k0_pay22]

theorem pay23_at (v : Vec Ideal S1x768 .f32) (j : Fin 768) :
    k0_pay23 v (ix2 0 j) = v (ix2 0 j) := by
  pointwise [k0_pay23]

theorem pay30_at (v : Vec Ideal S1x384 .f32) (j : Fin 384) :
    k0_pay30 v (ix2 0 j) = v (ix2 0 j) := by
  pointwise [k0_pay30]

theorem pay6_at (v3 : Vec Ideal S186x8x84 .f32) (v7 : Vec Ideal S186x84x8x192 .i8) (v9 : Vec Ideal S192x192 .i8) (v11 v23 : Vec Ideal S1x192 .f32) :
    k0_pay6 v3 v7 v9 v11 v23 (ix4 a n l 0) = mean 1128267776#32 fun j => k0_pay3 v3 v7 v9 v11 v23 (ix4 a n l j) := by
  unfold k0_pay6
  generalize k0_pay3 v3 v7 v9 v11 v23 = z0
  pointwise []
  rfl

theorem pay7_at (v2 v27 : FVec Ideal S186x84x8x192 .f32) (v29 v31 : FVec Ideal S1x192 .f32) (v35 : FVec Ideal S186x84x8x1 .f32) (j : Fin 192) (h : v35 (ix4 a n l 0) = mean 1128267776#32 fun j => v27 (ix4 a n l j)) :
    k0_pay7 v2 v27 v29 v31 v35 (ix4 a n l j) = v2 (ix4 a n l j) + lnorm 1128267776#32 (fun j => v27 (ix4 a n l j)) (fun j => v29 (ix2 0 j)) (fun j => v31 (ix2 0 j)) j := by
  unfold lnorm
  rw [← h]
  pointwise [k0_pay7]

theorem pay8_at (v2 v27 : FVec Ideal S186x84x8x192 .f32) (v29 v31 : FVec Ideal S1x192 .f32) (v35 : FVec Ideal S186x84x8x1 .f32) :
    k0_pay8 v2 v27 v29 v31 v35 (ix4 a n l 0) = scale fun j => k0_pay7 v2 v27 v29 v31 v35 (ix4 a n l j) :=
  scale_a_at a n l (k0_pay7 v2 v27 v29 v31 v35)

theorem pay9_at (v2 v27 : FVec Ideal S186x84x8x192 .f32) (v29 v31 : FVec Ideal S1x192 .f32) (v35 : FVec Ideal S186x84x8x1 .f32) (j : Fin 192) :
    k0_pay9 v2 v27 v29 v31 v35 (ix4 a n l j) = code (k0_pay7 v2 v27 v29 v31 v35 (ix4 a n l j)) (k0_pay8 v2 v27 v29 v31 v35 (ix4 a n l 0)) :=
  code_a_at a n l j (k0_pay7 v2 v27 v29 v31 v35) (k0_pay8 v2 v27 v29 v31 v35)

theorem pay10_at (v2 v27 : FVec Ideal S186x84x8x192 .f32) (v29 v31 : FVec Ideal S1x192 .f32) (v35 : FVec Ideal S186x84x8x1 .f32) :
    k0_pay10 v2 v27 v29 v31 v35 (ix3 a l n) = k0_pay8 v2 v27 v29 v31 v35 (ix4 a n l 0) := by
  unfold k0_pay10
  generalize k0_pay8 v2 v27 v29 v31 v35 = z0
  pointwise []

theorem pay11_at (v63 : FVec Ideal S186x84x8x1 .f32) (v73 : IVec S186x84x8x192 8) (v78 : Vec Ideal S192x768 .i8) (v79 v91 : Vec Ideal S1x768 .f32) (j : Fin 768) :
    k0_pay11 v63 v73 v78 v79 v91 (ix4 a n l j) = gelu ((∑ c, back (v73 (ix4 a n l c)) * back (v78 (ix2 c j))) * v63 (ix4 a n l 0) * v79 (ix2 0 j) + v91 (ix2 0 j)) := by
  pointwise [k0_pay11]
  rfl

theorem pay12_at (v63 : FVec Ideal S186x84x8x1 .f32) (v73 : IVec S186x84x8x192 8) (v78 : Vec Ideal S192x768 .i8) (v79 v91 : Vec Ideal S1x768 .f32) :
    k0_pay12 v63 v73 v78 v79 v91 (ix4 a n l 0) = scale fun j => k0_pay11 v63 v73 v78 v79 v91 (ix4 a n l j) :=
  scale_b_at a n l (k0_pay11 v63 v73 v78 v79 v91)

theorem pay13_at (v63 : FVec Ideal S186x84x8x1 .f32) (v73 : IVec S186x84x8x192 8) (v78 : Vec Ideal S192x768 .i8) (v79 v91 : Vec Ideal S1x768 .f32) (j : Fin 768) :
    k0_pay13 v63 v73 v78 v79 v91 (ix4 a n l j) = codef (k0_pay11 v63 v73 v78 v79 v91 (ix4 a n l j)) (k0_pay12 v63 v73 v78 v79 v91 (ix4 a n l 0)) :=
  codef_b_at a n l j (k0_pay11 v63 v73 v78 v79 v91) (k0_pay12 v63 v73 v78 v79 v91)

theorem pay14_at (v121 : FVec Ideal S186x84x8x768 .f32) (j : Fin 768) :
    k0_pay14 v121 (ix4 a n l j) = Ideal.fptosi 8 (v121 (ix4 a n l j)) := by
  pointwise [k0_pay14]
  rfl

theorem pay15_at (v112 : FVec Ideal S186x84x8x1 .f32) :
    k0_pay15 v112 (ix3 a l n) = v112 (ix4 a n l 0) := by
  pointwise [k0_pay15]

end Cert.ReferenceIdeal.Val

end
-- ==== Proof.RefSecond.lean ====
/- What the reference's body computes, entry by entry, from the values its steps read. -/
module

public import proofs.«01_k».proof.Proof.Gen.ReferenceIdeal.Skeleton
public import proofs.«01_k».proof.Proof.Whole
public import proofs.«01_k».proof.Proof.RefRows
public import Idealize.ShloMosaic.Lib.Pointwise
public import Idealize.ShloMosaic.Lib.KernelVsHost
public import Idealize.ShloMosaic.Lib.Pipeline.ValueKit

@[expose] public section

set_option maxRecDepth 16384
noncomputable section

namespace Cert.ReferenceIdeal.Val

open Idealize.ShloMosaic Idealize.ShloMosaic.TcCoe
open Cert.ReferenceIdeal Cert.ReferenceIdeal.Gen
open Cert.Rows (scale code codef back mean lnorm gelu cat)

variable (a : Fin 186) (n : Fin 84) (l : Fin 8)

/-- The second layer before its norm. -/
def second (v112 : FVec Ideal S186x84x8x1 .f32) (v121 : FVec Ideal S186x84x8x768 .f32) (v127 : Vec Ideal S768x192 .i8) (v128 v140 : Vec Ideal S1x192 .f32) (j : Fin 192) : EReal :=
  (∑ c, back (k0_pay14 v121 (ix4 a n l c)) * back (v127 (ix2 c j))) * v112 (ix4 a n l 0) * v128 (ix2 0 j) + v140 (ix2 0 j)

theorem pay18_at (v112 : FVec Ideal S186x84x8x1 .f32) (v121 : FVec Ideal S186x84x8x768 .f32) (v127 : Vec Ideal S768x192 .i8) (v128 v140 : Vec Ideal S1x192 .f32) (j : Fin 192) :
    k0_pay18 v112 v121 v127 v128 v140 (ix4 a n l j) = second a n l v112 v121 v127 v128 v140 j - mean 1128267776#32 (second a n l v112 v121 v127 v128 v140) := by
  unfold k0_pay18 second
  generalize k0_pay14 v121 = z0
  pointwise []
  all_goals rfl

theorem pay19_at (v112 : FVec Ideal S186x84x8x1 .f32) (v121 : FVec Ideal S186x84x8x768 .f32) (v127 : Vec Ideal S768x192 .i8) (v128 v140 : Vec Ideal S1x192 .f32) :
    k0_pay19 v112 v121 v127 v128 v140 (ix4 a n l 0) = ∑ j, k0_pay18 v112 v121 v127 v128 v140 (ix4 a n l j) * k0_pay18 v112 v121 v127 v128 v140 (ix4 a n l j) := by
  unfold k0_pay19
  generalize k0_pay18 v112 v121 v127 v128 v140 = z0
  pointwise []

theorem pay20_at (v54 : FVec Ideal S186x84x8x192 .f32) (v146 v148 : FVec Ideal S1x192 .f32) (v154 : FVec Ideal S186x84x8x192 .f32) (v157 : FVec Ideal S186x84x8x1 .f32) (j : Fin 192) :
    k0_pay20 v54 v146 v148 v154 v157 (Ideal.ofBits .f32 1128267776#32) (ix4 a n l j) = v54 (ix4 a n l j) + (Ideal.div (v154 (ix4 a n l j)) (Ideal.sqrt (Ideal.div (v157 (ix4 a n l 0)) (Ideal.ofBits .f32 1128267776#32) + Ideal.ofBits .f32 925353388#32)) * v146 (ix2 0 j) + v148 (ix2 0 j)) := by
  pointwise [k0_pay20]
  all_goals rfl

theorem pay21_at (v54 : FVec Ideal S186x84x8x192 .f32) (v146 v148 : FVec Ideal S1x192 .f32) (v154 : FVec Ideal S186x84x8x192 .f32) (v157 : FVec Ideal S186x84x8x1 .f32) (j : Fin 192) :
    k0_pay21 v54 v146 v148 v154 v157 (Ideal.ofBits .f32 1128267776#32) (ix4 a n l j) = k0_pay20 v54 v146 v148 v154 v157 (Ideal.ofBits .f32 1128267776#32) (ix4 a n l j) := by
  unfold k0_pay21
  generalize k0_pay20 v54 v146 v148 v154 v157 (Ideal.ofBits .f32 1128267776#32) = z0
  pointwise []

end Cert.ReferenceIdeal.Val

end
-- ==== Proof.RefFour.lean ====
/- The merge of four neighbouring rows on whole arrays, read at one entry. -/
module

public import proofs.«01_k».proof.Proof.Gen.ReferenceIdeal.Skeleton
public import proofs.«01_k».proof.Proof.Whole
public import Idealize.ShloMosaic.Lib.Pointwise
public import Idealize.ShloMosaic.Lib.KernelVsHost
public import Idealize.ShloMosaic.Lib.Pipeline.ValueKit

@[expose] public section

set_option maxRecDepth 16384
noncomputable section

namespace Cert.ReferenceIdeal.Val

open Idealize.ShloMosaic Idealize.ShloMosaic.TcCoe
open Cert.ReferenceIdeal Cert.ReferenceIdeal.Gen
open Cert.Rows (mean cat cat_0 cat_1 cat_2 cat_3)

variable (p : Fin 93) (b : Fin 42) (l : Fin 8)

theorem quarter_00 (z : FVec Ideal S186x84x8x192 .f32) (j : Fin 192) :
    shapeCast S93x42x8x192 (extractStridedSlice S93x1x42x1x8x192 ![0, 0, 0, 0, 0, 0] (shapeCast S93x2x42x2x8x192 z shapeCasts_S186x84x8x192_S93x2x42x2x8x192) slices_S93x2x42x2x8x192_o0_0_0_0_0_0_S93x1x42x1x8x192) shapeCasts_S93x1x42x1x8x192_S93x42x8x192 (ix4 p b l j) = z (ix4 ⟨2 * p, by omega⟩ ⟨2 * b, by omega⟩ l j) := by
  pointwise []
  all_goals refine congrArg z ?_
  all_goals blk_ext []

theorem quarter_01 (z : FVec Ideal S186x84x8x192 .f32) (j : Fin 192) :
    shapeCast S93x42x8x192 (extractStridedSlice S93x1x42x1x8x192 ![0, 0, 0, 1, 0, 0] (shapeCast S93x2x42x2x8x192 z shapeCasts_S186x84x8x192_S93x2x42x2x8x192) slices_S93x2x42x2x8x192_o0_0_0_1_0_0_S93x1x42x1x8x192) shapeCasts_S93x1x42x1x8x192_S93x42x8x192 (ix4 p b l j) = z (ix4 ⟨2 * p, by omega⟩ ⟨2 * b + 1, by omega⟩ l j) := by
  pointwise []
  all_goals refine congrArg z ?_
  all_goals blk_ext []

theorem quarter_10 (z : FVec Ideal S186x84x8x192 .f32) (j : Fin 192) :
    shapeCast S93x42x8x192 (extractStridedSlice S93x1x42x1x8x192 ![0, 1, 0, 0, 0, 0] (shapeCast S93x2x42x2x8x192 z shapeCasts_S186x84x8x192_S93x2x42x2x8x192) slices_S93x2x42x2x8x192_o0_1_0_0_0_0_S93x1x42x1x8x192) shapeCasts_S93x1x42x1x8x192_S93x42x8x192 (ix4 p b l j) = z (ix4 ⟨2 * p + 1, by omega⟩ ⟨2 * b, by omega⟩ l j) := by
  pointwise []
  all_goals refine congrArg z ?_
  all_goals blk_ext []

theorem quarter_11 (z : FVec Ideal S186x84x8x192 .f32) (j : Fin 192) :
    shapeCast S93x42x8x192 (extractStridedSlice S93x1x42x1x8x192 ![0, 1, 0, 1, 0, 0] (shapeCast S93x2x42x2x8x192 z shapeCasts_S186x84x8x192_S93x2x42x2x8x192) slices_S93x2x42x2x8x192_o0_1_0_1_0_0_S93x1x42x1x8x192) shapeCasts_S93x1x42x1x8x192_S93x42x8x192 (ix4 p b l j) = z (ix4 ⟨2 * p + 1, by omega⟩ ⟨2 * b + 1, by omega⟩ l j) := by
  pointwise []
  all_goals refine congrArg z ?_
  all_goals blk_ext []

theorem cat4_at (w0 w1 w2 w3 : FVec Ideal S93x42x8x192 .f32) (j : Fin 768) :
    concatenate S93x42x8x768 3 [⟨S93x42x8x192, w0⟩, ⟨S93x42x8x192, w1⟩, ⟨S93x42x8x192, w2⟩, ⟨S93x42x8x192, w3⟩] concatenates_S93x42x8x192_S93x42x8x192_S93x42x8x192_S93x42x8x192_S93x42x8x768_d3 (ix4 p b l j) = cat (![fun j => w0 (ix4 p b l j), fun j => w1 (ix4 p b l j), fun j => w2 (ix4 p b l j), fun j => w3 (ix4 p b l j)]) j := by
  pointwise []
  split
  · rename_i h; rw [cat_0 _ j h]; rfl
  · rename_i h
    split
    · rename_i h'; rw [cat_1 _ j h h']; rfl
    · rename_i h'
      split
      · rename_i h''; rw [cat_2 _ j h' h'']; rfl
      · rename_i h''; rw [cat_3 _ j h'']; rfl

/-- The four rows side by side. -/
def four_vec (z : FVec Ideal S186x84x8x192 .f32) : FVec Ideal S93x42x8x768 .f32 :=
  concatenate S93x42x8x768 3 [⟨S93x42x8x192, shapeCast S93x42x8x192 (extractStridedSlice S93x1x42x1x8x192 ![0, 0, 0, 0, 0, 0] (shapeCast S93x2x42x2x8x192 z shapeCasts_S186x84x8x192_S93x2x42x2x8x192) slices_S93x2x42x2x8x192_o0_0_0_0_0_0_S93x1x42x1x8x192) shapeCasts_S93x1x42x1x8x192_S93x42x8x192⟩, ⟨S93x42x8x192, shapeCast S93x42x8x192 (extractStridedSlice S93x1x42x1x8x192 ![0, 0, 0, 1, 0, 0] (shapeCast S93x2x42x2x8x192 z shapeCasts_S186x84x8x192_S93x2x42x2x8x192) slices_S93x2x42x2x8x192_o0_0_0_1_0_0_S93x1x42x1x8x192) shapeCasts_S93x1x42x1x8x192_S93x42x8x192⟩, ⟨S93x42x8x192, shapeCast S93x42x8x192 (extractStridedSlice S93x1x42x1x8x192 ![0, 1, 0, 0, 0, 0] (shapeCast S93x2x42x2x8x192 z shapeCasts_S186x84x8x192_S93x2x42x2x8x192) slices_S93x2x42x2x8x192_o0_1_0_0_0_0_S93x1x42x1x8x192) shapeCasts_S93x1x42x1x8x192_S93x42x8x192⟩, ⟨S93x42x8x192, shapeCast S93x42x8x192 (extractStridedSlice S93x1x42x1x8x192 ![0, 1, 0, 1, 0, 0] (shapeCast S93x2x42x2x8x192 z shapeCasts_S186x84x8x192_S93x2x42x2x8x192) slices_S93x2x42x2x8x192_o0_1_0_1_0_0_S93x1x42x1x8x192) shapeCasts_S93x1x42x1x8x192_S93x42x8x192⟩] concatenates_S93x42x8x192_S93x42x8x192_S93x42x8x192_S93x42x8x192_S93x42x8x768_d3

/-- The four rows that the merge puts side by side. -/
def rows4 (z : FVec Ideal S186x84x8x192 .f32) : Fin 4 → Fin 192 → EReal :=
  ![fun j => z (ix4 ⟨2 * p, by omega⟩ ⟨2 * b, by omega⟩ l j), fun j => z (ix4 ⟨2 * p, by omega⟩ ⟨2 * b + 1, by omega⟩ l j),
    fun j => z (ix4 ⟨2 * p + 1, by omega⟩ ⟨2 * b, by omega⟩ l j), fun j => z (ix4 ⟨2 * p + 1, by omega⟩ ⟨2 * b + 1, by omega⟩ l j)]

theorem four_at (z : FVec Ideal S186x84x8x192 .f32) (j : Fin 768) : four_vec z (ix4 p b l j) = cat (rows4 p b l z) j := by
  refine (cat4_at p b l _ _ _ _ j).trans ?_
  refine congrArg (fun y => cat y j) ?_
  unfold rows4
  congr 1
  · funext j; exact quarter_00 p b l z j
  congr 1
  · funext j; exact quarter_01 p b l z j
  congr 1
  · funext j; exact quarter_10 p b l z j
  congr 1
  funext j; exact quarter_11 p b l z j

theorem spread_w (j : Fin 768) (s : FVec Ideal S93x42x8x1 .f32) :
    broadcastTo S93x42x8x768 s broadcasts_S93x42x8x1_S93x42x8x768 (ix4 p b l j) = s (ix4 p b l 0) := by
  pointwise []

theorem sum_w (z : FVec Ideal S93x42x8x768 .f32) :
    shapeCast S93x42x8x1 (multiReduction .add [3] S93x42x8 z 0x00000000#32 reduces_S93x42x8x768_S93x42x8 (.inl rfl) rfl) shapeCasts_S93x42x8_S93x42x8x1 (ix4 p b l 0) = ∑ x, z (ix4 p b l x) := by
  pointwise []

theorem sub_w (z w : FVec Ideal S93x42x8x768 .f32) (j : Fin 768) : subf z w (ix4 p b l j) = z (ix4 p b l j) - w (ix4 p b l j) := by
  pointwise []

theorem mul_w (z w : FVec Ideal S93x42x8x768 .f32) (j : Fin 768) : mulf z w (ix4 p b l j) = z (ix4 p b l j) * w (ix4 p b l j) := by
  pointwise []

theorem over_w (s : FVec Ideal S93x42x8x1 .f32) : divf s (broadcast S93x42x8x1 (Scalar.ofBits .f32 0x44400000#32)) (ix4 p b l 0) = Ideal.div (s (ix4 p b l 0)) (Ideal.ofBits .f32 1145044992#32) := by
  pointwise []
  all_goals rfl

theorem root_w (s : FVec Ideal S93x42x8x1 .f32) : sqrt (addf s (broadcast S93x42x8x1 (Scalar.ofBits .f32 0x3727C5AC#32))) (ix4 p b l 0) = Ideal.sqrt (s (ix4 p b l 0) + Ideal.ofBits .f32 925353388#32) := by
  pointwise []
  all_goals rfl

/-- Every row less its mean. -/
def centre_vec (z : FVec Ideal S93x42x8x768 .f32) : FVec Ideal S93x42x8x768 .f32 :=
  subf z (broadcastTo S93x42x8x768 (divf (shapeCast S93x42x8x1 (multiReduction .add [3] S93x42x8 z 0x00000000#32 reduces_S93x42x8x768_S93x42x8 (.inl rfl) rfl) shapeCasts_S93x42x8_S93x42x8x1) (broadcast S93x42x8x1 (Scalar.ofBits .f32 0x44400000#32))) broadcasts_S93x42x8x1_S93x42x8x768)

theorem centre_at (z : FVec Ideal S93x42x8x768 .f32) (j : Fin 768) : centre_vec z (ix4 p b l j) = z (ix4 p b l j) - mean 1145044992#32 fun x => z (ix4 p b l x) := by
  refine (sub_w p b l _ _ j).trans ?_
  rw [spread_w, over_w, sum_w]
  rfl

/-- The root of every row's mean square, spread over the row. -/
def root_vec (z : FVec Ideal S93x42x8x768 .f32) : FVec Ideal S93x42x8x768 .f32 :=
  broadcastTo S93x42x8x768 (sqrt (addf (divf (shapeCast S93x42x8x1 (multiReduction .add [3] S93x42x8 (mulf z z) 0x00000000#32 reduces_S93x42x8x768_S93x42x8 (.inl rfl) rfl) shapeCasts_S93x42x8_S93x42x8x1) (broadcast S93x42x8x1 (Scalar.ofBits .f32 0x44400000#32))) (broadcast S93x42x8x1 (Scalar.ofBits .f32 0x3727C5AC#32)))) broadcasts_S93x42x8x1_S93x42x8x768

theorem root_at (z : FVec Ideal S93x42x8x768 .f32) (j : Fin 768) : root_vec z (ix4 p b l j) = Ideal.sqrt (Ideal.div (∑ x, z (ix4 p b l x) * z (ix4 p b l x)) (Ideal.ofBits .f32 1145044992#32) + Ideal.ofBits .f32 925353388#32) := by
  refine (spread_w p b l j _).trans ?_
  rw [root_w, over_w, sum_w]
  simp only [mul_w]

end Cert.ReferenceIdeal.Val

end
-- ==== Proof.RefMerge.lean ====
/- What the reference's body computes, entry by entry, from the values its steps read. -/
module

public import proofs.«01_k».proof.Proof.Gen.ReferenceIdeal.Skeleton
public import proofs.«01_k».proof.Proof.Whole
public import proofs.«01_k».proof.Proof.RefSecond
public import proofs.«01_k».proof.Proof.RefFour
public import Idealize.ShloMosaic.Lib.Pointwise
public import Idealize.ShloMosaic.Lib.KernelVsHost
public import Idealize.ShloMosaic.Lib.Pipeline.ValueKit

@[expose] public section

set_option maxRecDepth 16384
noncomputable section

namespace Cert.ReferenceIdeal.Val

open Idealize.ShloMosaic Idealize.ShloMosaic.TcCoe
open Cert.ReferenceIdeal Cert.ReferenceIdeal.Gen
open Cert.Rows (scale code codef back mean lnorm gelu cat)

variable (l : Fin 8)

variable (p : Fin 93) (b : Fin 42)

theorem pay24_at (v54 : FVec Ideal S186x84x8x192 .f32) (v146 v148 : FVec Ideal S1x192 .f32) (v154 : FVec Ideal S186x84x8x192 .f32) (v157 : FVec Ideal S186x84x8x1 .f32) (j : Fin 768) :
    k0_pay24 v54 v146 v148 v154 v157 (Ideal.ofBits .f32 1128267776#32) (ix4 p b l j) = cat (rows4 p b l (k0_pay20 v54 v146 v148 v154 v157 (Ideal.ofBits .f32 1128267776#32))) j - mean 1145044992#32 (cat (rows4 p b l (k0_pay20 v54 v146 v148 v154 v157 (Ideal.ofBits .f32 1128267776#32)))) := by
  refine (centre_at p b l (four_vec (k0_pay20 v54 v146 v148 v154 v157 (Ideal.ofBits .f32 1128267776#32))) j).trans ?_
  rw [four_at]
  refine congrArg (fun f => cat (rows4 p b l (k0_pay20 v54 v146 v148 v154 v157 (Ideal.ofBits .f32 1128267776#32))) j - mean 1145044992#32 f) ?_
  funext x
  exact four_at p b l _ x

theorem pay25_at (v54 : FVec Ideal S186x84x8x192 .f32) (v146 v148 : FVec Ideal S1x192 .f32) (v154 : FVec Ideal S186x84x8x192 .f32) (v157 : FVec Ideal S186x84x8x1 .f32) (j : Fin 768) :
    k0_pay25 v54 v146 v148 v154 v157 (Ideal.ofBits .f32 1128267776#32) (ix4 p b l j) = Ideal.sqrt (Ideal.div (∑ x, k0_pay24 v54 v146 v148 v154 v157 (Ideal.ofBits .f32 1128267776#32) (ix4 p b l x) * k0_pay24 v54 v146 v148 v154 v157 (Ideal.ofBits .f32 1128267776#32) (ix4 p b l x)) (Ideal.ofBits .f32 1145044992#32) + Ideal.ofBits .f32 925353388#32) :=
  root_at p b l (k0_pay24 v54 v146 v148 v154 v157 (Ideal.ofBits .f32 1128267776#32)) j

theorem pay26_at (v185 v187 : FVec Ideal S1x768 .f32) (v193 v202 : FVec Ideal S93x42x8x768 .f32) (j : Fin 768) :
    k0_pay26 v185 v187 v193 v202 (ix4 p b l j) = Ideal.div (v193 (ix4 p b l j)) (v202 (ix4 p b l j)) * v185 (ix2 0 j) + v187 (ix2 0 j) := by
  pointwise [k0_pay26]
  all_goals rfl

theorem pay27_at (v185 v187 : FVec Ideal S1x768 .f32) (v193 v202 : FVec Ideal S93x42x8x768 .f32) :
    k0_pay27 v185 v187 v193 v202 (ix4 p b l 0) = scale fun j => k0_pay26 v185 v187 v193 v202 (ix4 p b l j) :=
  scale_m_at p b l (k0_pay26 v185 v187 v193 v202)

theorem pay28_at (v185 v187 : FVec Ideal S1x768 .f32) (v193 v202 : FVec Ideal S93x42x8x768 .f32) (j : Fin 768) :
    k0_pay28 v185 v187 v193 v202 (ix4 p b l j) = code (k0_pay26 v185 v187 v193 v202 (ix4 p b l j)) (k0_pay27 v185 v187 v193 v202 (ix4 p b l 0)) :=
  code_m_at p b l j (k0_pay26 v185 v187 v193 v202) (k0_pay27 v185 v187 v193 v202)

theorem pay29_at (v185 v187 : FVec Ideal S1x768 .f32) (v193 v202 : FVec Ideal S93x42x8x768 .f32) :
    k0_pay29 v185 v187 v193 v202 (ix3 p l b) = k0_pay27 v185 v187 v193 v202 (ix4 p b l 0) := by
  unfold k0_pay29
  generalize k0_pay27 v185 v187 v193 v202 = z0
  pointwise []

/-- The product of the codes with a weight, over all tokens. -/
def dot_vec (w : IVec S93x42x8x768 8) (v : Vec Ideal S768x384 .i8) : FVec Ideal S93x42x8x384 .f32 :=
  shapeCast S93x42x8x384 (matmul dot_S31248x768_S768x384_S31248x384_1_0_0_1_n_n none (sitofp .bf16 (shapeCast S31248x768 w shapeCasts_S93x42x8x768_S31248x768)) (sitofp .bf16 v) (constant (F := Ideal) S31248x384 .f32 0x00000000#32)) shapeCasts_S31248x384_S93x42x8x384

theorem row_at (w : IVec S93x42x8x768 8) (c : Fin 768) :
    shapeCast S31248x768 w shapeCasts_S93x42x8x768_S31248x768 (ix2 ⟨336 * p + 8 * b + l, by omega⟩ c) = w (ix4 p b l c) := by
  pointwise []
  all_goals refine congrArg w ?_
  all_goals blk_ext []

theorem fold_at (z : FVec Ideal S31248x384 .f32) (j : Fin 384) :
    shapeCast S93x42x8x384 z shapeCasts_S31248x384_S93x42x8x384 (ix4 p b l j) = z (ix2 ⟨336 * p + 8 * b + l, by omega⟩ j) := by
  pointwise []
  all_goals refine congrArg z ?_
  all_goals blk_ext []

theorem prod_at (w : IVec S31248x768 8) (v : Vec Ideal S768x384 .i8) (r : Fin 31248) (j : Fin 384) :
    matmul dot_S31248x768_S768x384_S31248x384_1_0_0_1_n_n none (sitofp (F := Ideal) .bf16 w) (sitofp (F := Ideal) .bf16 v) (constant (F := Ideal) S31248x384 .f32 0x00000000#32) (ix2 r j) = ∑ c, back (w (ix2 r c)) * back (v (ix2 c j)) := by
  pointwise []
  all_goals rfl

theorem dot_at (w : IVec S93x42x8x768 8) (v : Vec Ideal S768x384 .i8) (j : Fin 384) :
    dot_vec w v (ix4 p b l j) = ∑ c, back (w (ix4 p b l c)) * back (v (ix2 c j)) := by
  refine (fold_at l p b _ j).trans ?_
  rw [prod_at]
  exact Finset.sum_congr rfl fun c _ => by rw [row_at]

theorem spread_d (s : FVec Ideal S93x42x8x1 .f32) (j : Fin 384) :
    broadcastTo S93x42x8x384 s broadcasts_S93x42x8x1_S93x42x8x384 (ix4 p b l j) = s (ix4 p b l 0) := by
  pointwise []

theorem mul_d (z w : FVec Ideal S93x42x8x384 .f32) (j : Fin 384) : mulf z w (ix4 p b l j) = z (ix4 p b l j) * w (ix4 p b l j) := by
  pointwise []

theorem pay31_at (v185 v187 : FVec Ideal S1x768 .f32) (v193 v202 : FVec Ideal S93x42x8x768 .f32) (v233 : Vec Ideal S768x384 .i8) (j : Fin 384) :
    k0_pay31 v185 v187 v193 v202 v233 (ix4 p b l j) = (∑ c, back (k0_pay28 v185 v187 v193 v202 (ix4 p b l c)) * back (v233 (ix2 c j))) * k0_pay27 v185 v187 v193 v202 (ix4 p b l 0) := by
  refine (mul_d l p b (dot_vec (k0_pay28 v185 v187 v193 v202) v233) _ j).trans ?_
  rw [dot_at, spread_d]

theorem pay1_at (v235 : FVec Ideal S1x384 .f32) (v242 : FVec Ideal S93x42x8x384 .f32) (j : Fin 384) :
    k0_pay1 v235 v242 (ix4 p b l j) = v242 (ix4 p b l j) * v235 (ix2 0 j) := by
  pointwise [k0_pay1]

end Cert.ReferenceIdeal.Val

end
-- ==== Proof.RefToken.lean ====
/- What the reference's body computes, entry by entry, from one token or four neighbouring tokens. -/
module

public import proofs.«01_k».proof.Proof.Gen.ReferenceIdeal.Frame
public import proofs.«01_k».proof.Proof.RefMerge
public import Idealize.ShloMosaic.Lib.Pointwise
public import Idealize.ShloMosaic.Lib.Pipeline.ValueKit

@[expose] public section

set_option maxRecDepth 16384
noncomputable section

namespace Cert.ReferenceIdeal.Val

open Idealize.ShloMosaic Idealize.ShloMosaic.TcCoe
open Cert.ReferenceIdeal Cert.ReferenceIdeal.Gen
open Cert.Rows

variable (x0 : Vec Ideal S186x84x8x192 .bf16) (x1 : Vec Ideal S186x84x8x192 .i8) (x2 : Vec Ideal S186x8x84 .f32) (x3 : Vec Ideal S192x192 .i8) (x4 : Vec Ideal S2x192 .f32) (x5 : Vec Ideal S192x768 .i8) (x6 : Vec Ideal S2x768 .f32) (x7 : Vec Ideal S768x192 .i8) (x8 : Vec Ideal S2x192 .f32) (x9 : Vec Ideal S2x192 .f32) (x10 : Vec Ideal S2x192 .f32) (x11 : Vec Ideal S2x768 .f32) (x12 : Vec Ideal S768x384 .i8) (x13 : Vec Ideal S1x384 .f32)

/-- The parameters in the reference's parameter arrays. -/
def parIn : Par where
  wp a j := x3 (ix2 a j)
  sp j := x4 (ix2 0 j)
  bp j := x4 (ix2 1 j)
  wf a j := x5 (ix2 a j)
  sf j := x6 (ix2 0 j)
  bf j := x6 (ix2 1 j)
  wo a j := x7 (ix2 a j)
  so j := x8 (ix2 0 j)
  bo j := x8 (ix2 1 j)
  g1 j := x9 (ix2 0 j)
  b1 j := x9 (ix2 1 j)
  g2 j := x10 (ix2 0 j)
  b2 j := x10 (ix2 1 j)
  g3 j := x11 (ix2 0 j)
  b3 j := x11 (ix2 1 j)
  wd a j := x12 (ix2 a j)
  sd j := x13 (ix2 0 j)

/-- The token at latitude `a`, longitude `n` and level `l`. -/
def tokIn (a : Fin 186) (n : Fin 84) (l : Fin 8) : Tok where
  x j := x0 (ix4 a n l j)
  o j := x1 (ix4 a n l j)
  s := x2 (ix3 a l n)

/-- The four tokens of a merge. -/
def quadIn (p : Fin 93) (b : Fin 42) (l : Fin 8) : Fin 4 → Tok :=
  ![tokIn x0 x1 x2 ⟨2 * p, by omega⟩ ⟨2 * b, by omega⟩ l, tokIn x0 x1 x2 ⟨2 * p, by omega⟩ ⟨2 * b + 1, by omega⟩ l,
    tokIn x0 x1 x2 ⟨2 * p + 1, by omega⟩ ⟨2 * b, by omega⟩ l, tokIn x0 x1 x2 ⟨2 * p + 1, by omega⟩ ⟨2 * b + 1, by omega⟩ l]

theorem ld_0_bf16 (x : Vec Ideal S186x84x8x192 .bf16) (a : Fin 186) (n : Fin 84) (l : Fin 8) (j : Fin 192) : View.ld x r0_0 (ix4 (n0 := 186) (n1 := 84) (n2 := 8) (n3 := 192) a n l j) = x (ix4 a n l j) := by
  rw [View.ld_apply]
  unfold r0_0
  blk_ext []
  all_goals simp [Rect.idx_unit_val, ix4, ix3, ix2]

theorem ld_0_i8 (x : Vec Ideal S186x84x8x192 .i8) (a : Fin 186) (n : Fin 84) (l : Fin 8) (j : Fin 192) : View.ld x r0_0 (ix4 (n0 := 186) (n1 := 84) (n2 := 8) (n3 := 192) a n l j) = x (ix4 a n l j) := by
  rw [View.ld_apply]
  unfold r0_0
  blk_ext []
  all_goals simp [Rect.idx_unit_val, ix4, ix3, ix2]

theorem ld_1_f32 (x : Vec Ideal S186x8x84 .f32) (a : Fin 186) (n : Fin 84) (l : Fin 8) : View.ld x r0_1 (ix3 (n0 := 186) (n1 := 8) (n2 := 84) a l n) = x (ix3 a l n) := by
  rw [View.ld_apply]
  unfold r0_1
  blk_ext []
  all_goals simp [Rect.idx_unit_val, ix4, ix3, ix2]

theorem ld_2_i8 (x : Vec Ideal S192x192 .i8) (a j : Fin 192) : View.ld x r0_2 (ix2 (n0 := 192) (n1 := 192) a j) = x (ix2 a j) := by
  rw [View.ld_apply]
  unfold r0_2
  blk_ext []
  all_goals simp [Rect.idx_unit_val, ix4, ix3, ix2]

theorem ld_3_f32 (x : Vec Ideal S2x192 .f32) (j : Fin 192) : View.ld x r0_3 (ix2 (n0 := 1) (n1 := 192) 0 j) = x (ix2 0 j) := by
  rw [View.ld_apply]
  unfold r0_3
  blk_ext []
  all_goals simp [Rect.idx_unit_val, ix4, ix3, ix2]

theorem ld_4_f32 (x : Vec Ideal S2x192 .f32) (j : Fin 192) : View.ld x r0_4 (ix2 (n0 := 1) (n1 := 192) 0 j) = x (ix2 1 j) := by
  rw [View.ld_apply]
  unfold r0_4
  blk_ext []
  all_goals simp [Rect.idx_unit_val, ix4, ix3, ix2]

theorem ld_5_i8 (x : Vec Ideal S192x768 .i8) (a : Fin 192) (j : Fin 768) : View.ld x r0_5 (ix2 (n0 := 192) (n1 := 768) a j) = x (ix2 a j) := by
  rw [View.ld_apply]
  unfold r0_5
  blk_ext []
  all_goals simp [Rect.idx_unit_val, ix4, ix3, ix2]

theorem ld_6_f32 (x : Vec Ideal S2x768 .f32) (j : Fin 768) : View.ld x r0_6 (ix2 (n0 := 1) (n1 := 768) 0 j) = x (ix2 0 j) := by
  rw [View.ld_apply]
  unfold r0_6
  blk_ext []
  all_goals simp [Rect.idx_unit_val, ix4, ix3, ix2]

theorem ld_7_f32 (x : Vec Ideal S2x768 .f32) (j : Fin 768) : View.ld x r0_7 (ix2 (n0 := 1) (n1 := 768) 0 j) = x (ix2 1 j) := by
  rw [View.ld_apply]
  unfold r0_7
  blk_ext []
  all_goals simp [Rect.idx_unit_val, ix4, ix3, ix2]

theorem ld_9_i8 (x : Vec Ideal S768x192 .i8) (a : Fin 768) (j : Fin 192) : View.ld x r0_9 (ix2 (n0 := 768) (n1 := 192) a j) = x (ix2 a j) := by
  rw [View.ld_apply]
  unfold r0_9
  blk_ext []
  all_goals simp [Rect.idx_unit_val, ix4, ix3, ix2]

theorem ld_12_i8 (x : Vec Ideal S768x384 .i8) (a : Fin 768) (j : Fin 384) : View.ld x r0_12 (ix2 (n0 := 768) (n1 := 384) a j) = x (ix2 a j) := by
  rw [View.ld_apply]
  unfold r0_12
  blk_ext []
  all_goals simp [Rect.idx_unit_val, ix4, ix3, ix2]

theorem ld_13_f32 (x : Vec Ideal S1x384 .f32) (j : Fin 384) : View.ld x r0_13 (ix2 (n0 := 1) (n1 := 384) 0 j) = x (ix2 0 j) := by
  rw [View.ld_apply]
  unfold r0_13
  blk_ext []
  all_goals simp [Rect.idx_unit_val, ix4, ix3, ix2]

theorem q33 (a : Fin 186) (n : Fin 84) (l : Fin 8) (j : Fin 192) :
    (k0_pay33 x0 x1 x2 x3 x4 x5 x6 x7 x8 x9 x10 x11 x12 x13) (ix4 a n l j) = proj (parIn x3 x4 x5 x6 x7 x8 x9 x10 x11 x12 x13) (tokIn x0 x1 x2 a n l) j := by
  refine (pay3_at a n l (View.ld x2 r0_1) (View.ld x1 r0_0) (View.ld x3 r0_2) (View.ld x4 r0_3) (View.ld x4 r0_4) j).trans ?_
  exact congrArg₂ (· + ·) (congrArg₂ (· * ·) (congrArg₂ (· * ·) (Finset.sum_congr rfl fun c _ => congrArg₂ (· * ·) (congrArg back (ld_0_i8 x1 a n l c)) (congrArg back (ld_2_i8 x3 c j))) (ld_1_f32 x2 a n l)) (ld_3_f32 x4 j)) (ld_4_f32 x4 j)

theorem q34 (j : Fin 192) :
    (k0_pay34 x0 x1 x2 x3 x4 x5 x6 x7 x8 x9 x10 x11 x12 x13) (ix2 0 j) = (parIn x3 x4 x5 x6 x7 x8 x9 x10 x11 x12 x13).g1 j := by
  exact (pay4_at (View.ld x9 r0_3) j).trans (ld_3_f32 x9 j)

theorem q35 (j : Fin 192) :
    (k0_pay35 x0 x1 x2 x3 x4 x5 x6 x7 x8 x9 x10 x11 x12 x13) (ix2 0 j) = (parIn x3 x4 x5 x6 x7 x8 x9 x10 x11 x12 x13).b1 j := by
  exact (pay5_at (View.ld x9 r0_4) j).trans (ld_4_f32 x9 j)

theorem q42 (j : Fin 192) :
    (k0_pay42 x0 x1 x2 x3 x4 x5 x6 x7 x8 x9 x10 x11 x12 x13) (ix2 0 j) = (parIn x3 x4 x5 x6 x7 x8 x9 x10 x11 x12 x13).g2 j := by
  exact (pay16_at (View.ld x10 r0_3) j).trans (ld_3_f32 x10 j)

theorem q43 (j : Fin 192) :
    (k0_pay43 x0 x1 x2 x3 x4 x5 x6 x7 x8 x9 x10 x11 x12 x13) (ix2 0 j) = (parIn x3 x4 x5 x6 x7 x8 x9 x10 x11 x12 x13).b2 j := by
  exact (pay17_at (View.ld x10 r0_4) j).trans (ld_4_f32 x10 j)

theorem q46 (j : Fin 768) :
    (k0_pay46 x0 x1 x2 x3 x4 x5 x6 x7 x8 x9 x10 x11 x12 x13) (ix2 0 j) = (parIn x3 x4 x5 x6 x7 x8 x9 x10 x11 x12 x13).g3 j := by
  exact (pay22_at (View.ld x11 r0_6) j).trans (ld_6_f32 x11 j)

theorem q47 (j : Fin 768) :
    (k0_pay47 x0 x1 x2 x3 x4 x5 x6 x7 x8 x9 x10 x11 x12 x13) (ix2 0 j) = (parIn x3 x4 x5 x6 x7 x8 x9 x10 x11 x12 x13).b3 j := by
  exact (pay23_at (View.ld x11 r0_7) j).trans (ld_7_f32 x11 j)

theorem q32 (a : Fin 186) (n : Fin 84) (l : Fin 8) (j : Fin 192) :
    (k0_pay32 x0 x1 x2 x3 x4 x5 x6 x7 x8 x9 x10 x11 x12 x13) (ix4 a n l j) = (tokIn x0 x1 x2 a n l).x j := by
  exact (pay2_at a n l (View.ld x0 r0_0) j).trans (ld_0_bf16 x0 a n l j)

theorem q37 (a : Fin 186) (n : Fin 84) (l : Fin 8) (j : Fin 192) :
    (k0_pay37 x0 x1 x2 x3 x4 x5 x6 x7 x8 x9 x10 x11 x12 x13) (ix4 a n l j) = y1 (parIn x3 x4 x5 x6 x7 x8 x9 x10 x11 x12 x13) (tokIn x0 x1 x2 a n l) j := by
  refine (pay7_at a n l (k0_pay32 x0 x1 x2 x3 x4 x5 x6 x7 x8 x9 x10 x11 x12 x13) (k0_pay33 x0 x1 x2 x3 x4 x5 x6 x7 x8 x9 x10 x11 x12 x13) (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) j (pay6_at a n l (View.ld x2 r0_1) (View.ld x1 r0_0) (View.ld x3 r0_2) (View.ld x4 r0_3) (View.ld x4 r0_4))).trans ?_
  simp only [q32, q33, q34, q35]
  rfl

theorem q38 (a : Fin 186) (n : Fin 84) (l : Fin 8) :
    (k0_pay38 x0 x1 x2 x3 x4 x5 x6 x7 x8 x9 x10 x11 x12 x13) (ix4 a n l 0) = ms (parIn x3 x4 x5 x6 x7 x8 x9 x10 x11 x12 x13) (tokIn x0 x1 x2 a n l) := by
  refine (pay8_at a n l (k0_pay32 x0 x1 x2 x3 x4 x5 x6 x7 x8 x9 x10 x11 x12 x13) (k0_pay33 x0 x1 x2 x3 x4 x5 x6 x7 x8 x9 x10 x11 x12 x13) (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13)).trans ?_
  exact congrArg scale (funext fun j => q37 x0 x1 x2 x3 x4 x5 x6 x7 x8 x9 x10 x11 x12 x13 a n l j)

theorem q39 (a : Fin 186) (n : Fin 84) (l : Fin 8) (j : Fin 192) :
    (k0_pay39 x0 x1 x2 x3 x4 x5 x6 x7 x8 x9 x10 x11 x12 x13) (ix4 a n l j) = code (y1 (parIn x3 x4 x5 x6 x7 x8 x9 x10 x11 x12 x13) (tokIn x0 x1 x2 a n l) j) (ms (parIn x3 x4 x5 x6 x7 x8 x9 x10 x11 x12 x13) (tokIn x0 x1 x2 a n l)) := by
  refine (pay9_at a n l (k0_pay32 x0 x1 x2 x3 x4 x5 x6 x7 x8 x9 x10 x11 x12 x13) (k0_pay33 x0 x1 x2 x3 x4 x5 x6 x7 x8 x9 x10 x11 x12 x13) (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) j).trans ?_
  exact congrArg₂ code (q37 x0 x1 x2 x3 x4 x5 x6 x7 x8 x9 x10 x11 x12 x13 a n l j) (q38 x0 x1 x2 x3 x4 x5 x6 x7 x8 x9 x10 x11 x12 x13 a n l)

theorem q11 (a : Fin 186) (n : Fin 84) (l : Fin 8) (j : Fin 768) :
    k0_pay11 (k0_pay38 x0 x1 x2 x3 x4 x5 x6 x7 x8 x9 x10 x11 x12 x13) (k0_pay39 x0 x1 x2 x3 x4 x5 x6 x7 x8 x9 x10 x11 x12 x13) (View.ld x5 r0_5) (View.ld x6 r0_6) (View.ld x6 r0_7) (ix4 a n l j) = hid (parIn x3 x4 x5 x6 x7 x8 x9 x10 x11 x12 x13) (tokIn x0 x1 x2 a n l) j := by
  refine (pay11_at a n l (k0_pay38 x0 x1 x2 x3 x4 x5 x6 x7 x8 x9 x10 x11 x12 x13) (k0_pay39 x0 x1 x2 x3 x4 x5 x6 x7 x8 x9 x10 x11 x12 x13) (View.ld x5 r0_5) (View.ld x6 r0_6) (View.ld x6 r0_7) j).trans ?_
  exact congrArg gelu (congrArg₂ (· + ·) (congrArg₂ (· * ·) (congrArg₂ (· * ·) (Finset.sum_congr rfl fun c _ => congrArg₂ (· * ·) ((congrArg back (q39 x0 x1 x2 x3 x4 x5 x6 x7 x8 x9 x10 x11 x12 x13 a n l c)).trans (back_code _ _)) (congrArg back (ld_5_i8 x5 c j))) (q38 x0 x1 x2 x3 x4 x5 x6 x7 x8 x9 x10 x11 x12 x13 a n l)) (ld_6_f32 x6 j)) (ld_7_f32 x6 j))

theorem q40 (a : Fin 186) (n : Fin 84) (l : Fin 8) :
    (k0_pay40 x0 x1 x2 x3 x4 x5 x6 x7 x8 x9 x10 x11 x12 x13) (ix4 a n l 0) = hs (parIn x3 x4 x5 x6 x7 x8 x9 x10 x11 x12 x13) (tokIn x0 x1 x2 a n l) := by
  refine (pay12_at a n l (k0_pay38 x0 x1 x2 x3 x4 x5 x6 x7 x8 x9 x10 x11 x12 x13) (k0_pay39 x0 x1 x2 x3 x4 x5 x6 x7 x8 x9 x10 x11 x12 x13) (View.ld x5 r0_5) (View.ld x6 r0_6) (View.ld x6 r0_7)).trans ?_
  exact congrArg scale (funext fun j => q11 x0 x1 x2 x3 x4 x5 x6 x7 x8 x9 x10 x11 x12 x13 a n l j)

theorem q41 (a : Fin 186) (n : Fin 84) (l : Fin 8) (j : Fin 768) :
    (k0_pay41 x0 x1 x2 x3 x4 x5 x6 x7 x8 x9 x10 x11 x12 x13) (ix4 a n l j) = codef (hid (parIn x3 x4 x5 x6 x7 x8 x9 x10 x11 x12 x13) (tokIn x0 x1 x2 a n l) j) (hs (parIn x3 x4 x5 x6 x7 x8 x9 x10 x11 x12 x13) (tokIn x0 x1 x2 a n l)) := by
  refine (pay13_at a n l (k0_pay38 x0 x1 x2 x3 x4 x5 x6 x7 x8 x9 x10 x11 x12 x13) (k0_pay39 x0 x1 x2 x3 x4 x5 x6 x7 x8 x9 x10 x11 x12 x13) (View.ld x5 r0_5) (View.ld x6 r0_6) (View.ld x6 r0_7) j).trans ?_
  exact congrArg₂ codef (q11 x0 x1 x2 x3 x4 x5 x6 x7 x8 x9 x10 x11 x12 x13 a n l j) (q40 x0 x1 x2 x3 x4 x5 x6 x7 x8 x9 x10 x11 x12 x13 a n l)

theorem q14 (a : Fin 186) (n : Fin 84) (l : Fin 8) (j : Fin 768) :
    k0_pay14 (k0_pay41 x0 x1 x2 x3 x4 x5 x6 x7 x8 x9 x10 x11 x12 x13) (ix4 a n l j) = code (hid (parIn x3 x4 x5 x6 x7 x8 x9 x10 x11 x12 x13) (tokIn x0 x1 x2 a n l) j) (hs (parIn x3 x4 x5 x6 x7 x8 x9 x10 x11 x12 x13) (tokIn x0 x1 x2 a n l)) := by
  refine (pay14_at a n l (k0_pay41 x0 x1 x2 x3 x4 x5 x6 x7 x8 x9 x10 x11 x12 x13) j).trans ?_
  rw [q41]
  rfl

theorem qsecond (a : Fin 186) (n : Fin 84) (l : Fin 8) :
    second a n l (k0_pay40 x0 x1 x2 x3 x4 x5 x6 x7 x8 x9 x10 x11 x12 x13) (k0_pay41 x0 x1 x2 x3 x4 x5 x6 x7 x8 x9 x10 x11 x12 x13) (View.ld x7 r0_9) (View.ld x8 r0_3) (View.ld x8 r0_4) = out (parIn x3 x4 x5 x6 x7 x8 x9 x10 x11 x12 x13) (tokIn x0 x1 x2 a n l) := by
  funext j
  exact congrArg₂ (· + ·) (congrArg₂ (· * ·) (congrArg₂ (· * ·) (Finset.sum_congr rfl fun c _ => congrArg₂ (· * ·) ((congrArg back (q14 x0 x1 x2 x3 x4 x5 x6 x7 x8 x9 x10 x11 x12 x13 a n l c)).trans (back_code _ _)) (congrArg back (ld_9_i8 x7 c j))) (q40 x0 x1 x2 x3 x4 x5 x6 x7 x8 x9 x10 x11 x12 x13 a n l)) (ld_3_f32 x8 j)) (ld_4_f32 x8 j)

theorem q44 (a : Fin 186) (n : Fin 84) (l : Fin 8) (j : Fin 192) :
    (k0_pay44 x0 x1 x2 x3 x4 x5 x6 x7 x8 x9 x10 x11 x12 x13) (ix4 a n l j) = out (parIn x3 x4 x5 x6 x7 x8 x9 x10 x11 x12 x13) (tokIn x0 x1 x2 a n l) j - mean 1128267776#32 (out (parIn x3 x4 x5 x6 x7 x8 x9 x10 x11 x12 x13) (tokIn x0 x1 x2 a n l)) := by
  refine (pay18_at a n l (k0_pay40 x0 x1 x2 x3 x4 x5 x6 x7 x8 x9 x10 x11 x12 x13) (k0_pay41 x0 x1 x2 x3 x4 x5 x6 x7 x8 x9 x10 x11 x12 x13) (View.ld x7 r0_9) (View.ld x8 r0_3) (View.ld x8 r0_4) j).trans ?_
  rw [qsecond]

theorem q45 (a : Fin 186) (n : Fin 84) (l : Fin 8) :
    (k0_pay45 x0 x1 x2 x3 x4 x5 x6 x7 x8 x9 x10 x11 x12 x13) (ix4 a n l 0) = ∑ j, (out (parIn x3 x4 x5 x6 x7 x8 x9 x10 x11 x12 x13) (tokIn x0 x1 x2 a n l) j - mean 1128267776#32 (out (parIn x3 x4 x5 x6 x7 x8 x9 x10 x11 x12 x13) (tokIn x0 x1 x2 a n l))) * (out (parIn x3 x4 x5 x6 x7 x8 x9 x10 x11 x12 x13) (tokIn x0 x1 x2 a n l) j - mean 1128267776#32 (out (parIn x3 x4 x5 x6 x7 x8 x9 x10 x11 x12 x13) (tokIn x0 x1 x2 a n l))) := by
  refine (pay19_at a n l (k0_pay40 x0 x1 x2 x3 x4 x5 x6 x7 x8 x9 x10 x11 x12 x13) (k0_pay41 x0 x1 x2 x3 x4 x5 x6 x7 x8 x9 x10 x11 x12 x13) (View.ld x7 r0_9) (View.ld x8 r0_3) (View.ld x8 r0_4)).trans ?_
  exact Finset.sum_congr rfl fun j _ => congrArg₂ (· * ·) (q44 x0 x1 x2 x3 x4 x5 x6 x7 x8 x9 x10 x11 x12 x13 a n l j) (q44 x0 x1 x2 x3 x4 x5 x6 x7 x8 x9 x10 x11 x12 x13 a n l j)

theorem q20 (a : Fin 186) (n : Fin 84) (l : Fin 8) (j : Fin 192) :
    k0_pay20 (k0_pay37 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (k0_pay44 x0 x1 x2 x3 x4 x5 x6 x7 x8 x9 x10 x11 x12 x13) (k0_pay45 x0 x1 x2 x3 x4 x5 x6 x7 x8 x9 x10 x11 x12 x13) (Ideal.ofBits .f32 1128267776#32) (ix4 a n l j) = y2 (parIn x3 x4 x5 x6 x7 x8 x9 x10 x11 x12 x13) (tokIn x0 x1 x2 a n l) j := by
  refine (pay20_at a n l (k0_pay37 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (k0_pay44 x0 x1 x2 x3 x4 x5 x6 x7 x8 x9 x10 x11 x12 x13) (k0_pay45 x0 x1 x2 x3 x4 x5 x6 x7 x8 x9 x10 x11 x12 x13) j).trans ?_
  simp only [q37, q42, q43, q44, q45]
  rfl

theorem qrows (p : Fin 93) (b : Fin 42) (l : Fin 8) :
    (rows4 p b l (k0_pay20 (k0_pay37 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (k0_pay44 x0 x1 x2 x3 x4 x5 x6 x7 x8 x9 x10 x11 x12 x13) (k0_pay45 x0 x1 x2 x3 x4 x5 x6 x7 x8 x9 x10 x11 x12 x13) (Ideal.ofBits .f32 1128267776#32))) = (fun a => y2 (parIn x3 x4 x5 x6 x7 x8 x9 x10 x11 x12 x13) ((quadIn x0 x1 x2 p b l) a)) := by
  funext k
  fin_cases k
  · exact funext fun j => q20 x0 x1 x2 x3 x4 x5 x6 x7 x8 x9 x10 x11 x12 x13 ⟨2 * p, by omega⟩ ⟨2 * b, by omega⟩ l j
  · exact funext fun j => q20 x0 x1 x2 x3 x4 x5 x6 x7 x8 x9 x10 x11 x12 x13 ⟨2 * p, by omega⟩ ⟨2 * b + 1, by omega⟩ l j
  · exact funext fun j => q20 x0 x1 x2 x3 x4 x5 x6 x7 x8 x9 x10 x11 x12 x13 ⟨2 * p + 1, by omega⟩ ⟨2 * b, by omega⟩ l j
  · exact funext fun j => q20 x0 x1 x2 x3 x4 x5 x6 x7 x8 x9 x10 x11 x12 x13 ⟨2 * p + 1, by omega⟩ ⟨2 * b + 1, by omega⟩ l j

theorem q48 (p : Fin 93) (b : Fin 42) (l : Fin 8) (j : Fin 768) :
    (k0_pay48 x0 x1 x2 x3 x4 x5 x6 x7 x8 x9 x10 x11 x12 x13) (ix4 p b l j) = cat (fun a => y2 (parIn x3 x4 x5 x6 x7 x8 x9 x10 x11 x12 x13) ((quadIn x0 x1 x2 p b l) a)) j - mean 1145044992#32 (cat (fun a => y2 (parIn x3 x4 x5 x6 x7 x8 x9 x10 x11 x12 x13) ((quadIn x0 x1 x2 p b l) a))) := by
  refine (pay24_at l p b (k0_pay37 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (k0_pay44 x0 x1 x2 x3 x4 x5 x6 x7 x8 x9 x10 x11 x12 x13) (k0_pay45 x0 x1 x2 x3 x4 x5 x6 x7 x8 x9 x10 x11 x12 x13) j).trans ?_
  rw [qrows]

theorem q49 (p : Fin 93) (b : Fin 42) (l : Fin 8) (j : Fin 768) :
    (k0_pay49 x0 x1 x2 x3 x4 x5 x6 x7 x8 x9 x10 x11 x12 x13) (ix4 p b l j) = Ideal.sqrt (Ideal.div (∑ x, (cat (fun a => y2 (parIn x3 x4 x5 x6 x7 x8 x9 x10 x11 x12 x13) ((quadIn x0 x1 x2 p b l) a)) x - mean 1145044992#32 (cat (fun a => y2 (parIn x3 x4 x5 x6 x7 x8 x9 x10 x11 x12 x13) ((quadIn x0 x1 x2 p b l) a)))) * (cat (fun a => y2 (parIn x3 x4 x5 x6 x7 x8 x9 x10 x11 x12 x13) ((quadIn x0 x1 x2 p b l) a)) x - mean 1145044992#32 (cat (fun a => y2 (parIn x3 x4 x5 x6 x7 x8 x9 x10 x11 x12 x13) ((quadIn x0 x1 x2 p b l) a))))) (Ideal.ofBits .f32 1145044992#32) + Ideal.ofBits .f32 925353388#32) := by
  refine (pay25_at l p b (k0_pay37 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (k0_pay44 x0 x1 x2 x3 x4 x5 x6 x7 x8 x9 x10 x11 x12 x13) (k0_pay45 x0 x1 x2 x3 x4 x5 x6 x7 x8 x9 x10 x11 x12 x13) j).trans ?_
  refine congrArg (fun s => Ideal.sqrt (Ideal.div s (Ideal.ofBits .f32 1145044992#32) + Ideal.ofBits .f32 925353388#32)) ?_
  exact Finset.sum_congr rfl fun x _ => congrArg₂ (· * ·) (q48 x0 x1 x2 x3 x4 x5 x6 x7 x8 x9 x10 x11 x12 x13 p b l x) (q48 x0 x1 x2 x3 x4 x5 x6 x7 x8 x9 x10 x11 x12 x13 p b l x)

theorem q26 (p : Fin 93) (b : Fin 42) (l : Fin 8) (j : Fin 768) :
    k0_pay26 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13) (ix4 p b l j) = merged (parIn x3 x4 x5 x6 x7 x8 x9 x10 x11 x12 x13) (quadIn x0 x1 x2 p b l) j := by
  refine (pay26_at l p b (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13) j).trans ?_
  simp only [q46, q47, q48, q49]
  rfl

theorem q27 (p : Fin 93) (b : Fin 42) (l : Fin 8) :
    k0_pay27 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13) (ix4 p b l 0) = ds (parIn x3 x4 x5 x6 x7 x8 x9 x10 x11 x12 x13) (quadIn x0 x1 x2 p b l) := by
  refine (pay27_at l p b (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13)).trans ?_
  exact congrArg scale (funext fun j => q26 x0 x1 x2 x3 x4 x5 x6 x7 x8 x9 x10 x11 x12 x13 p b l j)

theorem q28 (p : Fin 93) (b : Fin 42) (l : Fin 8) (j : Fin 768) :
    k0_pay28 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13) (ix4 p b l j) = code (merged (parIn x3 x4 x5 x6 x7 x8 x9 x10 x11 x12 x13) (quadIn x0 x1 x2 p b l) j) (ds (parIn x3 x4 x5 x6 x7 x8 x9 x10 x11 x12 x13) (quadIn x0 x1 x2 p b l)) := by
  refine (pay28_at l p b (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13) j).trans ?_
  exact congrArg₂ code (q26 x0 x1 x2 x3 x4 x5 x6 x7 x8 x9 x10 x11 x12 x13 p b l j) (q27 x0 x1 x2 x3 x4 x5 x6 x7 x8 x9 x10 x11 x12 x13 p b l)

theorem q1 (p : Fin 93) (b : Fin 42) (l : Fin 8) (j : Fin 384) :
    k0_pay1 (k0_pay30 (View.ld x13 r0_13)) (k0_pay31 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13) (View.ld x12 r0_12)) (ix4 p b l j) = down (parIn x3 x4 x5 x6 x7 x8 x9 x10 x11 x12 x13) (quadIn x0 x1 x2 p b l) j := by
  refine (pay1_at l p b (k0_pay30 (View.ld x13 r0_13)) (k0_pay31 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13) (View.ld x12 r0_12)) j).trans ?_
  exact congrArg₂ (· * ·) ((pay31_at l p b (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13) (View.ld x12 r0_12) j).trans (congrArg₂ (· * ·) (Finset.sum_congr rfl fun c _ => congrArg₂ (· * ·) ((congrArg back (q28 x0 x1 x2 x3 x4 x5 x6 x7 x8 x9 x10 x11 x12 x13 p b l c)).trans (back_code _ _)) (congrArg back (ld_12_i8 x12 c j))) (q27 x0 x1 x2 x3 x4 x5 x6 x7 x8 x9 x10 x11 x12 x13 p b l))) ((pay30_at (View.ld x13 r0_13) j).trans (ld_13_f32 x13 j))

theorem q10 (a : Fin 186) (n : Fin 84) (l : Fin 8) :
    k0_pay10 (k0_pay32 x0 x1 x2 x3 x4 x5 x6 x7 x8 x9 x10 x11 x12 x13) (k0_pay33 x0 x1 x2 x3 x4 x5 x6 x7 x8 x9 x10 x11 x12 x13) (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (ix3 a l n) = ms (parIn x3 x4 x5 x6 x7 x8 x9 x10 x11 x12 x13) (tokIn x0 x1 x2 a n l) := by
  exact (pay10_at a n l (k0_pay32 x0 x1 x2 x3 x4 x5 x6 x7 x8 x9 x10 x11 x12 x13) (k0_pay33 x0 x1 x2 x3 x4 x5 x6 x7 x8 x9 x10 x11 x12 x13) (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13)).trans (q38 x0 x1 x2 x3 x4 x5 x6 x7 x8 x9 x10 x11 x12 x13 a n l)

theorem q15 (a : Fin 186) (n : Fin 84) (l : Fin 8) :
    k0_pay15 (k0_pay40 x0 x1 x2 x3 x4 x5 x6 x7 x8 x9 x10 x11 x12 x13) (ix3 a l n) = hs (parIn x3 x4 x5 x6 x7 x8 x9 x10 x11 x12 x13) (tokIn x0 x1 x2 a n l) := by
  exact (pay15_at a n l (k0_pay40 x0 x1 x2 x3 x4 x5 x6 x7 x8 x9 x10 x11 x12 x13)).trans (q40 x0 x1 x2 x3 x4 x5 x6 x7 x8 x9 x10 x11 x12 x13 a n l)

theorem q21 (a : Fin 186) (n : Fin 84) (l : Fin 8) (j : Fin 192) :
    k0_pay21 (k0_pay37 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (k0_pay44 x0 x1 x2 x3 x4 x5 x6 x7 x8 x9 x10 x11 x12 x13) (k0_pay45 x0 x1 x2 x3 x4 x5 x6 x7 x8 x9 x10 x11 x12 x13) (Ideal.ofBits .f32 1128267776#32) (ix4 a n l j) = y2 (parIn x3 x4 x5 x6 x7 x8 x9 x10 x11 x12 x13) (tokIn x0 x1 x2 a n l) j := by
  exact (pay21_at a n l (k0_pay37 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (k0_pay44 x0 x1 x2 x3 x4 x5 x6 x7 x8 x9 x10 x11 x12 x13) (k0_pay45 x0 x1 x2 x3 x4 x5 x6 x7 x8 x9 x10 x11 x12 x13) j).trans (q20 x0 x1 x2 x3 x4 x5 x6 x7 x8 x9 x10 x11 x12 x13 a n l j)

theorem q29 (p : Fin 93) (b : Fin 42) (l : Fin 8) :
    k0_pay29 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13) (ix3 p l b) = ds (parIn x3 x4 x5 x6 x7 x8 x9 x10 x11 x12 x13) (quadIn x0 x1 x2 p b l) := by
  exact (pay29_at l p b (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13)).trans (q27 x0 x1 x2 x3 x4 x5 x6 x7 x8 x9 x10 x11 x12 x13 p b l)

end Cert.ReferenceIdeal.Val

end
-- ==== Proof.RefArrays.lean ====
/- The result arrays of the reference, entry by entry, from its arguments. -/
module

public import proofs.«01_k».proof.Proof.RefInputs
public import proofs.«01_k».proof.Proof.RefToken

@[expose] public section

set_option maxRecDepth 16384
noncomputable section

namespace Cert.ReferenceIdeal.Val

open Idealize.ShloMosaic Idealize.ShloMosaic.TcCoe Idealize.SL.Sem
open Cert.ReferenceIdeal Cert.ReferenceIdeal.Gen
open Cert.Rows (Par Tok Data cat lat lon lonLane code y1 ms hid hs y2 merged ds down)

variable (m : (ℓ : Loc nD τ sig) → Buf (Elt Ideal) ℓ) (c : Dev nD)

theorem par_ext {p q : Par} (h_wp : p.wp = q.wp) (h_sp : p.sp = q.sp) (h_bp : p.bp = q.bp) (h_wf : p.wf = q.wf) (h_sf : p.sf = q.sf) (h_bf : p.bf = q.bf) (h_wo : p.wo = q.wo) (h_so : p.so = q.so) (h_bo : p.bo = q.bo) (h_g1 : p.g1 = q.g1) (h_b1 : p.b1 = q.b1) (h_g2 : p.g2 = q.g2) (h_b2 : p.b2 = q.b2) (h_g3 : p.g3 = q.g3) (h_b3 : p.b3 = q.b3) (h_wd : p.wd = q.wd) (h_sd : p.sd = q.sd) : p = q := by
  cases p
  cases q
  cases h_wp
  cases h_sp
  cases h_bp
  cases h_wf
  cases h_sf
  cases h_bf
  cases h_wo
  cases h_so
  cases h_bo
  cases h_g1
  cases h_b1
  cases h_g2
  cases h_b2
  cases h_g3
  cases h_b3
  cases h_wd
  cases h_sd
  rfl

theorem tok_ext {p q : Tok} (h1 : ∀ j, p.x j = q.x j) (h2 : ∀ j, p.o j = q.o j) (h3 : p.s = q.s) : p = q := by
  cases p
  cases q
  congr 1
  · exact funext h1
  · exact funext h2

theorem wp_in (t : Fin cfg0.N) (a : Fin 192) (j : Fin 192) : (show Vec Ideal S192x192 .i8 from iblk m c 3 t) (ix2 a j) = (parOf m c).wp a j :=
  (congrFun (in3 m c t) (ix2 a j)).trans (wp_at m c a j)

theorem sp_in (t : Fin cfg0.N) (j : Fin 192) : (show Vec Ideal S2x192 .f32 from iblk m c 4 t) (ix2 0 j) = (parOf m c).sp j :=
  (congrFun (in4 m c t) (ix2 0 j)).trans (sp_at m c j)

theorem bp_in (t : Fin cfg0.N) (j : Fin 192) : (show Vec Ideal S2x192 .f32 from iblk m c 4 t) (ix2 1 j) = (parOf m c).bp j :=
  (congrFun (in4 m c t) (ix2 1 j)).trans (bp_at m c j)

theorem wf_in (t : Fin cfg0.N) (a : Fin 192) (j : Fin 768) : (show Vec Ideal S192x768 .i8 from iblk m c 5 t) (ix2 a j) = (parOf m c).wf a j :=
  (congrFun (in5 m c t) (ix2 a j)).trans (wf_at m c a j)

theorem sf_in (t : Fin cfg0.N) (j : Fin 768) : (show Vec Ideal S2x768 .f32 from iblk m c 6 t) (ix2 0 j) = (parOf m c).sf j :=
  (congrFun (in6 m c t) (ix2 0 j)).trans (sf_at m c j)

theorem bf_in (t : Fin cfg0.N) (j : Fin 768) : (show Vec Ideal S2x768 .f32 from iblk m c 6 t) (ix2 1 j) = (parOf m c).bf j :=
  (congrFun (in6 m c t) (ix2 1 j)).trans (bf_at m c j)

theorem wo_in (t : Fin cfg0.N) (a : Fin 768) (j : Fin 192) : (show Vec Ideal S768x192 .i8 from iblk m c 7 t) (ix2 a j) = (parOf m c).wo a j :=
  (congrFun (in7 m c t) (ix2 a j)).trans (wo_at m c a j)

theorem so_in (t : Fin cfg0.N) (j : Fin 192) : (show Vec Ideal S2x192 .f32 from iblk m c 8 t) (ix2 0 j) = (parOf m c).so j :=
  (congrFun (in8 m c t) (ix2 0 j)).trans (so_at m c j)

theorem bo_in (t : Fin cfg0.N) (j : Fin 192) : (show Vec Ideal S2x192 .f32 from iblk m c 8 t) (ix2 1 j) = (parOf m c).bo j :=
  (congrFun (in8 m c t) (ix2 1 j)).trans (bo_at m c j)

theorem g1_in (t : Fin cfg0.N) (j : Fin 192) : (show Vec Ideal S2x192 .f32 from iblk m c 9 t) (ix2 0 j) = (parOf m c).g1 j :=
  (congrFun (in9 m c t) (ix2 0 j)).trans (g1_at m c j)

theorem b1_in (t : Fin cfg0.N) (j : Fin 192) : (show Vec Ideal S2x192 .f32 from iblk m c 9 t) (ix2 1 j) = (parOf m c).b1 j :=
  (congrFun (in9 m c t) (ix2 1 j)).trans (b1_at m c j)

theorem g2_in (t : Fin cfg0.N) (j : Fin 192) : (show Vec Ideal S2x192 .f32 from iblk m c 10 t) (ix2 0 j) = (parOf m c).g2 j :=
  (congrFun (in10 m c t) (ix2 0 j)).trans (g2_at m c j)

theorem b2_in (t : Fin cfg0.N) (j : Fin 192) : (show Vec Ideal S2x192 .f32 from iblk m c 10 t) (ix2 1 j) = (parOf m c).b2 j :=
  (congrFun (in10 m c t) (ix2 1 j)).trans (b2_at m c j)

theorem g3_in (t : Fin cfg0.N) (j : Fin 768) : (show Vec Ideal S2x768 .f32 from iblk m c 11 t) (ix2 0 j) = (parOf m c).g3 j :=
  (congrFun (in11 m c t) (ix2 0 j)).trans (g3_at m c j)

theorem b3_in (t : Fin cfg0.N) (j : Fin 768) : (show Vec Ideal S2x768 .f32 from iblk m c 11 t) (ix2 1 j) = (parOf m c).b3 j :=
  (congrFun (in11 m c t) (ix2 1 j)).trans (b3_at m c j)

theorem wd_in (t : Fin cfg0.N) (a : Fin 768) (j : Fin 384) : (show Vec Ideal S768x384 .i8 from iblk m c 12 t) (ix2 a j) = (parOf m c).wd a j :=
  (congrFun (in12 m c t) (ix2 a j)).trans (wd_at m c a j)

theorem sd_in (t : Fin cfg0.N) (j : Fin 384) : (show Vec Ideal S1x384 .f32 from iblk m c 13 t) (ix2 0 j) = (parOf m c).sd j :=
  (congrFun (in13 m c t) (ix2 0 j)).trans (sd_at m c j)

set_option maxHeartbeats 4000000 in
/-- The reference's parameter blocks hold the parameters of the arguments. -/
theorem par_in (t : Fin cfg0.N) :
    parIn (iblk m c 3 t) (iblk m c 4 t) (iblk m c 5 t) (iblk m c 6 t) (iblk m c 7 t) (iblk m c 8 t) (iblk m c 9 t) (iblk m c 10 t) (iblk m c 11 t) (iblk m c 12 t) (iblk m c 13 t) = parOf m c :=
  par_ext
    (funext fun a => funext fun j => wp_in m c t a j)
    (funext fun j => sp_in m c t j)
    (funext fun j => bp_in m c t j)
    (funext fun a => funext fun j => wf_in m c t a j)
    (funext fun j => sf_in m c t j)
    (funext fun j => bf_in m c t j)
    (funext fun a => funext fun j => wo_in m c t a j)
    (funext fun j => so_in m c t j)
    (funext fun j => bo_in m c t j)
    (funext fun j => g1_in m c t j)
    (funext fun j => b1_in m c t j)
    (funext fun j => g2_in m c t j)
    (funext fun j => b2_in m c t j)
    (funext fun j => g3_in m c t j)
    (funext fun j => b3_in m c t j)
    (funext fun a => funext fun j => wd_in m c t a j)
    (funext fun j => sd_in m c t j)

theorem x_in (t : Fin cfg0.N) (a : Fin 186) (n : Fin 84) (l : Fin 8) (j : Fin 192) :
    (show Vec Ideal S186x84x8x192 .bf16 from iblk m c 0 t) (ix4 a n l j) = (dataOf m c).x l a n j :=
  (congrFun (in0 m c t) (ix4 a n l j)).trans (x_at m c a n l j)

theorem oc_in (t : Fin cfg0.N) (a : Fin 186) (n : Fin 84) (l : Fin 8) (j : Fin 192) :
    (show Vec Ideal S186x84x8x192 .i8 from iblk m c 1 t) (ix4 a n l j) = (dataOf m c).oc (lat a) (lon n) l j :=
  (congrFun (in1 m c t) (ix4 a n l j)).trans (oc_at m c a n l j)

theorem os_in (t : Fin cfg0.N) (a : Fin 186) (n : Fin 84) (l : Fin 8) :
    (show Vec Ideal S186x8x84 .f32 from iblk m c 2 t) (ix3 a l n) = (dataOf m c).os (lat a) l (lonLane n) :=
  (congrFun (in2 m c t) (ix3 a l n)).trans (os_at m c a n l)

set_option maxHeartbeats 4000000 in
/-- The reference's token blocks hold the tokens of the arguments, shifted where the arguments are not. -/
theorem tok_in (t : Fin cfg0.N) (a : Fin 186) (n : Fin 84) (l : Fin 8) :
    tokIn (iblk m c 0 t) (iblk m c 1 t) (iblk m c 2 t) a n l = (dataOf m c).tok a n l :=
  tok_ext (fun j => x_in m c t a n l j) (fun j => oc_in m c t a n l j) (os_in m c t a n l)

theorem quad_in (t : Fin cfg0.N) (p : Fin 93) (b : Fin 42) (l : Fin 8) :
    quadIn (iblk m c 0 t) (iblk m c 1 t) (iblk m c 2 t) p b l = (dataOf m c).quad p b l := by
  unfold quadIn Data.quad
  rw [tok_in, tok_in, tok_in, tok_in]

/-- The stream after the block. -/
def arr14 : Vec Ideal S186x84x8x192 .bf16 := fun i => y2 (parOf m c) ((dataOf m c).tok (i 0) (i 1) (i 2)) (i 3)

theorem val14 (a : Fin 186) (n : Fin 84) (l : Fin 8) (j : Fin 192) :
    k0_pay21 (k0_pay37 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay42 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay43 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay44 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay45 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (Ideal.ofBits .f32 1128267776#32) (ix4 a n l j) = arr14 m c (ix4 a n l j) := by
  refine (q21 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) a n l j).trans ?_
  rw [par_in, tok_in]
  rfl

theorem final14 : (dats m 0 c).arrAt 14 (cfgs 0).N = arr14 m c := by
  refine (dats m 0 c).arrAt_eq_of_after_last 14 t0_0 (by decide +kernel) _ fun y => ?_
  blk_simp
  rw [after0_14]
  frame_out
  refine (congrArg _ (eq_ix4 (n0 := 186) (n1 := 84) (n2 := 8) (n3 := 192) y)).trans ?_
  exact val14 m c (y 0) (y 1) (y 2) (y 3)

theorem whole_12 (x : Vec Ideal S768x384 .i8) : View.ld x r0_12 = x :=
  funext fun y => ((congrArg (View.ld x r0_12) (eq_ix2 (n0 := 768) (n1 := 384) y)).trans (ld_12_i8 x (y 0) (y 1))).trans (congrArg x (eq_ix2 (n0 := 768) (n1 := 384) y).symm)

theorem whole_13 (x : Vec Ideal S1x384 .f32) : View.ld x r0_13 = x := by
  funext y
  have e : y = (ix2 (0 : Fin 1) (y 1) : S1x384.Idx) := by
    have : (y 0).val < 1 := (y 0).isLt
    blk_ext []
  exact ((congrArg (View.ld x r0_13) e).trans (ld_13_f32 x (y 1))).trans (congrArg x e.symm)

theorem down_at (x0 : Vec Ideal S186x84x8x192 .bf16) (x1 : Vec Ideal S186x84x8x192 .i8) (x2 : Vec Ideal S186x8x84 .f32) (x3 : Vec Ideal S192x192 .i8) (x4 : Vec Ideal S2x192 .f32) (x5 : Vec Ideal S192x768 .i8) (x6 : Vec Ideal S2x768 .f32) (x7 : Vec Ideal S768x192 .i8) (x8 : Vec Ideal S2x192 .f32) (x9 : Vec Ideal S2x192 .f32) (x10 : Vec Ideal S2x192 .f32) (x11 : Vec Ideal S2x768 .f32) (x12 : Vec Ideal S768x384 .i8) (x13 : Vec Ideal S1x384 .f32) (p : Fin 93) (b : Fin 42) (l : Fin 8) (j : Fin 384) :
    k0_pay1 (k0_pay30 x13) (k0_pay31 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (k0_pay49 x0 x1 x2 x3 x4 x5 x6 x7 x8 x9 x10 x11 x12 x13) x12) (ix4 p b l j) = down (parIn x3 x4 x5 x6 x7 x8 x9 x10 x11 x12 x13) (quadIn x0 x1 x2 p b l) j := by
  have h := q1 x0 x1 x2 x3 x4 x5 x6 x7 x8 x9 x10 x11 x12 x13 p b l j
  rw [whole_12, whole_13] at h
  exact h

/-- The downsampled stream. -/
def arr15 : Vec Ideal S93x42x8x384 .bf16 := fun i => down (parOf m c) ((dataOf m c).quad (i 0) (i 1) (i 2)) (i 3)

theorem val15 (a : Fin 93) (n : Fin 42) (l : Fin 8) (j : Fin 384) :
    k0_pay1 (k0_pay30 (iblk m c 13 t0_0)) (k0_pay31 (k0_pay46 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay47 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay48 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay49 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (iblk m c 12 t0_0)) (ix4 a n l j) = arr15 m c (ix4 a n l j) := by
  refine (down_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) a n l j).trans ?_
  rw [par_in, quad_in]
  rfl

theorem final15 : (dats m 0 c).arrAt 15 (cfgs 0).N = arr15 m c := by
  refine (dats m 0 c).arrAt_eq_of_after_last 15 t0_0 (by decide +kernel) _ fun y => ?_
  blk_simp
  rw [after0_15]
  frame_out
  refine (congrArg _ (eq_ix4 (n0 := 93) (n1 := 42) (n2 := 8) (n3 := 384) y)).trans ?_
  exact val15 m c (y 0) (y 1) (y 2) (y 3)

/-- The codes of the first layer's input. -/
def arr16 : Vec Ideal S186x84x8x192 .i8 := fun i => code (y1 (parOf m c) ((dataOf m c).tok (i 0) (i 1) (i 2)) (i 3)) (ms (parOf m c) ((dataOf m c).tok (i 0) (i 1) (i 2)))

theorem val16 (a : Fin 186) (n : Fin 84) (l : Fin 8) (j : Fin 192) :
    (k0_pay39 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (ix4 a n l j) = arr16 m c (ix4 a n l j) := by
  refine (q39 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) a n l j).trans ?_
  rw [par_in, tok_in]
  rfl

theorem final16 : (dats m 0 c).arrAt 16 (cfgs 0).N = arr16 m c := by
  refine (dats m 0 c).arrAt_eq_of_after_last 16 t0_0 (by decide +kernel) _ fun y => ?_
  blk_simp
  rw [after0_16]
  frame_out
  refine (congrArg _ (eq_ix4 (n0 := 186) (n1 := 84) (n2 := 8) (n3 := 192) y)).trans ?_
  exact val16 m c (y 0) (y 1) (y 2) (y 3)

/-- Their scales. -/
def arr17 : Vec Ideal S186x8x84 .f32 := fun i => ms (parOf m c) ((dataOf m c).tok (i 0) (i 2) (i 1))

theorem val17 (a : Fin 186) (l : Fin 8) (n : Fin 84) :
    k0_pay10 (k0_pay32 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay33 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay34 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay35 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay36 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (ix3 a l n) = arr17 m c (ix3 a l n) := by
  refine (q10 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) a n l).trans ?_
  rw [par_in, tok_in]
  rfl

theorem final17 : (dats m 0 c).arrAt 17 (cfgs 0).N = arr17 m c := by
  refine (dats m 0 c).arrAt_eq_of_after_last 17 t0_0 (by decide +kernel) _ fun y => ?_
  blk_simp
  rw [after0_17]
  frame_out
  refine (congrArg _ (eq_ix3 (n0 := 186) (n1 := 8) (n2 := 84) y)).trans ?_
  exact val17 m c (y 0) (y 1) (y 2)

/-- The codes of the hidden layer. -/
def arr18 : Vec Ideal S186x84x8x768 .i8 := fun i => code (hid (parOf m c) ((dataOf m c).tok (i 0) (i 1) (i 2)) (i 3)) (hs (parOf m c) ((dataOf m c).tok (i 0) (i 1) (i 2)))

theorem val18 (a : Fin 186) (n : Fin 84) (l : Fin 8) (j : Fin 768) :
    k0_pay14 (k0_pay41 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (ix4 a n l j) = arr18 m c (ix4 a n l j) := by
  refine (q14 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) a n l j).trans ?_
  rw [par_in, tok_in]
  rfl

theorem final18 : (dats m 0 c).arrAt 18 (cfgs 0).N = arr18 m c := by
  refine (dats m 0 c).arrAt_eq_of_after_last 18 t0_0 (by decide +kernel) _ fun y => ?_
  blk_simp
  rw [after0_18]
  frame_out
  refine (congrArg _ (eq_ix4 (n0 := 186) (n1 := 84) (n2 := 8) (n3 := 768) y)).trans ?_
  exact val18 m c (y 0) (y 1) (y 2) (y 3)

/-- Their scales. -/
def arr19 : Vec Ideal S186x8x84 .f32 := fun i => hs (parOf m c) ((dataOf m c).tok (i 0) (i 2) (i 1))

theorem val19 (a : Fin 186) (l : Fin 8) (n : Fin 84) :
    k0_pay15 (k0_pay40 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (ix3 a l n) = arr19 m c (ix3 a l n) := by
  refine (q15 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) a n l).trans ?_
  rw [par_in, tok_in]
  rfl

theorem final19 : (dats m 0 c).arrAt 19 (cfgs 0).N = arr19 m c := by
  refine (dats m 0 c).arrAt_eq_of_after_last 19 t0_0 (by decide +kernel) _ fun y => ?_
  blk_simp
  rw [after0_19]
  frame_out
  refine (congrArg _ (eq_ix3 (n0 := 186) (n1 := 8) (n2 := 84) y)).trans ?_
  exact val19 m c (y 0) (y 1) (y 2)

/-- The codes of the merged rows. -/
def arr20 : Vec Ideal S93x42x8x768 .i8 := fun i => code (merged (parOf m c) ((dataOf m c).quad (i 0) (i 1) (i 2)) (i 3)) (ds (parOf m c) ((dataOf m c).quad (i 0) (i 1) (i 2)))

theorem val20 (a : Fin 93) (n : Fin 42) (l : Fin 8) (j : Fin 768) :
    k0_pay28 (k0_pay46 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay47 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay48 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay49 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (ix4 a n l j) = arr20 m c (ix4 a n l j) := by
  refine (q28 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) a n l j).trans ?_
  rw [par_in, quad_in]
  rfl

theorem final20 : (dats m 0 c).arrAt 20 (cfgs 0).N = arr20 m c := by
  refine (dats m 0 c).arrAt_eq_of_after_last 20 t0_0 (by decide +kernel) _ fun y => ?_
  blk_simp
  rw [after0_20]
  frame_out
  refine (congrArg _ (eq_ix4 (n0 := 93) (n1 := 42) (n2 := 8) (n3 := 768) y)).trans ?_
  exact val20 m c (y 0) (y 1) (y 2) (y 3)

/-- Their scales. -/
def arr21 : Vec Ideal S93x8x42 .f32 := fun i => ds (parOf m c) ((dataOf m c).quad (i 0) (i 2) (i 1))

theorem val21 (a : Fin 93) (l : Fin 8) (n : Fin 42) :
    k0_pay29 (k0_pay46 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay47 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay48 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (k0_pay49 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0)) (ix3 a l n) = arr21 m c (ix3 a l n) := by
  refine (q29 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) a n l).trans ?_
  rw [par_in, quad_in]
  rfl

theorem final21 : (dats m 0 c).arrAt 21 (cfgs 0).N = arr21 m c := by
  refine (dats m 0 c).arrAt_eq_of_after_last 21 t0_0 (by decide +kernel) _ fun y => ?_
  blk_simp
  rw [after0_21]
  frame_out
  refine (congrArg _ (eq_ix3 (n0 := 93) (n1 := 8) (n2 := 42) y)).trans ?_
  exact val21 m c (y 0) (y 1) (y 2)

end Cert.ReferenceIdeal.Val
-- ==== Proof.RefResults.lean ====
/- The reference's run: what its results hold at the end. -/
module

public import proofs.«01_k».proof.Proof.RefArrays
public import Idealize.ShloMosaic.Lib.Claim

@[expose] public section

set_option maxRecDepth 16384
noncomputable section

namespace Cert.ReferenceIdeal.Val

open Idealize.ShloMosaic Idealize.ShloMosaic.TcCoe Idealize.SL.Sem
open Cert.ReferenceIdeal Cert.ReferenceIdeal.Gen
open Cert.Rows (lat lon lonLane)

variable (m : (ℓ : Loc nD τ sig) → Buf (Elt Ideal) ℓ) (ρ : Dev nD → PrngReg)

/-- The codes of the input, shifted. -/
def arrXc (c : Dev nD) : Vec Ideal S186x84x8x192 .i8 := fun i => (show Vec Ideal S186x84x8x192 .i8 from m ((c : Thread nD τ).loc main_arg3)) (ix4 (lat (i 0)) (lon (i 1)) (i 2) (i 3))

/-- Their scales, shifted and without the padding. -/
def arrXs (c : Dev nD) : Vec Ideal S186x8x84 .f32 := fun i => (show Vec Ideal S186x8x128 .f32 from m ((c : Thread nD τ).loc main_arg4)) (ix3 (lat (i 0)) (i 1) (lonLane (i 2)))

/-- The codes of the attention's output, shifted. -/
def arrOc (c : Dev nD) : Vec Ideal S186x84x8x192 .i8 := fun i => (show Vec Ideal S186x84x8x192 .i8 from m ((c : Thread nD τ).loc main_arg1)) (ix4 (lat (i 0)) (lon (i 1)) (i 2) (i 3))

/-- Their scales, shifted and without the padding. -/
def arrOs (c : Dev nD) : Vec Ideal S186x8x84 .f32 := fun i => (show Vec Ideal S186x8x128 .f32 from m ((c : Thread nD τ).loc main_arg2)) (ix3 (lat (i 0)) (i 1) (lonLane (i 2)))

theorem arrXc_eq (c : Dev nD) : (show Vec Ideal S186x84x8x192 .i8 from V m c main_v3) = arrXc m c :=
  funext fun y => (congrArg (show Vec Ideal S186x84x8x192 .i8 from V m c main_v3) (eq_ix4 (n0 := 186) (n1 := 84) (n2 := 8) (n3 := 192) y)).trans (xc_at m c (y 0) (y 1) (y 2) (y 3))

theorem arrXs_eq (c : Dev nD) : (show Vec Ideal S186x8x84 .f32 from V m c main_v5) = arrXs m c :=
  funext fun y => (congrArg (show Vec Ideal S186x8x84 .f32 from V m c main_v5) (eq_ix3 (n0 := 186) (n1 := 8) (n2 := 84) y)).trans (xs_at m c (y 0) (y 2) (y 1))

theorem arrOc_eq (c : Dev nD) : (show Vec Ideal S186x84x8x192 .i8 from V m c main_v0) = arrOc m c :=
  funext fun y => (congrArg (show Vec Ideal S186x84x8x192 .i8 from V m c main_v0) (eq_ix4 (n0 := 186) (n1 := 84) (n2 := 8) (n3 := 192) y)).trans (oc_at m c (y 0) (y 1) (y 2) (y 3))

theorem arrOs_eq (c : Dev nD) : (show Vec Ideal S186x8x84 .f32 from V m c main_v2) = arrOs m c :=
  funext fun y => (congrArg (show Vec Ideal S186x8x84 .f32 from V m c main_v2) (eq_ix3 (n0 := 186) (n1 := 8) (n2 := 84) y)).trans (os_at m c (y 0) (y 2) (y 1))

set_option maxHeartbeats 4000000 in
/-- Every execution ends with these values in the results, and with the arguments as they were. -/
theorem results : θ_run (defs (F := Ideal)) (onTc (τ := τ) (main (F := Ideal))) ⟨m, fun _ => 0, ρ⟩ (fun r => ∀ c : Dev nD,
      r.2.mem ((c.tc : Thread nD τ).loc main_v28_0) = arr14 m c
      ∧ r.2.mem ((c.tc : Thread nD τ).loc main_v28_1) = arr15 m c
      ∧ r.2.mem ((c.tc : Thread nD τ).loc main_v3) = arrXc m c
      ∧ r.2.mem ((c.tc : Thread nD τ).loc main_v5) = arrXs m c
      ∧ r.2.mem ((c.tc : Thread nD τ).loc main_v0) = arrOc m c
      ∧ r.2.mem ((c.tc : Thread nD τ).loc main_v2) = arrOs m c
      ∧ r.2.mem ((c.tc : Thread nD τ).loc main_v28_2) = arr16 m c
      ∧ r.2.mem ((c.tc : Thread nD τ).loc main_v28_3) = arr17 m c
      ∧ r.2.mem ((c.tc : Thread nD τ).loc main_v28_4) = arr18 m c
      ∧ r.2.mem ((c.tc : Thread nD τ).loc main_v28_5) = arr19 m c
      ∧ r.2.mem ((c.tc : Thread nD τ).loc main_v28_6) = arr20 m c
      ∧ r.2.mem ((c.tc : Thread nD τ).loc main_v28_7) = arr21 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h.1 c).1 14).trans (final14 m c),
    ((h.1 c).1 15).trans (final15 m c),
    ((h.1 c).2 main_v3 (Pipeline.mem_restRefs_of main_v3 (by decide) (by decide))).trans (arrXc_eq m c),
    ((h.1 c).2 main_v5 (Pipeline.mem_restRefs_of main_v5 (by decide) (by decide))).trans (arrXs_eq m c),
    ((h.1 c).1 1).trans (((dats m 0 c).arrAt_in 1 rfl _).trans ((A_eq m c 1).trans (arrOc_eq m c))),
    ((h.1 c).1 2).trans (((dats m 0 c).arrAt_in 2 rfl _).trans ((A_eq m c 2).trans (arrOs_eq m c))),
    ((h.1 c).1 16).trans (final16 m c),
    ((h.1 c).1 17).trans (final17 m c),
    ((h.1 c).1 18).trans (final18 m c),
    ((h.1 c).1 19).trans (final19 m c),
    ((h.1 c).1 20).trans (final20 m c),
    ((h.1 c).1 21).trans (final21 m c), h.2 c⟩)
    (θ_run_and (run_main m ρ) (unchanged m ρ))

end Cert.ReferenceIdeal.Val
-- ==== Proof.Same.lean ====
/- From the same arguments the kernel and the reference compute the same results. -/
module

public import proofs.«01_k».proof.Defs
public import proofs.«01_k».proof.Proof.KernelResults
public import proofs.«01_k».proof.Proof.RefResults
public import Idealize.ShloMosaic.Lib.Claim

@[expose] public section

set_option maxRecDepth 16384
noncomputable section

namespace Cert.Same

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs start from the same arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)

/-- The parameters are then the same. -/
theorem par (h : Agree m m' c) : Cert.ReferenceIdeal.Val.parOf m' c = Cert.KernelIdeal.Val.parOf m c := by
  obtain ⟨h0, h1, h2, h3, h4, h5, h6, h7, h8, h9, h10, h11, h12, h13, h14, h15, h16, h17, h18, h19, h20, h21⟩ := h
  refine Cert.ReferenceIdeal.Val.par_ext ?_ ?_ ?_ ?_ ?_ ?_ ?_ ?_ ?_ ?_ ?_ ?_ ?_ ?_ ?_ ?_ ?_
  · exact funext fun a => funext fun j => congrFun h5 _
  · exact funext fun j => congrFun h6 _
  · exact funext fun j => congrFun h7 _
  · exact funext fun a => funext fun j => congrFun h8 _
  · exact funext fun j => congrFun h9 _
  · exact funext fun j => congrFun h10 _
  · exact funext fun a => funext fun j => congrFun h11 _
  · exact funext fun j => congrFun h12 _
  · exact funext fun j => congrFun h13 _
  · exact funext fun j => congrFun h14 _
  · exact funext fun j => congrFun h15 _
  · exact funext fun j => congrFun h16 _
  · exact funext fun j => congrFun h17 _
  · exact funext fun j => congrFun h18 _
  · exact funext fun j => congrFun h19 _
  · exact funext fun a => funext fun j => congrFun h20 _
  · exact funext fun j => congrFun h21 _

theorem data_ext {p q : Cert.Rows.Data} (h1 : ∀ l a n j, p.x l a n j = q.x l a n j) (h2 : ∀ a n l j, p.oc a n l j = q.oc a n l j)
    (h3 : ∀ a l n, p.os a l n = q.os a l n) : p = q := by
  cases p
  cases q
  congr 1
  · exact funext fun l => funext fun a => funext fun n => funext fun j => h1 l a n j
  · exact funext fun a => funext fun n => funext fun l => funext fun j => h2 a n l j
  · exact funext fun a => funext fun l => funext fun n => h3 a l n

/-- The tokens' data are then the same. -/
theorem data (h : Agree m m' c) : Cert.ReferenceIdeal.Val.dataOf m' c = Cert.KernelIdeal.Val.dataOf m c := by
  obtain ⟨h0, h1, h2, h3, h4, h5, h6, h7, h8, h9, h10, h11, h12, h13, h14, h15, h16, h17, h18, h19, h20, h21⟩ := h
  refine data_ext ?_ ?_ ?_
  · exact fun l a n j => congrFun h0 _
  · exact fun a n l j => congrFun h1 _
  · exact fun a l n => congrFun h2 _

theorem res17 (h : Agree m m' c) : Cert.ReferenceIdeal.Val.arr14 m' c = Cert.KernelIdeal.Val.arr17 m c := by
  unfold Cert.ReferenceIdeal.Val.arr14 Cert.KernelIdeal.Val.arr17
  rw [par m m' c h, data m m' c h]
  all_goals rfl

theorem res18 (h : Agree m m' c) : Cert.ReferenceIdeal.Val.arr15 m' c = Cert.KernelIdeal.Val.arr18 m c := by
  unfold Cert.ReferenceIdeal.Val.arr15 Cert.KernelIdeal.Val.arr18
  rw [par m m' c h, data m m' c h]
  all_goals rfl

theorem res23 (h : Agree m m' c) : Cert.ReferenceIdeal.Val.arr16 m' c = Cert.KernelIdeal.Val.arr23 m c := by
  unfold Cert.ReferenceIdeal.Val.arr16 Cert.KernelIdeal.Val.arr23
  rw [par m m' c h, data m m' c h]
  all_goals rfl

theorem res24 (h : Agree m m' c) : Cert.ReferenceIdeal.Val.arr17 m' c = Cert.KernelIdeal.Val.arr24 m c := by
  unfold Cert.ReferenceIdeal.Val.arr17 Cert.KernelIdeal.Val.arr24
  rw [par m m' c h, data m m' c h]
  all_goals rfl

theorem res25 (h : Agree m m' c) : Cert.ReferenceIdeal.Val.arr18 m' c = Cert.KernelIdeal.Val.arr25 m c := by
  unfold Cert.ReferenceIdeal.Val.arr18 Cert.KernelIdeal.Val.arr25
  rw [par m m' c h, data m m' c h]
  all_goals rfl

theorem res26 (h : Agree m m' c) : Cert.ReferenceIdeal.Val.arr19 m' c = Cert.KernelIdeal.Val.arr26 m c := by
  unfold Cert.ReferenceIdeal.Val.arr19 Cert.KernelIdeal.Val.arr26
  rw [par m m' c h, data m m' c h]
  all_goals rfl

theorem res27 (h : Agree m m' c) : Cert.ReferenceIdeal.Val.arr20 m' c = Cert.KernelIdeal.Val.arr27 m c := by
  unfold Cert.ReferenceIdeal.Val.arr20 Cert.KernelIdeal.Val.arr27
  rw [par m m' c h, data m m' c h]
  all_goals rfl

theorem res28 (h : Agree m m' c) : Cert.ReferenceIdeal.Val.arr21 m' c = Cert.KernelIdeal.Val.arr28 m c := by
  unfold Cert.ReferenceIdeal.Val.arr21 Cert.KernelIdeal.Val.arr28
  rw [par m m' c h, data m m' c h]
  all_goals rfl

theorem res19 (h : Agree m m' c) : Cert.ReferenceIdeal.Val.arrXc m' c = Cert.KernelIdeal.Val.arr19 m c := by
  obtain ⟨h0, h1, h2, h3, h4, h5, h6, h7, h8, h9, h10, h11, h12, h13, h14, h15, h16, h17, h18, h19, h20, h21⟩ := h
  exact funext fun i => congrFun h3 _

theorem res20 (h : Agree m m' c) : Cert.ReferenceIdeal.Val.arrXs m' c = Cert.KernelIdeal.Val.arr20 m c := by
  obtain ⟨h0, h1, h2, h3, h4, h5, h6, h7, h8, h9, h10, h11, h12, h13, h14, h15, h16, h17, h18, h19, h20, h21⟩ := h
  exact funext fun i => congrFun h4 _

theorem res21 (h : Agree m m' c) : Cert.ReferenceIdeal.Val.arrOc m' c = Cert.KernelIdeal.Val.arr21 m c := by
  obtain ⟨h0, h1, h2, h3, h4, h5, h6, h7, h8, h9, h10, h11, h12, h13, h14, h15, h16, h17, h18, h19, h20, h21⟩ := h
  exact funext fun i => congrFun h1 _

theorem res22 (h : Agree m m' c) : Cert.ReferenceIdeal.Val.arrOs m' c = Cert.KernelIdeal.Val.arr22 m c := by
  obtain ⟨h0, h1, h2, h3, h4, h5, h6, h7, h8, h9, h10, h11, h12, h13, h14, h15, h16, h17, h18, h19, h20, h21⟩ := h
  exact funext fun i => congrFun h2 _

set_option maxHeartbeats 4000000 in
/-- Whatever the kernel and the reference compute from the same arguments, in exact arithmetic, is equal, result by result. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Val.arr17 m c, fun c => Cert.KernelIdeal.Val.arr18 m c, fun c => Cert.KernelIdeal.Val.arr19 m c, fun c => Cert.KernelIdeal.Val.arr20 m c, fun c => Cert.KernelIdeal.Val.arr21 m c, fun c => Cert.KernelIdeal.Val.arr22 m c, fun c => Cert.KernelIdeal.Val.arr23 m c, fun c => Cert.KernelIdeal.Val.arr24 m c, fun c => Cert.KernelIdeal.Val.arr25 m c, fun c => Cert.KernelIdeal.Val.arr26 m c, fun c => Cert.KernelIdeal.Val.arr27 m c, fun c => Cert.KernelIdeal.Val.arr28 m c, Cert.KernelIdeal.Val.results m g, ?_⟩
  refine (θ_run _ _ _).mono (fun r hr c => ?_) (Cert.ReferenceIdeal.Val.results m' g')
  obtain ⟨e0, e1, e2, e3, e4, e5, e6, e7, e8, e9, e10, e11, ea⟩ := hr c
  exact ⟨e0.trans (res17 m m' c (h c)), e1.trans (res18 m m' c (h c)), e2.trans (res19 m m' c (h c)), e3.trans (res20 m m' c (h c)), e4.trans (res21 m m' c (h c)), e5.trans (res22 m m' c (h c)), e6.trans (res23 m m' c (h c)), e7.trans (res24 m m' c (h c)), e8.trans (res25 m m' c (h c)), e9.trans (res26 m m' c (h c)), e10.trans (res27 m m' c (h c)), e11.trans (res28 m m' c (h c)), ea⟩

end Cert.Same
-- ==== Proof.lean ====
/- The claims of this certificate, assembled: the three programs end, leave their arguments and every
   counter as they were; the named constants are what the idealized kernel says they are; in exact arithmetic
   the idealized kernel and the reference return the same results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.KernelIdealFrame
public import proofs.«01_k».proof.Proof.Same

@[expose] public section

noncomputable section

namespace Cert.Proof

open Idealize.ShloMosaic

/-- The two named constants stand for the reciprocals of 192 and of 768. -/
theorem preserves : Cert.preserves_Kernel_KernelIdeal :=
  ⟨IdealRules.named_const.statement Cert.KernelIdeal.κ "inv_192" .f32 0x3BAAAAAB#32 ((1 / 192 : ℝ) : EReal) rfl,
   IdealRules.named_const.statement Cert.KernelIdeal.κ "inv_768" .f32 0x3AAAAAAB#32 ((1 / 768 : ℝ) : EReal) rfl⟩

/-- Everything claimed. -/
theorem claim : Cert.Claim :=
  ⟨Cert.Kernel.Gen.facts, Cert.KernelIdeal.Gen.facts, Cert.ReferenceIdeal.Gen.facts,
   fun m ρ _ => Cert.Kernel.Run.frame m ρ, fun m ρ _ => Cert.KernelIdeal.Run.frame m ρ,
   fun m ρ _ => Cert.ReferenceIdeal.Gen.frame m ρ, preserves, Cert.Same.algebraic⟩

end Cert.Proof

end
